-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def preserves_Kernel_KernelIdeal : Prop :=
  IdealRules.named_const.Statement Cert.KernelIdeal.κ "q_scale" .f32 0x3E38AA3B#32 (((8 * (Real.log 2))⁻¹ : ℝ) : EReal)
  ∧ IdealRules.named_const.Statement Cert.KernelIdeal.κ "mask" .f32 0xF149F2CA#32 ⊥
  ∧ IdealRules.named_const.Statement Cert.KernelIdeal.κ "half_mask" .f32 0xF0C9F2CA#32 ⊥

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v169) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v27_0)) (v1 : (c : Dev Cert.Kernel2Ideal.nD) → Buf (Elt Ideal) ((c.tc : Thread Cert.Kernel2Ideal.nD Cert.Kernel2Ideal.τ).loc Cert.Kernel2Ideal.main_v27_1)) (v2 : (c : Dev Cert.Kernel2Ideal.nD) → Buf (Elt Ideal) ((c.tc : Thread Cert.Kernel2Ideal.nD Cert.Kernel2Ideal.τ).loc Cert.Kernel2Ideal.main_v27_2)) (v3 : (c : Dev Cert.Kernel2Ideal.nD) → Buf (Elt Ideal) ((c.tc : Thread Cert.Kernel2Ideal.nD Cert.Kernel2Ideal.τ).loc Cert.Kernel2Ideal.main_v27_3)) (v4 : (c : Dev Cert.Kernel2Ideal.nD) → Buf (Elt Ideal) ((c.tc : Thread Cert.Kernel2Ideal.nD Cert.Kernel2Ideal.τ).loc Cert.Kernel2Ideal.main_v27_4)) (v5 : (c : Dev Cert.Kernel2Ideal.nD) → Buf (Elt Ideal) ((c.tc : Thread Cert.Kernel2Ideal.nD Cert.Kernel2Ideal.τ).loc Cert.Kernel2Ideal.main_v27_5)) (v6 : (c : Dev Cert.Kernel2Ideal.nD) → Buf (Elt Ideal) ((c.tc : Thread Cert.Kernel2Ideal.nD Cert.Kernel2Ideal.τ).loc Cert.Kernel2Ideal.main_v27_6)) (v7 : (c : Dev Cert.Kernel2Ideal.nD) → Buf (Elt Ideal) ((c.tc : Thread Cert.Kernel2Ideal.nD Cert.Kernel2Ideal.τ).loc Cert.Kernel2Ideal.main_v27_7)) (v8 : (c : Dev Cert.Kernel2Ideal.nD) → Buf (Elt Ideal) ((c.tc : Thread Cert.Kernel2Ideal.nD Cert.Kernel2Ideal.τ).loc Cert.Kernel2Ideal.main_v27_8)) (v9 : (c : Dev Cert.Kernel2Ideal.nD) → Buf (Elt Ideal) ((c.tc : Thread Cert.Kernel2Ideal.nD Cert.Kernel2Ideal.τ).loc Cert.Kernel2Ideal.main_v27_9)) (v10 : (c : Dev Cert.Kernel2Ideal.nD) → Buf (Elt Ideal) ((c.tc : Thread Cert.Kernel2Ideal.nD Cert.Kernel2Ideal.τ).loc Cert.Kernel2Ideal.main_v27_10)) (v11 : (c : Dev Cert.Kernel2Ideal.nD) → Buf (Elt Ideal) ((c.tc : Thread Cert.Kernel2Ideal.nD Cert.Kernel2Ideal.τ).loc Cert.Kernel2Ideal.main_v27_11)) (v12 : (c : Dev Cert.Kernel2Ideal.nD) → Buf (Elt Ideal) ((c.tc : Thread Cert.Kernel2Ideal.nD Cert.Kernel2Ideal.τ).loc Cert.Kernel2Ideal.main_v27_12)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v27_0) = v0 c
          ∧ r.2.mem ((c.tc : Thread Cert.Kernel2Ideal.nD Cert.Kernel2Ideal.τ).loc Cert.Kernel2Ideal.main_v27_1) = v1 c
          ∧ r.2.mem ((c.tc : Thread Cert.Kernel2Ideal.nD Cert.Kernel2Ideal.τ).loc Cert.Kernel2Ideal.main_v27_2) = v2 c
          ∧ r.2.mem ((c.tc : Thread Cert.Kernel2Ideal.nD Cert.Kernel2Ideal.τ).loc Cert.Kernel2Ideal.main_v27_3) = v3 c
          ∧ r.2.mem ((c.tc : Thread Cert.Kernel2Ideal.nD Cert.Kernel2Ideal.τ).loc Cert.Kernel2Ideal.main_v27_4) = v4 c
          ∧ r.2.mem ((c.tc : Thread Cert.Kernel2Ideal.nD Cert.Kernel2Ideal.τ).loc Cert.Kernel2Ideal.main_v27_5) = v5 c
          ∧ r.2.mem ((c.tc : Thread Cert.Kernel2Ideal.nD Cert.Kernel2Ideal.τ).loc Cert.Kernel2Ideal.main_v27_6) = v6 c
          ∧ r.2.mem ((c.tc : Thread Cert.Kernel2Ideal.nD Cert.Kernel2Ideal.τ).loc Cert.Kernel2Ideal.main_v27_7) = v7 c
          ∧ r.2.mem ((c.tc : Thread Cert.Kernel2Ideal.nD Cert.Kernel2Ideal.τ).loc Cert.Kernel2Ideal.main_v27_8) = v8 c
          ∧ r.2.mem ((c.tc : Thread Cert.Kernel2Ideal.nD Cert.Kernel2Ideal.τ).loc Cert.Kernel2Ideal.main_v27_9) = v9 c
          ∧ r.2.mem ((c.tc : Thread Cert.Kernel2Ideal.nD Cert.Kernel2Ideal.τ).loc Cert.Kernel2Ideal.main_v27_10) = v10 c
          ∧ r.2.mem ((c.tc : Thread Cert.Kernel2Ideal.nD Cert.Kernel2Ideal.τ).loc Cert.Kernel2Ideal.main_v27_11) = v11 c
          ∧ r.2.mem ((c.tc : Thread Cert.Kernel2Ideal.nD Cert.Kernel2Ideal.τ).loc Cert.Kernel2Ideal.main_v27_12) = v12 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v33) = v0 c
          ∧ r.2.mem ((c.tc : Thread Cert.Reference2Ideal.nD Cert.Reference2Ideal.τ).loc Cert.Reference2Ideal.main_v35) = v1 c
          ∧ r.2.mem ((c.tc : Thread Cert.Reference2Ideal.nD Cert.Reference2Ideal.τ).loc Cert.Reference2Ideal.main_v37) = v2 c
          ∧ r.2.mem ((c.tc : Thread Cert.Reference2Ideal.nD Cert.Reference2Ideal.τ).loc Cert.Reference2Ideal.main_v39) = v3 c
          ∧ r.2.mem ((c.tc : Thread Cert.Reference2Ideal.nD Cert.Reference2Ideal.τ).loc Cert.Reference2Ideal.main_v42) = v4 c
          ∧ r.2.mem ((c.tc : Thread Cert.Reference2Ideal.nD Cert.Reference2Ideal.τ).loc Cert.Reference2Ideal.main_v45) = v5 c
          ∧ r.2.mem ((c.tc : Thread Cert.Reference2Ideal.nD Cert.Reference2Ideal.τ).loc Cert.Reference2Ideal.main_v46) = v6 c
          ∧ r.2.mem ((c.tc : Thread Cert.Reference2Ideal.nD Cert.Reference2Ideal.τ).loc Cert.Reference2Ideal.main_v48) = v7 c
          ∧ r.2.mem ((c.tc : Thread Cert.Reference2Ideal.nD Cert.Reference2Ideal.τ).loc Cert.Reference2Ideal.main_v50) = v8 c
          ∧ r.2.mem ((c.tc : Thread Cert.Reference2Ideal.nD Cert.Reference2Ideal.τ).loc Cert.Reference2Ideal.main_v52) = v9 c
          ∧ r.2.mem ((c.tc : Thread Cert.Reference2Ideal.nD Cert.Reference2Ideal.τ).loc Cert.Reference2Ideal.main_v55) = v10 c
          ∧ r.2.mem ((c.tc : Thread Cert.Reference2Ideal.nD Cert.Reference2Ideal.τ).loc Cert.Reference2Ideal.main_v58) = v11 c
          ∧ r.2.mem ((c.tc : Thread Cert.Reference2Ideal.nD Cert.Reference2Ideal.τ).loc Cert.Reference2Ideal.main_v59) = v12 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v33) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Kernel.lean ====
abbrev S2x16384x2x4x64 : Shape := ⟨5, ![2, 16384, 2, 4, 64]⟩
abbrev S2x16384x24 : Shape := ⟨3, ![2, 16384, 24]⟩
abbrev S2x256x2x64 : Shape := ⟨4, ![2, 256, 2, 64]⟩
abbrev S2x16384x2x2x64 : Shape := ⟨5, ![2, 16384, 2, 2, 64]⟩
abbrev S32768x512 : Shape := ⟨2, ![32768, 512]⟩
abbrev S512x32768 : Shape := ⟨2, ![512, 32768]⟩
abbrev S_ : Shape := ⟨0, ![]⟩
abbrev S8x32768 : Shape := ⟨2, ![8, 32768]⟩
abbrev S32768x24 : Shape := ⟨2, ![32768, 24]⟩
abbrev S24x32768 : Shape := ⟨2, ![24, 32768]⟩
abbrev S32x32768 : Shape := ⟨2, ![32, 32768]⟩
abbrev S2x256x128 : Shape := ⟨3, ![2, 256, 128]⟩
abbrev S2x128x256 : Shape := ⟨3, ![2, 128, 256]⟩
abbrev S2x16384x1x2x64 : Shape := ⟨5, ![2, 16384, 1, 2, 64]⟩
abbrev S2x16384x2x64 : Shape := ⟨4, ![2, 16384, 2, 64]⟩
abbrev S2x16384x128 : Shape := ⟨3, ![2, 16384, 128]⟩
abbrev S2x128x16384 : Shape := ⟨3, ![2, 128, 16384]⟩
abbrev S512x128 : Shape := ⟨2, ![512, 128]⟩
abbrev S32x128 : Shape := ⟨2, ![32, 128]⟩
abbrev S1x256x128 : Shape := ⟨3, ![1, 256, 128]⟩
abbrev S1x128x256 : Shape := ⟨3, ![1, 128, 256]⟩
abbrev S1x16384x128 : Shape := ⟨3, ![1, 16384, 128]⟩
abbrev S1x128x16384 : Shape := ⟨3, ![1, 128, 16384]⟩
abbrev S256x1024 : Shape := ⟨2, ![256, 1024]⟩
abbrev S512x1024 : Shape := ⟨2, ![512, 1024]⟩
abbrev S64x128 : Shape := ⟨2, ![64, 128]⟩
abbrev S64x1024 : Shape := ⟨2, ![64, 1024]⟩
abbrev S128x1024 : Shape := ⟨2, ![128, 1024]⟩
abbrev S1x1024 : Shape := ⟨2, ![1, 1024]⟩
abbrev S1x128 : Shape := ⟨2, ![1, 128]⟩
abbrev S64x512 : Shape := ⟨2, ![64, 512]⟩
abbrev S256x128 : Shape := ⟨2, ![256, 128]⟩
abbrev S1024 : Shape := ⟨1, ![1024]⟩
abbrev S256x512 : Shape := ⟨2, ![256, 512]⟩
abbrev S1x64x256 : Shape := ⟨3, ![1, 64, 256]⟩
abbrev S64x256 : Shape := ⟨2, ![64, 256]⟩
abbrev S128 : Shape := ⟨1, ![128]⟩
abbrev S1x224x128 : Shape := ⟨3, ![1, 224, 128]⟩
abbrev S224x128 : Shape := ⟨2, ![224, 128]⟩
abbrev S224x1024 : Shape := ⟨2, ![224, 1024]⟩
abbrev S224x512 : Shape := ⟨2, ![224, 512]⟩
abbrev S1x64x224 : Shape := ⟨3, ![1, 64, 224]⟩
abbrev S64x224 : Shape := ⟨2, ![64, 224]⟩
abbrev S32x1024 : Shape := ⟨2, ![32, 1024]⟩
abbrev S1x192x128 : Shape := ⟨3, ![1, 192, 128]⟩
abbrev S192x128 : Shape := ⟨2, ![192, 128]⟩
abbrev S192x1024 : Shape := ⟨2, ![192, 1024]⟩
abbrev S192x512 : Shape := ⟨2, ![192, 512]⟩
abbrev S1x64x192 : Shape := ⟨3, ![1, 64, 192]⟩
abbrev S64x192 : Shape := ⟨2, ![64, 192]⟩
abbrev S1x160x128 : Shape := ⟨3, ![1, 160, 128]⟩
abbrev S160x128 : Shape := ⟨2, ![160, 128]⟩
abbrev S160x1024 : Shape := ⟨2, ![160, 1024]⟩
abbrev S160x512 : Shape := ⟨2, ![160, 512]⟩
abbrev S1x64x160 : Shape := ⟨3, ![1, 64, 160]⟩
abbrev S64x160 : Shape := ⟨2, ![64, 160]⟩
abbrev S96x1024 : Shape := ⟨2, ![96, 1024]⟩
abbrev S1x128x128 : Shape := ⟨3, ![1, 128, 128]⟩
abbrev S128x128 : Shape := ⟨2, ![128, 128]⟩
abbrev S128x512 : Shape := ⟨2, ![128, 512]⟩
abbrev S1x64x128 : Shape := ⟨3, ![1, 64, 128]⟩
abbrev S1x96x128 : Shape := ⟨3, ![1, 96, 128]⟩
abbrev S96x128 : Shape := ⟨2, ![96, 128]⟩
abbrev S96x512 : Shape := ⟨2, ![96, 512]⟩
abbrev S1x64x96 : Shape := ⟨3, ![1, 64, 96]⟩
abbrev S64x96 : Shape := ⟨2, ![64, 96]⟩
abbrev S1x64x64 : Shape := ⟨3, ![1, 64, 64]⟩
abbrev S64x64 : Shape := ⟨2, ![64, 64]⟩
abbrev S1x32x128 : Shape := ⟨3, ![1, 32, 128]⟩
abbrev S32x512 : Shape := ⟨2, ![32, 512]⟩
abbrev S1x64x32 : Shape := ⟨3, ![1, 64, 32]⟩
abbrev S64x32 : Shape := ⟨2, ![64, 32]⟩
abbrev S16x512 : Shape := ⟨2, ![16, 512]⟩
abbrev S80x512 : Shape := ⟨2, ![80, 512]⟩
abbrev S8x1024 : Shape := ⟨2, ![8, 1024]⟩
abbrev S16x1024 : Shape := ⟨2, ![16, 1024]⟩
abbrev S1x512x128 : Shape := ⟨3, ![1, 512, 128]⟩
abbrev S512x256 : Shape := ⟨2, ![512, 256]⟩
abbrev S1x64x512 : Shape := ⟨3, ![1, 64, 512]⟩
abbrev S512x512 : Shape := ⟨2, ![512, 512]⟩
abbrev S1x512 : Shape := ⟨2, ![1, 512]⟩
abbrev S1x640x128 : Shape := ⟨3, ![1, 640, 128]⟩
abbrev S640x128 : Shape := ⟨2, ![640, 128]⟩
abbrev S640x1024 : Shape := ⟨2, ![640, 1024]⟩
abbrev S16x640 : Shape := ⟨2, ![16, 640]⟩
abbrev S1x64x640 : Shape := ⟨3, ![1, 64, 640]⟩
abbrev S64x640 : Shape := ⟨2, ![64, 640]⟩
abbrev S80x640 : Shape := ⟨2, ![80, 640]⟩
abbrev S640x512 : Shape := ⟨2, ![640, 512]⟩

abbrev nBuf : Space → Nat
  | .hbm => 37
  | .vmem => 23
  | .smem => 0
  | _ => 0

abbrev bufTy : (tb : Table) → Fin (tcTables nBuf tb) → BufTy
  | .hbm, ⟨0, _⟩ => ⟨S2x16384x2x4x64, .f32⟩
  | .hbm, ⟨1, _⟩ => ⟨S2x16384x24, .f32⟩
  | .hbm, ⟨2, _⟩ => ⟨S2x256x2x64, .f32⟩
  | .hbm, ⟨3, _⟩ => ⟨S2x256x2x64, .f32⟩
  | .hbm, ⟨4, _⟩ => ⟨S2x16384x2x2x64, .f32⟩
  | .hbm, ⟨5, _⟩ => ⟨S2x16384x2x2x64, .f32⟩
  | .hbm, ⟨6, _⟩ => ⟨S32768x512, .f32⟩
  | .hbm, ⟨7, _⟩ => ⟨S512x32768, .f32⟩
  | .hbm, ⟨8, _⟩ => ⟨S_, .f32⟩
  | .hbm, ⟨9, _⟩ => ⟨S8x32768, .f32⟩
  | .hbm, ⟨10, _⟩ => ⟨S32768x24, .f32⟩
  | .hbm, ⟨11, _⟩ => ⟨S24x32768, .f32⟩
  | .hbm, ⟨12, _⟩ => ⟨S32x32768, .f32⟩
  | .hbm, ⟨13, _⟩ => ⟨S2x256x128, .f32⟩
  | .hbm, ⟨14, _⟩ => ⟨S2x256x128, .bf16⟩
  | .hbm, ⟨15, _⟩ => ⟨S2x256x128, .f32⟩
  | .hbm, ⟨16, _⟩ => ⟨S2x128x256, .f32⟩
  | .hbm, ⟨17, _⟩ => ⟨S2x128x256, .bf16⟩
  | .hbm, ⟨18, _⟩ => ⟨S2x16384x1x2x64, .f32⟩
  | .hbm, ⟨19, _⟩ => ⟨S2x16384x2x64, .f32⟩
  | .hbm, ⟨20, _⟩ => ⟨S2x16384x128, .f32⟩
  | .hbm, ⟨21, _⟩ => ⟨S2x16384x128, .bf16⟩
  | .hbm, ⟨22, _⟩ => ⟨S2x16384x1x2x64, .f32⟩
  | .hbm, ⟨23, _⟩ => ⟨S2x16384x2x64, .f32⟩
  | .hbm, ⟨24, _⟩ => ⟨S2x16384x128, .f32⟩
  | .hbm, ⟨25, _⟩ => ⟨S2x128x16384, .f32⟩
  | .hbm, ⟨26, _⟩ => ⟨S2x128x16384, .bf16⟩
  | .hbm, ⟨27, _⟩ => ⟨S2x16384x1x2x64, .f32⟩
  | .hbm, ⟨28, _⟩ => ⟨S2x16384x2x64, .f32⟩
  | .hbm, ⟨29, _⟩ => ⟨S2x16384x128, .f32⟩
  | .hbm, ⟨30, _⟩ => ⟨S2x16384x128, .bf16⟩
  | .hbm, ⟨31, _⟩ => ⟨S2x16384x1x2x64, .f32⟩
  | .hbm, ⟨32, _⟩ => ⟨S2x16384x2x64, .f32⟩
  | .hbm, ⟨33, _⟩ => ⟨S2x16384x128, .f32⟩
  | .hbm, ⟨34, _⟩ => ⟨S2x128x16384, .f32⟩
  | .hbm, ⟨35, _⟩ => ⟨S2x128x16384, .bf16⟩
  | .hbm, ⟨36, _⟩ => ⟨S512x32768, .f32⟩
  | .local _ .vmem, ⟨0, _⟩ => ⟨S512x128, .f32⟩
  | .local _ .vmem, ⟨1, _⟩ => ⟨S512x128, .f32⟩
  | .local _ .vmem, ⟨2, _⟩ => ⟨S32x128, .f32⟩
  | .local _ .vmem, ⟨3, _⟩ => ⟨S32x128, .f32⟩
  | .local _ .vmem, ⟨4, _⟩ => ⟨S1x256x128, .bf16⟩
  | .local _ .vmem, ⟨5, _⟩ => ⟨S1x256x128, .bf16⟩
  | .local _ .vmem, ⟨6, _⟩ => ⟨S1x128x256, .bf16⟩
  | .local _ .vmem, ⟨7, _⟩ => ⟨S1x128x256, .bf16⟩
  | .local _ .vmem, ⟨8, _⟩ => ⟨S1x16384x128, .bf16⟩
  | .local _ .vmem, ⟨9, _⟩ => ⟨S1x16384x128, .bf16⟩
  | .local _ .vmem, ⟨10, _⟩ => ⟨S1x128x16384, .bf16⟩
  | .local _ .vmem, ⟨11, _⟩ => ⟨S1x128x16384, .bf16⟩
  | .local _ .vmem, ⟨12, _⟩ => ⟨S1x16384x128, .bf16⟩
  | .local _ .vmem, ⟨13, _⟩ => ⟨S1x16384x128, .bf16⟩
  | .local _ .vmem, ⟨14, _⟩ => ⟨S1x128x16384, .bf16⟩
  | .local _ .vmem, ⟨15, _⟩ => ⟨S1x128x16384, .bf16⟩
  | .local _ .vmem, ⟨16, _⟩ => ⟨S512x128, .f32⟩
  | .local _ .vmem, ⟨17, _⟩ => ⟨S512x128, .f32⟩
  | .local _ .vmem, ⟨18, _⟩ => ⟨S256x1024, .f32⟩
  | .local _ .vmem, ⟨19, _⟩ => ⟨S256x1024, .bf16⟩
  | .local _ .vmem, ⟨20, _⟩ => ⟨S256x1024, .bf16⟩
  | .local _ .vmem, ⟨21, _⟩ => ⟨S512x1024, .f32⟩
  | .local _ .vmem, ⟨22, _⟩ => ⟨S512x1024, .f32⟩
  | _, _ => ⟨S2x16384x2x4x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_scratch4 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 128], ![false, false]⟩

def k0_cond1 (i : grid0.Coords) : BitVec 1 :=
  let c2_i32 : BitVec 32 := 2#32
  let arg1 : BitVec 32 := BitVec.ofNat 32 (i 1).val
  let v26 : BitVec 32 := Scalar.muli c2_i32 arg1
  let c1_i32 : BitVec 32 := 1#32
  let v27 : BitVec 32 := Scalar.addi v26 c1_i32
  let c5_i32 : BitVec 32 := 5#32
  let v28 : BitVec 32 := Scalar.shrui v27 c5_i32
  let c7_i32 : BitVec 32 := 7#32
  let v29 : BitVec 32 := Scalar.minsi v28 c7_i32
  let c0_i32 : BitVec 32 := 0#32
  let v30 : BitVec 32 := Scalar.maxsi v29 c0_i32
  let c7_i32_2 : BitVec 32 := 7#32
  let v31 : BitVec 32 := Scalar.minsi v30 c7_i32_2
  let c0_i32_3 : BitVec 32 := 0#32
  let v32 : BitVec 1 := Scalar.cmpi .ne v31 c0_i32_3
  v32

def k0_cond2 (i : grid0.Coords) : BitVec 1 :=
  let c2_i32 : BitVec 32 := 2#32
  let arg1 : BitVec 32 := BitVec.ofNat 32 (i 1).val
  let v26 : BitVec 32 := Scalar.muli c2_i32 arg1
  let c1_i32 : BitVec 32 := 1#32
  let v27 : BitVec 32 := Scalar.addi v26 c1_i32
  let c5_i32 : BitVec 32 := 5#32
  let v28 : BitVec 32 := Scalar.shrui v27 c5_i32
  let c7_i32 : BitVec 32 := 7#32
  let v29 : BitVec 32 := Scalar.minsi v28 c7_i32
  let c0_i32 : BitVec 32 := 0#32
  let v30 : BitVec 32 := Scalar.maxsi v29 c0_i32
  let c7_i32_2 : BitVec 32 := 7#32
  let v31 : BitVec 32 := Scalar.minsi v30 c7_i32_2
  let c1_i32_98 : BitVec 32 := 1#32
  let v337 : BitVec 32 := Scalar.subi v31 c1_i32_98
  let c0_i32_99 : BitVec 32 := 0#32
  let v338 : BitVec 1 := Scalar.cmpi .ne v337 c0_i32_99
  v338

def k0_cond3 (i : grid0.Coords) : BitVec 1 :=
  let c2_i32 : BitVec 32 := 2#32
  let arg1 : BitVec 32 := BitVec.ofNat 32 (i 1).val
  let v26 : BitVec 32 := Scalar.muli c2_i32 arg1
  let c1_i32 : BitVec 32 := 1#32
  let v27 : BitVec 32 := Scalar.addi v26 c1_i32
  let c5_i32 : BitVec 32 := 5#32
  let v28 : BitVec 32 := Scalar.shrui v27 c5_i32
  let c7_i32 : BitVec 32 := 7#32
  let v29 : BitVec 32 := Scalar.minsi v28 c7_i32
  let c0_i32 : BitVec 32 := 0#32
  let v30 : BitVec 32 := Scalar.maxsi v29 c0_i32
  let c7_i32_2 : BitVec 32 := 7#32
  let v31 : BitVec 32 := Scalar.minsi v30 c7_i32_2
  let c1_i32_98 : BitVec 32 := 1#32
  let v337 : BitVec 32 := Scalar.subi v31 c1_i32_98
  let c1_i32_100 : BitVec 32 := 1#32
  let v340 : BitVec 32 := Scalar.subi v337 c1_i32_100
  let c0_i32_101 : BitVec 32 := 0#32
  let v341 : BitVec 1 := Scalar.cmpi .ne v340 c0_i32_101
  v341

def k0_cond4 (i : grid0.Coords) : BitVec 1 :=
  let c2_i32 : BitVec 32 := 2#32
  let arg1 : BitVec 32 := BitVec.ofNat 32 (i 1).val
  let v26 : BitVec 32 := Scalar.muli c2_i32 arg1
  let c1_i32 : BitVec 32 := 1#32
  let v27 : BitVec 32 := Scalar.addi v26 c1_i32
  let c5_i32 : BitVec 32 := 5#32
  let v28 : BitVec 32 := Scalar.shrui v27 c5_i32
  let c7_i32 : BitVec 32 := 7#32
  let v29 : BitVec 32 := Scalar.minsi v28 c7_i32
  let c0_i32 : BitVec 32 := 0#32
  let v30 : BitVec 32 := Scalar.maxsi v29 c0_i32
  let c7_i32_2 : BitVec 32 := 7#32
  let v31 : BitVec 32 := Scalar.minsi v30 c7_i32_2
  let c1_i32_98 : BitVec 32 := 1#32
  let v337 : BitVec 32 := Scalar.subi v31 c1_i32_98
  let c1_i32_100 : BitVec 32 := 1#32
  let v340 : BitVec 32 := Scalar.subi v337 c1_i32_100
  let c1_i32_102 : BitVec 32 := 1#32
  let v343 : BitVec 32 := Scalar.subi v340 c1_i32_102
  let c0_i32_103 : BitVec 32 := 0#32
  let v344 : BitVec 1 := Scalar.cmpi .ne v343 c0_i32_103
  v344

def k0_cond5 (i : grid0.Coords) : BitVec 1 :=
  let c2_i32 : BitVec 32 := 2#32
  let arg1 : BitVec 32 := BitVec.ofNat 32 (i 1).val
  let v26 : BitVec 32 := Scalar.muli c2_i32 arg1
  let c1_i32 : BitVec 32 := 1#32
  let v27 : BitVec 32 := Scalar.addi v26 c1_i32
  let c5_i32 : BitVec 32 := 5#32
  let v28 : BitVec 32 := Scalar.shrui v27 c5_i32
  let c7_i32 : BitVec 32 := 7#32
  let v29 : BitVec 32 := Scalar.minsi v28 c7_i32
  let c0_i32 : BitVec 32 := 0#32
  let v30 : BitVec 32 := Scalar.maxsi v29 c0_i32
  let c7_i32_2 : BitVec 32 := 7#32
  let v31 : BitVec 32 := Scalar.minsi v30 c7_i32_2
  let c1_i32_98 : BitVec 32 := 1#32
  let v337 : BitVec 32 := Scalar.subi v31 c1_i32_98
  let c1_i32_100 : BitVec 32 := 1#32
  let v340 : BitVec 32 := Scalar.subi v337 c1_i32_100
  let c1_i32_102 : BitVec 32 := 1#32
  let v343 : BitVec 32 := Scalar.subi v340 c1_i32_102
  let c1_i32_104 : BitVec 32 := 1#32
  let v346 : BitVec 32 := Scalar.subi v343 c1_i32_104
  let c0_i32_105 : BitVec 32 := 0#32
  let v347 : BitVec 1 := Scalar.cmpi .ne v346 c0_i32_105
  v347

def k0_cond6 (i : grid0.Coords) : BitVec 1 :=
  let c2_i32 : BitVec 32 := 2#32
  let arg1 : BitVec 32 := BitVec.ofNat 32 (i 1).val
  let v26 : BitVec 32 := Scalar.muli c2_i32 arg1
  let c1_i32 : BitVec 32 := 1#32
  let v27 : BitVec 32 := Scalar.addi v26 c1_i32
  let c5_i32 : BitVec 32 := 5#32
  let v28 : BitVec 32 := Scalar.shrui v27 c5_i32
  let c7_i32 : BitVec 32 := 7#32
  let v29 : BitVec 32 := Scalar.minsi v28 c7_i32
  let c0_i32 : BitVec 32 := 0#32
  let v30 : BitVec 32 := Scalar.maxsi v29 c0_i32
  let c7_i32_2 : BitVec 32 := 7#32
  let v31 : BitVec 32 := Scalar.minsi v30 c7_i32_2
  let c1_i32_98 : BitVec 32 := 1#32
  let v337 : BitVec 32 := Scalar.subi v31 c1_i32_98
  let c1_i32_100 : BitVec 32 := 1#32
  let v340 : BitVec 32 := Scalar.subi v337 c1_i32_100
  let c1_i32_102 : BitVec 32 := 1#32
  let v343 : BitVec 32 := Scalar.subi v340 c1_i32_102
  let c1_i32_104 : BitVec 32 := 1#32
  let v346 : BitVec 32 := Scalar.subi v343 c1_i32_104
  let c1_i32_106 : BitVec 32 := 1#32
  let v349 : BitVec 32 := Scalar.subi v346 c1_i32_106
  let c0_i32_107 : BitVec 32 := 0#32
  let v350 : BitVec 1 := Scalar.cmpi .ne v349 c0_i32_107
  v350

def k0_cond7 (i : grid0.Coords) : BitVec 1 :=
  let c2_i32 : BitVec 32 := 2#32
  let arg1 : BitVec 32 := BitVec.ofNat 32 (i 1).val
  let v26 : BitVec 32 := Scalar.muli c2_i32 arg1
  let c1_i32 : BitVec 32 := 1#32
  let v27 : BitVec 32 := Scalar.addi v26 c1_i32
  let c5_i32 : BitVec 32 := 5#32
  let v28 : BitVec 32 := Scalar.shrui v27 c5_i32
  let c7_i32 : BitVec 32 := 7#32
  let v29 : BitVec 32 := Scalar.minsi v28 c7_i32
  let c0_i32 : BitVec 32 := 0#32
  let v30 : BitVec 32 := Scalar.maxsi v29 c0_i32
  let c7_i32_2 : BitVec 32 := 7#32
  let v31 : BitVec 32 := Scalar.minsi v30 c7_i32_2
  let c1_i32_98 : BitVec 32 := 1#32
  let v337 : BitVec 32 := Scalar.subi v31 c1_i32_98
  let c1_i32_100 : BitVec 32 := 1#32
  let v340 : BitVec 32 := Scalar.subi v337 c1_i32_100
  let c1_i32_102 : BitVec 32 := 1#32
  let v343 : BitVec 32 := Scalar.subi v340 c1_i32_102
  let c1_i32_104 : BitVec 32 := 1#32
  let v346 : BitVec 32 := Scalar.subi v343 c1_i32_104
  let c1_i32_106 : BitVec 32 := 1#32
  let v349 : BitVec 32 := Scalar.subi v346 c1_i32_106
  let c1_i32_108 : BitVec 32 := 1#32
  let v352 : BitVec 32 := Scalar.subi v349 c1_i32_108
  let c0_i32_109 : BitVec 32 := 0#32
  let v353 : BitVec 1 := Scalar.cmpi .ne v352 c0_i32_109
  v353

@[reducible] def k0_t1_loop : Scf.Loop 32 :=
  let c0_i32_138 : BitVec 32 := 0#32
  let c16_i32 : BitVec 32 := 16#32
  let v433 : BitVec 32 := Scalar.addi c0_i32_138 c16_i32
  let c1_i32_139 : BitVec 32 := 1#32
  ⟨c0_i32_138, v433, c1_i32_139⟩
@[reducible] def k0_t2_loop : Scf.Loop 32 :=
  let c0_i32_163 : BitVec 32 := 0#32
  let c16_i32_164 : BitVec 32 := 16#32
  let v492 : BitVec 32 := Scalar.addi c0_i32_163 c16_i32_164
  let c1_i32_165 : BitVec 32 := 1#32
  ⟨c0_i32_163, v492, c1_i32_165⟩
@[reducible] def k0_t3_loop : Scf.Loop 32 :=
  let c0_i32_138 : BitVec 32 := 0#32
  let c16_i32 : BitVec 32 := 16#32
  let v433 : BitVec 32 := Scalar.addi c0_i32_138 c16_i32
  let c1_i32_139 : BitVec 32 := 1#32
  ⟨c0_i32_138, v433, c1_i32_139⟩
@[reducible] def k0_t4_loop : Scf.Loop 32 :=
  let c0_i32_163 : BitVec 32 := 0#32
  let c16_i32_164 : BitVec 32 := 16#32
  let v492 : BitVec 32 := Scalar.addi c0_i32_163 c16_i32_164
  let c1_i32_165 : BitVec 32 := 1#32
  ⟨c0_i32_163, v492, c1_i32_165⟩
@[reducible] def k0_t5_loop : Scf.Loop 32 :=
  let c0_i32_136 : BitVec 32 := 0#32
  let c16_i32 : BitVec 32 := 16#32
  let v430 : BitVec 32 := Scalar.addi c0_i32_136 c16_i32
  let c1_i32_137 : BitVec 32 := 1#32
  ⟨c0_i32_136, v430, c1_i32_137⟩
@[reducible] def k0_t6_loop : Scf.Loop 32 :=
  let c0_i32_161 : BitVec 32 := 0#32
  let c16_i32_162 : BitVec 32 := 16#32
  let v489 : BitVec 32 := Scalar.addi c0_i32_161 c16_i32_162
  let c1_i32_163 : BitVec 32 := 1#32
  ⟨c0_i32_161, v489, c1_i32_163⟩
@[reducible] def k0_t7_loop : Scf.Loop 32 :=
  let c0_i32_134 : BitVec 32 := 0#32
  let c16_i32 : BitVec 32 := 16#32
  let v427 : BitVec 32 := Scalar.addi c0_i32_134 c16_i32
  let c1_i32_135 : BitVec 32 := 1#32
  ⟨c0_i32_134, v427, c1_i32_135⟩
@[reducible] def k0_t8_loop : Scf.Loop 32 :=
  let c0_i32_159 : BitVec 32 := 0#32
  let c16_i32_160 : BitVec 32 := 16#32
  let v486 : BitVec 32 := Scalar.addi c0_i32_159 c16_i32_160
  let c1_i32_161 : BitVec 32 := 1#32
  ⟨c0_i32_159, v486, c1_i32_161⟩
@[reducible] def k0_t9_loop : Scf.Loop 32 :=
  let c0_i32_133 : BitVec 32 := 0#32
  let c16_i32 : BitVec 32 := 16#32
  let v424 : BitVec 32 := Scalar.addi c0_i32_133 c16_i32
  let c1_i32_134 : BitVec 32 := 1#32
  ⟨c0_i32_133, v424, c1_i32_134⟩
@[reducible] def k0_t10_loop : Scf.Loop 32 :=
  let c0_i32_158 : BitVec 32 := 0#32
  let c16_i32_159 : BitVec 32 := 16#32
  let v483 : BitVec 32 := Scalar.addi c0_i32_158 c16_i32_159
  let c1_i32_160 : BitVec 32 := 1#32
  ⟨c0_i32_158, v483, c1_i32_160⟩
@[reducible] def k0_t11_loop : Scf.Loop 32 :=
  let c0_i32_130 : BitVec 32 := 0#32
  let c16_i32 : BitVec 32 := 16#32
  let v421 : BitVec 32 := Scalar.addi c0_i32_130 c16_i32
  let c1_i32_131 : BitVec 32 := 1#32
  ⟨c0_i32_130, v421, c1_i32_131⟩
@[reducible] def k0_t12_loop : Scf.Loop 32 :=
  let c0_i32_155 : BitVec 32 := 0#32
  let c16_i32_156 : BitVec 32 := 16#32
  let v480 : BitVec 32 := Scalar.addi c0_i32_155 c16_i32_156
  let c1_i32_157 : BitVec 32 := 1#32
  ⟨c0_i32_155, v480, c1_i32_157⟩
@[reducible] def k0_t13_loop : Scf.Loop 32 :=
  let c0_i32_129 : BitVec 32 := 0#32
  let c16_i32 : BitVec 32 := 16#32
  let v418 : BitVec 32 := Scalar.addi c0_i32_129 c16_i32
  let c1_i32_130 : BitVec 32 := 1#32
  ⟨c0_i32_129, v418, c1_i32_130⟩
@[reducible] def k0_t14_loop : Scf.Loop 32 :=
  let c0_i32_154 : BitVec 32 := 0#32
  let c16_i32_155 : BitVec 32 := 16#32
  let v477 : BitVec 32 := Scalar.addi c0_i32_154 c16_i32_155
  let c1_i32_156 : BitVec 32 := 1#32
  ⟨c0_i32_154, v477, c1_i32_156⟩
@[reducible] def k0_t15_loop : Scf.Loop 32 :=
  let c0_i32_126 : BitVec 32 := 0#32
  let c16_i32 : BitVec 32 := 16#32
  let v415 : BitVec 32 := Scalar.addi c0_i32_126 c16_i32
  let c1_i32_127 : BitVec 32 := 1#32
  ⟨c0_i32_126, v415, c1_i32_127⟩
@[reducible] def k0_t16_loop : Scf.Loop 32 :=
  let c0_i32_151 : BitVec 32 := 0#32
  let c16_i32_152 : BitVec 32 := 16#32
  let v474 : BitVec 32 := Scalar.addi c0_i32_151 c16_i32_152
  let c1_i32_153 : BitVec 32 := 1#32
  ⟨c0_i32_151, v474, c1_i32_153⟩
def k0_mult1 : BitVec 32 :=
  let c0_i32_34 : BitVec 32 := 0#32
  c0_i32_34
def k0_mult2 : BitVec 32 :=
  let c0_i32_35 : BitVec 32 := 0#32
  c0_i32_35
@[reducible] def k0_t17_loop (i : grid0.Coords) : Scf.Loop 32 :=
  let c0_i32_50 : BitVec 32 := 0#32
  let arg1 : BitVec 32 := BitVec.ofNat 32 (i 1).val
  let c128_i32 : BitVec 32 := 128#32
  let v0 : BitVec 32 := Scalar.muli arg1 c128_i32
  let c128_i32_16 : BitVec 32 := 128#32
  let v58 : BitVec 32 := Scalar.addi v0 c128_i32_16
  let c1_i32_17 : BitVec 32 := 1#32
  let v59 : BitVec 32 := Scalar.subi v58 c1_i32_17
  let c0_i32_18 : BitVec 32 := 0#32
  let v61 : BitVec 1 := Scalar.cmpi .sgt v59 c0_i32_18
  let v62 : BitVec 32 := Scalar.extui v61
  let c0_i32_19 : BitVec 32 := 0#32
  let v63 : BitVec 1 := Scalar.cmpi .slt v59 c0_i32_19
  let v64 : BitVec 32 := Scalar.extui v63
  let v65 : BitVec 32 := Scalar.subi v62 v64
  let c512_i32 : BitVec 32 := 512#32
  let c0_i32_20 : BitVec 32 := 0#32
  let v66 : BitVec 1 := Scalar.cmpi .sgt c512_i32 c0_i32_20
  let v67 : BitVec 32 := Scalar.extui v66
  let c0_i32_21 : BitVec 32 := 0#32
  let v68 : BitVec 1 := Scalar.cmpi .slt c512_i32 c0_i32_21
  let v69 : BitVec 32 := Scalar.extui v68
  let v70 : BitVec 32 := Scalar.subi v67 v69
  let v71 : BitVec 1 := Scalar.cmpi .ne v65 v70
  let v72 : BitVec 32 := Scalar.remsi v59 c512_i32
  let c0_i32_22 : BitVec 32 := 0#32
  let v73 : BitVec 1 := Scalar.cmpi .ne v72 c0_i32_22
  let v74 : BitVec 1 := Scalar.andi v71 v73
  let v60 : BitVec 32 := Scalar.divsi v59 c512_i32
  let c1_i32_23 : BitVec 32 := 1#32
  let v75 : BitVec 32 := Scalar.subi v60 c1_i32_23
  let v76 : BitVec 32 := Scalar.select v74 v75 v60
  let c0_i32_25 : BitVec 32 := 0#32
  let v78 : BitVec 1 := Scalar.cmpi .sgt v76 c0_i32_25
  let v79 : BitVec 32 := Scalar.extui v78
  let c0_i32_26 : BitVec 32 := 0#32
  let v80 : BitVec 1 := Scalar.cmpi .slt v76 c0_i32_26
  let v81 : BitVec 32 := Scalar.extui v80
  let v82 : BitVec 32 := Scalar.subi v79 v81
  let c2_i32_24 : BitVec 32 := 2#32
  let c0_i32_27 : BitVec 32 := 0#32
  let v83 : BitVec 1 := Scalar.cmpi .sgt c2_i32_24 c0_i32_27
  let v84 : BitVec 32 := Scalar.extui v83
  let c0_i32_28 : BitVec 32 := 0#32
  let v85 : BitVec 1 := Scalar.cmpi .slt c2_i32_24 c0_i32_28
  let v86 : BitVec 32 := Scalar.extui v85
  let v87 : BitVec 32 := Scalar.subi v84 v86
  let v88 : BitVec 1 := Scalar.cmpi .ne v82 v87
  let v89 : BitVec 32 := Scalar.remsi v76 c2_i32_24
  let c0_i32_29 : BitVec 32 := 0#32
  let v90 : BitVec 1 := Scalar.cmpi .ne v89 c0_i32_29
  let v91 : BitVec 1 := Scalar.andi v88 v90
  let v77 : BitVec 32 := Scalar.divsi v76 c2_i32_24
  let c1_i32_30 : BitVec 32 := 1#32
  let v92 : BitVec 32 := Scalar.subi v77 c1_i32_30
  let v93 : BitVec 32 := Scalar.select v91 v92 v77
  let v121 : BitVec 32 := Scalar.subi v93 c0_i32_50
  let c1_i32_51 : BitVec 32 := 1#32
  let v123 : BitVec 32 := Scalar.divsi v121 c1_i32_51
  let v124 : BitVec 32 := Scalar.muli v123 c1_i32_51
  let v125 : BitVec 32 := Scalar.addi c0_i32_50 v124
  let c1_i32_52 : BitVec 32 := 1#32
  ⟨c0_i32_50, v125, c1_i32_52⟩
def k0_mult3 (i : grid0.Coords) (k0_t17 : Fin (k0_t17_loop i).trips) : BitVec 32 :=
  let c2_i32_98 : BitVec 32 := 2#32
  let c0_i32_50 : BitVec 32 := 0#32
  let c1_i32_52 : BitVec 32 := 1#32
  let arg16 : BitVec 32 := Scf.iv c0_i32_50 c1_i32_52 k0_t17
  let v337 : BitVec 32 := Scalar.muli c2_i32_98 arg16
  let c1_i32_99 : BitVec 32 := 1#32
  let v338 : BitVec 32 := Scalar.addi v337 c1_i32_99
  let c512_i32_100 : BitVec 32 := 512#32
  let v339 : BitVec 32 := Scalar.muli v338 c512_i32_100
  v339
def k0_mult4 (i : grid0.Coords) (k0_t17 : Fin (k0_t17_loop i).trips) : BitVec 32 :=
  let c2_i32_98 : BitVec 32 := 2#32
  let c0_i32_50 : BitVec 32 := 0#32
  let c1_i32_52 : BitVec 32 := 1#32
  let arg16 : BitVec 32 := Scf.iv c0_i32_50 c1_i32_52 k0_t17
  let v337 : BitVec 32 := Scalar.muli c2_i32_98 arg16
  let c1_i32_99 : BitVec 32 := 1#32
  let v338 : BitVec 32 := Scalar.addi v337 c1_i32_99
  let c8_i32 : BitVec 32 := 8#32
  let v341 : BitVec 32 := Scalar.muli v338 c8_i32
  v341
def k0_off1 (i : grid0.Coords) (k0_t17 : Fin (k0_t17_loop i).trips) (c1_i32_99 : BitVec 32) : Fin 2 → Nat :=
  let c2_i32_98 : BitVec 32 := 2#32
  let c0_i32_50 : BitVec 32 := 0#32
  let c1_i32_52 : BitVec 32 := 1#32
  let arg16 : BitVec 32 := Scf.iv c0_i32_50 c1_i32_52 k0_t17
  let v337 : BitVec 32 := Scalar.muli c2_i32_98 arg16
  let v338 : BitVec 32 := Scalar.addi v337 c1_i32_99
  let c8_i32 : BitVec 32 := 8#32
  let v341 : BitVec 32 := Scalar.muli v338 c8_i32
  let v342 : BitVec 32 := v341
  let v343 : Index := Scalar.indexCast v342
  let c0_101 : Index := 0#32
  ![v343.toNat, 0]
def k0_off2 (i : grid0.Coords) (k0_t17 : Fin (k0_t17_loop i).trips) (c1_i32_99 : BitVec 32) : Fin 3 → Nat :=
  let c0_108 : Index := 0#32
  let c2_i32_98 : BitVec 32 := 2#32
  let c0_i32_50 : BitVec 32 := 0#32
  let c1_i32_52 : BitVec 32 := 1#32
  let arg16 : BitVec 32 := Scf.iv c0_i32_50 c1_i32_52 k0_t17
  let v337 : BitVec 32 := Scalar.muli c2_i32_98 arg16
  let v338 : BitVec 32 := Scalar.addi v337 c1_i32_99
  let c512_i32_100 : BitVec 32 := 512#32
  let v339 : BitVec 32 := Scalar.muli v338 c512_i32_100
  let v340 : BitVec 32 := v339
  let v356 : Index := Scalar.indexCast v340
  let c0_109 : Index := 0#32
  ![0, v356.toNat, 0]
def k0_mult5 (i : grid0.Coords) (k0_t17 : Fin (k0_t17_loop i).trips) : BitVec 32 :=
  let c2_i32_115 : BitVec 32 := 2#32
  let c0_i32_50 : BitVec 32 := 0#32
  let c1_i32_52 : BitVec 32 := 1#32
  let arg16 : BitVec 32 := Scf.iv c0_i32_50 c1_i32_52 k0_t17
  let v365 : BitVec 32 := Scalar.muli c2_i32_115 arg16
  let c512_i32_116 : BitVec 32 := 512#32
  let v366 : BitVec 32 := Scalar.muli v365 c512_i32_116
  v366
def k0_off3 (i : grid0.Coords) (k0_t17 : Fin (k0_t17_loop i).trips) : Fin 3 → Nat :=
  let c0_122 : Index := 0#32
  let c0_123 : Index := 0#32
  let c2_i32_115 : BitVec 32 := 2#32
  let c0_i32_50 : BitVec 32 := 0#32
  let c1_i32_52 : BitVec 32 := 1#32
  let arg16 : BitVec 32 := Scf.iv c0_i32_50 c1_i32_52 k0_t17
  let v365 : BitVec 32 := Scalar.muli c2_i32_115 arg16
  let c512_i32_116 : BitVec 32 := 512#32
  let v366 : BitVec 32 := Scalar.muli v365 c512_i32_116
  let v367 : BitVec 32 := v366
  let v382 : Index := Scalar.indexCast v367
  ![0, 0, v382.toNat]
def k0_off4 (i : grid0.Coords) (k0_t17 : Fin (k0_t17_loop i).trips) : Fin 3 → Nat :=
  let c0_125 : Index := 0#32
  let c64_126 : Index := 64#32
  let c2_i32_115 : BitVec 32 := 2#32
  let c0_i32_50 : BitVec 32 := 0#32
  let c1_i32_52 : BitVec 32 := 1#32
  let arg16 : BitVec 32 := Scf.iv c0_i32_50 c1_i32_52 k0_t17
  let v365 : BitVec 32 := Scalar.muli c2_i32_115 arg16
  let c512_i32_116 : BitVec 32 := 512#32
  let v366 : BitVec 32 := Scalar.muli v365 c512_i32_116
  let v367 : BitVec 32 := v366
  let v392 : Index := Scalar.indexCast v367
  ![0, 64, v392.toNat]
def k0_mult6 (i : grid0.Coords) (k0_t17 : Fin (k0_t17_loop i).trips) : BitVec 32 :=
  let c2_i32_128 : BitVec 32 := 2#32
  let c0_i32_50 : BitVec 32 := 0#32
  let c1_i32_52 : BitVec 32 := 1#32
  let arg16 : BitVec 32 := Scf.iv c0_i32_50 c1_i32_52 k0_t17
  let v402 : BitVec 32 := Scalar.muli c2_i32_128 arg16
  let c2_i32_129 : BitVec 32 := 2#32
  let v403 : BitVec 32 := Scalar.addi v402 c2_i32_129
  let c512_i32_130 : BitVec 32 := 512#32
  let v404 : BitVec 32 := Scalar.muli v403 c512_i32_130
  v404
def k0_mult7 (i : grid0.Coords) (k0_t17 : Fin (k0_t17_loop i).trips) : BitVec 32 :=
  let c2_i32_128 : BitVec 32 := 2#32
  let c0_i32_50 : BitVec 32 := 0#32
  let c1_i32_52 : BitVec 32 := 1#32
  let arg16 : BitVec 32 := Scf.iv c0_i32_50 c1_i32_52 k0_t17
  let v402 : BitVec 32 := Scalar.muli c2_i32_128 arg16
  let c2_i32_129 : BitVec 32 := 2#32
  let v403 : BitVec 32 := Scalar.addi v402 c2_i32_129
  let c8_i32_131 : BitVec 32 := 8#32
  let v406 : BitVec 32 := Scalar.muli v403 c8_i32_131
  v406
def k0_mult8 (i : grid0.Coords) (k0_t17 : Fin (k0_t17_loop i).trips) : BitVec 32 :=
  let c2_i32_146 : BitVec 32 := 2#32
  let c0_i32_50 : BitVec 32 := 0#32
  let c1_i32_52 : BitVec 32 := 1#32
  let arg16 : BitVec 32 := Scf.iv c0_i32_50 c1_i32_52 k0_t17
  let v430 : BitVec 32 := Scalar.muli c2_i32_146 arg16
  let c1_i32_147 : BitVec 32 := 1#32
  let v431 : BitVec 32 := Scalar.addi v430 c1_i32_147
  let c512_i32_148 : BitVec 32 := 512#32
  let v432 : BitVec 32 := Scalar.muli v431 c512_i32_148
  v432
def k0_off5 (i : grid0.Coords) (k0_t17 : Fin (k0_t17_loop i).trips) : Fin 3 → Nat :=
  let c0_154 : Index := 0#32
  let c0_155 : Index := 0#32
  let c2_i32_146 : BitVec 32 := 2#32
  let c0_i32_50 : BitVec 32 := 0#32
  let c1_i32_52 : BitVec 32 := 1#32
  let arg16 : BitVec 32 := Scf.iv c0_i32_50 c1_i32_52 k0_t17
  let v430 : BitVec 32 := Scalar.muli c2_i32_146 arg16
  let c1_i32_147 : BitVec 32 := 1#32
  let v431 : BitVec 32 := Scalar.addi v430 c1_i32_147
  let c512_i32_148 : BitVec 32 := 512#32
  let v432 : BitVec 32 := Scalar.muli v431 c512_i32_148
  let v433 : BitVec 32 := v432
  let v448 : Index := Scalar.indexCast v433
  ![0, 0, v448.toNat]
def k0_off6 (i : grid0.Coords) (k0_t17 : Fin (k0_t17_loop i).trips) : Fin 3 → Nat :=
  let c0_157 : Index := 0#32
  let c64_158 : Index := 64#32
  let c2_i32_146 : BitVec 32 := 2#32
  let c0_i32_50 : BitVec 32 := 0#32
  let c1_i32_52 : BitVec 32 := 1#32
  let arg16 : BitVec 32 := Scf.iv c0_i32_50 c1_i32_52 k0_t17
  let v430 : BitVec 32 := Scalar.muli c2_i32_146 arg16
  let c1_i32_147 : BitVec 32 := 1#32
  let v431 : BitVec 32 := Scalar.addi v430 c1_i32_147
  let c512_i32_148 : BitVec 32 := 512#32
  let v432 : BitVec 32 := Scalar.muli v431 c512_i32_148
  let v433 : BitVec 32 := v432
  let v458 : Index := Scalar.indexCast v433
  ![0, 64, v458.toNat]
@[reducible] def k0_t18_loop (i : grid0.Coords) : Scf.Loop 32 :=
  let c0_i32_50 : BitVec 32 := 0#32
  let arg1 : BitVec 32 := BitVec.ofNat 32 (i 1).val
  let c128_i32 : BitVec 32 := 128#32
  let v0 : BitVec 32 := Scalar.muli arg1 c128_i32
  let c128_i32_16 : BitVec 32 := 128#32
  let v58 : BitVec 32 := Scalar.addi v0 c128_i32_16
  let c1_i32_17 : BitVec 32 := 1#32
  let v59 : BitVec 32 := Scalar.subi v58 c1_i32_17
  let c0_i32_18 : BitVec 32 := 0#32
  let v61 : BitVec 1 := Scalar.cmpi .sgt v59 c0_i32_18
  let v62 : BitVec 32 := Scalar.extui v61
  let c0_i32_19 : BitVec 32 := 0#32
  let v63 : BitVec 1 := Scalar.cmpi .slt v59 c0_i32_19
  let v64 : BitVec 32 := Scalar.extui v63
  let v65 : BitVec 32 := Scalar.subi v62 v64
  let c512_i32 : BitVec 32 := 512#32
  let c0_i32_20 : BitVec 32 := 0#32
  let v66 : BitVec 1 := Scalar.cmpi .sgt c512_i32 c0_i32_20
  let v67 : BitVec 32 := Scalar.extui v66
  let c0_i32_21 : BitVec 32 := 0#32
  let v68 : BitVec 1 := Scalar.cmpi .slt c512_i32 c0_i32_21
  let v69 : BitVec 32 := Scalar.extui v68
  let v70 : BitVec 32 := Scalar.subi v67 v69
  let v71 : BitVec 1 := Scalar.cmpi .ne v65 v70
  let v72 : BitVec 32 := Scalar.remsi v59 c512_i32
  let c0_i32_22 : BitVec 32 := 0#32
  let v73 : BitVec 1 := Scalar.cmpi .ne v72 c0_i32_22
  let v74 : BitVec 1 := Scalar.andi v71 v73
  let v60 : BitVec 32 := Scalar.divsi v59 c512_i32
  let c1_i32_23 : BitVec 32 := 1#32
  let v75 : BitVec 32 := Scalar.subi v60 c1_i32_23
  let v76 : BitVec 32 := Scalar.select v74 v75 v60
  let c0_i32_25 : BitVec 32 := 0#32
  let v78 : BitVec 1 := Scalar.cmpi .sgt v76 c0_i32_25
  let v79 : BitVec 32 := Scalar.extui v78
  let c0_i32_26 : BitVec 32 := 0#32
  let v80 : BitVec 1 := Scalar.cmpi .slt v76 c0_i32_26
  let v81 : BitVec 32 := Scalar.extui v80
  let v82 : BitVec 32 := Scalar.subi v79 v81
  let c2_i32_24 : BitVec 32 := 2#32
  let c0_i32_27 : BitVec 32 := 0#32
  let v83 : BitVec 1 := Scalar.cmpi .sgt c2_i32_24 c0_i32_27
  let v84 : BitVec 32 := Scalar.extui v83
  let c0_i32_28 : BitVec 32 := 0#32
  let v85 : BitVec 1 := Scalar.cmpi .slt c2_i32_24 c0_i32_28
  let v86 : BitVec 32 := Scalar.extui v85
  let v87 : BitVec 32 := Scalar.subi v84 v86
  let v88 : BitVec 1 := Scalar.cmpi .ne v82 v87
  let v89 : BitVec 32 := Scalar.remsi v76 c2_i32_24
  let c0_i32_29 : BitVec 32 := 0#32
  let v90 : BitVec 1 := Scalar.cmpi .ne v89 c0_i32_29
  let v91 : BitVec 1 := Scalar.andi v88 v90
  let v77 : BitVec 32 := Scalar.divsi v76 c2_i32_24
  let c1_i32_30 : BitVec 32 := 1#32
  let v92 : BitVec 32 := Scalar.subi v77 c1_i32_30
  let v93 : BitVec 32 := Scalar.select v91 v92 v77
  let v121 : BitVec 32 := Scalar.subi v93 c0_i32_50
  let c1_i32_51 : BitVec 32 := 1#32
  let v123 : BitVec 32 := Scalar.divsi v121 c1_i32_51
  let v124 : BitVec 32 := Scalar.muli v123 c1_i32_51
  let v125 : BitVec 32 := Scalar.addi c0_i32_50 v124
  let v122 : BitVec 32 := Scalar.addi c0_i32_50 v121
  let c1_i32_53 : BitVec 32 := 1#32
  ⟨v125, v122, c1_i32_53⟩
def k0_mult9 (i : grid0.Coords) (k0_t18 : Fin (k0_t18_loop i).trips) : BitVec 32 :=
  let c2_i32_98 : BitVec 32 := 2#32
  let c0_i32_50 : BitVec 32 := 0#32
  let arg1 : BitVec 32 := BitVec.ofNat 32 (i 1).val
  let c128_i32 : BitVec 32 := 128#32
  let v0 : BitVec 32 := Scalar.muli arg1 c128_i32
  let c128_i32_16 : BitVec 32 := 128#32
  let v58 : BitVec 32 := Scalar.addi v0 c128_i32_16
  let c1_i32_17 : BitVec 32 := 1#32
  let v59 : BitVec 32 := Scalar.subi v58 c1_i32_17
  let c0_i32_18 : BitVec 32 := 0#32
  let v61 : BitVec 1 := Scalar.cmpi .sgt v59 c0_i32_18
  let v62 : BitVec 32 := Scalar.extui v61
  let c0_i32_19 : BitVec 32 := 0#32
  let v63 : BitVec 1 := Scalar.cmpi .slt v59 c0_i32_19
  let v64 : BitVec 32 := Scalar.extui v63
  let v65 : BitVec 32 := Scalar.subi v62 v64
  let c512_i32 : BitVec 32 := 512#32
  let c0_i32_20 : BitVec 32 := 0#32
  let v66 : BitVec 1 := Scalar.cmpi .sgt c512_i32 c0_i32_20
  let v67 : BitVec 32 := Scalar.extui v66
  let c0_i32_21 : BitVec 32 := 0#32
  let v68 : BitVec 1 := Scalar.cmpi .slt c512_i32 c0_i32_21
  let v69 : BitVec 32 := Scalar.extui v68
  let v70 : BitVec 32 := Scalar.subi v67 v69
  let v71 : BitVec 1 := Scalar.cmpi .ne v65 v70
  let v72 : BitVec 32 := Scalar.remsi v59 c512_i32
  let c0_i32_22 : BitVec 32 := 0#32
  let v73 : BitVec 1 := Scalar.cmpi .ne v72 c0_i32_22
  let v74 : BitVec 1 := Scalar.andi v71 v73
  let v60 : BitVec 32 := Scalar.divsi v59 c512_i32
  let c1_i32_23 : BitVec 32 := 1#32
  let v75 : BitVec 32 := Scalar.subi v60 c1_i32_23
  let v76 : BitVec 32 := Scalar.select v74 v75 v60
  let c0_i32_25 : BitVec 32 := 0#32
  let v78 : BitVec 1 := Scalar.cmpi .sgt v76 c0_i32_25
  let v79 : BitVec 32 := Scalar.extui v78
  let c0_i32_26 : BitVec 32 := 0#32
  let v80 : BitVec 1 := Scalar.cmpi .slt v76 c0_i32_26
  let v81 : BitVec 32 := Scalar.extui v80
  let v82 : BitVec 32 := Scalar.subi v79 v81
  let c2_i32_24 : BitVec 32 := 2#32
  let c0_i32_27 : BitVec 32 := 0#32
  let v83 : BitVec 1 := Scalar.cmpi .sgt c2_i32_24 c0_i32_27
  let v84 : BitVec 32 := Scalar.extui v83
  let c0_i32_28 : BitVec 32 := 0#32
  let v85 : BitVec 1 := Scalar.cmpi .slt c2_i32_24 c0_i32_28
  let v86 : BitVec 32 := Scalar.extui v85
  let v87 : BitVec 32 := Scalar.subi v84 v86
  let v88 : BitVec 1 := Scalar.cmpi .ne v82 v87
  let v89 : BitVec 32 := Scalar.remsi v76 c2_i32_24
  let c0_i32_29 : BitVec 32 := 0#32
  let v90 : BitVec 1 := Scalar.cmpi .ne v89 c0_i32_29
  let v91 : BitVec 1 := Scalar.andi v88 v90
  let v77 : BitVec 32 := Scalar.divsi v76 c2_i32_24
  let c1_i32_30 : BitVec 32 := 1#32
  let v92 : BitVec 32 := Scalar.subi v77 c1_i32_30
  let v93 : BitVec 32 := Scalar.select v91 v92 v77
  let v121 : BitVec 32 := Scalar.subi v93 c0_i32_50
  let c1_i32_51 : BitVec 32 := 1#32
  let v123 : BitVec 32 := Scalar.divsi v121 c1_i32_51
  let v124 : BitVec 32 := Scalar.muli v123 c1_i32_51
  let v125 : BitVec 32 := Scalar.addi c0_i32_50 v124
  let c1_i32_53 : BitVec 32 := 1#32
  let arg16 : BitVec 32 := Scf.iv v125 c1_i32_53 k0_t18
  let v337 : BitVec 32 := Scalar.muli c2_i32_98 arg16
  let c1_i32_99 : BitVec 32 := 1#32
  let v338 : BitVec 32 := Scalar.addi v337 c1_i32_99
  let c512_i32_100 : BitVec 32 := 512#32
  let v339 : BitVec 32 := Scalar.muli v338 c512_i32_100
  v339
def k0_mult10 (i : grid0.Coords) (k0_t18 : Fin (k0_t18_loop i).trips) : BitVec 32 :=
  let c2_i32_98 : BitVec 32 := 2#32
  let c0_i32_50 : BitVec 32 := 0#32
  let arg1 : BitVec 32 := BitVec.ofNat 32 (i 1).val
  let c128_i32 : BitVec 32 := 128#32
  let v0 : BitVec 32 := Scalar.muli arg1 c128_i32
  let c128_i32_16 : BitVec 32 := 128#32
  let v58 : BitVec 32 := Scalar.addi v0 c128_i32_16
  let c1_i32_17 : BitVec 32 := 1#32
  let v59 : BitVec 32 := Scalar.subi v58 c1_i32_17
  let c0_i32_18 : BitVec 32 := 0#32
  let v61 : BitVec 1 := Scalar.cmpi .sgt v59 c0_i32_18
  let v62 : BitVec 32 := Scalar.extui v61
  let c0_i32_19 : BitVec 32 := 0#32
  let v63 : BitVec 1 := Scalar.cmpi .slt v59 c0_i32_19
  let v64 : BitVec 32 := Scalar.extui v63
  let v65 : BitVec 32 := Scalar.subi v62 v64
  let c512_i32 : BitVec 32 := 512#32
  let c0_i32_20 : BitVec 32 := 0#32
  let v66 : BitVec 1 := Scalar.cmpi .sgt c512_i32 c0_i32_20
  let v67 : BitVec 32 := Scalar.extui v66
  let c0_i32_21 : BitVec 32 := 0#32
  let v68 : BitVec 1 := Scalar.cmpi .slt c512_i32 c0_i32_21
  let v69 : BitVec 32 := Scalar.extui v68
  let v70 : BitVec 32 := Scalar.subi v67 v69
  let v71 : BitVec 1 := Scalar.cmpi .ne v65 v70
  let v72 : BitVec 32 := Scalar.remsi v59 c512_i32
  let c0_i32_22 : BitVec 32 := 0#32
  let v73 : BitVec 1 := Scalar.cmpi .ne v72 c0_i32_22
  let v74 : BitVec 1 := Scalar.andi v71 v73
  let v60 : BitVec 32 := Scalar.divsi v59 c512_i32
  let c1_i32_23 : BitVec 32 := 1#32
  let v75 : BitVec 32 := Scalar.subi v60 c1_i32_23
  let v76 : BitVec 32 := Scalar.select v74 v75 v60
  let c0_i32_25 : BitVec 32 := 0#32
  let v78 : BitVec 1 := Scalar.cmpi .sgt v76 c0_i32_25
  let v79 : BitVec 32 := Scalar.extui v78
  let c0_i32_26 : BitVec 32 := 0#32
  let v80 : BitVec 1 := Scalar.cmpi .slt v76 c0_i32_26
  let v81 : BitVec 32 := Scalar.extui v80
  let v82 : BitVec 32 := Scalar.subi v79 v81
  let c2_i32_24 : BitVec 32 := 2#32
  let c0_i32_27 : BitVec 32 := 0#32
  let v83 : BitVec 1 := Scalar.cmpi .sgt c2_i32_24 c0_i32_27
  let v84 : BitVec 32 := Scalar.extui v83
  let c0_i32_28 : BitVec 32 := 0#32
  let v85 : BitVec 1 := Scalar.cmpi .slt c2_i32_24 c0_i32_28
  let v86 : BitVec 32 := Scalar.extui v85
  let v87 : BitVec 32 := Scalar.subi v84 v86
  let v88 : BitVec 1 := Scalar.cmpi .ne v82 v87
  let v89 : BitVec 32 := Scalar.remsi v76 c2_i32_24
  let c0_i32_29 : BitVec 32 := 0#32
  let v90 : BitVec 1 := Scalar.cmpi .ne v89 c0_i32_29
  let v91 : BitVec 1 := Scalar.andi v88 v90
  let v77 : BitVec 32 := Scalar.divsi v76 c2_i32_24
  let c1_i32_30 : BitVec 32 := 1#32
  let v92 : BitVec 32 := Scalar.subi v77 c1_i32_30
  let v93 : BitVec 32 := Scalar.select v91 v92 v77
  let v121 : BitVec 32 := Scalar.subi v93 c0_i32_50
  let c1_i32_51 : BitVec 32 := 1#32
  let v123 : BitVec 32 := Scalar.divsi v121 c1_i32_51
  let v124 : BitVec 32 := Scalar.muli v123 c1_i32_51
  let v125 : BitVec 32 := Scalar.addi c0_i32_50 v124
  let c1_i32_53 : BitVec 32 := 1#32
  let arg16 : BitVec 32 := Scf.iv v125 c1_i32_53 k0_t18
  let v337 : BitVec 32 := Scalar.muli c2_i32_98 arg16
  let c1_i32_99 : BitVec 32 := 1#32
  let v338 : BitVec 32 := Scalar.addi v337 c1_i32_99
  let c8_i32 : BitVec 32 := 8#32
  let v341 : BitVec 32 := Scalar.muli v338 c8_i32
  v341
def k0_off7 (i : grid0.Coords) (k0_t18 : Fin (k0_t18_loop i).trips) (c1_i32_99 : BitVec 32) : Fin 2 → Nat :=
  let c2_i32_98 : BitVec 32 := 2#32
  let c0_i32_50 : BitVec 32 := 0#32
  let arg1 : BitVec 32 := BitVec.ofNat 32 (i 1).val
  let c128_i32 : BitVec 32 := 128#32
  let v0 : BitVec 32 := Scalar.muli arg1 c128_i32
  let c128_i32_16 : BitVec 32 := 128#32
  let v58 : BitVec 32 := Scalar.addi v0 c128_i32_16
  let c1_i32_17 : BitVec 32 := 1#32
  let v59 : BitVec 32 := Scalar.subi v58 c1_i32_17
  let c0_i32_18 : BitVec 32 := 0#32
  let v61 : BitVec 1 := Scalar.cmpi .sgt v59 c0_i32_18
  let v62 : BitVec 32 := Scalar.extui v61
  let c0_i32_19 : BitVec 32 := 0#32
  let v63 : BitVec 1 := Scalar.cmpi .slt v59 c0_i32_19
  let v64 : BitVec 32 := Scalar.extui v63
  let v65 : BitVec 32 := Scalar.subi v62 v64
  let c512_i32 : BitVec 32 := 512#32
  let c0_i32_20 : BitVec 32 := 0#32
  let v66 : BitVec 1 := Scalar.cmpi .sgt c512_i32 c0_i32_20
  let v67 : BitVec 32 := Scalar.extui v66
  let c0_i32_21 : BitVec 32 := 0#32
  let v68 : BitVec 1 := Scalar.cmpi .slt c512_i32 c0_i32_21
  let v69 : BitVec 32 := Scalar.extui v68
  let v70 : BitVec 32 := Scalar.subi v67 v69
  let v71 : BitVec 1 := Scalar.cmpi .ne v65 v70
  let v72 : BitVec 32 := Scalar.remsi v59 c512_i32
  let c0_i32_22 : BitVec 32 := 0#32
  let v73 : BitVec 1 := Scalar.cmpi .ne v72 c0_i32_22
  let v74 : BitVec 1 := Scalar.andi v71 v73
  let v60 : BitVec 32 := Scalar.divsi v59 c512_i32
  let c1_i32_23 : BitVec 32 := 1#32
  let v75 : BitVec 32 := Scalar.subi v60 c1_i32_23
  let v76 : BitVec 32 := Scalar.select v74 v75 v60
  let c0_i32_25 : BitVec 32 := 0#32
  let v78 : BitVec 1 := Scalar.cmpi .sgt v76 c0_i32_25
  let v79 : BitVec 32 := Scalar.extui v78
  let c0_i32_26 : BitVec 32 := 0#32
  let v80 : BitVec 1 := Scalar.cmpi .slt v76 c0_i32_26
  let v81 : BitVec 32 := Scalar.extui v80
  let v82 : BitVec 32 := Scalar.subi v79 v81
  let c2_i32_24 : BitVec 32 := 2#32
  let c0_i32_27 : BitVec 32 := 0#32
  let v83 : BitVec 1 := Scalar.cmpi .sgt c2_i32_24 c0_i32_27
  let v84 : BitVec 32 := Scalar.extui v83
  let c0_i32_28 : BitVec 32 := 0#32
  let v85 : BitVec 1 := Scalar.cmpi .slt c2_i32_24 c0_i32_28
  let v86 : BitVec 32 := Scalar.extui v85
  let v87 : BitVec 32 := Scalar.subi v84 v86
  let v88 : BitVec 1 := Scalar.cmpi .ne v82 v87
  let v89 : BitVec 32 := Scalar.remsi v76 c2_i32_24
  let c0_i32_29 : BitVec 32 := 0#32
  let v90 : BitVec 1 := Scalar.cmpi .ne v89 c0_i32_29
  let v91 : BitVec 1 := Scalar.andi v88 v90
  let v77 : BitVec 32 := Scalar.divsi v76 c2_i32_24
  let c1_i32_30 : BitVec 32 := 1#32
  let v92 : BitVec 32 := Scalar.subi v77 c1_i32_30
  let v93 : BitVec 32 := Scalar.select v91 v92 v77
  let v121 : BitVec 32 := Scalar.subi v93 c0_i32_50
  let c1_i32_51 : BitVec 32 := 1#32
  let v123 : BitVec 32 := Scalar.divsi v121 c1_i32_51
  let v124 : BitVec 32 := Scalar.muli v123 c1_i32_51
  let v125 : BitVec 32 := Scalar.addi c0_i32_50 v124
  let c1_i32_53 : BitVec 32 := 1#32
  let arg16 : BitVec 32 := Scf.iv v125 c1_i32_53 k0_t18
  let v337 : BitVec 32 := Scalar.muli c2_i32_98 arg16
  let v338 : BitVec 32 := Scalar.addi v337 c1_i32_99
  let c8_i32 : BitVec 32 := 8#32
  let v341 : BitVec 32 := Scalar.muli v338 c8_i32
  let v342 : BitVec 32 := v341
  let v343 : Index := Scalar.indexCast v342
  let c0_101 : Index := 0#32
  ![v343.toNat, 0]
def k0_off8 (i : grid0.Coords) (k0_t18 : Fin (k0_t18_loop i).trips) (c1_i32_99 : BitVec 32) : Fin 3 → Nat :=
  let c0_108 : Index := 0#32
  let c2_i32_98 : BitVec 32 := 2#32
  let c0_i32_50 : BitVec 32 := 0#32
  let arg1 : BitVec 32 := BitVec.ofNat 32 (i 1).val
  let c128_i32 : BitVec 32 := 128#32
  let v0 : BitVec 32 := Scalar.muli arg1 c128_i32
  let c128_i32_16 : BitVec 32 := 128#32
  let v58 : BitVec 32 := Scalar.addi v0 c128_i32_16
  let c1_i32_17 : BitVec 32 := 1#32
  let v59 : BitVec 32 := Scalar.subi v58 c1_i32_17
  let c0_i32_18 : BitVec 32 := 0#32
  let v61 : BitVec 1 := Scalar.cmpi .sgt v59 c0_i32_18
  let v62 : BitVec 32 := Scalar.extui v61
  let c0_i32_19 : BitVec 32 := 0#32
  let v63 : BitVec 1 := Scalar.cmpi .slt v59 c0_i32_19
  let v64 : BitVec 32 := Scalar.extui v63
  let v65 : BitVec 32 := Scalar.subi v62 v64
  let c512_i32 : BitVec 32 := 512#32
  let c0_i32_20 : BitVec 32 := 0#32
  let v66 : BitVec 1 := Scalar.cmpi .sgt c512_i32 c0_i32_20
  let v67 : BitVec 32 := Scalar.extui v66
  let c0_i32_21 : BitVec 32 := 0#32
  let v68 : BitVec 1 := Scalar.cmpi .slt c512_i32 c0_i32_21
  let v69 : BitVec 32 := Scalar.extui v68
  let v70 : BitVec 32 := Scalar.subi v67 v69
  let v71 : BitVec 1 := Scalar.cmpi .ne v65 v70
  let v72 : BitVec 32 := Scalar.remsi v59 c512_i32
  let c0_i32_22 : BitVec 32 := 0#32
  let v73 : BitVec 1 := Scalar.cmpi .ne v72 c0_i32_22
  let v74 : BitVec 1 := Scalar.andi v71 v73
  let v60 : BitVec 32 := Scalar.divsi v59 c512_i32
  let c1_i32_23 : BitVec 32 := 1#32
  let v75 : BitVec 32 := Scalar.subi v60 c1_i32_23
  let v76 : BitVec 32 := Scalar.select v74 v75 v60
  let c0_i32_25 : BitVec 32 := 0#32
  let v78 : BitVec 1 := Scalar.cmpi .sgt v76 c0_i32_25
  let v79 : BitVec 32 := Scalar.extui v78
  let c0_i32_26 : BitVec 32 := 0#32
  let v80 : BitVec 1 := Scalar.cmpi .slt v76 c0_i32_26
  let v81 : BitVec 32 := Scalar.extui v80
  let v82 : BitVec 32 := Scalar.subi v79 v81
  let c2_i32_24 : BitVec 32 := 2#32
  let c0_i32_27 : BitVec 32 := 0#32
  let v83 : BitVec 1 := Scalar.cmpi .sgt c2_i32_24 c0_i32_27
  let v84 : BitVec 32 := Scalar.extui v83
  let c0_i32_28 : BitVec 32 := 0#32
  let v85 : BitVec 1 := Scalar.cmpi .slt c2_i32_24 c0_i32_28
  let v86 : BitVec 32 := Scalar.extui v85
  let v87 : BitVec 32 := Scalar.subi v84 v86
  let v88 : BitVec 1 := Scalar.cmpi .ne v82 v87
  let v89 : BitVec 32 := Scalar.remsi v76 c2_i32_24
  let c0_i32_29 : BitVec 32 := 0#32
  let v90 : BitVec 1 := Scalar.cmpi .ne v89 c0_i32_29
  let v91 : BitVec 1 := Scalar.andi v88 v90
  let v77 : BitVec 32 := Scalar.divsi v76 c2_i32_24
  let c1_i32_30 : BitVec 32 := 1#32
  let v92 : BitVec 32 := Scalar.subi v77 c1_i32_30
  let v93 : BitVec 32 := Scalar.select v91 v92 v77
  let v121 : BitVec 32 := Scalar.subi v93 c0_i32_50
  let c1_i32_51 : BitVec 32 := 1#32
  let v123 : BitVec 32 := Scalar.divsi v121 c1_i32_51
  let v124 : BitVec 32 := Scalar.muli v123 c1_i32_51
  let v125 : BitVec 32 := Scalar.addi c0_i32_50 v124
  let c1_i32_53 : BitVec 32 := 1#32
  let arg16 : BitVec 32 := Scf.iv v125 c1_i32_53 k0_t18
  let v337 : BitVec 32 := Scalar.muli c2_i32_98 arg16
  let v338 : BitVec 32 := Scalar.addi v337 c1_i32_99
  let c512_i32_100 : BitVec 32 := 512#32
  let v339 : BitVec 32 := Scalar.muli v338 c512_i32_100
  let v340 : BitVec 32 := v339
  let v356 : Index := Scalar.indexCast v340
  let c0_109 : Index := 0#32
  ![0, v356.toNat, 0]
def k0_mult11 (i : grid0.Coords) (k0_t18 : Fin (k0_t18_loop i).trips) : BitVec 32 :=
  let c2_i32_115 : BitVec 32 := 2#32
  let c0_i32_50 : BitVec 32 := 0#32
  let arg1 : BitVec 32 := BitVec.ofNat 32 (i 1).val
  let c128_i32 : BitVec 32 := 128#32
  let v0 : BitVec 32 := Scalar.muli arg1 c128_i32
  let c128_i32_16 : BitVec 32 := 128#32
  let v58 : BitVec 32 := Scalar.addi v0 c128_i32_16
  let c1_i32_17 : BitVec 32 := 1#32
  let v59 : BitVec 32 := Scalar.subi v58 c1_i32_17
  let c0_i32_18 : BitVec 32 := 0#32
  let v61 : BitVec 1 := Scalar.cmpi .sgt v59 c0_i32_18
  let v62 : BitVec 32 := Scalar.extui v61
  let c0_i32_19 : BitVec 32 := 0#32
  let v63 : BitVec 1 := Scalar.cmpi .slt v59 c0_i32_19
  let v64 : BitVec 32 := Scalar.extui v63
  let v65 : BitVec 32 := Scalar.subi v62 v64
  let c512_i32 : BitVec 32 := 512#32
  let c0_i32_20 : BitVec 32 := 0#32
  let v66 : BitVec 1 := Scalar.cmpi .sgt c512_i32 c0_i32_20
  let v67 : BitVec 32 := Scalar.extui v66
  let c0_i32_21 : BitVec 32 := 0#32
  let v68 : BitVec 1 := Scalar.cmpi .slt c512_i32 c0_i32_21
  let v69 : BitVec 32 := Scalar.extui v68
  let v70 : BitVec 32 := Scalar.subi v67 v69
  let v71 : BitVec 1 := Scalar.cmpi .ne v65 v70
  let v72 : BitVec 32 := Scalar.remsi v59 c512_i32
  let c0_i32_22 : BitVec 32 := 0#32
  let v73 : BitVec 1 := Scalar.cmpi .ne v72 c0_i32_22
  let v74 : BitVec 1 := Scalar.andi v71 v73
  let v60 : BitVec 32 := Scalar.divsi v59 c512_i32
  let c1_i32_23 : BitVec 32 := 1#32
  let v75 : BitVec 32 := Scalar.subi v60 c1_i32_23
  let v76 : BitVec 32 := Scalar.select v74 v75 v60
  let c0_i32_25 : BitVec 32 := 0#32
  let v78 : BitVec 1 := Scalar.cmpi .sgt v76 c0_i32_25
  let v79 : BitVec 32 := Scalar.extui v78
  let c0_i32_26 : BitVec 32 := 0#32
  let v80 : BitVec 1 := Scalar.cmpi .slt v76 c0_i32_26
  let v81 : BitVec 32 := Scalar.extui v80
  let v82 : BitVec 32 := Scalar.subi v79 v81
  let c2_i32_24 : BitVec 32 := 2#32
  let c0_i32_27 : BitVec 32 := 0#32
  let v83 : BitVec 1 := Scalar.cmpi .sgt c2_i32_24 c0_i32_27
  let v84 : BitVec 32 := Scalar.extui v83
  let c0_i32_28 : BitVec 32 := 0#32
  let v85 : BitVec 1 := Scalar.cmpi .slt c2_i32_24 c0_i32_28
  let v86 : BitVec 32 := Scalar.extui v85
  let v87 : BitVec 32 := Scalar.subi v84 v86
  let v88 : BitVec 1 := Scalar.cmpi .ne v82 v87
  let v89 : BitVec 32 := Scalar.remsi v76 c2_i32_24
  let c0_i32_29 : BitVec 32 := 0#32
  let v90 : BitVec 1 := Scalar.cmpi .ne v89 c0_i32_29
  let v91 : BitVec 1 := Scalar.andi v88 v90
  let v77 : BitVec 32 := Scalar.divsi v76 c2_i32_24
  let c1_i32_30 : BitVec 32 := 1#32
  let v92 : BitVec 32 := Scalar.subi v77 c1_i32_30
  let v93 : BitVec 32 := Scalar.select v91 v92 v77
  let v121 : BitVec 32 := Scalar.subi v93 c0_i32_50
  let c1_i32_51 : BitVec 32 := 1#32
  let v123 : BitVec 32 := Scalar.divsi v121 c1_i32_51
  let v124 : BitVec 32 := Scalar.muli v123 c1_i32_51
  let v125 : BitVec 32 := Scalar.addi c0_i32_50 v124
  let c1_i32_53 : BitVec 32 := 1#32
  let arg16 : BitVec 32 := Scf.iv v125 c1_i32_53 k0_t18
  let v365 : BitVec 32 := Scalar.muli c2_i32_115 arg16
  let c512_i32_116 : BitVec 32 := 512#32
  let v366 : BitVec 32 := Scalar.muli v365 c512_i32_116
  v366
def k0_off9 (i : grid0.Coords) (k0_t18 : Fin (k0_t18_loop i).trips) : Fin 3 → Nat :=
  let c0_122 : Index := 0#32
  let c0_123 : Index := 0#32
  let c2_i32_115 : BitVec 32 := 2#32
  let c0_i32_50 : BitVec 32 := 0#32
  let arg1 : BitVec 32 := BitVec.ofNat 32 (i 1).val
  let c128_i32 : BitVec 32 := 128#32
  let v0 : BitVec 32 := Scalar.muli arg1 c128_i32
  let c128_i32_16 : BitVec 32 := 128#32
  let v58 : BitVec 32 := Scalar.addi v0 c128_i32_16
  let c1_i32_17 : BitVec 32 := 1#32
  let v59 : BitVec 32 := Scalar.subi v58 c1_i32_17
  let c0_i32_18 : BitVec 32 := 0#32
  let v61 : BitVec 1 := Scalar.cmpi .sgt v59 c0_i32_18
  let v62 : BitVec 32 := Scalar.extui v61
  let c0_i32_19 : BitVec 32 := 0#32
  let v63 : BitVec 1 := Scalar.cmpi .slt v59 c0_i32_19
  let v64 : BitVec 32 := Scalar.extui v63
  let v65 : BitVec 32 := Scalar.subi v62 v64
  let c512_i32 : BitVec 32 := 512#32
  let c0_i32_20 : BitVec 32 := 0#32
  let v66 : BitVec 1 := Scalar.cmpi .sgt c512_i32 c0_i32_20
  let v67 : BitVec 32 := Scalar.extui v66
  let c0_i32_21 : BitVec 32 := 0#32
  let v68 : BitVec 1 := Scalar.cmpi .slt c512_i32 c0_i32_21
  let v69 : BitVec 32 := Scalar.extui v68
  let v70 : BitVec 32 := Scalar.subi v67 v69
  let v71 : BitVec 1 := Scalar.cmpi .ne v65 v70
  let v72 : BitVec 32 := Scalar.remsi v59 c512_i32
  let c0_i32_22 : BitVec 32 := 0#32
  let v73 : BitVec 1 := Scalar.cmpi .ne v72 c0_i32_22
  let v74 : BitVec 1 := Scalar.andi v71 v73
  let v60 : BitVec 32 := Scalar.divsi v59 c512_i32
  let c1_i32_23 : BitVec 32 := 1#32
  let v75 : BitVec 32 := Scalar.subi v60 c1_i32_23
  let v76 : BitVec 32 := Scalar.select v74 v75 v60
  let c0_i32_25 : BitVec 32 := 0#32
  let v78 : BitVec 1 := Scalar.cmpi .sgt v76 c0_i32_25
  let v79 : BitVec 32 := Scalar.extui v78
  let c0_i32_26 : BitVec 32 := 0#32
  let v80 : BitVec 1 := Scalar.cmpi .slt v76 c0_i32_26
  let v81 : BitVec 32 := Scalar.extui v80
  let v82 : BitVec 32 := Scalar.subi v79 v81
  let c2_i32_24 : BitVec 32 := 2#32
  let c0_i32_27 : BitVec 32 := 0#32
  let v83 : BitVec 1 := Scalar.cmpi .sgt c2_i32_24 c0_i32_27
  let v84 : BitVec 32 := Scalar.extui v83
  let c0_i32_28 : BitVec 32 := 0#32
  let v85 : BitVec 1 := Scalar.cmpi .slt c2_i32_24 c0_i32_28
  let v86 : BitVec 32 := Scalar.extui v85
  let v87 : BitVec 32 := Scalar.subi v84 v86
  let v88 : BitVec 1 := Scalar.cmpi .ne v82 v87
  let v89 : BitVec 32 := Scalar.remsi v76 c2_i32_24
  let c0_i32_29 : BitVec 32 := 0#32
  let v90 : BitVec 1 := Scalar.cmpi .ne v89 c0_i32_29
  let v91 : BitVec 1 := Scalar.andi v88 v90
  let v77 : BitVec 32 := Scalar.divsi v76 c2_i32_24
  let c1_i32_30 : BitVec 32 := 1#32
  let v92 : BitVec 32 := Scalar.subi v77 c1_i32_30
  let v93 : BitVec 32 := Scalar.select v91 v92 v77
  let v121 : BitVec 32 := Scalar.subi v93 c0_i32_50
  let c1_i32_51 : BitVec 32 := 1#32
  let v123 : BitVec 32 := Scalar.divsi v121 c1_i32_51
  let v124 : BitVec 32 := Scalar.muli v123 c1_i32_51
  let v125 : BitVec 32 := Scalar.addi c0_i32_50 v124
  let c1_i32_53 : BitVec 32 := 1#32
  let arg16 : BitVec 32 := Scf.iv v125 c1_i32_53 k0_t18
  let v365 : BitVec 32 := Scalar.muli c2_i32_115 arg16
  let c512_i32_116 : BitVec 32 := 512#32
  let v366 : BitVec 32 := Scalar.muli v365 c512_i32_116
  let v367 : BitVec 32 := v366
  let v382 : Index := Scalar.indexCast v367
  ![0, 0, v382.toNat]
def k0_off10 (i : grid0.Coords) (k0_t18 : Fin (k0_t18_loop i).trips) : Fin 3 → Nat :=
  let c0_125 : Index := 0#32
  let c64_126 : Index := 64#32
  let c2_i32_115 : BitVec 32 := 2#32
  let c0_i32_50 : BitVec 32 := 0#32
  let arg1 : BitVec 32 := BitVec.ofNat 32 (i 1).val
  let c128_i32 : BitVec 32 := 128#32
  let v0 : BitVec 32 := Scalar.muli arg1 c128_i32
  let c128_i32_16 : BitVec 32 := 128#32
  let v58 : BitVec 32 := Scalar.addi v0 c128_i32_16
  let c1_i32_17 : BitVec 32 := 1#32
  let v59 : BitVec 32 := Scalar.subi v58 c1_i32_17
  let c0_i32_18 : BitVec 32 := 0#32
  let v61 : BitVec 1 := Scalar.cmpi .sgt v59 c0_i32_18
  let v62 : BitVec 32 := Scalar.extui v61
  let c0_i32_19 : BitVec 32 := 0#32
  let v63 : BitVec 1 := Scalar.cmpi .slt v59 c0_i32_19
  let v64 : BitVec 32 := Scalar.extui v63
  let v65 : BitVec 32 := Scalar.subi v62 v64
  let c512_i32 : BitVec 32 := 512#32
  let c0_i32_20 : BitVec 32 := 0#32
  let v66 : BitVec 1 := Scalar.cmpi .sgt c512_i32 c0_i32_20
  let v67 : BitVec 32 := Scalar.extui v66
  let c0_i32_21 : BitVec 32 := 0#32
  let v68 : BitVec 1 := Scalar.cmpi .slt c512_i32 c0_i32_21
  let v69 : BitVec 32 := Scalar.extui v68
  let v70 : BitVec 32 := Scalar.subi v67 v69
  let v71 : BitVec 1 := Scalar.cmpi .ne v65 v70
  let v72 : BitVec 32 := Scalar.remsi v59 c512_i32
  let c0_i32_22 : BitVec 32 := 0#32
  let v73 : BitVec 1 := Scalar.cmpi .ne v72 c0_i32_22
  let v74 : BitVec 1 := Scalar.andi v71 v73
  let v60 : BitVec 32 := Scalar.divsi v59 c512_i32
  let c1_i32_23 : BitVec 32 := 1#32
  let v75 : BitVec 32 := Scalar.subi v60 c1_i32_23
  let v76 : BitVec 32 := Scalar.select v74 v75 v60
  let c0_i32_25 : BitVec 32 := 0#32
  let v78 : BitVec 1 := Scalar.cmpi .sgt v76 c0_i32_25
  let v79 : BitVec 32 := Scalar.extui v78
  let c0_i32_26 : BitVec 32 := 0#32
  let v80 : BitVec 1 := Scalar.cmpi .slt v76 c0_i32_26
  let v81 : BitVec 32 := Scalar.extui v80
  let v82 : BitVec 32 := Scalar.subi v79 v81
  let c2_i32_24 : BitVec 32 := 2#32
  let c0_i32_27 : BitVec 32 := 0#32
  let v83 : BitVec 1 := Scalar.cmpi .sgt c2_i32_24 c0_i32_27
  let v84 : BitVec 32 := Scalar.extui v83
  let c0_i32_28 : BitVec 32 := 0#32
  let v85 : BitVec 1 := Scalar.cmpi .slt c2_i32_24 c0_i32_28
  let v86 : BitVec 32 := Scalar.extui v85
  let v87 : BitVec 32 := Scalar.subi v84 v86
  let v88 : BitVec 1 := Scalar.cmpi .ne v82 v87
  let v89 : BitVec 32 := Scalar.remsi v76 c2_i32_24
  let c0_i32_29 : BitVec 32 := 0#32
  let v90 : BitVec 1 := Scalar.cmpi .ne v89 c0_i32_29
  let v91 : BitVec 1 := Scalar.andi v88 v90
  let v77 : BitVec 32 := Scalar.divsi v76 c2_i32_24
  let c1_i32_30 : BitVec 32 := 1#32
  let v92 : BitVec 32 := Scalar.subi v77 c1_i32_30
  let v93 : BitVec 32 := Scalar.select v91 v92 v77
  let v121 : BitVec 32 := Scalar.subi v93 c0_i32_50
  let c1_i32_51 : BitVec 32 := 1#32
  let v123 : BitVec 32 := Scalar.divsi v121 c1_i32_51
  let v124 : BitVec 32 := Scalar.muli v123 c1_i32_51
  let v125 : BitVec 32 := Scalar.addi c0_i32_50 v124
  let c1_i32_53 : BitVec 32 := 1#32
  let arg16 : BitVec 32 := Scf.iv v125 c1_i32_53 k0_t18
  let v365 : BitVec 32 := Scalar.muli c2_i32_115 arg16
  let c512_i32_116 : BitVec 32 := 512#32
  let v366 : BitVec 32 := Scalar.muli v365 c512_i32_116
  let v367 : BitVec 32 := v366
  let v392 : Index := Scalar.indexCast v367
  ![0, 64, v392.toNat]
def k0_mult12 (i : grid0.Coords) (k0_t18 : Fin (k0_t18_loop i).trips) : BitVec 32 :=
  let c2_i32_128 : BitVec 32 := 2#32
  let c0_i32_50 : BitVec 32 := 0#32
  let arg1 : BitVec 32 := BitVec.ofNat 32 (i 1).val
  let c128_i32 : BitVec 32 := 128#32
  let v0 : BitVec 32 := Scalar.muli arg1 c128_i32
  let c128_i32_16 : BitVec 32 := 128#32
  let v58 : BitVec 32 := Scalar.addi v0 c128_i32_16
  let c1_i32_17 : BitVec 32 := 1#32
  let v59 : BitVec 32 := Scalar.subi v58 c1_i32_17
  let c0_i32_18 : BitVec 32 := 0#32
  let v61 : BitVec 1 := Scalar.cmpi .sgt v59 c0_i32_18
  let v62 : BitVec 32 := Scalar.extui v61
  let c0_i32_19 : BitVec 32 := 0#32
  let v63 : BitVec 1 := Scalar.cmpi .slt v59 c0_i32_19
  let v64 : BitVec 32 := Scalar.extui v63
  let v65 : BitVec 32 := Scalar.subi v62 v64
  let c512_i32 : BitVec 32 := 512#32
  let c0_i32_20 : BitVec 32 := 0#32
  let v66 : BitVec 1 := Scalar.cmpi .sgt c512_i32 c0_i32_20
  let v67 : BitVec 32 := Scalar.extui v66
  let c0_i32_21 : BitVec 32 := 0#32
  let v68 : BitVec 1 := Scalar.cmpi .slt c512_i32 c0_i32_21
  let v69 : BitVec 32 := Scalar.extui v68
  let v70 : BitVec 32 := Scalar.subi v67 v69
  let v71 : BitVec 1 := Scalar.cmpi .ne v65 v70
  let v72 : BitVec 32 := Scalar.remsi v59 c512_i32
  let c0_i32_22 : BitVec 32 := 0#32
  let v73 : BitVec 1 := Scalar.cmpi .ne v72 c0_i32_22
  let v74 : BitVec 1 := Scalar.andi v71 v73
  let v60 : BitVec 32 := Scalar.divsi v59 c512_i32
  let c1_i32_23 : BitVec 32 := 1#32
  let v75 : BitVec 32 := Scalar.subi v60 c1_i32_23
  let v76 : BitVec 32 := Scalar.select v74 v75 v60
  let c0_i32_25 : BitVec 32 := 0#32
  let v78 : BitVec 1 := Scalar.cmpi .sgt v76 c0_i32_25
  let v79 : BitVec 32 := Scalar.extui v78
  let c0_i32_26 : BitVec 32 := 0#32
  let v80 : BitVec 1 := Scalar.cmpi .slt v76 c0_i32_26
  let v81 : BitVec 32 := Scalar.extui v80
  let v82 : BitVec 32 := Scalar.subi v79 v81
  let c2_i32_24 : BitVec 32 := 2#32
  let c0_i32_27 : BitVec 32 := 0#32
  let v83 : BitVec 1 := Scalar.cmpi .sgt c2_i32_24 c0_i32_27
  let v84 : BitVec 32 := Scalar.extui v83
  let c0_i32_28 : BitVec 32 := 0#32
  let v85 : BitVec 1 := Scalar.cmpi .slt c2_i32_24 c0_i32_28
  let v86 : BitVec 32 := Scalar.extui v85
  let v87 : BitVec 32 := Scalar.subi v84 v86
  let v88 : BitVec 1 := Scalar.cmpi .ne v82 v87
  let v89 : BitVec 32 := Scalar.remsi v76 c2_i32_24
  let c0_i32_29 : BitVec 32 := 0#32
  let v90 : BitVec 1 := Scalar.cmpi .ne v89 c0_i32_29
  let v91 : BitVec 1 := Scalar.andi v88 v90
  let v77 : BitVec 32 := Scalar.divsi v76 c2_i32_24
  let c1_i32_30 : BitVec 32 := 1#32
  let v92 : BitVec 32 := Scalar.subi v77 c1_i32_30
  let v93 : BitVec 32 := Scalar.select v91 v92 v77
  let v121 : BitVec 32 := Scalar.subi v93 c0_i32_50
  let c1_i32_51 : BitVec 32 := 1#32
  let v123 : BitVec 32 := Scalar.divsi v121 c1_i32_51
  let v124 : BitVec 32 := Scalar.muli v123 c1_i32_51
  let v125 : BitVec 32 := Scalar.addi c0_i32_50 v124
  let c1_i32_53 : BitVec 32 := 1#32
  let arg16 : BitVec 32 := Scf.iv v125 c1_i32_53 k0_t18
  let v402 : BitVec 32 := Scalar.muli c2_i32_128 arg16
  let c2_i32_129 : BitVec 32 := 2#32
  let v403 : BitVec 32 := Scalar.addi v402 c2_i32_129
  let c512_i32_130 : BitVec 32 := 512#32
  let v404 : BitVec 32 := Scalar.muli v403 c512_i32_130
  v404
def k0_mult13 (i : grid0.Coords) (k0_t18 : Fin (k0_t18_loop i).trips) : BitVec 32 :=
  let c2_i32_128 : BitVec 32 := 2#32
  let c0_i32_50 : BitVec 32 := 0#32
  let arg1 : BitVec 32 := BitVec.ofNat 32 (i 1).val
  let c128_i32 : BitVec 32 := 128#32
  let v0 : BitVec 32 := Scalar.muli arg1 c128_i32
  let c128_i32_16 : BitVec 32 := 128#32
  let v58 : BitVec 32 := Scalar.addi v0 c128_i32_16
  let c1_i32_17 : BitVec 32 := 1#32
  let v59 : BitVec 32 := Scalar.subi v58 c1_i32_17
  let c0_i32_18 : BitVec 32 := 0#32
  let v61 : BitVec 1 := Scalar.cmpi .sgt v59 c0_i32_18
  let v62 : BitVec 32 := Scalar.extui v61
  let c0_i32_19 : BitVec 32 := 0#32
  let v63 : BitVec 1 := Scalar.cmpi .slt v59 c0_i32_19
  let v64 : BitVec 32 := Scalar.extui v63
  let v65 : BitVec 32 := Scalar.subi v62 v64
  let c512_i32 : BitVec 32 := 512#32
  let c0_i32_20 : BitVec 32 := 0#32
  let v66 : BitVec 1 := Scalar.cmpi .sgt c512_i32 c0_i32_20
  let v67 : BitVec 32 := Scalar.extui v66
  let c0_i32_21 : BitVec 32 := 0#32
  let v68 : BitVec 1 := Scalar.cmpi .slt c512_i32 c0_i32_21
  let v69 : BitVec 32 := Scalar.extui v68
  let v70 : BitVec 32 := Scalar.subi v67 v69
  let v71 : BitVec 1 := Scalar.cmpi .ne v65 v70
  let v72 : BitVec 32 := Scalar.remsi v59 c512_i32
  let c0_i32_22 : BitVec 32 := 0#32
  let v73 : BitVec 1 := Scalar.cmpi .ne v72 c0_i32_22
  let v74 : BitVec 1 := Scalar.andi v71 v73
  let v60 : BitVec 32 := Scalar.divsi v59 c512_i32
  let c1_i32_23 : BitVec 32 := 1#32
  let v75 : BitVec 32 := Scalar.subi v60 c1_i32_23
  let v76 : BitVec 32 := Scalar.select v74 v75 v60
  let c0_i32_25 : BitVec 32 := 0#32
  let v78 : BitVec 1 := Scalar.cmpi .sgt v76 c0_i32_25
  let v79 : BitVec 32 := Scalar.extui v78
  let c0_i32_26 : BitVec 32 := 0#32
  let v80 : BitVec 1 := Scalar.cmpi .slt v76 c0_i32_26
  let v81 : BitVec 32 := Scalar.extui v80
  let v82 : BitVec 32 := Scalar.subi v79 v81
  let c2_i32_24 : BitVec 32 := 2#32
  let c0_i32_27 : BitVec 32 := 0#32
  let v83 : BitVec 1 := Scalar.cmpi .sgt c2_i32_24 c0_i32_27
  let v84 : BitVec 32 := Scalar.extui v83
  let c0_i32_28 : BitVec 32 := 0#32
  let v85 : BitVec 1 := Scalar.cmpi .slt c2_i32_24 c0_i32_28
  let v86 : BitVec 32 := Scalar.extui v85
  let v87 : BitVec 32 := Scalar.subi v84 v86
  let v88 : BitVec 1 := Scalar.cmpi .ne v82 v87
  let v89 : BitVec 32 := Scalar.remsi v76 c2_i32_24
  let c0_i32_29 : BitVec 32 := 0#32
  let v90 : BitVec 1 := Scalar.cmpi .ne v89 c0_i32_29
  let v91 : BitVec 1 := Scalar.andi v88 v90
  let v77 : BitVec 32 := Scalar.divsi v76 c2_i32_24
  let c1_i32_30 : BitVec 32 := 1#32
  let v92 : BitVec 32 := Scalar.subi v77 c1_i32_30
  let v93 : BitVec 32 := Scalar.select v91 v92 v77
  let v121 : BitVec 32 := Scalar.subi v93 c0_i32_50
  let c1_i32_51 : BitVec 32 := 1#32
  let v123 : BitVec 32 := Scalar.divsi v121 c1_i32_51
  let v124 : BitVec 32 := Scalar.muli v123 c1_i32_51
  let v125 : BitVec 32 := Scalar.addi c0_i32_50 v124
  let c1_i32_53 : BitVec 32 := 1#32
  let arg16 : BitVec 32 := Scf.iv v125 c1_i32_53 k0_t18
  let v402 : BitVec 32 := Scalar.muli c2_i32_128 arg16
  let c2_i32_129 : BitVec 32 := 2#32
  let v403 : BitVec 32 := Scalar.addi v402 c2_i32_129
  let c8_i32_131 : BitVec 32 := 8#32
  let v406 : BitVec 32 := Scalar.muli v403 c8_i32_131
  v406
def k0_mult14 (i : grid0.Coords) (k0_t18 : Fin (k0_t18_loop i).trips) : BitVec 32 :=
  let c2_i32_146 : BitVec 32 := 2#32
  let c0_i32_50 : BitVec 32 := 0#32
  let arg1 : BitVec 32 := BitVec.ofNat 32 (i 1).val
  let c128_i32 : BitVec 32 := 128#32
  let v0 : BitVec 32 := Scalar.muli arg1 c128_i32
  let c128_i32_16 : BitVec 32 := 128#32
  let v58 : BitVec 32 := Scalar.addi v0 c128_i32_16
  let c1_i32_17 : BitVec 32 := 1#32
  let v59 : BitVec 32 := Scalar.subi v58 c1_i32_17
  let c0_i32_18 : BitVec 32 := 0#32
  let v61 : BitVec 1 := Scalar.cmpi .sgt v59 c0_i32_18
  let v62 : BitVec 32 := Scalar.extui v61
  let c0_i32_19 : BitVec 32 := 0#32
  let v63 : BitVec 1 := Scalar.cmpi .slt v59 c0_i32_19
  let v64 : BitVec 32 := Scalar.extui v63
  let v65 : BitVec 32 := Scalar.subi v62 v64
  let c512_i32 : BitVec 32 := 512#32
  let c0_i32_20 : BitVec 32 := 0#32
  let v66 : BitVec 1 := Scalar.cmpi .sgt c512_i32 c0_i32_20
  let v67 : BitVec 32 := Scalar.extui v66
  let c0_i32_21 : BitVec 32 := 0#32
  let v68 : BitVec 1 := Scalar.cmpi .slt c512_i32 c0_i32_21
  let v69 : BitVec 32 := Scalar.extui v68
  let v70 : BitVec 32 := Scalar.subi v67 v69
  let v71 : BitVec 1 := Scalar.cmpi .ne v65 v70
  let v72 : BitVec 32 := Scalar.remsi v59 c512_i32
  let c0_i32_22 : BitVec 32 := 0#32
  let v73 : BitVec 1 := Scalar.cmpi .ne v72 c0_i32_22
  let v74 : BitVec 1 := Scalar.andi v71 v73
  let v60 : BitVec 32 := Scalar.divsi v59 c512_i32
  let c1_i32_23 : BitVec 32 := 1#32
  let v75 : BitVec 32 := Scalar.subi v60 c1_i32_23
  let v76 : BitVec 32 := Scalar.select v74 v75 v60
  let c0_i32_25 : BitVec 32 := 0#32
  let v78 : BitVec 1 := Scalar.cmpi .sgt v76 c0_i32_25
  let v79 : BitVec 32 := Scalar.extui v78
  let c0_i32_26 : BitVec 32 := 0#32
  let v80 : BitVec 1 := Scalar.cmpi .slt v76 c0_i32_26
  let v81 : BitVec 32 := Scalar.extui v80
  let v82 : BitVec 32 := Scalar.subi v79 v81
  let c2_i32_24 : BitVec 32 := 2#32
  let c0_i32_27 : BitVec 32 := 0#32
  let v83 : BitVec 1 := Scalar.cmpi .sgt c2_i32_24 c0_i32_27
  let v84 : BitVec 32 := Scalar.extui v83
  let c0_i32_28 : BitVec 32 := 0#32
  let v85 : BitVec 1 := Scalar.cmpi .slt c2_i32_24 c0_i32_28
  let v86 : BitVec 32 := Scalar.extui v85
  let v87 : BitVec 32 := Scalar.subi v84 v86
  let v88 : BitVec 1 := Scalar.cmpi .ne v82 v87
  let v89 : BitVec 32 := Scalar.remsi v76 c2_i32_24
  let c0_i32_29 : BitVec 32 := 0#32
  let v90 : BitVec 1 := Scalar.cmpi .ne v89 c0_i32_29
  let v91 : BitVec 1 := Scalar.andi v88 v90
  let v77 : BitVec 32 := Scalar.divsi v76 c2_i32_24
  let c1_i32_30 : BitVec 32 := 1#32
  let v92 : BitVec 32 := Scalar.subi v77 c1_i32_30
  let v93 : BitVec 32 := Scalar.select v91 v92 v77
  let v121 : BitVec 32 := Scalar.subi v93 c0_i32_50
  let c1_i32_51 : BitVec 32 := 1#32
  let v123 : BitVec 32 := Scalar.divsi v121 c1_i32_51
  let v124 : BitVec 32 := Scalar.muli v123 c1_i32_51
  let v125 : BitVec 32 := Scalar.addi c0_i32_50 v124
  let c1_i32_53 : BitVec 32 := 1#32
  let arg16 : BitVec 32 := Scf.iv v125 c1_i32_53 k0_t18
  let v430 : BitVec 32 := Scalar.muli c2_i32_146 arg16
  let c1_i32_147 : BitVec 32 := 1#32
  let v431 : BitVec 32 := Scalar.addi v430 c1_i32_147
  let c512_i32_148 : BitVec 32 := 512#32
  let v432 : BitVec 32 := Scalar.muli v431 c512_i32_148
  v432
def k0_off11 (i : grid0.Coords) (k0_t18 : Fin (k0_t18_loop i).trips) : Fin 3 → Nat :=
  let c0_154 : Index := 0#32
  let c0_155 : Index := 0#32
  let c2_i32_146 : BitVec 32 := 2#32
  let c0_i32_50 : BitVec 32 := 0#32
  let arg1 : BitVec 32 := BitVec.ofNat 32 (i 1).val
  let c128_i32 : BitVec 32 := 128#32
  let v0 : BitVec 32 := Scalar.muli arg1 c128_i32
  let c128_i32_16 : BitVec 32 := 128#32
  let v58 : BitVec 32 := Scalar.addi v0 c128_i32_16
  let c1_i32_17 : BitVec 32 := 1#32
  let v59 : BitVec 32 := Scalar.subi v58 c1_i32_17
  let c0_i32_18 : BitVec 32 := 0#32
  let v61 : BitVec 1 := Scalar.cmpi .sgt v59 c0_i32_18
  let v62 : BitVec 32 := Scalar.extui v61
  let c0_i32_19 : BitVec 32 := 0#32
  let v63 : BitVec 1 := Scalar.cmpi .slt v59 c0_i32_19
  let v64 : BitVec 32 := Scalar.extui v63
  let v65 : BitVec 32 := Scalar.subi v62 v64
  let c512_i32 : BitVec 32 := 512#32
  let c0_i32_20 : BitVec 32 := 0#32
  let v66 : BitVec 1 := Scalar.cmpi .sgt c512_i32 c0_i32_20
  let v67 : BitVec 32 := Scalar.extui v66
  let c0_i32_21 : BitVec 32 := 0#32
  let v68 : BitVec 1 := Scalar.cmpi .slt c512_i32 c0_i32_21
  let v69 : BitVec 32 := Scalar.extui v68
  let v70 : BitVec 32 := Scalar.subi v67 v69
  let v71 : BitVec 1 := Scalar.cmpi .ne v65 v70
  let v72 : BitVec 32 := Scalar.remsi v59 c512_i32
  let c0_i32_22 : BitVec 32 := 0#32
  let v73 : BitVec 1 := Scalar.cmpi .ne v72 c0_i32_22
  let v74 : BitVec 1 := Scalar.andi v71 v73
  let v60 : BitVec 32 := Scalar.divsi v59 c512_i32
  let c1_i32_23 : BitVec 32 := 1#32
  let v75 : BitVec 32 := Scalar.subi v60 c1_i32_23
  let v76 : BitVec 32 := Scalar.select v74 v75 v60
  let c0_i32_25 : BitVec 32 := 0#32
  let v78 : BitVec 1 := Scalar.cmpi .sgt v76 c0_i32_25
  let v79 : BitVec 32 := Scalar.extui v78
  let c0_i32_26 : BitVec 32 := 0#32
  let v80 : BitVec 1 := Scalar.cmpi .slt v76 c0_i32_26
  let v81 : BitVec 32 := Scalar.extui v80
  let v82 : BitVec 32 := Scalar.subi v79 v81
  let c2_i32_24 : BitVec 32 := 2#32
  let c0_i32_27 : BitVec 32 := 0#32
  let v83 : BitVec 1 := Scalar.cmpi .sgt c2_i32_24 c0_i32_27
  let v84 : BitVec 32 := Scalar.extui v83
  let c0_i32_28 : BitVec 32 := 0#32
  let v85 : BitVec 1 := Scalar.cmpi .slt c2_i32_24 c0_i32_28
  let v86 : BitVec 32 := Scalar.extui v85
  let v87 : BitVec 32 := Scalar.subi v84 v86
  let v88 : BitVec 1 := Scalar.cmpi .ne v82 v87
  let v89 : BitVec 32 := Scalar.remsi v76 c2_i32_24
  let c0_i32_29 : BitVec 32 := 0#32
  let v90 : BitVec 1 := Scalar.cmpi .ne v89 c0_i32_29
  let v91 : BitVec 1 := Scalar.andi v88 v90
  let v77 : BitVec 32 := Scalar.divsi v76 c2_i32_24
  let c1_i32_30 : BitVec 32 := 1#32
  let v92 : BitVec 32 := Scalar.subi v77 c1_i32_30
  let v93 : BitVec 32 := Scalar.select v91 v92 v77
  let v121 : BitVec 32 := Scalar.subi v93 c0_i32_50
  let c1_i32_51 : BitVec 32 := 1#32
  let v123 : BitVec 32 := Scalar.divsi v121 c1_i32_51
  let v124 : BitVec 32 := Scalar.muli v123 c1_i32_51
  let v125 : BitVec 32 := Scalar.addi c0_i32_50 v124
  let c1_i32_53 : BitVec 32 := 1#32
  let arg16 : BitVec 32 := Scf.iv v125 c1_i32_53 k0_t18
  let v430 : BitVec 32 := Scalar.muli c2_i32_146 arg16
  let c1_i32_147 : BitVec 32 := 1#32
  let v431 : BitVec 32 := Scalar.addi v430 c1_i32_147
  let c512_i32_148 : BitVec 32 := 512#32
  let v432 : BitVec 32 := Scalar.muli v431 c512_i32_148
  let v433 : BitVec 32 := v432
  let v448 : Index := Scalar.indexCast v433
  ![0, 0, v448.toNat]
def k0_off12 (i : grid0.Coords) (k0_t18 : Fin (k0_t18_loop i).trips) : Fin 3 → Nat :=
  let c0_157 : Index := 0#32
  let c64_158 : Index := 64#32
  let c2_i32_146 : BitVec 32 := 2#32
  let c0_i32_50 : BitVec 32 := 0#32
  let arg1 : BitVec 32 := BitVec.ofNat 32 (i 1).val
  let c128_i32 : BitVec 32 := 128#32
  let v0 : BitVec 32 := Scalar.muli arg1 c128_i32
  let c128_i32_16 : BitVec 32 := 128#32
  let v58 : BitVec 32 := Scalar.addi v0 c128_i32_16
  let c1_i32_17 : BitVec 32 := 1#32
  let v59 : BitVec 32 := Scalar.subi v58 c1_i32_17
  let c0_i32_18 : BitVec 32 := 0#32
  let v61 : BitVec 1 := Scalar.cmpi .sgt v59 c0_i32_18
  let v62 : BitVec 32 := Scalar.extui v61
  let c0_i32_19 : BitVec 32 := 0#32
  let v63 : BitVec 1 := Scalar.cmpi .slt v59 c0_i32_19
  let v64 : BitVec 32 := Scalar.extui v63
  let v65 : BitVec 32 := Scalar.subi v62 v64
  let c512_i32 : BitVec 32 := 512#32
  let c0_i32_20 : BitVec 32 := 0#32
  let v66 : BitVec 1 := Scalar.cmpi .sgt c512_i32 c0_i32_20
  let v67 : BitVec 32 := Scalar.extui v66
  let c0_i32_21 : BitVec 32 := 0#32
  let v68 : BitVec 1 := Scalar.cmpi .slt c512_i32 c0_i32_21
  let v69 : BitVec 32 := Scalar.extui v68
  let v70 : BitVec 32 := Scalar.subi v67 v69
  let v71 : BitVec 1 := Scalar.cmpi .ne v65 v70
  let v72 : BitVec 32 := Scalar.remsi v59 c512_i32
  let c0_i32_22 : BitVec 32 := 0#32
  let v73 : BitVec 1 := Scalar.cmpi .ne v72 c0_i32_22
  let v74 : BitVec 1 := Scalar.andi v71 v73
  let v60 : BitVec 32 := Scalar.divsi v59 c512_i32
  let c1_i32_23 : BitVec 32 := 1#32
  let v75 : BitVec 32 := Scalar.subi v60 c1_i32_23
  let v76 : BitVec 32 := Scalar.select v74 v75 v60
  let c0_i32_25 : BitVec 32 := 0#32
  let v78 : BitVec 1 := Scalar.cmpi .sgt v76 c0_i32_25
  let v79 : BitVec 32 := Scalar.extui v78
  let c0_i32_26 : BitVec 32 := 0#32
  let v80 : BitVec 1 := Scalar.cmpi .slt v76 c0_i32_26
  let v81 : BitVec 32 := Scalar.extui v80
  let v82 : BitVec 32 := Scalar.subi v79 v81
  let c2_i32_24 : BitVec 32 := 2#32
  let c0_i32_27 : BitVec 32 := 0#32
  let v83 : BitVec 1 := Scalar.cmpi .sgt c2_i32_24 c0_i32_27
  let v84 : BitVec 32 := Scalar.extui v83
  let c0_i32_28 : BitVec 32 := 0#32
  let v85 : BitVec 1 := Scalar.cmpi .slt c2_i32_24 c0_i32_28
  let v86 : BitVec 32 := Scalar.extui v85
  let v87 : BitVec 32 := Scalar.subi v84 v86
  let v88 : BitVec 1 := Scalar.cmpi .ne v82 v87
  let v89 : BitVec 32 := Scalar.remsi v76 c2_i32_24
  let c0_i32_29 : BitVec 32 := 0#32
  let v90 : BitVec 1 := Scalar.cmpi .ne v89 c0_i32_29
  let v91 : BitVec 1 := Scalar.andi v88 v90
  let v77 : BitVec 32 := Scalar.divsi v76 c2_i32_24
  let c1_i32_30 : BitVec 32 := 1#32
  let v92 : BitVec 32 := Scalar.subi v77 c1_i32_30
  let v93 : BitVec 32 := Scalar.select v91 v92 v77
  let v121 : BitVec 32 := Scalar.subi v93 c0_i32_50
  let c1_i32_51 : BitVec 32 := 1#32
  let v123 : BitVec 32 := Scalar.divsi v121 c1_i32_51
  let v124 : BitVec 32 := Scalar.muli v123 c1_i32_51
  let v125 : BitVec 32 := Scalar.addi c0_i32_50 v124
  let c1_i32_53 : BitVec 32 := 1#32
  let arg16 : BitVec 32 := Scf.iv v125 c1_i32_53 k0_t18
  let v430 : BitVec 32 := Scalar.muli c2_i32_146 arg16
  let c1_i32_147 : BitVec 32 := 1#32
  let v431 : BitVec 32 := Scalar.addi v430 c1_i32_147
  let c512_i32_148 : BitVec 32 := 512#32
  let v432 : BitVec 32 := Scalar.muli v431 c512_i32_148
  let v433 : BitVec 32 := v432
  let v458 : Index := Scalar.indexCast v433
  ![0, 64, v458.toNat]
def k0_cond8 (i : grid0.Coords) : BitVec 1 :=
  let arg1 : BitVec 32 := BitVec.ofNat 32 (i 1).val
  let c128_i32 : BitVec 32 := 128#32
  let v0 : BitVec 32 := Scalar.muli arg1 c128_i32
  let c128_i32_16 : BitVec 32 := 128#32
  let v58 : BitVec 32 := Scalar.addi v0 c128_i32_16
  let c1_i32_17 : BitVec 32 := 1#32
  let v59 : BitVec 32 := Scalar.subi v58 c1_i32_17
  let c0_i32_18 : BitVec 32 := 0#32
  let v61 : BitVec 1 := Scalar.cmpi .sgt v59 c0_i32_18
  let v62 : BitVec 32 := Scalar.extui v61
  let c0_i32_19 : BitVec 32 := 0#32
  let v63 : BitVec 1 := Scalar.cmpi .slt v59 c0_i32_19
  let v64 : BitVec 32 := Scalar.extui v63
  let v65 : BitVec 32 := Scalar.subi v62 v64
  let c512_i32 : BitVec 32 := 512#32
  let c0_i32_20 : BitVec 32 := 0#32
  let v66 : BitVec 1 := Scalar.cmpi .sgt c512_i32 c0_i32_20
  let v67 : BitVec 32 := Scalar.extui v66
  let c0_i32_21 : BitVec 32 := 0#32
  let v68 : BitVec 1 := Scalar.cmpi .slt c512_i32 c0_i32_21
  let v69 : BitVec 32 := Scalar.extui v68
  let v70 : BitVec 32 := Scalar.subi v67 v69
  let v71 : BitVec 1 := Scalar.cmpi .ne v65 v70
  let v72 : BitVec 32 := Scalar.remsi v59 c512_i32
  let c0_i32_22 : BitVec 32 := 0#32
  let v73 : BitVec 1 := Scalar.cmpi .ne v72 c0_i32_22
  let v74 : BitVec 1 := Scalar.andi v71 v73
  let v60 : BitVec 32 := Scalar.divsi v59 c512_i32
  let c1_i32_23 : BitVec 32 := 1#32
  let v75 : BitVec 32 := Scalar.subi v60 c1_i32_23
  let v76 : BitVec 32 := Scalar.select v74 v75 v60
  let c2_i32_54 : BitVec 32 := 2#32
  let c0_i32_25 : BitVec 32 := 0#32
  let v78 : BitVec 1 := Scalar.cmpi .sgt v76 c0_i32_25
  let v79 : BitVec 32 := Scalar.extui v78
  let c0_i32_26 : BitVec 32 := 0#32
  let v80 : BitVec 1 := Scalar.cmpi .slt v76 c0_i32_26
  let v81 : BitVec 32 := Scalar.extui v80
  let v82 : BitVec 32 := Scalar.subi v79 v81
  let c2_i32_24 : BitVec 32 := 2#32
  let c0_i32_27 : BitVec 32 := 0#32
  let v83 : BitVec 1 := Scalar.cmpi .sgt c2_i32_24 c0_i32_27
  let v84 : BitVec 32 := Scalar.extui v83
  let c0_i32_28 : BitVec 32 := 0#32
  let v85 : BitVec 1 := Scalar.cmpi .slt c2_i32_24 c0_i32_28
  let v86 : BitVec 32 := Scalar.extui v85
  let v87 : BitVec 32 := Scalar.subi v84 v86
  let v88 : BitVec 1 := Scalar.cmpi .ne v82 v87
  let v89 : BitVec 32 := Scalar.remsi v76 c2_i32_24
  let c0_i32_29 : BitVec 32 := 0#32
  let v90 : BitVec 1 := Scalar.cmpi .ne v89 c0_i32_29
  let v91 : BitVec 1 := Scalar.andi v88 v90
  let v77 : BitVec 32 := Scalar.divsi v76 c2_i32_24
  let c1_i32_30 : BitVec 32 := 1#32
  let v92 : BitVec 32 := Scalar.subi v77 c1_i32_30
  let v93 : BitVec 32 := Scalar.select v91 v92 v77
  let v128 : BitVec 32 := Scalar.muli c2_i32_54 v93
  let v129 : BitVec 1 := Scalar.cmpi .sgt v76 v128
  let v130 : BitVec 32 := Scalar.extui v129
  let c0_i32_55 : BitVec 32 := 0#32
  let v131 : BitVec 1 := Scalar.cmpi .ne v130 c0_i32_55
  v131

def k0_mult15 (i : grid0.Coords) : BitVec 32 :=
  let arg1 : BitVec 32 := BitVec.ofNat 32 (i 1).val
  let c128_i32 : BitVec 32 := 128#32
  let v0 : BitVec 32 := Scalar.muli arg1 c128_i32
  let c128_i32_16 : BitVec 32 := 128#32
  let v58 : BitVec 32 := Scalar.addi v0 c128_i32_16
  let c1_i32_17 : BitVec 32 := 1#32
  let v59 : BitVec 32 := Scalar.subi v58 c1_i32_17
  let c0_i32_18 : BitVec 32 := 0#32
  let v61 : BitVec 1 := Scalar.cmpi .sgt v59 c0_i32_18
  let v62 : BitVec 32 := Scalar.extui v61
  let c0_i32_19 : BitVec 32 := 0#32
  let v63 : BitVec 1 := Scalar.cmpi .slt v59 c0_i32_19
  let v64 : BitVec 32 := Scalar.extui v63
  let v65 : BitVec 32 := Scalar.subi v62 v64
  let c512_i32 : BitVec 32 := 512#32
  let c0_i32_20 : BitVec 32 := 0#32
  let v66 : BitVec 1 := Scalar.cmpi .sgt c512_i32 c0_i32_20
  let v67 : BitVec 32 := Scalar.extui v66
  let c0_i32_21 : BitVec 32 := 0#32
  let v68 : BitVec 1 := Scalar.cmpi .slt c512_i32 c0_i32_21
  let v69 : BitVec 32 := Scalar.extui v68
  let v70 : BitVec 32 := Scalar.subi v67 v69
  let v71 : BitVec 1 := Scalar.cmpi .ne v65 v70
  let v72 : BitVec 32 := Scalar.remsi v59 c512_i32
  let c0_i32_22 : BitVec 32 := 0#32
  let v73 : BitVec 1 := Scalar.cmpi .ne v72 c0_i32_22
  let v74 : BitVec 1 := Scalar.andi v71 v73
  let v60 : BitVec 32 := Scalar.divsi v59 c512_i32
  let c1_i32_23 : BitVec 32 := 1#32
  let v75 : BitVec 32 := Scalar.subi v60 c1_i32_23
  let v76 : BitVec 32 := Scalar.select v74 v75 v60
  let c512_i32_98 : BitVec 32 := 512#32
  let v337 : BitVec 32 := Scalar.muli v76 c512_i32_98
  v337
def k0_mult16 (i : grid0.Coords) : BitVec 32 :=
  let arg1 : BitVec 32 := BitVec.ofNat 32 (i 1).val
  let c128_i32 : BitVec 32 := 128#32
  let v0 : BitVec 32 := Scalar.muli arg1 c128_i32
  let c128_i32_16 : BitVec 32 := 128#32
  let v58 : BitVec 32 := Scalar.addi v0 c128_i32_16
  let c1_i32_17 : BitVec 32 := 1#32
  let v59 : BitVec 32 := Scalar.subi v58 c1_i32_17
  let c0_i32_18 : BitVec 32 := 0#32
  let v61 : BitVec 1 := Scalar.cmpi .sgt v59 c0_i32_18
  let v62 : BitVec 32 := Scalar.extui v61
  let c0_i32_19 : BitVec 32 := 0#32
  let v63 : BitVec 1 := Scalar.cmpi .slt v59 c0_i32_19
  let v64 : BitVec 32 := Scalar.extui v63
  let v65 : BitVec 32 := Scalar.subi v62 v64
  let c512_i32 : BitVec 32 := 512#32
  let c0_i32_20 : BitVec 32 := 0#32
  let v66 : BitVec 1 := Scalar.cmpi .sgt c512_i32 c0_i32_20
  let v67 : BitVec 32 := Scalar.extui v66
  let c0_i32_21 : BitVec 32 := 0#32
  let v68 : BitVec 1 := Scalar.cmpi .slt c512_i32 c0_i32_21
  let v69 : BitVec 32 := Scalar.extui v68
  let v70 : BitVec 32 := Scalar.subi v67 v69
  let v71 : BitVec 1 := Scalar.cmpi .ne v65 v70
  let v72 : BitVec 32 := Scalar.remsi v59 c512_i32
  let c0_i32_22 : BitVec 32 := 0#32
  let v73 : BitVec 1 := Scalar.cmpi .ne v72 c0_i32_22
  let v74 : BitVec 1 := Scalar.andi v71 v73
  let v60 : BitVec 32 := Scalar.divsi v59 c512_i32
  let c1_i32_23 : BitVec 32 := 1#32
  let v75 : BitVec 32 := Scalar.subi v60 c1_i32_23
  let v76 : BitVec 32 := Scalar.select v74 v75 v60
  let c8_i32 : BitVec 32 := 8#32
  let v339 : BitVec 32 := Scalar.muli v76 c8_i32
  v339
def k0_off13 (i : grid0.Coords) : Fin 2 → Nat :=
  let arg1 : BitVec 32 := BitVec.ofNat 32 (i 1).val
  let c128_i32 : BitVec 32 := 128#32
  let v0 : BitVec 32 := Scalar.muli arg1 c128_i32
  let c128_i32_16 : BitVec 32 := 128#32
  let v58 : BitVec 32 := Scalar.addi v0 c128_i32_16
  let c1_i32_17 : BitVec 32 := 1#32
  let v59 : BitVec 32 := Scalar.subi v58 c1_i32_17
  let c0_i32_18 : BitVec 32 := 0#32
  let v61 : BitVec 1 := Scalar.cmpi .sgt v59 c0_i32_18
  let v62 : BitVec 32 := Scalar.extui v61
  let c0_i32_19 : BitVec 32 := 0#32
  let v63 : BitVec 1 := Scalar.cmpi .slt v59 c0_i32_19
  let v64 : BitVec 32 := Scalar.extui v63
  let v65 : BitVec 32 := Scalar.subi v62 v64
  let c512_i32 : BitVec 32 := 512#32
  let c0_i32_20 : BitVec 32 := 0#32
  let v66 : BitVec 1 := Scalar.cmpi .sgt c512_i32 c0_i32_20
  let v67 : BitVec 32 := Scalar.extui v66
  let c0_i32_21 : BitVec 32 := 0#32
  let v68 : BitVec 1 := Scalar.cmpi .slt c512_i32 c0_i32_21
  let v69 : BitVec 32 := Scalar.extui v68
  let v70 : BitVec 32 := Scalar.subi v67 v69
  let v71 : BitVec 1 := Scalar.cmpi .ne v65 v70
  let v72 : BitVec 32 := Scalar.remsi v59 c512_i32
  let c0_i32_22 : BitVec 32 := 0#32
  let v73 : BitVec 1 := Scalar.cmpi .ne v72 c0_i32_22
  let v74 : BitVec 1 := Scalar.andi v71 v73
  let v60 : BitVec 32 := Scalar.divsi v59 c512_i32
  let c1_i32_23 : BitVec 32 := 1#32
  let v75 : BitVec 32 := Scalar.subi v60 c1_i32_23
  let v76 : BitVec 32 := Scalar.select v74 v75 v60
  let c8_i32 : BitVec 32 := 8#32
  let v339 : BitVec 32 := Scalar.muli v76 c8_i32
  let v340 : BitVec 32 := v339
  let v341 : Index := Scalar.indexCast v340
  let c0_99 : Index := 0#32
  ![v341.toNat, 0]
def k0_off14 (i : grid0.Coords) : Fin 3 → Nat :=
  let c0_106 : Index := 0#32
  let arg1 : BitVec 32 := BitVec.ofNat 32 (i 1).val
  let c128_i32 : BitVec 32 := 128#32
  let v0 : BitVec 32 := Scalar.muli arg1 c128_i32
  let c128_i32_16 : BitVec 32 := 128#32
  let v58 : BitVec 32 := Scalar.addi v0 c128_i32_16
  let c1_i32_17 : BitVec 32 := 1#32
  let v59 : BitVec 32 := Scalar.subi v58 c1_i32_17
  let c0_i32_18 : BitVec 32 := 0#32
  let v61 : BitVec 1 := Scalar.cmpi .sgt v59 c0_i32_18
  let v62 : BitVec 32 := Scalar.extui v61
  let c0_i32_19 : BitVec 32 := 0#32
  let v63 : BitVec 1 := Scalar.cmpi .slt v59 c0_i32_19
  let v64 : BitVec 32 := Scalar.extui v63
  let v65 : BitVec 32 := Scalar.subi v62 v64
  let c512_i32 : BitVec 32 := 512#32
  let c0_i32_20 : BitVec 32 := 0#32
  let v66 : BitVec 1 := Scalar.cmpi .sgt c512_i32 c0_i32_20
  let v67 : BitVec 32 := Scalar.extui v66
  let c0_i32_21 : BitVec 32 := 0#32
  let v68 : BitVec 1 := Scalar.cmpi .slt c512_i32 c0_i32_21
  let v69 : BitVec 32 := Scalar.extui v68
  let v70 : BitVec 32 := Scalar.subi v67 v69
  let v71 : BitVec 1 := Scalar.cmpi .ne v65 v70
  let v72 : BitVec 32 := Scalar.remsi v59 c512_i32
  let c0_i32_22 : BitVec 32 := 0#32
  let v73 : BitVec 1 := Scalar.cmpi .ne v72 c0_i32_22
  let v74 : BitVec 1 := Scalar.andi v71 v73
  let v60 : BitVec 32 := Scalar.divsi v59 c512_i32
  let c1_i32_23 : BitVec 32 := 1#32
  let v75 : BitVec 32 := Scalar.subi v60 c1_i32_23
  let v76 : BitVec 32 := Scalar.select v74 v75 v60
  let c512_i32_98 : BitVec 32 := 512#32
  let v337 : BitVec 32 := Scalar.muli v76 c512_i32_98
  let v338 : BitVec 32 := v337
  let v354 : Index := Scalar.indexCast v338
  let c0_107 : Index := 0#32
  ![0, v354.toNat, 0]
def k0_mult17 (i : grid0.Coords) : BitVec 32 :=
  let arg1 : BitVec 32 := BitVec.ofNat 32 (i 1).val
  let c128_i32 : BitVec 32 := 128#32
  let v0 : BitVec 32 := Scalar.muli arg1 c128_i32
  let c128_i32_16 : BitVec 32 := 128#32
  let v58 : BitVec 32 := Scalar.addi v0 c128_i32_16
  let c1_i32_17 : BitVec 32 := 1#32
  let v59 : BitVec 32 := Scalar.subi v58 c1_i32_17
  let c0_i32_18 : BitVec 32 := 0#32
  let v61 : BitVec 1 := Scalar.cmpi .sgt v59 c0_i32_18
  let v62 : BitVec 32 := Scalar.extui v61
  let c0_i32_19 : BitVec 32 := 0#32
  let v63 : BitVec 1 := Scalar.cmpi .slt v59 c0_i32_19
  let v64 : BitVec 32 := Scalar.extui v63
  let v65 : BitVec 32 := Scalar.subi v62 v64
  let c512_i32 : BitVec 32 := 512#32
  let c0_i32_20 : BitVec 32 := 0#32
  let v66 : BitVec 1 := Scalar.cmpi .sgt c512_i32 c0_i32_20
  let v67 : BitVec 32 := Scalar.extui v66
  let c0_i32_21 : BitVec 32 := 0#32
  let v68 : BitVec 1 := Scalar.cmpi .slt c512_i32 c0_i32_21
  let v69 : BitVec 32 := Scalar.extui v68
  let v70 : BitVec 32 := Scalar.subi v67 v69
  let v71 : BitVec 1 := Scalar.cmpi .ne v65 v70
  let v72 : BitVec 32 := Scalar.remsi v59 c512_i32
  let c0_i32_22 : BitVec 32 := 0#32
  let v73 : BitVec 1 := Scalar.cmpi .ne v72 c0_i32_22
  let v74 : BitVec 1 := Scalar.andi v71 v73
  let v60 : BitVec 32 := Scalar.divsi v59 c512_i32
  let c1_i32_23 : BitVec 32 := 1#32
  let v75 : BitVec 32 := Scalar.subi v60 c1_i32_23
  let v76 : BitVec 32 := Scalar.select v74 v75 v60
  let c1_i32_113 : BitVec 32 := 1#32
  let v363 : BitVec 32 := Scalar.subi v76 c1_i32_113
  let c512_i32_114 : BitVec 32 := 512#32
  let v364 : BitVec 32 := Scalar.muli v363 c512_i32_114
  v364
def k0_off15 (i : grid0.Coords) : Fin 3 → Nat :=
  let c0_120 : Index := 0#32
  let c0_121 : Index := 0#32
  let arg1 : BitVec 32 := BitVec.ofNat 32 (i 1).val
  let c128_i32 : BitVec 32 := 128#32
  let v0 : BitVec 32 := Scalar.muli arg1 c128_i32
  let c128_i32_16 : BitVec 32 := 128#32
  let v58 : BitVec 32 := Scalar.addi v0 c128_i32_16
  let c1_i32_17 : BitVec 32 := 1#32
  let v59 : BitVec 32 := Scalar.subi v58 c1_i32_17
  let c0_i32_18 : BitVec 32 := 0#32
  let v61 : BitVec 1 := Scalar.cmpi .sgt v59 c0_i32_18
  let v62 : BitVec 32 := Scalar.extui v61
  let c0_i32_19 : BitVec 32 := 0#32
  let v63 : BitVec 1 := Scalar.cmpi .slt v59 c0_i32_19
  let v64 : BitVec 32 := Scalar.extui v63
  let v65 : BitVec 32 := Scalar.subi v62 v64
  let c512_i32 : BitVec 32 := 512#32
  let c0_i32_20 : BitVec 32 := 0#32
  let v66 : BitVec 1 := Scalar.cmpi .sgt c512_i32 c0_i32_20
  let v67 : BitVec 32 := Scalar.extui v66
  let c0_i32_21 : BitVec 32 := 0#32
  let v68 : BitVec 1 := Scalar.cmpi .slt c512_i32 c0_i32_21
  let v69 : BitVec 32 := Scalar.extui v68
  let v70 : BitVec 32 := Scalar.subi v67 v69
  let v71 : BitVec 1 := Scalar.cmpi .ne v65 v70
  let v72 : BitVec 32 := Scalar.remsi v59 c512_i32
  let c0_i32_22 : BitVec 32 := 0#32
  let v73 : BitVec 1 := Scalar.cmpi .ne v72 c0_i32_22
  let v74 : BitVec 1 := Scalar.andi v71 v73
  let v60 : BitVec 32 := Scalar.divsi v59 c512_i32
  let c1_i32_23 : BitVec 32 := 1#32
  let v75 : BitVec 32 := Scalar.subi v60 c1_i32_23
  let v76 : BitVec 32 := Scalar.select v74 v75 v60
  let c1_i32_113 : BitVec 32 := 1#32
  let v363 : BitVec 32 := Scalar.subi v76 c1_i32_113
  let c512_i32_114 : BitVec 32 := 512#32
  let v364 : BitVec 32 := Scalar.muli v363 c512_i32_114
  let v365 : BitVec 32 := v364
  let v380 : Index := Scalar.indexCast v365
  ![0, 0, v380.toNat]
def k0_off16 (i : grid0.Coords) : Fin 3 → Nat :=
  let c0_123 : Index := 0#32
  let c64_124 : Index := 64#32
  let arg1 : BitVec 32 := BitVec.ofNat 32 (i 1).val
  let c128_i32 : BitVec 32 := 128#32
  let v0 : BitVec 32 := Scalar.muli arg1 c128_i32
  let c128_i32_16 : BitVec 32 := 128#32
  let v58 : BitVec 32 := Scalar.addi v0 c128_i32_16
  let c1_i32_17 : BitVec 32 := 1#32
  let v59 : BitVec 32 := Scalar.subi v58 c1_i32_17
  let c0_i32_18 : BitVec 32 := 0#32
  let v61 : BitVec 1 := Scalar.cmpi .sgt v59 c0_i32_18
  let v62 : BitVec 32 := Scalar.extui v61
  let c0_i32_19 : BitVec 32 := 0#32
  let v63 : BitVec 1 := Scalar.cmpi .slt v59 c0_i32_19
  let v64 : BitVec 32 := Scalar.extui v63
  let v65 : BitVec 32 := Scalar.subi v62 v64
  let c512_i32 : BitVec 32 := 512#32
  let c0_i32_20 : BitVec 32 := 0#32
  let v66 : BitVec 1 := Scalar.cmpi .sgt c512_i32 c0_i32_20
  let v67 : BitVec 32 := Scalar.extui v66
  let c0_i32_21 : BitVec 32 := 0#32
  let v68 : BitVec 1 := Scalar.cmpi .slt c512_i32 c0_i32_21
  let v69 : BitVec 32 := Scalar.extui v68
  let v70 : BitVec 32 := Scalar.subi v67 v69
  let v71 : BitVec 1 := Scalar.cmpi .ne v65 v70
  let v72 : BitVec 32 := Scalar.remsi v59 c512_i32
  let c0_i32_22 : BitVec 32 := 0#32
  let v73 : BitVec 1 := Scalar.cmpi .ne v72 c0_i32_22
  let v74 : BitVec 1 := Scalar.andi v71 v73
  let v60 : BitVec 32 := Scalar.divsi v59 c512_i32
  let c1_i32_23 : BitVec 32 := 1#32
  let v75 : BitVec 32 := Scalar.subi v60 c1_i32_23
  let v76 : BitVec 32 := Scalar.select v74 v75 v60
  let c1_i32_113 : BitVec 32 := 1#32
  let v363 : BitVec 32 := Scalar.subi v76 c1_i32_113
  let c512_i32_114 : BitVec 32 := 512#32
  let v364 : BitVec 32 := Scalar.muli v363 c512_i32_114
  let v365 : BitVec 32 := v364
  let v390 : Index := Scalar.indexCast v365
  ![0, 64, v390.toNat]
def k0_mult18 (i : grid0.Coords) : BitVec 32 :=
  let arg1 : BitVec 32 := BitVec.ofNat 32 (i 1).val
  let c128_i32 : BitVec 32 := 128#32
  let v0 : BitVec 32 := Scalar.muli arg1 c128_i32
  let c128_i32_16 : BitVec 32 := 128#32
  let v58 : BitVec 32 := Scalar.addi v0 c128_i32_16
  let c1_i32_17 : BitVec 32 := 1#32
  let v59 : BitVec 32 := Scalar.subi v58 c1_i32_17
  let c0_i32_18 : BitVec 32 := 0#32
  let v61 : BitVec 1 := Scalar.cmpi .sgt v59 c0_i32_18
  let v62 : BitVec 32 := Scalar.extui v61
  let c0_i32_19 : BitVec 32 := 0#32
  let v63 : BitVec 1 := Scalar.cmpi .slt v59 c0_i32_19
  let v64 : BitVec 32 := Scalar.extui v63
  let v65 : BitVec 32 := Scalar.subi v62 v64
  let c512_i32 : BitVec 32 := 512#32
  let c0_i32_20 : BitVec 32 := 0#32
  let v66 : BitVec 1 := Scalar.cmpi .sgt c512_i32 c0_i32_20
  let v67 : BitVec 32 := Scalar.extui v66
  let c0_i32_21 : BitVec 32 := 0#32
  let v68 : BitVec 1 := Scalar.cmpi .slt c512_i32 c0_i32_21
  let v69 : BitVec 32 := Scalar.extui v68
  let v70 : BitVec 32 := Scalar.subi v67 v69
  let v71 : BitVec 1 := Scalar.cmpi .ne v65 v70
  let v72 : BitVec 32 := Scalar.remsi v59 c512_i32
  let c0_i32_22 : BitVec 32 := 0#32
  let v73 : BitVec 1 := Scalar.cmpi .ne v72 c0_i32_22
  let v74 : BitVec 1 := Scalar.andi v71 v73
  let v60 : BitVec 32 := Scalar.divsi v59 c512_i32
  let c1_i32_23 : BitVec 32 := 1#32
  let v75 : BitVec 32 := Scalar.subi v60 c1_i32_23
  let v76 : BitVec 32 := Scalar.select v74 v75 v60
  let c512_i32_126 : BitVec 32 := 512#32
  let v400 : BitVec 32 := Scalar.muli v76 c512_i32_126
  v400
def k0_off17 (i : grid0.Coords) : Fin 3 → Nat :=
  let c0_133 : Index := 0#32
  let c0_134 : Index := 0#32
  let arg1 : BitVec 32 := BitVec.ofNat 32 (i 1).val
  let c128_i32 : BitVec 32 := 128#32
  let v0 : BitVec 32 := Scalar.muli arg1 c128_i32
  let c128_i32_16 : BitVec 32 := 128#32
  let v58 : BitVec 32 := Scalar.addi v0 c128_i32_16
  let c1_i32_17 : BitVec 32 := 1#32
  let v59 : BitVec 32 := Scalar.subi v58 c1_i32_17
  let c0_i32_18 : BitVec 32 := 0#32
  let v61 : BitVec 1 := Scalar.cmpi .sgt v59 c0_i32_18
  let v62 : BitVec 32 := Scalar.extui v61
  let c0_i32_19 : BitVec 32 := 0#32
  let v63 : BitVec 1 := Scalar.cmpi .slt v59 c0_i32_19
  let v64 : BitVec 32 := Scalar.extui v63
  let v65 : BitVec 32 := Scalar.subi v62 v64
  let c512_i32 : BitVec 32 := 512#32
  let c0_i32_20 : BitVec 32 := 0#32
  let v66 : BitVec 1 := Scalar.cmpi .sgt c512_i32 c0_i32_20
  let v67 : BitVec 32 := Scalar.extui v66
  let c0_i32_21 : BitVec 32 := 0#32
  let v68 : BitVec 1 := Scalar.cmpi .slt c512_i32 c0_i32_21
  let v69 : BitVec 32 := Scalar.extui v68
  let v70 : BitVec 32 := Scalar.subi v67 v69
  let v71 : BitVec 1 := Scalar.cmpi .ne v65 v70
  let v72 : BitVec 32 := Scalar.remsi v59 c512_i32
  let c0_i32_22 : BitVec 32 := 0#32
  let v73 : BitVec 1 := Scalar.cmpi .ne v72 c0_i32_22
  let v74 : BitVec 1 := Scalar.andi v71 v73
  let v60 : BitVec 32 := Scalar.divsi v59 c512_i32
  let c1_i32_23 : BitVec 32 := 1#32
  let v75 : BitVec 32 := Scalar.subi v60 c1_i32_23
  let v76 : BitVec 32 := Scalar.select v74 v75 v60
  let c512_i32_126 : BitVec 32 := 512#32
  let v400 : BitVec 32 := Scalar.muli v76 c512_i32_126
  let v401 : BitVec 32 := v400
  let v423 : Index := Scalar.indexCast v401
  ![0, 0, v423.toNat]
def k0_off18 (i : grid0.Coords) : Fin 3 → Nat :=
  let c0_136 : Index := 0#32
  let c64_137 : Index := 64#32
  let arg1 : BitVec 32 := BitVec.ofNat 32 (i 1).val
  let c128_i32 : BitVec 32 := 128#32
  let v0 : BitVec 32 := Scalar.muli arg1 c128_i32
  let c128_i32_16 : BitVec 32 := 128#32
  let v58 : BitVec 32 := Scalar.addi v0 c128_i32_16
  let c1_i32_17 : BitVec 32 := 1#32
  let v59 : BitVec 32 := Scalar.subi v58 c1_i32_17
  let c0_i32_18 : BitVec 32 := 0#32
  let v61 : BitVec 1 := Scalar.cmpi .sgt v59 c0_i32_18
  let v62 : BitVec 32 := Scalar.extui v61
  let c0_i32_19 : BitVec 32 := 0#32
  let v63 : BitVec 1 := Scalar.cmpi .slt v59 c0_i32_19
  let v64 : BitVec 32 := Scalar.extui v63
  let v65 : BitVec 32 := Scalar.subi v62 v64
  let c512_i32 : BitVec 32 := 512#32
  let c0_i32_20 : BitVec 32 := 0#32
  let v66 : BitVec 1 := Scalar.cmpi .sgt c512_i32 c0_i32_20
  let v67 : BitVec 32 := Scalar.extui v66
  let c0_i32_21 : BitVec 32 := 0#32
  let v68 : BitVec 1 := Scalar.cmpi .slt c512_i32 c0_i32_21
  let v69 : BitVec 32 := Scalar.extui v68
  let v70 : BitVec 32 := Scalar.subi v67 v69
  let v71 : BitVec 1 := Scalar.cmpi .ne v65 v70
  let v72 : BitVec 32 := Scalar.remsi v59 c512_i32
  let c0_i32_22 : BitVec 32 := 0#32
  let v73 : BitVec 1 := Scalar.cmpi .ne v72 c0_i32_22
  let v74 : BitVec 1 := Scalar.andi v71 v73
  let v60 : BitVec 32 := Scalar.divsi v59 c512_i32
  let c1_i32_23 : BitVec 32 := 1#32
  let v75 : BitVec 32 := Scalar.subi v60 c1_i32_23
  let v76 : BitVec 32 := Scalar.select v74 v75 v60
  let c512_i32_126 : BitVec 32 := 512#32
  let v400 : BitVec 32 := Scalar.muli v76 c512_i32_126
  let v401 : BitVec 32 := v400
  let v433 : Index := Scalar.indexCast v401
  ![0, 64, v433.toNat]
def k0_mult19 (i : grid0.Coords) : BitVec 32 :=
  let arg1 : BitVec 32 := BitVec.ofNat 32 (i 1).val
  let c128_i32 : BitVec 32 := 128#32
  let v0 : BitVec 32 := Scalar.muli arg1 c128_i32
  let c128_i32_16 : BitVec 32 := 128#32
  let v58 : BitVec 32 := Scalar.addi v0 c128_i32_16
  let c1_i32_17 : BitVec 32 := 1#32
  let v59 : BitVec 32 := Scalar.subi v58 c1_i32_17
  let c0_i32_18 : BitVec 32 := 0#32
  let v61 : BitVec 1 := Scalar.cmpi .sgt v59 c0_i32_18
  let v62 : BitVec 32 := Scalar.extui v61
  let c0_i32_19 : BitVec 32 := 0#32
  let v63 : BitVec 1 := Scalar.cmpi .slt v59 c0_i32_19
  let v64 : BitVec 32 := Scalar.extui v63
  let v65 : BitVec 32 := Scalar.subi v62 v64
  let c512_i32 : BitVec 32 := 512#32
  let c0_i32_20 : BitVec 32 := 0#32
  let v66 : BitVec 1 := Scalar.cmpi .sgt c512_i32 c0_i32_20
  let v67 : BitVec 32 := Scalar.extui v66
  let c0_i32_21 : BitVec 32 := 0#32
  let v68 : BitVec 1 := Scalar.cmpi .slt c512_i32 c0_i32_21
  let v69 : BitVec 32 := Scalar.extui v68
  let v70 : BitVec 32 := Scalar.subi v67 v69
  let v71 : BitVec 1 := Scalar.cmpi .ne v65 v70
  let v72 : BitVec 32 := Scalar.remsi v59 c512_i32
  let c0_i32_22 : BitVec 32 := 0#32
  let v73 : BitVec 1 := Scalar.cmpi .ne v72 c0_i32_22
  let v74 : BitVec 1 := Scalar.andi v71 v73
  let v60 : BitVec 32 := Scalar.divsi v59 c512_i32
  let c1_i32_23 : BitVec 32 := 1#32
  let v75 : BitVec 32 := Scalar.subi v60 c1_i32_23
  let v76 : BitVec 32 := Scalar.select v74 v75 v60
  let c512_i32_98 : BitVec 32 := 512#32
  let v337 : BitVec 32 := Scalar.muli v76 c512_i32_98
  v337
def k0_off19 (i : grid0.Coords) : Fin 3 → Nat :=
  let c0_105 : Index := 0#32
  let c0_106 : Index := 0#32
  let arg1 : BitVec 32 := BitVec.ofNat 32 (i 1).val
  let c128_i32 : BitVec 32 := 128#32
  let v0 : BitVec 32 := Scalar.muli arg1 c128_i32
  let c128_i32_16 : BitVec 32 := 128#32
  let v58 : BitVec 32 := Scalar.addi v0 c128_i32_16
  let c1_i32_17 : BitVec 32 := 1#32
  let v59 : BitVec 32 := Scalar.subi v58 c1_i32_17
  let c0_i32_18 : BitVec 32 := 0#32
  let v61 : BitVec 1 := Scalar.cmpi .sgt v59 c0_i32_18
  let v62 : BitVec 32 := Scalar.extui v61
  let c0_i32_19 : BitVec 32 := 0#32
  let v63 : BitVec 1 := Scalar.cmpi .slt v59 c0_i32_19
  let v64 : BitVec 32 := Scalar.extui v63
  let v65 : BitVec 32 := Scalar.subi v62 v64
  let c512_i32 : BitVec 32 := 512#32
  let c0_i32_20 : BitVec 32 := 0#32
  let v66 : BitVec 1 := Scalar.cmpi .sgt c512_i32 c0_i32_20
  let v67 : BitVec 32 := Scalar.extui v66
  let c0_i32_21 : BitVec 32 := 0#32
  let v68 : BitVec 1 := Scalar.cmpi .slt c512_i32 c0_i32_21
  let v69 : BitVec 32 := Scalar.extui v68
  let v70 : BitVec 32 := Scalar.subi v67 v69
  let v71 : BitVec 1 := Scalar.cmpi .ne v65 v70
  let v72 : BitVec 32 := Scalar.remsi v59 c512_i32
  let c0_i32_22 : BitVec 32 := 0#32
  let v73 : BitVec 1 := Scalar.cmpi .ne v72 c0_i32_22
  let v74 : BitVec 1 := Scalar.andi v71 v73
  let v60 : BitVec 32 := Scalar.divsi v59 c512_i32
  let c1_i32_23 : BitVec 32 := 1#32
  let v75 : BitVec 32 := Scalar.subi v60 c1_i32_23
  let v76 : BitVec 32 := Scalar.select v74 v75 v60
  let c512_i32_98 : BitVec 32 := 512#32
  let v337 : BitVec 32 := Scalar.muli v76 c512_i32_98
  let v338 : BitVec 32 := v337
  let v360 : Index := Scalar.indexCast v338
  ![0, 0, v360.toNat]
def k0_off20 (i : grid0.Coords) : Fin 3 → Nat :=
  let c0_108 : Index := 0#32
  let c64_109 : Index := 64#32
  let arg1 : BitVec 32 := BitVec.ofNat 32 (i 1).val
  let c128_i32 : BitVec 32 := 128#32
  let v0 : BitVec 32 := Scalar.muli arg1 c128_i32
  let c128_i32_16 : BitVec 32 := 128#32
  let v58 : BitVec 32 := Scalar.addi v0 c128_i32_16
  let c1_i32_17 : BitVec 32 := 1#32
  let v59 : BitVec 32 := Scalar.subi v58 c1_i32_17
  let c0_i32_18 : BitVec 32 := 0#32
  let v61 : BitVec 1 := Scalar.cmpi .sgt v59 c0_i32_18
  let v62 : BitVec 32 := Scalar.extui v61
  let c0_i32_19 : BitVec 32 := 0#32
  let v63 : BitVec 1 := Scalar.cmpi .slt v59 c0_i32_19
  let v64 : BitVec 32 := Scalar.extui v63
  let v65 : BitVec 32 := Scalar.subi v62 v64
  let c512_i32 : BitVec 32 := 512#32
  let c0_i32_20 : BitVec 32 := 0#32
  let v66 : BitVec 1 := Scalar.cmpi .sgt c512_i32 c0_i32_20
  let v67 : BitVec 32 := Scalar.extui v66
  let c0_i32_21 : BitVec 32 := 0#32
  let v68 : BitVec 1 := Scalar.cmpi .slt c512_i32 c0_i32_21
  let v69 : BitVec 32 := Scalar.extui v68
  let v70 : BitVec 32 := Scalar.subi v67 v69
  let v71 : BitVec 1 := Scalar.cmpi .ne v65 v70
  let v72 : BitVec 32 := Scalar.remsi v59 c512_i32
  let c0_i32_22 : BitVec 32 := 0#32
  let v73 : BitVec 1 := Scalar.cmpi .ne v72 c0_i32_22
  let v74 : BitVec 1 := Scalar.andi v71 v73
  let v60 : BitVec 32 := Scalar.divsi v59 c512_i32
  let c1_i32_23 : BitVec 32 := 1#32
  let v75 : BitVec 32 := Scalar.subi v60 c1_i32_23
  let v76 : BitVec 32 := Scalar.select v74 v75 v60
  let c512_i32_98 : BitVec 32 := 512#32
  let v337 : BitVec 32 := Scalar.muli v76 c512_i32_98
  let v338 : BitVec 32 := v337
  let v370 : Index := Scalar.indexCast v338
  ![0, 64, v370.toNat]
def k0_mult20 (i : grid0.Coords) : BitVec 32 :=
  let arg1 : BitVec 32 := BitVec.ofNat 32 (i 1).val
  let c128_i32 : BitVec 32 := 128#32
  let v0 : BitVec 32 := Scalar.muli arg1 c128_i32
  let c512_i32_58 : BitVec 32 := 512#32
  let v145 : BitVec 32 := Scalar.subi v0 c512_i32_58
  let c0_i32_59 : BitVec 32 := 0#32
  let v146 : BitVec 32 := Scalar.maxsi v145 c0_i32_59
  v146
def k0_off21 (i : grid0.Coords) : Fin 3 → Nat :=
  let c0_60 : Index := 0#32
  let arg1 : BitVec 32 := BitVec.ofNat 32 (i 1).val
  let c128_i32 : BitVec 32 := 128#32
  let v0 : BitVec 32 := Scalar.muli arg1 c128_i32
  let c512_i32_58 : BitVec 32 := 512#32
  let v145 : BitVec 32 := Scalar.subi v0 c512_i32_58
  let c0_i32_59 : BitVec 32 := 0#32
  let v146 : BitVec 32 := Scalar.maxsi v145 c0_i32_59
  let v147 : BitVec 32 := v146
  let v148 : Index := Scalar.indexCast v147
  let c0_61 : Index := 0#32
  ![0, v148.toNat, 0]
def k0_off22 (i : grid0.Coords) : Fin 3 → Nat :=
  let c0_67 : Index := 0#32
  let c0_68 : Index := 0#32
  let arg1 : BitVec 32 := BitVec.ofNat 32 (i 1).val
  let c128_i32 : BitVec 32 := 128#32
  let v0 : BitVec 32 := Scalar.muli arg1 c128_i32
  let c512_i32_58 : BitVec 32 := 512#32
  let v145 : BitVec 32 := Scalar.subi v0 c512_i32_58
  let c0_i32_59 : BitVec 32 := 0#32
  let v146 : BitVec 32 := Scalar.maxsi v145 c0_i32_59
  let v147 : BitVec 32 := v146
  let v168 : Index := Scalar.indexCast v147
  ![0, 0, v168.toNat]
def k0_off23 (i : grid0.Coords) : Fin 3 → Nat :=
  let c0_71 : Index := 0#32
  let c64 : Index := 64#32
  let arg1 : BitVec 32 := BitVec.ofNat 32 (i 1).val
  let c128_i32 : BitVec 32 := 128#32
  let v0 : BitVec 32 := Scalar.muli arg1 c128_i32
  let c512_i32_58 : BitVec 32 := 512#32
  let v145 : BitVec 32 := Scalar.subi v0 c512_i32_58
  let c0_i32_59 : BitVec 32 := 0#32
  let v146 : BitVec 32 := Scalar.maxsi v145 c0_i32_59
  let v147 : BitVec 32 := v146
  let v180 : Index := Scalar.indexCast v147
  ![0, 64, v180.toNat]
def cc0_transform_0 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let v1 : BitVec 32 := Scalar.addi v0 arg1
  let c0_i32 : BitVec 32 := 0#32
  let c0_i32_0 : BitVec 32 := 0#32
  ![c0_i32.toNat, v1.toNat]

def cc0_transform_1 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let v1 : BitVec 32 := Scalar.addi v0 arg1
  let c0_i32 : BitVec 32 := 0#32
  let c0_i32_0 : BitVec 32 := 0#32
  ![c0_i32.toNat, v1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let v1 : BitVec 32 := Scalar.addi v0 arg1
  let c0_i32 : BitVec 32 := 0#32
  let c0_i32_0 : BitVec 32 := 0#32
  ![c0_i32.toNat, v1.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S32x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x16384x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x128x16384 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x16384x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x128x16384 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== KernelIdeal.lean ====
variable {F : FTy → Type} [FloatOps F] [Named F]
def κ : String → Option EReal := fun
  | "half_mask" => some ⊥
  | "mask" => some ⊥
  | "q_scale" => some (((8 * (Real.log 2))⁻¹ : ℝ) : EReal)
  | _ => none
-- ==== ReferenceIdeal.lean ====
abbrev S2x16384x2x4x64 : Shape := ⟨5, ![2, 16384, 2, 4, 64]⟩
abbrev S2x16384x24 : Shape := ⟨3, ![2, 16384, 24]⟩
abbrev S2x256x2x64 : Shape := ⟨4, ![2, 256, 2, 64]⟩
abbrev S2x16384x2x2x64 : Shape := ⟨5, ![2, 16384, 2, 2, 64]⟩
abbrev S16384 : Shape := ⟨1, ![16384]⟩
abbrev S16384x1 : Shape := ⟨2, ![16384, 1]⟩
abbrev S1x16384 : Shape := ⟨2, ![1, 16384]⟩
abbrev S256 : Shape := ⟨1, ![256]⟩
abbrev S1x256 : Shape := ⟨2, ![1, 256]⟩
abbrev S_ : Shape := ⟨0, ![]⟩
abbrev S16384x256 : Shape := ⟨2, ![16384, 256]⟩
abbrev S2x2x256x16384x4 : Shape := ⟨5, ![2, 2, 256, 16384, 4]⟩
abbrev S2x2x4x16384x256 : Shape := ⟨5, ![2, 2, 4, 16384, 256]⟩
abbrev S2x2x4x16384 : Shape := ⟨4, ![2, 2, 4, 16384]⟩
abbrev S2x2x4x16384x1 : Shape := ⟨5, ![2, 2, 4, 16384, 1]⟩
abbrev S2x2x64x4x16384 : Shape := ⟨5, ![2, 2, 64, 4, 16384]⟩
abbrev S2x2x16384x256 : Shape := ⟨4, ![2, 2, 16384, 256]⟩
abbrev S2x2x16384x16 : Shape := ⟨4, ![2, 2, 16384, 16]⟩
abbrev S2x2x16384x16x1 : Shape := ⟨5, ![2, 2, 16384, 16, 1]⟩
abbrev S1x1x1x1x256 : Shape := ⟨5, ![1, 1, 1, 1, 256]⟩
abbrev S2x2x16384x16x256 : Shape := ⟨5, ![2, 2, 16384, 16, 256]⟩
abbrev S2x2x16384x256x1 : Shape := ⟨5, ![2, 2, 16384, 256, 1]⟩
abbrev S2x2x16384x256x64 : Shape := ⟨5, ![2, 2, 16384, 256, 64]⟩
abbrev S2x2x16384x16384 : Shape := ⟨4, ![2, 2, 16384, 16384]⟩
abbrev S2x16384x1x2x64 : Shape := ⟨5, ![2, 16384, 1, 2, 64]⟩
abbrev S2x16384x2x64 : Shape := ⟨4, ![2, 16384, 2, 64]⟩
abbrev S16384x16384 : Shape := ⟨2, ![16384, 16384]⟩
abbrev S1x1x16384x16384 : Shape := ⟨4, ![1, 1, 16384, 16384]⟩
abbrev S2x2x1x16384x16384 : Shape := ⟨5, ![2, 2, 1, 16384, 16384]⟩
abbrev S2x2x16384x16384x4 : Shape := ⟨5, ![2, 2, 16384, 16384, 4]⟩
abbrev S2x2x4x16384x16384 : Shape := ⟨5, ![2, 2, 4, 16384, 16384]⟩
abbrev S2x16384x3x2x4x1 : Shape := ⟨6, ![2, 16384, 3, 2, 4, 1]⟩
abbrev S2x16384x1x2x4x1 : Shape := ⟨6, ![2, 16384, 1, 2, 4, 1]⟩
abbrev S2x16384x2x4x1 : Shape := ⟨5, ![2, 16384, 2, 4, 1]⟩
abbrev S32768x512 : Shape := ⟨2, ![32768, 512]⟩
abbrev S512x32768 : Shape := ⟨2, ![512, 32768]⟩

abbrev nBuf : Space → Nat
  | .hbm => 256
  | .vmem => 0
  | .smem => 0
  | _ => 0

abbrev hbmTy0_0 (i : Nat) : BufTy := match i % 128 with
  | 0 => ⟨S2x16384x2x4x64, .f32⟩
  | 1 => ⟨S2x16384x24, .f32⟩
  | 2 => ⟨S2x256x2x64, .f32⟩
  | 3 => ⟨S2x256x2x64, .f32⟩
  | 4 => ⟨S2x16384x2x2x64, .f32⟩
  | 5 => ⟨S2x16384x2x2x64, .f32⟩
  | 6 => ⟨S16384, .i32⟩
  | 7 => ⟨S16384x1, .i32⟩
  | 8 => ⟨S16384, .i32⟩
  | 9 => ⟨S1x16384, .i32⟩
  | 10 => ⟨S256, .i32⟩
  | 11 => ⟨S1x256, .i32⟩
  | 12 => ⟨S_, .i32⟩
  | 13 => ⟨S1x256, .i32⟩
  | 14 => ⟨S1x256, .i32⟩
  | 15 => ⟨S_, .i32⟩
  | 16 => ⟨S1x256, .i32⟩
  | 17 => ⟨S1x256, .i32⟩
  | 18 => ⟨S_, .i32⟩
  | 19 => ⟨S1x256, .i32⟩
  | 20 => ⟨S1x256, .i32⟩
  | 21 => ⟨S16384x256, .i32⟩
  | 22 => ⟨S16384x256, .i32⟩
  | 23 => ⟨S16384x256, .i1⟩
  | 24 => ⟨S2x2x256x16384x4, .f32⟩
  | 25 => ⟨S2x2x4x16384x256, .f32⟩
  | 26 => ⟨S_, .f32⟩
  | 27 => ⟨S2x2x4x16384x256, .f32⟩
  | 28 => ⟨S2x2x4x16384x256, .f32⟩
  | 29 => ⟨S_, .f32⟩
  | 30 => ⟨S_, .f32⟩
  | 31 => ⟨S2x2x4x16384x256, .i1⟩
  | 32 => ⟨S2x2x4x16384x256, .f32⟩
  | 33 => ⟨S2x2x4x16384x256, .f32⟩
  | 34 => ⟨S_, .f32⟩
  | 35 => ⟨S2x2x4x16384, .f32⟩
  | 36 => ⟨S2x2x4x16384x1, .f32⟩
  | 37 => ⟨S2x2x4x16384x1, .f32⟩
  | 38 => ⟨S_, .f32⟩
  | 39 => ⟨S2x2x4x16384x1, .f32⟩
  | 40 => ⟨S2x2x4x16384x1, .i1⟩
  | 41 => ⟨S_, .f32⟩
  | 42 => ⟨S_, .f32⟩
  | 43 => ⟨S2x2x4x16384x1, .f32⟩
  | 44 => ⟨S2x2x4x16384x1, .f32⟩
  | 45 => ⟨S2x2x4x16384x256, .f32⟩
  | 46 => ⟨S2x2x4x16384x256, .f32⟩
  | 47 => ⟨S2x2x4x16384x256, .f32⟩
  | 48 => ⟨S_, .f32⟩
  | 49 => ⟨S_, .f32⟩
  | 50 => ⟨S2x2x4x16384x256, .i1⟩
  | 51 => ⟨S2x2x4x16384x256, .f32⟩
  | 52 => ⟨S2x2x4x16384x256, .f32⟩
  | 53 => ⟨S_, .f32⟩
  | 54 => ⟨S2x2x4x16384, .f32⟩
  | 55 => ⟨S2x2x4x16384x1, .f32⟩
  | 56 => ⟨S_, .f32⟩
  | 57 => ⟨S2x2x4x16384x1, .f32⟩
  | 58 => ⟨S2x2x4x16384x1, .i1⟩
  | 59 => ⟨S_, .f32⟩
  | 60 => ⟨S_, .f32⟩
  | 61 => ⟨S2x2x4x16384x1, .f32⟩
  | 62 => ⟨S2x2x4x16384x1, .f32⟩
  | 63 => ⟨S2x2x4x16384x256, .f32⟩
  | 64 => ⟨S2x2x4x16384x256, .f32⟩
  | 65 => ⟨S2x2x64x4x16384, .f32⟩
  | 66 => ⟨S2x16384x2x4x64, .f32⟩
  | 67 => ⟨S_, .f32⟩
  | 68 => ⟨S2x2x16384x256, .f32⟩
  | 69 => ⟨S_, .i32⟩
  | 70 => ⟨S16384x1, .i32⟩
  | 71 => ⟨S16384x1, .i32⟩
  | 72 => ⟨S_, .i32⟩
  | 73 => ⟨S1x256, .i32⟩
  | 74 => ⟨S1x256, .i1⟩
  | 75 => ⟨S16384x256, .i32⟩
  | 76 => ⟨S16384x256, .i32⟩
  | 77 => ⟨S16384x256, .i1⟩
  | 78 => ⟨S16384x256, .i1⟩
  | 79 => ⟨S16384x256, .i1⟩
  | 80 => ⟨S_, .i32⟩
  | 81 => ⟨S16384x1, .i32⟩
  | 82 => ⟨S16384x1, .i32⟩
  | 83 => ⟨S16384x256, .i32⟩
  | 84 => ⟨S16384x256, .i32⟩
  | 85 => ⟨S16384x256, .i1⟩
  | 86 => ⟨S16384x256, .i1⟩
  | 87 => ⟨S16384x256, .i32⟩
  | 88 => ⟨S16384x256, .i32⟩
  | 89 => ⟨S16384x256, .i1⟩
  | 90 => ⟨S16384x256, .i1⟩
  | 91 => ⟨S_, .f32⟩
  | 92 => ⟨S_, .f32⟩
  | 93 => ⟨S2x2x16384x256, .i1⟩
  | 94 => ⟨S2x2x16384x256, .f32⟩
  | 95 => ⟨S2x2x16384x256, .f32⟩
  | 96 => ⟨S_, .f32⟩
  | 97 => ⟨S_, .f32⟩
  | 98 => ⟨S2x2x16384x256, .i1⟩
  | 99 => ⟨S2x2x16384x256, .f32⟩
  | 100 => ⟨S2x2x16384x256, .f32⟩
  | 101 => ⟨S2x2x16384x16, .f32⟩
  | 102 => ⟨S2x2x16384x16, .i32⟩
  | 103 => ⟨S2x2x16384x16x1, .i32⟩
  | 104 => ⟨S256, .i32⟩
  | 105 => ⟨S1x1x1x1x256, .i32⟩
  | 106 => ⟨S2x2x16384x16x256, .i32⟩
  | 107 => ⟨S2x2x16384x16x256, .i32⟩
  | 108 => ⟨S2x2x16384x16x256, .i1⟩
  | 109 => ⟨S_, .f32⟩
  | 110 => ⟨S2x2x16384x16, .f32⟩
  | 111 => ⟨S2x2x16384x16, .i1⟩
  | 112 => ⟨S2x2x16384x16x1, .i1⟩
  | 113 => ⟨S2x2x16384x16x256, .i1⟩
  | 114 => ⟨S2x2x16384x16x256, .i1⟩
  | 115 => ⟨S_, .i1⟩
  | 116 => ⟨S2x2x16384x256, .i1⟩
  | 117 => ⟨S2x2x16384x256x1, .i1⟩
  | 118 => ⟨S2x2x16384x256x64, .i1⟩
  | 119 => ⟨S2x2x16384x16384, .i1⟩
  | 120 => ⟨S2x16384x1x2x64, .f32⟩
  | 121 => ⟨S2x16384x2x64, .f32⟩
  | 122 => ⟨S2x16384x1x2x64, .f32⟩
  | 123 => ⟨S2x16384x2x64, .f32⟩
  | 124 => ⟨S16384x16384, .i32⟩
  | 125 => ⟨S16384x16384, .i32⟩
  | 126 => ⟨S16384x16384, .i1⟩
  | 127 => ⟨S1x1x16384x16384, .i1⟩
  | _ => ⟨S2x16384x2x4x64, .f32⟩

abbrev hbmTy0_1 (i : Nat) : BufTy := match i % 128 with
  | 0 => ⟨S2x2x16384x16384, .i1⟩
  | 1 => ⟨S2x2x16384x16384, .i1⟩
  | 2 => ⟨S2x2x1x16384x16384, .i1⟩
  | 3 => ⟨S2x2x16384x16384x4, .f32⟩
  | 4 => ⟨S2x2x4x16384x16384, .f32⟩
  | 5 => ⟨S_, .f32⟩
  | 6 => ⟨S2x2x4x16384x16384, .f32⟩
  | 7 => ⟨S2x2x4x16384x16384, .f32⟩
  | 8 => ⟨S_, .f32⟩
  | 9 => ⟨S_, .f32⟩
  | 10 => ⟨S2x2x4x16384x16384, .i1⟩
  | 11 => ⟨S2x2x4x16384x16384, .f32⟩
  | 12 => ⟨S2x2x4x16384x16384, .f32⟩
  | 13 => ⟨S_, .f32⟩
  | 14 => ⟨S2x2x4x16384, .f32⟩
  | 15 => ⟨S2x2x4x16384x1, .f32⟩
  | 16 => ⟨S2x2x4x16384x1, .f32⟩
  | 17 => ⟨S_, .f32⟩
  | 18 => ⟨S2x2x4x16384x1, .f32⟩
  | 19 => ⟨S2x2x4x16384x1, .i1⟩
  | 20 => ⟨S_, .f32⟩
  | 21 => ⟨S_, .f32⟩
  | 22 => ⟨S2x2x4x16384x1, .f32⟩
  | 23 => ⟨S2x2x4x16384x1, .f32⟩
  | 24 => ⟨S2x2x4x16384x16384, .f32⟩
  | 25 => ⟨S2x2x4x16384x16384, .f32⟩
  | 26 => ⟨S2x2x4x16384x16384, .f32⟩
  | 27 => ⟨S_, .f32⟩
  | 28 => ⟨S_, .f32⟩
  | 29 => ⟨S2x2x4x16384x16384, .i1⟩
  | 30 => ⟨S2x2x4x16384x16384, .f32⟩
  | 31 => ⟨S2x2x4x16384x16384, .f32⟩
  | 32 => ⟨S_, .f32⟩
  | 33 => ⟨S2x2x4x16384, .f32⟩
  | 34 => ⟨S2x2x4x16384x1, .f32⟩
  | 35 => ⟨S_, .f32⟩
  | 36 => ⟨S2x2x4x16384x1, .f32⟩
  | 37 => ⟨S2x2x4x16384x1, .i1⟩
  | 38 => ⟨S_, .f32⟩
  | 39 => ⟨S_, .f32⟩
  | 40 => ⟨S2x2x4x16384x1, .f32⟩
  | 41 => ⟨S2x2x4x16384x1, .f32⟩
  | 42 => ⟨S2x2x4x16384x16384, .f32⟩
  | 43 => ⟨S2x2x4x16384x16384, .f32⟩
  | 44 => ⟨S2x2x64x4x16384, .f32⟩
  | 45 => ⟨S2x16384x2x4x64, .f32⟩
  | 46 => ⟨S16384x16384, .i32⟩
  | 47 => ⟨S16384x16384, .i32⟩
  | 48 => ⟨S16384x16384, .i32⟩
  | 49 => ⟨S2x16384x1x2x64, .f32⟩
  | 50 => ⟨S2x16384x2x64, .f32⟩
  | 51 => ⟨S2x16384x1x2x64, .f32⟩
  | 52 => ⟨S2x16384x2x64, .f32⟩
  | 53 => ⟨S_, .i32⟩
  | 54 => ⟨S16384x16384, .i32⟩
  | 55 => ⟨S16384x16384, .i1⟩
  | 56 => ⟨S_, .i32⟩
  | 57 => ⟨S16384x16384, .i32⟩
  | 58 => ⟨S16384x16384, .i1⟩
  | 59 => ⟨S16384x16384, .i1⟩
  | 60 => ⟨S2x2x16384x16384x4, .f32⟩
  | 61 => ⟨S2x2x4x16384x16384, .f32⟩
  | 62 => ⟨S_, .f32⟩
  | 63 => ⟨S2x2x4x16384x16384, .f32⟩
  | 64 => ⟨S2x2x4x16384x16384, .f32⟩
  | 65 => ⟨S_, .f32⟩
  | 66 => ⟨S_, .f32⟩
  | 67 => ⟨S2x2x4x16384x16384, .i1⟩
  | 68 => ⟨S2x2x4x16384x16384, .f32⟩
  | 69 => ⟨S2x2x4x16384x16384, .f32⟩
  | 70 => ⟨S_, .f32⟩
  | 71 => ⟨S2x2x4x16384, .f32⟩
  | 72 => ⟨S2x2x4x16384x1, .f32⟩
  | 73 => ⟨S2x2x4x16384x1, .f32⟩
  | 74 => ⟨S_, .f32⟩
  | 75 => ⟨S2x2x4x16384x1, .f32⟩
  | 76 => ⟨S2x2x4x16384x1, .i1⟩
  | 77 => ⟨S_, .f32⟩
  | 78 => ⟨S_, .f32⟩
  | 79 => ⟨S2x2x4x16384x1, .f32⟩
  | 80 => ⟨S2x2x4x16384x1, .f32⟩
  | 81 => ⟨S2x2x4x16384x16384, .f32⟩
  | 82 => ⟨S2x2x4x16384x16384, .f32⟩
  | 83 => ⟨S2x2x4x16384x16384, .f32⟩
  | 84 => ⟨S_, .f32⟩
  | 85 => ⟨S_, .f32⟩
  | 86 => ⟨S2x2x4x16384x16384, .i1⟩
  | 87 => ⟨S2x2x4x16384x16384, .f32⟩
  | 88 => ⟨S2x2x4x16384x16384, .f32⟩
  | 89 => ⟨S_, .f32⟩
  | 90 => ⟨S2x2x4x16384, .f32⟩
  | 91 => ⟨S2x2x4x16384x1, .f32⟩
  | 92 => ⟨S_, .f32⟩
  | 93 => ⟨S2x2x4x16384x1, .f32⟩
  | 94 => ⟨S2x2x4x16384x1, .i1⟩
  | 95 => ⟨S_, .f32⟩
  | 96 => ⟨S_, .f32⟩
  | 97 => ⟨S2x2x4x16384x1, .f32⟩
  | 98 => ⟨S2x2x4x16384x1, .f32⟩
  | 99 => ⟨S2x2x4x16384x16384, .f32⟩
  | 100 => ⟨S2x2x4x16384x16384, .f32⟩
  | 101 => ⟨S2x2x64x4x16384, .f32⟩
  | 102 => ⟨S2x16384x2x4x64, .f32⟩
  | 103 => ⟨S2x16384x24, .f32⟩
  | 104 => ⟨S2x16384x24, .f32⟩
  | 105 => ⟨S_, .f32⟩
  | 106 => ⟨S2x16384x24, .f32⟩
  | 107 => ⟨S2x16384x24, .f32⟩
  | 108 => ⟨S_, .f32⟩
  | 109 => ⟨S2x16384x24, .f32⟩
  | 110 => ⟨S2x16384x24, .f32⟩
  | 111 => ⟨S2x16384x3x2x4x1, .f32⟩
  | 112 => ⟨S2x16384x1x2x4x1, .f32⟩
  | 113 => ⟨S2x16384x2x4x1, .f32⟩
  | 114 => ⟨S2x16384x2x4x64, .f32⟩
  | 115 => ⟨S2x16384x2x4x64, .f32⟩
  | 116 => ⟨S2x16384x1x2x4x1, .f32⟩
  | 117 => ⟨S2x16384x2x4x1, .f32⟩
  | 118 => ⟨S2x16384x2x4x64, .f32⟩
  | 119 => ⟨S2x16384x2x4x64, .f32⟩
  | 120 => ⟨S2x16384x2x4x64, .f32⟩
  | 121 => ⟨S2x16384x1x2x4x1, .f32⟩
  | 122 => ⟨S2x16384x2x4x1, .f32⟩
  | 123 => ⟨S2x16384x2x4x64, .f32⟩
  | 124 => ⟨S2x16384x2x4x64, .f32⟩
  | 125 => ⟨S2x16384x2x4x64, .f32⟩
  | 126 => ⟨S32768x512, .f32⟩
  | 127 => ⟨S512x32768, .f32⟩
  | _ => ⟨S2x16384x2x4x64, .f32⟩

abbrev hbmTy (i : Nat) : BufTy := match i / 128 with
  | 0 => hbmTy0_0 i
  | 1 => hbmTy0_1 i
  | _ => ⟨S2x16384x2x4x64, .f32⟩

abbrev bufTy : (tb : Table) → Fin (tcTables nBuf tb) → BufTy
  | .hbm, ⟨i, _⟩ => hbmTy i
  | _, _ => ⟨S2x16384x2x4x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c : Ref sig .tc := ⟨.hbm, 12, rfl⟩
abbrev main_v6 : Ref sig .tc := ⟨.hbm, 13, rfl⟩
abbrev main_v7 : Ref sig .tc := ⟨.hbm, 14, rfl⟩
abbrev main_c_0 : Ref sig .tc := ⟨.hbm, 15, rfl⟩
abbrev main_v8 : Ref sig .tc := ⟨.hbm, 16, rfl⟩
abbrev main_v9 : Ref sig .tc := ⟨.hbm, 17, rfl⟩
abbrev main_c_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_v19 : Ref sig .tc := ⟨.hbm, 33, rfl⟩
abbrev main_cst_3 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_4 : Ref sig .tc := ⟨.hbm, 38, rfl⟩
abbrev main_v23 : Ref sig .tc := ⟨.hbm, 39, rfl⟩
abbrev main_v24 : Ref sig .tc := ⟨.hbm, 40, rfl⟩
abbrev main_cst_5 : Ref sig .tc := ⟨.hbm, 41, rfl⟩
abbrev main_call1_v0 : Ref sig .tc := ⟨.hbm, 42, rfl⟩
abbrev main_call1_v1 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_6 : Ref sig .tc := ⟨.hbm, 48, rfl⟩
abbrev main_call2_v0 : Ref sig .tc := ⟨.hbm, 49, rfl⟩
abbrev main_call2_v1 : Ref sig .tc := ⟨.hbm, 50, rfl⟩
abbrev main_call2_v2 : Ref sig .tc := ⟨.hbm, 51, rfl⟩
abbrev main_v29 : Ref sig .tc := ⟨.hbm, 52, rfl⟩
abbrev main_cst_7 : Ref sig .tc := ⟨.hbm, 53, rfl⟩
abbrev main_v30 : Ref sig .tc := ⟨.hbm, 54, rfl⟩
abbrev main_v31 : Ref sig .tc := ⟨.hbm, 55, rfl⟩
abbrev main_cst_8 : Ref sig .tc := ⟨.hbm, 56, rfl⟩
abbrev main_v32 : Ref sig .tc := ⟨.hbm, 57, rfl⟩
abbrev main_v33 : Ref sig .tc := ⟨.hbm, 58, rfl⟩
abbrev main_cst_9 : Ref sig .tc := ⟨.hbm, 59, rfl⟩
abbrev main_call3_v0 : Ref sig .tc := ⟨.hbm, 60, rfl⟩
abbrev main_call3_v1 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_cst_10 : Ref sig .tc := ⟨.hbm, 67, rfl⟩
abbrev main_v39 : Ref sig .tc := ⟨.hbm, 68, rfl⟩
abbrev main_c_11 : Ref sig .tc := ⟨.hbm, 69, rfl⟩
abbrev main_v40 : Ref sig .tc := ⟨.hbm, 70, rfl⟩
abbrev main_v41 : Ref sig .tc := ⟨.hbm, 71, rfl⟩
abbrev main_c_12 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_c_13 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_cst_14 : Ref sig .tc := ⟨.hbm, 91, rfl⟩
abbrev main_call4_v0 : Ref sig .tc := ⟨.hbm, 92, rfl⟩
abbrev main_call4_v1 : Ref sig .tc := ⟨.hbm, 93, rfl⟩
abbrev main_call4_v2 : Ref sig .tc := ⟨.hbm, 94, rfl⟩
abbrev main_v59 : Ref sig .tc := ⟨.hbm, 95, rfl⟩
abbrev main_cst_15 : Ref sig .tc := ⟨.hbm, 96, rfl⟩
abbrev main_call5_v0 : Ref sig .tc := ⟨.hbm, 97, rfl⟩
abbrev main_call5_v1 : Ref sig .tc := ⟨.hbm, 98, rfl⟩
abbrev main_call5_v2 : Ref sig .tc := ⟨.hbm, 99, rfl⟩
abbrev main_v60 : Ref sig .tc := ⟨.hbm, 100, rfl⟩
abbrev main_values : Ref sig .tc := ⟨.hbm, 101, rfl⟩
abbrev main_indices : Ref sig .tc := ⟨.hbm, 102, rfl⟩
abbrev main_v61 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_cst_16 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_c_17 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev main_v75 : Ref sig .tc := ⟨.hbm, 119, rfl⟩
abbrev main_v76 : Ref sig .tc := ⟨.hbm, 120, rfl⟩
abbrev main_v77 : Ref sig .tc := ⟨.hbm, 121, rfl⟩
abbrev main_v78 : Ref sig .tc := ⟨.hbm, 122, rfl⟩
abbrev main_v79 : Ref sig .tc := ⟨.hbm, 123, rfl⟩
abbrev main_v80 : Ref sig .tc := ⟨.hbm, 124, rfl⟩
abbrev main_v81 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_cst_18 : Ref sig .tc := ⟨.hbm, 133, rfl⟩
abbrev main_v89 : Ref sig .tc := ⟨.hbm, 134, rfl⟩
abbrev main_v90 : Ref sig .tc := ⟨.hbm, 135, rfl⟩
abbrev main_cst_19 : Ref sig .tc := ⟨.hbm, 136, rfl⟩
abbrev main_call6_v0 : Ref sig .tc := ⟨.hbm, 137, rfl⟩
abbrev main_call6_v1 : Ref sig .tc := ⟨.hbm, 138, rfl⟩
abbrev main_call6_v2 : Ref sig .tc := ⟨.hbm, 139, rfl⟩
abbrev main_v91 : Ref sig .tc := ⟨.hbm, 140, rfl⟩
abbrev main_cst_20 : Ref sig .tc := ⟨.hbm, 141, rfl⟩
abbrev main_v92 : Ref sig .tc := ⟨.hbm, 142, rfl⟩
abbrev main_v93 : Ref sig .tc := ⟨.hbm, 143, rfl⟩
abbrev main_v94 : Ref sig .tc := ⟨.hbm, 144, rfl⟩
abbrev main_cst_21 : Ref sig .tc := ⟨.hbm, 145, rfl⟩
abbrev main_v95 : Ref sig .tc := ⟨.hbm, 146, rfl⟩
abbrev main_v96 : Ref sig .tc := ⟨.hbm, 147, rfl⟩
abbrev main_cst_22 : Ref sig .tc := ⟨.hbm, 148, rfl⟩
abbrev main_call7_v0 : Ref sig .tc := ⟨.hbm, 149, rfl⟩
abbrev main_call7_v1 : Ref sig .tc := ⟨.hbm, 150, rfl⟩
abbrev main_v97 : Ref sig .tc := ⟨.hbm, 151, rfl⟩
abbrev main_v98 : Ref sig .tc := ⟨.hbm, 152, rfl⟩
abbrev main_v99 : Ref sig .tc := ⟨.hbm, 153, rfl⟩
abbrev main_v100 : Ref sig .tc := ⟨.hbm, 154, rfl⟩
abbrev main_cst_23 : Ref sig .tc := ⟨.hbm, 155, rfl⟩
abbrev main_call8_v0 : Ref sig .tc := ⟨.hbm, 156, rfl⟩
abbrev main_call8_v1 : Ref sig .tc := ⟨.hbm, 157, rfl⟩
abbrev main_call8_v2 : Ref sig .tc := ⟨.hbm, 158, rfl⟩
abbrev main_v101 : Ref sig .tc := ⟨.hbm, 159, rfl⟩
abbrev main_cst_24 : Ref sig .tc := ⟨.hbm, 160, rfl⟩
abbrev main_v102 : Ref sig .tc := ⟨.hbm, 161, rfl⟩
abbrev main_v103 : Ref sig .tc := ⟨.hbm, 162, rfl⟩
abbrev main_cst_25 : Ref sig .tc := ⟨.hbm, 163, rfl⟩
abbrev main_v104 : Ref sig .tc := ⟨.hbm, 164, rfl⟩
abbrev main_v105 : Ref sig .tc := ⟨.hbm, 165, rfl⟩
abbrev main_cst_26 : Ref sig .tc := ⟨.hbm, 166, rfl⟩
abbrev main_call9_v0 : Ref sig .tc := ⟨.hbm, 167, rfl⟩
abbrev main_call9_v1 : Ref sig .tc := ⟨.hbm, 168, rfl⟩
abbrev main_v106 : Ref sig .tc := ⟨.hbm, 169, rfl⟩
abbrev main_v107 : Ref sig .tc := ⟨.hbm, 170, rfl⟩
abbrev main_v108 : Ref sig .tc := ⟨.hbm, 171, rfl⟩
abbrev main_v109 : Ref sig .tc := ⟨.hbm, 172, rfl⟩
abbrev main_v110 : Ref sig .tc := ⟨.hbm, 173, rfl⟩
abbrev main_v111 : Ref sig .tc := ⟨.hbm, 174, rfl⟩
abbrev main_v112 : Ref sig .tc := ⟨.hbm, 175, rfl⟩
abbrev main_v113 : Ref sig .tc := ⟨.hbm, 176, rfl⟩
abbrev main_v114 : Ref sig .tc := ⟨.hbm, 177, rfl⟩
abbrev main_v115 : Ref sig .tc := ⟨.hbm, 178, rfl⟩
abbrev main_v116 : Ref sig .tc := ⟨.hbm, 179, rfl⟩
abbrev main_v117 : Ref sig .tc := ⟨.hbm, 180, rfl⟩
abbrev main_c_27 : Ref sig .tc := ⟨.hbm, 181, rfl⟩
abbrev main_v118 : Ref sig .tc := ⟨.hbm, 182, rfl⟩
abbrev main_v119 : Ref sig .tc := ⟨.hbm, 183, rfl⟩
abbrev main_c_28 : Ref sig .tc := ⟨.hbm, 184, rfl⟩
abbrev main_v120 : Ref sig .tc := ⟨.hbm, 185, rfl⟩
abbrev main_v121 : Ref sig .tc := ⟨.hbm, 186, rfl⟩
abbrev main_v122 : Ref sig .tc := ⟨.hbm, 187, rfl⟩
abbrev main_v123 : Ref sig .tc := ⟨.hbm, 188, rfl⟩
abbrev main_v124 : Ref sig .tc := ⟨.hbm, 189, rfl⟩
abbrev main_cst_29 : Ref sig .tc := ⟨.hbm, 190, rfl⟩
abbrev main_v125 : Ref sig .tc := ⟨.hbm, 191, rfl⟩
abbrev main_v126 : Ref sig .tc := ⟨.hbm, 192, rfl⟩
abbrev main_cst_30 : Ref sig .tc := ⟨.hbm, 193, rfl⟩
abbrev main_call10_v0 : Ref sig .tc := ⟨.hbm, 194, rfl⟩
abbrev main_call10_v1 : Ref sig .tc := ⟨.hbm, 195, rfl⟩
abbrev main_call10_v2 : Ref sig .tc := ⟨.hbm, 196, rfl⟩
abbrev main_v127 : Ref sig .tc := ⟨.hbm, 197, rfl⟩
abbrev main_cst_31 : Ref sig .tc := ⟨.hbm, 198, rfl⟩
abbrev main_v128 : Ref sig .tc := ⟨.hbm, 199, rfl⟩
abbrev main_v129 : Ref sig .tc := ⟨.hbm, 200, rfl⟩
abbrev main_v130 : Ref sig .tc := ⟨.hbm, 201, rfl⟩
abbrev main_cst_32 : Ref sig .tc := ⟨.hbm, 202, rfl⟩
abbrev main_v131 : Ref sig .tc := ⟨.hbm, 203, rfl⟩
abbrev main_v132 : Ref sig .tc := ⟨.hbm, 204, rfl⟩
abbrev main_cst_33 : Ref sig .tc := ⟨.hbm, 205, rfl⟩
abbrev main_call11_v0 : Ref sig .tc := ⟨.hbm, 206, rfl⟩
abbrev main_call11_v1 : Ref sig .tc := ⟨.hbm, 207, rfl⟩
abbrev main_v133 : Ref sig .tc := ⟨.hbm, 208, rfl⟩
abbrev main_v134 : Ref sig .tc := ⟨.hbm, 209, rfl⟩
abbrev main_v135 : Ref sig .tc := ⟨.hbm, 210, rfl⟩
abbrev main_v136 : Ref sig .tc := ⟨.hbm, 211, rfl⟩
abbrev main_cst_34 : Ref sig .tc := ⟨.hbm, 212, rfl⟩
abbrev main_call12_v0 : Ref sig .tc := ⟨.hbm, 213, rfl⟩
abbrev main_call12_v1 : Ref sig .tc := ⟨.hbm, 214, rfl⟩
abbrev main_call12_v2 : Ref sig .tc := ⟨.hbm, 215, rfl⟩
abbrev main_v137 : Ref sig .tc := ⟨.hbm, 216, rfl⟩
abbrev main_cst_35 : Ref sig .tc := ⟨.hbm, 217, rfl⟩
abbrev main_v138 : Ref sig .tc := ⟨.hbm, 218, rfl⟩
abbrev main_v139 : Ref sig .tc := ⟨.hbm, 219, rfl⟩
abbrev main_cst_36 : Ref sig .tc := ⟨.hbm, 220, rfl⟩
abbrev main_v140 : Ref sig .tc := ⟨.hbm, 221, rfl⟩
abbrev main_v141 : Ref sig .tc := ⟨.hbm, 222, rfl⟩
abbrev main_cst_37 : Ref sig .tc := ⟨.hbm, 223, rfl⟩
abbrev main_call13_v0 : Ref sig .tc := ⟨.hbm, 224, rfl⟩
abbrev main_call13_v1 : Ref sig .tc := ⟨.hbm, 225, rfl⟩
abbrev main_v142 : Ref sig .tc := ⟨.hbm, 226, rfl⟩
abbrev main_v143 : Ref sig .tc := ⟨.hbm, 227, rfl⟩
abbrev main_v144 : Ref sig .tc := ⟨.hbm, 228, rfl⟩
abbrev main_v145 : Ref sig .tc := ⟨.hbm, 229, rfl⟩
abbrev main_v146 : Ref sig .tc := ⟨.hbm, 230, rfl⟩
abbrev main_v147 : Ref sig .tc := ⟨.hbm, 231, rfl⟩
abbrev main_v148 : Ref sig .tc := ⟨.hbm, 232, rfl⟩
abbrev main_cst_38 : Ref sig .tc := ⟨.hbm, 233, rfl⟩
abbrev main_v149 : Ref sig .tc := ⟨.hbm, 234, rfl⟩
abbrev main_v150 : Ref sig .tc := ⟨.hbm, 235, rfl⟩
abbrev main_cst_39 : Ref sig .tc := ⟨.hbm, 236, rfl⟩
abbrev main_v151 : Ref sig .tc := ⟨.hbm, 237, rfl⟩
abbrev main_v152 : Ref sig .tc := ⟨.hbm, 238, rfl⟩
abbrev main_v153 : Ref sig .tc := ⟨.hbm, 239, rfl⟩
abbrev main_v154 : Ref sig .tc := ⟨.hbm, 240, rfl⟩
abbrev main_v155 : Ref sig .tc := ⟨.hbm, 241, rfl⟩
abbrev main_v156 : Ref sig .tc := ⟨.hbm, 242, rfl⟩
abbrev main_v157 : Ref sig .tc := ⟨.hbm, 243, rfl⟩
abbrev main_v158 : Ref sig .tc := ⟨.hbm, 244, rfl⟩
abbrev main_v159 : Ref sig .tc := ⟨.hbm, 245, rfl⟩
abbrev main_v160 : Ref sig .tc := ⟨.hbm, 246, rfl⟩
abbrev main_v161 : Ref sig .tc := ⟨.hbm, 247, rfl⟩
abbrev main_v162 : Ref sig .tc := ⟨.hbm, 248, rfl⟩
abbrev main_v163 : Ref sig .tc := ⟨.hbm, 249, rfl⟩
abbrev main_v164 : Ref sig .tc := ⟨.hbm, 250, rfl⟩
abbrev main_v165 : Ref sig .tc := ⟨.hbm, 251, rfl⟩
abbrev main_v166 : Ref sig .tc := ⟨.hbm, 252, rfl⟩
abbrev main_v167 : Ref sig .tc := ⟨.hbm, 253, rfl⟩
abbrev main_v168 : Ref sig .tc := ⟨.hbm, 254, rfl⟩
abbrev main_v169 : Ref sig .tc := ⟨.hbm, 255, rfl⟩

abbrev nD : Nat := 1
abbrev τ : Topo := Topo.v7x

variable {F : FTy → Type} [FloatOps F]
-- ==== Kernel2.lean ====
abbrev S2x16384x1024 : Shape := ⟨3, ![2, 16384, 1024]⟩
abbrev S1024 : Shape := ⟨1, ![1024]⟩
abbrev S1024x4384 : Shape := ⟨2, ![1024, 4384]⟩
abbrev S4 : Shape := ⟨1, ![4]⟩
abbrev S1024x1536 : Shape := ⟨2, ![1024, 1536]⟩
abbrev S1024x1024 : Shape := ⟨2, ![1024, 1024]⟩
abbrev S1024x4 : Shape := ⟨2, ![1024, 4]⟩
abbrev S1024x512 : Shape := ⟨2, ![1024, 512]⟩
abbrev S1024x256 : Shape := ⟨2, ![1024, 256]⟩
abbrev S1024x24 : Shape := ⟨2, ![1024, 24]⟩
abbrev S_ : Shape := ⟨0, ![]⟩
abbrev S1024x96 : Shape := ⟨2, ![1024, 96]⟩
abbrev S1024x128 : Shape := ⟨2, ![1024, 128]⟩
abbrev S1024x3456 : Shape := ⟨2, ![1024, 3456]⟩
abbrev S1024x32 : Shape := ⟨2, ![1024, 32]⟩
abbrev S1024x1312 : Shape := ⟨2, ![1024, 1312]⟩
abbrev S1312x1024 : Shape := ⟨2, ![1312, 1024]⟩
abbrev S120 : Shape := ⟨1, ![120]⟩
abbrev S128 : Shape := ⟨1, ![128]⟩
abbrev S1x128 : Shape := ⟨2, ![1, 128]⟩
abbrev S32 : Shape := ⟨1, ![32]⟩
abbrev S32x1 : Shape := ⟨2, ![32, 1]⟩
abbrev S32768x1024 : Shape := ⟨2, ![32768, 1024]⟩
abbrev S1x1024 : Shape := ⟨2, ![1, 1024]⟩
abbrev S32768x1536 : Shape := ⟨2, ![32768, 1536]⟩
abbrev S32768x512 : Shape := ⟨2, ![32768, 512]⟩
abbrev S32768x128 : Shape := ⟨2, ![32768, 128]⟩
abbrev S512x32768 : Shape := ⟨2, ![512, 32768]⟩
abbrev S2x256x16384 : Shape := ⟨3, ![2, 256, 16384]⟩
abbrev S2x128x16384 : Shape := ⟨3, ![2, 128, 16384]⟩
abbrev S32x32768 : Shape := ⟨2, ![32, 32768]⟩
abbrev S256x1024 : Shape := ⟨2, ![256, 1024]⟩
abbrev S256x1536 : Shape := ⟨2, ![256, 1536]⟩
abbrev S256x512 : Shape := ⟨2, ![256, 512]⟩
abbrev S256x128 : Shape := ⟨2, ![256, 128]⟩
abbrev S512x256 : Shape := ⟨2, ![512, 256]⟩
abbrev S1x256x256 : Shape := ⟨3, ![1, 256, 256]⟩
abbrev S1x128x256 : Shape := ⟨3, ![1, 128, 256]⟩
abbrev S32x256 : Shape := ⟨2, ![32, 256]⟩
abbrev S256 : Shape := ⟨1, ![256]⟩
abbrev S256x1 : Shape := ⟨2, ![256, 1]⟩
abbrev S512x1024 : Shape := ⟨2, ![512, 1024]⟩
abbrev S256x256 : Shape := ⟨2, ![256, 256]⟩
abbrev S128x256 : Shape := ⟨2, ![128, 256]⟩
abbrev S32x1024 : Shape := ⟨2, ![32, 1024]⟩

abbrev nBuf : Space → Nat
  | .hbm => 47
  | .vmem => 33
  | .smem => 0
  | _ => 0

abbrev bufTy : (tb : Table) → Fin (tcTables nBuf tb) → BufTy
  | .hbm, ⟨0, _⟩ => ⟨S2x16384x1024, .f32⟩
  | .hbm, ⟨1, _⟩ => ⟨S1024, .f32⟩
  | .hbm, ⟨2, _⟩ => ⟨S1024x4384, .f32⟩
  | .hbm, ⟨3, _⟩ => ⟨S4, .f32⟩
  | .hbm, ⟨4, _⟩ => ⟨S4, .f32⟩
  | .hbm, ⟨5, _⟩ => ⟨S1024x1536, .f32⟩
  | .hbm, ⟨6, _⟩ => ⟨S1024x1024, .f32⟩
  | .hbm, ⟨7, _⟩ => ⟨S1024x4, .f32⟩
  | .hbm, ⟨8, _⟩ => ⟨S1024x4, .f32⟩
  | .hbm, ⟨9, _⟩ => ⟨S1024x512, .f32⟩
  | .hbm, ⟨10, _⟩ => ⟨S1024x256, .f32⟩
  | .hbm, ⟨11, _⟩ => ⟨S1024x256, .f32⟩
  | .hbm, ⟨12, _⟩ => ⟨S1024x256, .f32⟩
  | .hbm, ⟨13, _⟩ => ⟨S1024x24, .f32⟩
  | .hbm, ⟨14, _⟩ => ⟨S1024x512, .f32⟩
  | .hbm, ⟨15, _⟩ => ⟨S_, .f32⟩
  | .hbm, ⟨16, _⟩ => ⟨S1024x96, .f32⟩
  | .hbm, ⟨17, _⟩ => ⟨S1024x128, .f32⟩
  | .hbm, ⟨18, _⟩ => ⟨S1024x128, .f32⟩
  | .hbm, ⟨19, _⟩ => ⟨S1024x128, .f32⟩
  | .hbm, ⟨20, _⟩ => ⟨S1024x3456, .f32⟩
  | .hbm, ⟨21, _⟩ => ⟨S1024x3456, .bf16⟩
  | .hbm, ⟨22, _⟩ => ⟨S1024x32, .f32⟩
  | .hbm, ⟨23, _⟩ => ⟨S1024x1312, .f32⟩
  | .hbm, ⟨24, _⟩ => ⟨S1312x1024, .f32⟩
  | .hbm, ⟨25, _⟩ => ⟨S1312x1024, .bf16⟩
  | .hbm, ⟨26, _⟩ => ⟨S_, .f32⟩
  | .hbm, ⟨27, _⟩ => ⟨S120, .f32⟩
  | .hbm, ⟨28, _⟩ => ⟨S128, .f32⟩
  | .hbm, ⟨29, _⟩ => ⟨S1x128, .f32⟩
  | .hbm, ⟨30, _⟩ => ⟨S32, .f32⟩
  | .hbm, ⟨31, _⟩ => ⟨S32x1, .f32⟩
  | .hbm, ⟨32, _⟩ => ⟨S32768x1024, .f32⟩
  | .hbm, ⟨33, _⟩ => ⟨S1x1024, .f32⟩
  | .hbm, ⟨34, _⟩ => ⟨S32768x1536, .f32⟩
  | .hbm, ⟨35, _⟩ => ⟨S32768x1024, .f32⟩
  | .hbm, ⟨36, _⟩ => ⟨S32768x512, .f32⟩
  | .hbm, ⟨37, _⟩ => ⟨S32768x128, .f32⟩
  | .hbm, ⟨38, _⟩ => ⟨S32768x128, .bf16⟩
  | .hbm, ⟨39, _⟩ => ⟨S32768x128, .bf16⟩
  | .hbm, ⟨40, _⟩ => ⟨S512x32768, .bf16⟩
  | .hbm, ⟨41, _⟩ => ⟨S2x256x16384, .f32⟩
  | .hbm, ⟨42, _⟩ => ⟨S2x256x16384, .f32⟩
  | .hbm, ⟨43, _⟩ => ⟨S2x256x16384, .f32⟩
  | .hbm, ⟨44, _⟩ => ⟨S2x128x16384, .bf16⟩
  | .hbm, ⟨45, _⟩ => ⟨S2x128x16384, .bf16⟩
  | .hbm, ⟨46, _⟩ => ⟨S32x32768, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x3456, .bf16⟩
  | .local _ .vmem, ⟨4, _⟩ => ⟨S1312x1024, .bf16⟩
  | .local _ .vmem, ⟨5, _⟩ => ⟨S1x128, .f32⟩
  | .local _ .vmem, ⟨6, _⟩ => ⟨S32x1, .f32⟩
  | .local _ .vmem, ⟨7, _⟩ => ⟨S256x1536, .f32⟩
  | .local _ .vmem, ⟨8, _⟩ => ⟨S256x1536, .f32⟩
  | .local _ .vmem, ⟨9, _⟩ => ⟨S256x1024, .f32⟩
  | .local _ .vmem, ⟨10, _⟩ => ⟨S256x1024, .f32⟩
  | .local _ .vmem, ⟨11, _⟩ => ⟨S256x512, .f32⟩
  | .local _ .vmem, ⟨12, _⟩ => ⟨S256x512, .f32⟩
  | .local _ .vmem, ⟨13, _⟩ => ⟨S256x128, .f32⟩
  | .local _ .vmem, ⟨14, _⟩ => ⟨S256x128, .f32⟩
  | .local _ .vmem, ⟨15, _⟩ => ⟨S256x128, .bf16⟩
  | .local _ .vmem, ⟨16, _⟩ => ⟨S256x128, .bf16⟩
  | .local _ .vmem, ⟨17, _⟩ => ⟨S256x128, .bf16⟩
  | .local _ .vmem, ⟨18, _⟩ => ⟨S256x128, .bf16⟩
  | .local _ .vmem, ⟨19, _⟩ => ⟨S512x256, .bf16⟩
  | .local _ .vmem, ⟨20, _⟩ => ⟨S512x256, .bf16⟩
  | .local _ .vmem, ⟨21, _⟩ => ⟨S1x256x256, .f32⟩
  | .local _ .vmem, ⟨22, _⟩ => ⟨S1x256x256, .f32⟩
  | .local _ .vmem, ⟨23, _⟩ => ⟨S1x256x256, .f32⟩
  | .local _ .vmem, ⟨24, _⟩ => ⟨S1x256x256, .f32⟩
  | .local _ .vmem, ⟨25, _⟩ => ⟨S1x256x256, .f32⟩
  | .local _ .vmem, ⟨26, _⟩ => ⟨S1x256x256, .f32⟩
  | .local _ .vmem, ⟨27, _⟩ => ⟨S1x128x256, .bf16⟩
  | .local _ .vmem, ⟨28, _⟩ => ⟨S1x128x256, .bf16⟩
  | .local _ .vmem, ⟨29, _⟩ => ⟨S1x128x256, .bf16⟩
  | .local _ .vmem, ⟨30, _⟩ => ⟨S1x128x256, .bf16⟩
  | .local _ .vmem, ⟨31, _⟩ => ⟨S32x256, .f32⟩
  | .local _ .vmem, ⟨32, _⟩ => ⟨S32x256, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_0 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27_0 : Ref sig .tc := ⟨.hbm, 34, rfl⟩
abbrev main_v27_1 : Ref sig .tc := ⟨.hbm, 35, rfl⟩
abbrev main_v27_2 : Ref sig .tc := ⟨.hbm, 36, rfl⟩
abbrev main_v27_3 : Ref sig .tc := ⟨.hbm, 37, rfl⟩
abbrev main_v27_4 : Ref sig .tc := ⟨.hbm, 38, rfl⟩
abbrev main_v27_5 : Ref sig .tc := ⟨.hbm, 39, rfl⟩
abbrev main_v27_6 : Ref sig .tc := ⟨.hbm, 40, rfl⟩
abbrev main_v27_7 : Ref sig .tc := ⟨.hbm, 41, rfl⟩
abbrev main_v27_8 : Ref sig .tc := ⟨.hbm, 42, rfl⟩
abbrev main_v27_9 : Ref sig .tc := ⟨.hbm, 43, rfl⟩
abbrev main_v27_10 : Ref sig .tc := ⟨.hbm, 44, rfl⟩
abbrev main_v27_11 : Ref sig .tc := ⟨.hbm, 45, rfl⟩
abbrev main_v27_12 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg16_1 : Ref sig .tc := ⟨.vmem, 28, rfl⟩
abbrev cc0_stg17_0 : Ref sig .tc := ⟨.vmem, 29, rfl⟩
abbrev cc0_stg17_1 : Ref sig .tc := ⟨.vmem, 30, rfl⟩
abbrev cc0_stg18_0 : Ref sig .tc := ⟨.vmem, 31, rfl⟩
abbrev cc0_stg18_1 : Ref sig .tc := ⟨.vmem, 32, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem16_1 : DmaSem sig := 28
abbrev cc0_sem17_0 : DmaSem sig := 29
abbrev cc0_sem17_1 : DmaSem sig := 30
abbrev cc0_sem18_0 : DmaSem sig := 31
abbrev cc0_sem18_1 : DmaSem sig := 32

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_13 (i : grid0.Coords) : Fin 3 → Nat :=
  let arg0 : BitVec 32 := BitVec.ofNat 32 (i 0).val
  let c64_i32 : BitVec 32 := 64#32
  let v0 : BitVec 32 := Scalar.divsi arg0 c64_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c64_i32 c0_i32_1
  let v7 : BitVec 32 := Scalar.extui v6
  let c0_i32_2 : BitVec 32 := 0#32
  let v8 : BitVec 1 := Scalar.cmpi .slt c64_i32 c0_i32_2
  let v9 : BitVec 32 := Scalar.extui v8
  let v10 : BitVec 32 := Scalar.subi v7 v9
  let v11 : BitVec 1 := Scalar.cmpi .ne v5 v10
  let v12 : BitVec 32 := Scalar.remsi arg0 c64_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c64_i32_4 : BitVec 32 := 64#32
  let c0_i32_5 : BitVec 32 := 0#32
  let v17 : BitVec 1 := Scalar.cmpi .eq c64_i32_4 c0_i32_5
  let c1_i32_6 : BitVec 32 := 1#32
  let v18 : BitVec 32 := Scalar.select v17 c1_i32_6 c64_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_14 (i : grid0.Coords) : Fin 3 → Nat :=
  let arg0 : BitVec 32 := BitVec.ofNat 32 (i 0).val
  let c64_i32 : BitVec 32 := 64#32
  let v0 : BitVec 32 := Scalar.divsi arg0 c64_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c64_i32 c0_i32_1
  let v7 : BitVec 32 := Scalar.extui v6
  let c0_i32_2 : BitVec 32 := 0#32
  let v8 : BitVec 1 := Scalar.cmpi .slt c64_i32 c0_i32_2
  let v9 : BitVec 32 := Scalar.extui v8
  let v10 : BitVec 32 := Scalar.subi v7 v9
  let v11 : BitVec 1 := Scalar.cmpi .ne v5 v10
  let v12 : BitVec 32 := Scalar.remsi arg0 c64_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c64_i32_4 : BitVec 32 := 64#32
  let c0_i32_5 : BitVec 32 := 0#32
  let v17 : BitVec 1 := Scalar.cmpi .eq c64_i32_4 c0_i32_5
  let c1_i32_6 : BitVec 32 := 1#32
  let v18 : BitVec 32 := Scalar.select v17 c1_i32_6 c64_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_15 (i : grid0.Coords) : Fin 3 → Nat :=
  let arg0 : BitVec 32 := BitVec.ofNat 32 (i 0).val
  let c64_i32 : BitVec 32 := 64#32
  let v0 : BitVec 32 := Scalar.divsi arg0 c64_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c64_i32 c0_i32_1
  let v7 : BitVec 32 := Scalar.extui v6
  let c0_i32_2 : BitVec 32 := 0#32
  let v8 : BitVec 1 := Scalar.cmpi .slt c64_i32 c0_i32_2
  let v9 : BitVec 32 := Scalar.extui v8
  let v10 : BitVec 32 := Scalar.subi v7 v9
  let v11 : BitVec 1 := Scalar.cmpi .ne v5 v10
  let v12 : BitVec 32 := Scalar.remsi arg0 c64_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c64_i32_4 : BitVec 32 := 64#32
  let c0_i32_5 : BitVec 32 := 0#32
  let v17 : BitVec 1 := Scalar.cmpi .eq c64_i32_4 c0_i32_5
  let c1_i32_6 : BitVec 32 := 1#32
  let v18 : BitVec 32 := Scalar.select v17 c1_i32_6 c64_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_16 (i : grid0.Coords) : Fin 3 → Nat :=
  let arg0 : BitVec 32 := BitVec.ofNat 32 (i 0).val
  let c64_i32 : BitVec 32 := 64#32
  let v0 : BitVec 32 := Scalar.divsi arg0 c64_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c64_i32 c0_i32_1
  let v7 : BitVec 32 := Scalar.extui v6
  let c0_i32_2 : BitVec 32 := 0#32
  let v8 : BitVec 1 := Scalar.cmpi .slt c64_i32 c0_i32_2
  let v9 : BitVec 32 := Scalar.extui v8
  let v10 : BitVec 32 := Scalar.subi v7 v9
  let v11 : BitVec 1 := Scalar.cmpi .ne v5 v10
  let v12 : BitVec 32 := Scalar.remsi arg0 c64_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c64_i32_4 : BitVec 32 := 64#32
  let c0_i32_5 : BitVec 32 := 0#32
  let v17 : BitVec 1 := Scalar.cmpi .eq c64_i32_4 c0_i32_5
  let c1_i32_6 : BitVec 32 := 1#32
  let v18 : BitVec 32 := Scalar.select v17 c1_i32_6 c64_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_17 (i : grid0.Coords) : Fin 3 → Nat :=
  let arg0 : BitVec 32 := BitVec.ofNat 32 (i 0).val
  let c64_i32 : BitVec 32 := 64#32
  let v0 : BitVec 32 := Scalar.divsi arg0 c64_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c64_i32 c0_i32_1
  let v7 : BitVec 32 := Scalar.extui v6
  let c0_i32_2 : BitVec 32 := 0#32
  let v8 : BitVec 1 := Scalar.cmpi .slt c64_i32 c0_i32_2
  let v9 : BitVec 32 := Scalar.extui v8
  let v10 : BitVec 32 := Scalar.subi v7 v9
  let v11 : BitVec 1 := Scalar.cmpi .ne v5 v10
  let v12 : BitVec 32 := Scalar.remsi arg0 c64_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c64_i32_4 : BitVec 32 := 64#32
  let c0_i32_5 : BitVec 32 := 0#32
  let v17 : BitVec 1 := Scalar.cmpi .eq c64_i32_4 c0_i32_5
  let c1_i32_6 : BitVec 32 := 1#32
  let v18 : BitVec 32 := Scalar.select v17 c1_i32_6 c64_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_18 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3456 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1312x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x256x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x256x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x256x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x128x256 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1x128x256 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S32x256 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== Reference2Ideal.lean ====
abbrev S2x16384x1024 : Shape := ⟨3, ![2, 16384, 1024]⟩
abbrev S1024 : Shape := ⟨1, ![1024]⟩
abbrev S1024x4384 : Shape := ⟨2, ![1024, 4384]⟩
abbrev S4 : Shape := ⟨1, ![4]⟩
abbrev S_ : Shape := ⟨0, ![]⟩
abbrev S2x16384 : Shape := ⟨2, ![2, 16384]⟩
abbrev S2x16384x1 : Shape := ⟨3, ![2, 16384, 1]⟩
abbrev S1x1x1024 : Shape := ⟨3, ![1, 1, 1024]⟩
abbrev S2x16384x4384 : Shape := ⟨3, ![2, 16384, 4384]⟩
abbrev S2x16384x4 : Shape := ⟨3, ![2, 16384, 4]⟩
abbrev S32768x4 : Shape := ⟨2, ![32768, 4]⟩
abbrev S1x4 : Shape := ⟨2, ![1, 4]⟩
abbrev S2x16384x24 : Shape := ⟨3, ![2, 16384, 24]⟩
abbrev S32768x24 : Shape := ⟨2, ![32768, 24]⟩
abbrev S32768x32 : Shape := ⟨2, ![32768, 32]⟩
abbrev S2x16384x512 : Shape := ⟨3, ![2, 16384, 512]⟩
abbrev S32768x512 : Shape := ⟨2, ![32768, 512]⟩
abbrev S512x32768 : Shape := ⟨2, ![512, 32768]⟩
abbrev S2x16384x1536 : Shape := ⟨3, ![2, 16384, 1536]⟩
abbrev S32768x1536 : Shape := ⟨2, ![32768, 1536]⟩
abbrev S32768x1024 : Shape := ⟨2, ![32768, 1024]⟩
abbrev S32768x96 : Shape := ⟨2, ![32768, 96]⟩
abbrev S32768x128 : Shape := ⟨2, ![32768, 128]⟩
abbrev S2x16384x128 : Shape := ⟨3, ![2, 16384, 128]⟩
abbrev S2x16384x256 : Shape := ⟨3, ![2, 16384, 256]⟩
abbrev S2x256x16384 : Shape := ⟨3, ![2, 256, 16384]⟩
abbrev S2x128x16384 : Shape := ⟨3, ![2, 128, 16384]⟩
abbrev S32x32768 : Shape := ⟨2, ![32, 32768]⟩

abbrev nBuf : Space → Nat
  | .hbm => 70
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S1024, .f32⟩
  | .hbm, ⟨2, _⟩ => ⟨S1024x4384, .f32⟩
  | .hbm, ⟨3, _⟩ => ⟨S4, .f32⟩
  | .hbm, ⟨4, _⟩ => ⟨S4, .f32⟩
  | .hbm, ⟨5, _⟩ => ⟨S2x16384x1024, .f32⟩
  | .hbm, ⟨6, _⟩ => ⟨S_, .f32⟩
  | .hbm, ⟨7, _⟩ => ⟨S2x16384, .f32⟩
  | .hbm, ⟨8, _⟩ => ⟨S2x16384x1, .f32⟩
  | .hbm, ⟨9, _⟩ => ⟨S_, .f32⟩
  | .hbm, ⟨10, _⟩ => ⟨S2x16384x1, .f32⟩
  | .hbm, ⟨11, _⟩ => ⟨S2x16384x1, .f32⟩
  | .hbm, ⟨12, _⟩ => ⟨S_, .f32⟩
  | .hbm, ⟨13, _⟩ => ⟨S2x16384x1, .f32⟩
  | .hbm, ⟨14, _⟩ => ⟨S2x16384x1, .f32⟩
  | .hbm, ⟨15, _⟩ => ⟨S2x16384x1, .f32⟩
  | .hbm, ⟨16, _⟩ => ⟨S2x16384x1024, .f32⟩
  | .hbm, ⟨17, _⟩ => ⟨S2x16384x1024, .f32⟩
  | .hbm, ⟨18, _⟩ => ⟨S1x1x1024, .f32⟩
  | .hbm, ⟨19, _⟩ => ⟨S2x16384x1024, .f32⟩
  | .hbm, ⟨20, _⟩ => ⟨S2x16384x1024, .f32⟩
  | .hbm, ⟨21, _⟩ => ⟨S2x16384x4384, .f32⟩
  | .hbm, ⟨22, _⟩ => ⟨S2x16384x4, .f32⟩
  | .hbm, ⟨23, _⟩ => ⟨S32768x4, .f32⟩
  | .hbm, ⟨24, _⟩ => ⟨S1x4, .f32⟩
  | .hbm, ⟨25, _⟩ => ⟨S32768x4, .f32⟩
  | .hbm, ⟨26, _⟩ => ⟨S32768x4, .f32⟩
  | .hbm, ⟨27, _⟩ => ⟨S2x16384x4, .f32⟩
  | .hbm, ⟨28, _⟩ => ⟨S32768x4, .f32⟩
  | .hbm, ⟨29, _⟩ => ⟨S1x4, .f32⟩
  | .hbm, ⟨30, _⟩ => ⟨S32768x4, .f32⟩
  | .hbm, ⟨31, _⟩ => ⟨S32768x4, .f32⟩
  | .hbm, ⟨32, _⟩ => ⟨S2x16384x24, .f32⟩
  | .hbm, ⟨33, _⟩ => ⟨S32768x24, .f32⟩
  | .hbm, ⟨34, _⟩ => ⟨S32768x32, .f32⟩
  | .hbm, ⟨35, _⟩ => ⟨S2x16384x512, .f32⟩
  | .hbm, ⟨36, _⟩ => ⟨S32768x512, .f32⟩
  | .hbm, ⟨37, _⟩ => ⟨S_, .f32⟩
  | .hbm, ⟨38, _⟩ => ⟨S32768x512, .f32⟩
  | .hbm, ⟨39, _⟩ => ⟨S32768x512, .f32⟩
  | .hbm, ⟨40, _⟩ => ⟨S512x32768, .f32⟩
  | .hbm, ⟨41, _⟩ => ⟨S2x16384x1536, .f32⟩
  | .hbm, ⟨42, _⟩ => ⟨S32768x1536, .f32⟩
  | .hbm, ⟨43, _⟩ => ⟨S2x16384x1024, .f32⟩
  | .hbm, ⟨44, _⟩ => ⟨S32768x1024, .f32⟩
  | .hbm, ⟨45, _⟩ => ⟨S2x16384x512, .f32⟩
  | .hbm, ⟨46, _⟩ => ⟨S32768x512, .f32⟩
  | .hbm, ⟨47, _⟩ => ⟨S_, .f32⟩
  | .hbm, ⟨48, _⟩ => ⟨S32768x96, .f32⟩
  | .hbm, ⟨49, _⟩ => ⟨S32768x128, .f32⟩
  | .hbm, ⟨50, _⟩ => ⟨S2x16384x128, .f32⟩
  | .hbm, ⟨51, _⟩ => ⟨S32768x128, .f32⟩
  | .hbm, ⟨52, _⟩ => ⟨S32768x128, .bf16⟩
  | .hbm, ⟨53, _⟩ => ⟨S2x16384x128, .f32⟩
  | .hbm, ⟨54, _⟩ => ⟨S32768x128, .f32⟩
  | .hbm, ⟨55, _⟩ => ⟨S32768x128, .bf16⟩
  | .hbm, ⟨56, _⟩ => ⟨S512x32768, .bf16⟩
  | .hbm, ⟨57, _⟩ => ⟨S2x16384x256, .f32⟩
  | .hbm, ⟨58, _⟩ => ⟨S2x256x16384, .f32⟩
  | .hbm, ⟨59, _⟩ => ⟨S2x16384x256, .f32⟩
  | .hbm, ⟨60, _⟩ => ⟨S2x256x16384, .f32⟩
  | .hbm, ⟨61, _⟩ => ⟨S2x16384x256, .f32⟩
  | .hbm, ⟨62, _⟩ => ⟨S2x256x16384, .f32⟩
  | .hbm, ⟨63, _⟩ => ⟨S2x16384x128, .f32⟩
  | .hbm, ⟨64, _⟩ => ⟨S2x128x16384, .f32⟩
  | .hbm, ⟨65, _⟩ => ⟨S2x128x16384, .bf16⟩
  | .hbm, ⟨66, _⟩ => ⟨S2x16384x128, .f32⟩
  | .hbm, ⟨67, _⟩ => ⟨S2x128x16384, .f32⟩
  | .hbm, ⟨68, _⟩ => ⟨S2x128x16384, .bf16⟩
  | .hbm, ⟨69, _⟩ => ⟨S32x32768, .f32⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_cst_2 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_cst_3 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩

abbrev nD : Nat := 1
abbrev τ : Topo := Topo.v7x

variable {F : FTy → Type} [FloatOps F]
-- ==== Kernel3.lean ====
abbrev S2x16384x1024 : Shape := ⟨3, ![2, 16384, 1024]⟩
abbrev S2x16384x512 : Shape := ⟨3, ![2, 16384, 512]⟩
abbrev S32768x1024 : Shape := ⟨2, ![32768, 1024]⟩
abbrev S512x32768 : Shape := ⟨2, ![512, 32768]⟩
abbrev S32768x512 : Shape := ⟨2, ![32768, 512]⟩
abbrev S1024x1024 : Shape := ⟨2, ![1024, 1024]⟩
abbrev S1024 : Shape := ⟨1, ![1024]⟩
abbrev S1x1024 : Shape := ⟨2, ![1, 1024]⟩
abbrev S256x1024 : Shape := ⟨2, ![256, 1024]⟩
abbrev S256x512 : Shape := ⟨2, ![256, 512]⟩
abbrev S512x256 : Shape := ⟨2, ![512, 256]⟩
abbrev S512x1024 : Shape := ⟨2, ![512, 1024]⟩
abbrev S256 : Shape := ⟨1, ![256]⟩
abbrev S256x1 : Shape := ⟨2, ![256, 1]⟩

abbrev nBuf : Space → Nat
  | .hbm => 12
  | .vmem => 14
  | .smem => 0
  | _ => 0

abbrev bufTy : (tb : Table) → Fin (tcTables nBuf tb) → BufTy
  | .hbm, ⟨0, _⟩ => ⟨S2x16384x1024, .f32⟩
  | .hbm, ⟨1, _⟩ => ⟨S2x16384x512, .f32⟩
  | .hbm, ⟨2, _⟩ => ⟨S32768x1024, .f32⟩
  | .hbm, ⟨3, _⟩ => ⟨S512x32768, .f32⟩
  | .hbm, ⟨4, _⟩ => ⟨S32768x512, .f32⟩
  | .hbm, ⟨5, _⟩ => ⟨S1024x1024, .f32⟩
  | .hbm, ⟨6, _⟩ => ⟨S1024, .f32⟩
  | .hbm, ⟨7, _⟩ => ⟨S32768x1024, .f32⟩
  | .hbm, ⟨8, _⟩ => ⟨S32768x512, .f32⟩
  | .hbm, ⟨9, _⟩ => ⟨S1024x1024, .bf16⟩
  | .hbm, ⟨10, _⟩ => ⟨S1x1024, .f32⟩
  | .hbm, ⟨11, _⟩ => ⟨S32768x1024, .f32⟩
  | .local _ .vmem, ⟨0, _⟩ => ⟨S256x1024, .f32⟩
  | .local _ .vmem, ⟨1, _⟩ => ⟨S256x1024, .f32⟩
  | .local _ .vmem, ⟨2, _⟩ => ⟨S256x512, .f32⟩
  | .local _ .vmem, ⟨3, _⟩ => ⟨S256x512, .f32⟩
  | .local _ .vmem, ⟨4, _⟩ => ⟨S256x1024, .f32⟩
  | .local _ .vmem, ⟨5, _⟩ => ⟨S256x1024, .f32⟩
  | .local _ .vmem, ⟨6, _⟩ => ⟨S512x256, .f32⟩
  | .local _ .vmem, ⟨7, _⟩ => ⟨S512x256, .f32⟩
  | .local _ .vmem, ⟨8, _⟩ => ⟨S256x512, .f32⟩
  | .local _ .vmem, ⟨9, _⟩ => ⟨S256x512, .f32⟩
  | .local _ .vmem, ⟨10, _⟩ => ⟨S1024x1024, .bf16⟩
  | .local _ .vmem, ⟨11, _⟩ => ⟨S1x1024, .f32⟩
  | .local _ .vmem, ⟨12, _⟩ => ⟨S256x1024, .f32⟩
  | .local _ .vmem, ⟨13, _⟩ => ⟨S256x1024, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference3Ideal.lean ====
abbrev S2x16384x1024 : Shape := ⟨3, ![2, 16384, 1024]⟩
abbrev S2x16384x512 : Shape := ⟨3, ![2, 16384, 512]⟩
abbrev S32768x1024 : Shape := ⟨2, ![32768, 1024]⟩
abbrev S512x32768 : Shape := ⟨2, ![512, 32768]⟩
abbrev S32768x512 : Shape := ⟨2, ![32768, 512]⟩
abbrev S1024x1024 : Shape := ⟨2, ![1024, 1024]⟩
abbrev S1024 : Shape := ⟨1, ![1024]⟩
abbrev S_ : Shape := ⟨0, ![]⟩
abbrev S2x16384 : Shape := ⟨2, ![2, 16384]⟩
abbrev S2x16384x1 : Shape := ⟨3, ![2, 16384, 1]⟩
abbrev S1x1x1024 : Shape := ⟨3, ![1, 1, 1024]⟩

abbrev nBuf : Space → Nat
  | .hbm => 62
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S2x16384x512, .f32⟩
  | .hbm, ⟨2, _⟩ => ⟨S32768x1024, .f32⟩
  | .hbm, ⟨3, _⟩ => ⟨S512x32768, .f32⟩
  | .hbm, ⟨4, _⟩ => ⟨S32768x512, .f32⟩
  | .hbm, ⟨5, _⟩ => ⟨S1024x1024, .f32⟩
  | .hbm, ⟨6, _⟩ => ⟨S1024, .f32⟩
  | .hbm, ⟨7, _⟩ => ⟨S2x16384x1024, .f32⟩
  | .hbm, ⟨8, _⟩ => ⟨S2x16384x512, .f32⟩
  | .hbm, ⟨9, _⟩ => ⟨S2x16384x512, .f32⟩
  | .hbm, ⟨10, _⟩ => ⟨S2x16384x512, .f32⟩
  | .hbm, ⟨11, _⟩ => ⟨S_, .f32⟩
  | .hbm, ⟨12, _⟩ => ⟨S2x16384x512, .f32⟩
  | .hbm, ⟨13, _⟩ => ⟨S2x16384x512, .f32⟩
  | .hbm, ⟨14, _⟩ => ⟨S_, .f32⟩
  | .hbm, ⟨15, _⟩ => ⟨S2x16384x512, .f32⟩
  | .hbm, ⟨16, _⟩ => ⟨S2x16384x512, .f32⟩
  | .hbm, ⟨17, _⟩ => ⟨S2x16384x512, .f32⟩
  | .hbm, ⟨18, _⟩ => ⟨S2x16384x512, .f32⟩
  | .hbm, ⟨19, _⟩ => ⟨S2x16384x512, .f32⟩
  | .hbm, ⟨20, _⟩ => ⟨S2x16384x512, .f32⟩
  | .hbm, ⟨21, _⟩ => ⟨S_, .f32⟩
  | .hbm, ⟨22, _⟩ => ⟨S2x16384x512, .f32⟩
  | .hbm, ⟨23, _⟩ => ⟨S2x16384x512, .f32⟩
  | .hbm, ⟨24, _⟩ => ⟨S_, .f32⟩
  | .hbm, ⟨25, _⟩ => ⟨S2x16384x512, .f32⟩
  | .hbm, ⟨26, _⟩ => ⟨S2x16384x512, .f32⟩
  | .hbm, ⟨27, _⟩ => ⟨S2x16384x512, .f32⟩
  | .hbm, ⟨28, _⟩ => ⟨S2x16384x512, .f32⟩
  | .hbm, ⟨29, _⟩ => ⟨S32768x512, .f32⟩
  | .hbm, ⟨30, _⟩ => ⟨S2x16384x512, .f32⟩
  | .hbm, ⟨31, _⟩ => ⟨S2x16384x512, .f32⟩
  | .hbm, ⟨32, _⟩ => ⟨S2x16384x512, .f32⟩
  | .hbm, ⟨33, _⟩ => ⟨S2x16384x512, .f32⟩
  | .hbm, ⟨34, _⟩ => ⟨S_, .f32⟩
  | .hbm, ⟨35, _⟩ => ⟨S2x16384x512, .f32⟩
  | .hbm, ⟨36, _⟩ => ⟨S2x16384x512, .f32⟩
  | .hbm, ⟨37, _⟩ => ⟨S_, .f32⟩
  | .hbm, ⟨38, _⟩ => ⟨S2x16384x512, .f32⟩
  | .hbm, ⟨39, _⟩ => ⟨S2x16384x512, .f32⟩
  | .hbm, ⟨40, _⟩ => ⟨S2x16384x512, .f32⟩
  | .hbm, ⟨41, _⟩ => ⟨S2x16384x512, .f32⟩
  | .hbm, ⟨42, _⟩ => ⟨S2x16384x1024, .f32⟩
  | .hbm, ⟨43, _⟩ => ⟨S2x16384x1024, .f32⟩
  | .hbm, ⟨44, _⟩ => ⟨S2x16384x1024, .f32⟩
  | .hbm, ⟨45, _⟩ => ⟨S_, .f32⟩
  | .hbm, ⟨46, _⟩ => ⟨S2x16384, .f32⟩
  | .hbm, ⟨47, _⟩ => ⟨S2x16384x1, .f32⟩
  | .hbm, ⟨48, _⟩ => ⟨S_, .f32⟩
  | .hbm, ⟨49, _⟩ => ⟨S2x16384x1, .f32⟩
  | .hbm, ⟨50, _⟩ => ⟨S2x16384x1, .f32⟩
  | .hbm, ⟨51, _⟩ => ⟨S_, .f32⟩
  | .hbm, ⟨52, _⟩ => ⟨S2x16384x1, .f32⟩
  | .hbm, ⟨53, _⟩ => ⟨S2x16384x1, .f32⟩
  | .hbm, ⟨54, _⟩ => ⟨S2x16384x1, .f32⟩
  | .hbm, ⟨55, _⟩ => ⟨S2x16384x1024, .f32⟩
  | .hbm, ⟨56, _⟩ => ⟨S2x16384x1024, .f32⟩
  | .hbm, ⟨57, _⟩ => ⟨S1x1x1024, .f32⟩
  | .hbm, ⟨58, _⟩ => ⟨S2x16384x1024, .f32⟩
  | .hbm, ⟨59, _⟩ => ⟨S2x16384x1024, .f32⟩
  | .hbm, ⟨60, _⟩ => ⟨S2x16384x1024, .f32⟩
  | .hbm, ⟨61, _⟩ => ⟨S32768x1024, .f32⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_call0_v0 : Ref sig .tc := ⟨.hbm, 19, rfl⟩
abbrev main_call0_v1 : Ref sig .tc := ⟨.hbm, 20, rfl⟩
abbrev main_call0_cst : Ref sig .tc := ⟨.hbm, 21, rfl⟩
abbrev main_call0_v2 : Ref sig .tc := ⟨.hbm, 22, rfl⟩
abbrev main_call0_v3 : Ref sig .tc := ⟨.hbm, 23, rfl⟩
abbrev main_call0_cst_0 : Ref sig .tc := ⟨.hbm, 24, rfl⟩
abbrev main_call0_v4 : Ref sig .tc := ⟨.hbm, 25, rfl⟩
abbrev main_call0_v5 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_call1_v0 : Ref sig .tc := ⟨.hbm, 32, rfl⟩
abbrev main_call1_v1 : Ref sig .tc := ⟨.hbm, 33, rfl⟩
abbrev main_call1_cst : Ref sig .tc := ⟨.hbm, 34, rfl⟩
abbrev main_call1_v2 : Ref sig .tc := ⟨.hbm, 35, rfl⟩
abbrev main_call1_v3 : Ref sig .tc := ⟨.hbm, 36, rfl⟩
abbrev main_call1_cst_0 : Ref sig .tc := ⟨.hbm, 37, rfl⟩
abbrev main_call1_v4 : Ref sig .tc := ⟨.hbm, 38, rfl⟩
abbrev main_call1_v5 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_cst_1 : Ref sig .tc := ⟨.hbm, 45, rfl⟩
abbrev main_v20 : Ref sig .tc := ⟨.hbm, 46, rfl⟩
abbrev main_v21 : Ref sig .tc := ⟨.hbm, 47, rfl⟩
abbrev main_cst_2 : Ref sig .tc := ⟨.hbm, 48, rfl⟩
abbrev main_v22 : Ref sig .tc := ⟨.hbm, 49, rfl⟩
abbrev main_v23 : Ref sig .tc := ⟨.hbm, 50, rfl⟩
abbrev main_cst_3 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩

abbrev nD : Nat := 1
abbrev τ : Topo := Topo.v7x

variable {F : FTy → Type} [FloatOps F]
-- ==== Proof.Branch.lean ====
/-
  One branch of the kernel's switch, written once for every number `n` of compressed blocks it may work on: the
  compressed attention's weights, its two outputs, the importance of each block, and sixteen rounds of picking the best
  block. The eight branches of the kernel are these at n = 32, 64, …, 256.
-/
module

public import proofs.«01_k».proof.Proof.Gen.KernelIdeal.Skeleton
public import Idealize.ShloMosaic.Lib.VecWindow
public import Idealize.ShloMosaic.Lib.ValueIdxCore

@[expose] public section

set_option maxRecDepth 16384

noncomputable section

namespace Cert.KernelIdeal.Nsa

open Cert.KernelIdeal Cert.KernelIdeal.Gen
open Idealize.ShloMosaic Idealize.SL.Sem

/-- Shapes with `n` rows. -/
abbrev Rows (n d : ℕ) : Shape := ⟨2, ![n, d]⟩
abbrev Rows3 (n d : ℕ) : Shape := ⟨3, ![1, n, d]⟩

/-- What the operations of a branch of `n` rows ask of their shapes. -/
structure Fits (n : ℕ) : Prop where
  rowsIn : ∀ a, (![0, 0, 0] : Fin 3 → ℕ) a + (Rows3 n 128).size a ≤ S1x256x128.size a
  cols0In : ∀ a, (![0, 0, 0] : Fin 3 → ℕ) a + (Rows3 64 n).size a ≤ S1x128x256.size a
  cols1In : ∀ a, (![0, 64, 0] : Fin 3 → ℕ) a + (Rows3 64 n).size a ≤ S1x128x256.size a
  castK : (Rows3 n 128).ShapeCasts (Rows n 128)
  castV : (Rows3 64 n).ShapeCasts (Rows 64 n)
  castSame : (Rows n 128).ShapeCasts (Rows n 128)
  dotK : DotDims.WF (Rows n 128) S128x1024 (Rows n 1024) [1] [0] [0] [1] [] []
  dotV : DotDims.WF (Rows 64 n) (Rows n 512) S64x512 [1] [0] [0] [1] [] []
  iotaW : (Rows n 1024).Iotas .tc 32 [0]
  iotaN : (Rows n 128).Iotas .tc 32 [0]
  bcW : S1x1024.Broadcasts (Rows n 1024)
  bcN : S1x128.Broadcasts (Rows n 128)
  redW : (Rows n 1024).Reduces [0] S1024
  redN : (Rows n 128).Reduces [0] S128
  half0 : (Rows n 1024).Slices ![0, 0] (Rows n 512)
  half1 : (Rows n 1024).Slices ![0, 512] (Rows n 512)
  q0 : (Rows n 512).Slices ![0, 0] (Rows n 128)
  q1 : (Rows n 512).Slices ![0, 128] (Rows n 128)
  q2 : (Rows n 512).Slices ![0, 256] (Rows n 128)
  q3 : (Rows n 512).Slices ![0, 384] (Rows n 128)

variable {F : FTy → Type} [FloatOps F] {n : ℕ} (h : Fits n)

/-- The product of `n` keys with the queries. -/
def dimsK : DotDims (Rows n 128) S128x1024 (Rows n 1024) where
  lhsContracting := [1]
  rhsContracting := [0]
  lhsNonContracting := [0]
  rhsNonContracting := [1]
  lhsBatch := []
  rhsBatch := []
  wf := h.dotK

/-- The product of 64 value rows with the weights of `n` blocks. -/
def dimsV : DotDims (Rows 64 n) (Rows n 512) S64x512 where
  lhsContracting := [1]
  rhsContracting := [0]
  lhsNonContracting := [0]
  rhsNonContracting := [1]
  lhsBatch := []
  rhsBatch := []
  wf := h.dotV

/-- The scores of the blocks. -/
def cmpScores (v17 : FVec F S128x1024 .bf16) (x : Vec F (Rows3 n 128) .bf16) : FVec F (Rows n 1024) .f32 :=
  matmul (dimsK h) none (shapeCast (Rows n 128) x h.castK) v17 (constant (Rows n 1024) .f32 0x00000000#32)

/-- Which blocks are complete at each query's position. -/
def cmpMask (v22 : IVec S1x1024 32) : IVec (Rows n 1024) 1 :=
  cmpi .sle (subi (muli (addi (iota .tc (Rows n 1024) 32 [0] h.iotaW) (broadcast (Rows n 1024) 1#32)) (broadcast (Rows n 1024) 64#32))
    (broadcast (Rows n 1024) 1#32)) (broadcastTo (Rows n 1024) v22 h.bcW)

/-- The scores with the incomplete blocks at −∞. -/
def cmpMasked (v17 : FVec F S128x1024 .bf16) (v22 : IVec S1x1024 32) (x : Vec F (Rows3 n 128) .bf16) : FVec F (Rows n 1024) .f32 :=
  select (cmpMask h v22) (cmpScores h v17 x) (broadcast (Rows n 1024) (Scalar.ofBits .f32 0xFF800000#32))

/-- Each query's greatest score, 0 where it is −∞. -/
def cmpMax (v17 : FVec F S128x1024 .bf16) (v22 : IVec S1x1024 32) (x : Vec F (Rows3 n 128) .bf16) : FVec F S1x1024 .f32 :=
  select (cmpf .oeq (shapeCast S1x1024 (multiReduction .maximumf [0] S1024 (cmpMasked h v17 v22 x) 0xFF800000#32 h.redW (.inl rfl) rfl) shapeCasts_S1024_S1x1024)
      (broadcast S1x1024 (Scalar.ofBits .f32 0xFF800000#32)))
    (broadcast S1x1024 (Scalar.ofBits .f32 0x00000000#32))
    (shapeCast S1x1024 (multiReduction .maximumf [0] S1024 (cmpMasked h v17 v22 x) 0xFF800000#32 h.redW (.inl rfl) rfl) shapeCasts_S1024_S1x1024)

/-- The exponentials of the blocks seen. -/
def cmpExp (v17 : FVec F S128x1024 .bf16) (v22 : IVec S1x1024 32) (x : Vec F (Rows3 n 128) .bf16) : FVec F (Rows n 1024) .f32 :=
  select (cmpMask h v22) (exp2 (subf (cmpMasked h v17 v22 x) (broadcastTo (Rows n 1024) (cmpMax h v17 v22 x) h.bcW)))
    (broadcast (Rows n 1024) (Scalar.ofBits .f32 0x00000000#32))

/-- Their sum, 1 where it is 0. -/
def cmpTot (v17 : FVec F S128x1024 .bf16) (v22 : IVec S1x1024 32) (x : Vec F (Rows3 n 128) .bf16) : FVec F S1x1024 .f32 :=
  select (cmpf .ogt (shapeCast S1x1024 (multiReduction .add [0] S1024 (cmpExp h v17 v22 x) 0x00000000#32 h.redW (.inl rfl) rfl) shapeCasts_S1024_S1x1024)
      (broadcast S1x1024 (Scalar.ofBits .f32 0x00000000#32)))
    (shapeCast S1x1024 (multiReduction .add [0] S1024 (cmpExp h v17 v22 x) 0x00000000#32 h.redW (.inl rfl) rfl) shapeCasts_S1024_S1x1024)
    (broadcast S1x1024 (Scalar.ofBits .f32 0x3F800000#32))

/-- The weights. -/
def cmpProbs (v17 : FVec F S128x1024 .bf16) (v22 : IVec S1x1024 32) (x : Vec F (Rows3 n 128) .bf16) : FVec F (Rows n 1024) .f32 :=
  divf (cmpExp h v17 v22 x) (broadcastTo (Rows n 1024) (cmpTot h v17 v22 x) h.bcW)

/-- The output of one key-value head: its value rows times its half of the weights. -/
def cmpOut (p : FVec F (Rows n 512) .f32) (y : Vec F (Rows3 64 n) .bf16) : FVec F S64x512 .f32 :=
  matmul (dimsV h) none (shapeCast (Rows 64 n) y h.castV) (truncf .bf16 p bitsLt_bf16_f32) (constant S64x512 .f32 0x00000000#32)

/-- The importance of the blocks: the weights summed over the head's four query heads. -/
def imp (p : FVec F (Rows n 512) .f32) : FVec F (Rows n 128) .f32 :=
  addf (addf (addf (extractStridedSlice (Rows n 128) ![0, 0] p h.q0) (extractStridedSlice (Rows n 128) ![0, 128] p h.q1))
    (extractStridedSlice (Rows n 128) ![0, 256] p h.q2)) (extractStridedSlice (Rows n 128) ![0, 384] p h.q3)

/-- The number of the block a position lies in. -/
def cur (v25 : IVec S1x128 32) : IVec S1x128 32 := shrsi v25 (broadcast S1x128 6#32)

/-- The first block, the query's own and the one before it. -/
def forced (v25 : IVec S1x128 32) : IVec (Rows n 128) 1 :=
  andi (ori (ori (cmpi .eq (iota .tc (Rows n 128) 32 [0] h.iotaN) (broadcast (Rows n 128) 0#32))
        (cmpi .eq (iota .tc (Rows n 128) 32 [0] h.iotaN) (broadcastTo (Rows n 128) (cur v25) h.bcN)))
      (cmpi .eq (iota .tc (Rows n 128) 32 [0] h.iotaN) (broadcastTo (Rows n 128) (subi (cur v25) (broadcast S1x128 1#32)) h.bcN)))
    (cmpi .sle (iota .tc (Rows n 128) 32 [0] h.iotaN) (broadcastTo (Rows n 128) (cur v25) h.bcN))

/-- The blocks complete at each position. -/
def done (v25 : IVec S1x128 32) : IVec (Rows n 128) 1 :=
  cmpi .sle (subi (muli (addi (iota .tc (Rows n 128) 32 [0] h.iotaN) (broadcast (Rows n 128) 1#32)) (broadcast (Rows n 128) 64#32))
    (broadcast (Rows n 128) 1#32)) (broadcastTo (Rows n 128) v25 h.bcN)

/-- The scores the blocks are picked by: +∞ for the forced ones, the importance of the complete ones, −∞ for the rest. -/
def pickScore (v25 : IVec S1x128 32) (p : FVec F (Rows n 512) .f32) : FVec F (Rows n 128) .f32 :=
  select (cmpi .slt (iota .tc (Rows n 128) 32 [0] h.iotaN) (broadcast (Rows n 128) (BitVec.ofNat 32 n)))
    (select (forced h v25) (broadcast (Rows n 128) (Scalar.ofBits .f32 0x7F800000#32))
      (select (done h v25) (imp h p) (broadcast (Rows n 128) (Scalar.ofBits .f32 0xFF800000#32))))
    (broadcast (Rows n 128) (Scalar.ofBits .f32 0xFF800000#32))

/-- The best score left. -/
def best (s : FVec F (Rows n 128) .f32) : FVec F S1x128 .f32 :=
  shapeCast S1x128 (multiReduction .maximumf [0] S128 s 0xFF800000#32 h.redN (.inl rfl) rfl) shapeCasts_S128_S1x128

/-- The first block that has it. -/
def bestRow (s : FVec F (Rows n 128) .f32) : IVec (Rows n 128) 1 :=
  cmpi .eq (iota .tc (Rows n 128) 32 [0] h.iotaN)
    (broadcastTo (Rows n 128) (shapeCast S1x128 (multiReductionI .minsi [0] S128
      (select (cmpf .oeq s (broadcastTo (Rows n 128) (best h s) h.bcN)) (iota .tc (Rows n 128) 32 [0] h.iotaN) (broadcast (Rows n 128) (BitVec.ofNat 32 n)))
      2147483647#32 h.redN rfl) shapeCasts_S128_S1x128) h.bcN)

/-- One round: the best block, if it is not at −∞, is marked, and its score set to −∞. -/
def pick (a : FVec F (Rows n 128) .f32 × FVec F (Rows n 128) .f32) : FVec F (Rows n 128) .f32 × FVec F (Rows n 128) .f32 :=
  (select (bestRow h a.1) (broadcast (Rows n 128) (Scalar.ofBits .f32 0xFF800000#32)) a.1,
   select (andi (bestRow h a.1) (broadcastTo (Rows n 128) (cmpf .ogt (best h a.1) (broadcast S1x128 (Scalar.ofBits .f32 0xFF800000#32))) h.bcN))
     (broadcast (Rows n 128) (Scalar.ofBits .f32 0x3F800000#32)) a.2)

/-- The blocks picked in sixteen rounds: 1 where picked, 0 elsewhere. -/
def picked (s : FVec F (Rows n 128) .f32) : FVec F (Rows n 128) .f32 :=
  (Nat.iterate (pick h) 16 (s, broadcast (Rows n 128) (Scalar.ofBits .f32 0x00000000#32))).2

/-- The table of picked blocks as the scratch holds it: 256 rows, four copies of each head's 128 columns, 0 below row `n`. -/
def selTable (p : FVec F (Rows n 1024) .f32) (v25 : IVec S1x128 32) : Vec F S256x1024 .f32 := fun ix =>
  if hr : (ix 0).val < n then
    (if (ix 1).val < 512 then picked h (pickScore h v25 (extractStridedSlice (Rows n 512) ![0, 0] p h.half0))
      else picked h (pickScore h v25 (extractStridedSlice (Rows n 512) ![0, 512] p h.half1)))
      (ValueIdx.ix2 ⟨(ix 0).val, hr⟩ ⟨(ix 1).val % 128, Nat.mod_lt _ (by norm_num)⟩)
  else Scalar.ofBits .f32 0x00000000#32

/-- The two outputs of the compressed attention. -/
def cmpOut0 (p : FVec F (Rows n 1024) .f32) (y : Vec F (Rows3 64 n) .bf16) : FVec F S64x512 .f32 :=
  cmpOut h (extractStridedSlice (Rows n 512) ![0, 0] p h.half0) y
def cmpOut1 (p : FVec F (Rows n 1024) .f32) (y : Vec F (Rows3 64 n) .bf16) : FVec F S64x512 .f32 :=
  cmpOut h (extractStridedSlice (Rows n 512) ![0, 512] p h.half1) y

end Cert.KernelIdeal.Nsa
-- ==== Proof.Table.lean ====
/-
  The table of picked blocks as a branch of the switch stores it: eight stores of 128 columns each and, below its last
  row, one of zeros.
-/
module

public import proofs.«01_k».proof.Proof.Branch
public import Idealize.ShloMosaic.Lib.Pipeline.Value

@[expose] public section

set_option maxRecDepth 16384

noncomputable section

namespace Cert.KernelIdeal.Nsa

open Cert.KernelIdeal Cert.KernelIdeal.Gen
open Idealize.ShloMosaic Idealize.ShloMosaic.Pipeline Idealize.SL.Sem

variable {F : FTy → Type} [FloatOps F] [Named F] {n : ℕ}

/-- Sixteen trips of a loop whose step is one round of picking. -/
theorem picked_of_fold {m : ℕ} (h : Fits n) (hm : m = 16) (s z : FVec F (Rows n 128) .f32)
    (hz : z = broadcast (Rows n 128) (Scalar.ofBits .f32 0x00000000#32))
    (g : Fin m → FVec F (Rows n 128) .f32 × FVec F (Rows n 128) .f32 → FVec F (Rows n 128) .f32 × FVec F (Rows n 128) .f32)
    (hg : ∀ k a, g k a = pick h a) : (Scf.fold g (s, z)).2 = picked h s := by
  subst hm hz
  have e : g = fun _ a => pick h a := by funext k a; exact hg k a
  subst e
  rw [Scf.fold_eq]
  rfl

/-- A piece of `n` rows and 128 columns from column `c`. -/
abbrev colPiece (c : ℕ) (inb : ∀ a, (![0, c] : Fin 2 → ℕ) a + (Rows n 128).size a ≤ S256x1024.size a) (w : Vec F (Rows n 128) .f32) :
    View.Piece (Elt F) S256x1024 .f32 := ⟨Rect.unit ![0, c] (Rows n 128).size inb, w⟩

theorem read_colPiece {sp : Space} (v : View sig .tc sp S256x1024 .f32) (f : v.ty.Contents (Elt F)) (c : ℕ)
    (inb : ∀ a, (![0, c] : Fin 2 → ℕ) a + (Rows n 128).size a ≤ S256x1024.size a) (w : Vec F (Rows n 128) .f32)
    (L : List (View.Piece (Elt F) S256x1024 .f32)) (y : S256x1024.Idx) :
    v.read (Elt F) (v.writes (Elt F) f (colPiece c inb w :: L)) y
      = if h : (y 0).val < n ∧ c ≤ (y 1).val ∧ (y 1).val < c + 128 then
          w (ValueIdx.ix2 ⟨(y 0).val, h.1⟩ ⟨(y 1).val - c, by omega⟩)
        else v.read (Elt F) (v.writes (Elt F) f L) y := by
  rw [View.read_writes_cons_put v f inb w L rfl]
  unfold VecWindow.put
  by_cases h : (y 0).val < n ∧ c ≤ (y 1).val ∧ (y 1).val < c + 128
  · have h' : ∀ a, (![0, c] : Fin 2 → ℕ) a ≤ y a ∧ (y a : ℕ) < (![0, c] : Fin 2 → ℕ) a + (Rows n 128).size a := by
      intro a; fin_cases a <;> simp [Rows] <;> omega
    rw [dif_pos h, dif_pos h']
    congr 1
    funext a
    fin_cases a <;> apply Fin.ext <;> simp [Rect.unitLocal, ValueIdx.ix2]
  · have h' : ¬ ∀ a, (![0, c] : Fin 2 → ℕ) a ≤ y a ∧ (y a : ℕ) < (![0, c] : Fin 2 → ℕ) a + (Rows n 128).size a := by
      intro hh
      have h0 := hh 0
      have h1 := hh 1
      simp [Rows] at h0 h1
      omega
    rw [dif_neg h, dif_neg h']

/-- The rows below the branch's last one. -/
theorem read_rest {sp : Space} {m : ℕ} (v : View sig .tc sp S256x1024 .f32) (f : v.ty.Contents (Elt F)) (hm : n + m = 256)
    (inb : ∀ a, (![n, 0] : Fin 2 → ℕ) a + (Rows m 1024).size a ≤ S256x1024.size a)
    (L : List (View.Piece (Elt F) S256x1024 .f32)) (y : S256x1024.Idx) (z : Elt F .f32) (w : Vec F (Rows m 1024) .f32) (hw : w = fun _ => z) :
    v.read (Elt F) (v.writes (Elt F) f (⟨Rect.unit ![n, 0] (Rows m 1024).size inb, w⟩ :: L)) y
      = if (y 0).val < n then v.read (Elt F) (v.writes (Elt F) f L) y else z := by
  subst hw
  rw [View.read_writes_cons_put v f inb _ L rfl]
  unfold VecWindow.put
  have b0 : (y 0).val < 256 := (y 0).isLt
  have b1 : (y 1).val < 1024 := (y 1).isLt
  by_cases h : (y 0).val < n
  · rw [if_pos h, dif_neg]
    intro hh
    have h0 := hh 0
    simp [Rows] at h0
    omega
  · rw [if_neg h, dif_pos]
    intro a; fin_cases a <;> simp [Rows] <;> omega

/-- Eight stores of 128 columns, the first four of head 1, the last four of head 0 (the last store first). -/
theorem read_cols {sp : Space} (v : View sig .tc sp S256x1024 .f32) (f : v.ty.Contents (Elt F)) (h : Fits n)
    (p : FVec F (Rows n 1024) .f32) (v25 : IVec S1x128 32) (y : S256x1024.Idx) (hy : (y 0).val < n)
    (i7 i6 i5 i4 i3 i2 i1 i0) (u0 u1 : FVec F (Rows n 128) .f32)
    (hu0 : u0 = picked h (pickScore h v25 (extractStridedSlice (Rows n 512) ![0, 0] p h.half0)))
    (hu1 : u1 = picked h (pickScore h v25 (extractStridedSlice (Rows n 512) ![0, 512] p h.half1))) :
    v.read (Elt F) (v.writes (Elt F) f [colPiece 896 i7 (shapeCast (Rows n 128) u1 h.castSame), colPiece 768 i6 (shapeCast (Rows n 128) u1 h.castSame), colPiece 640 i5 (shapeCast (Rows n 128) u1 h.castSame), colPiece 512 i4 (shapeCast (Rows n 128) u1 h.castSame),
      colPiece 384 i3 (shapeCast (Rows n 128) u0 h.castSame), colPiece 256 i2 (shapeCast (Rows n 128) u0 h.castSame), colPiece 128 i1 (shapeCast (Rows n 128) u0 h.castSame), colPiece 0 i0 (shapeCast (Rows n 128) u0 h.castSame)]) y = selTable h p v25 y := by
  subst hu0 hu1
  have b1 : (y 1).val < 1024 := (y 1).isLt
  simp only [shapeCast_self, read_colPiece, selTable, dif_pos hy]
  by_cases h4 : (y 1).val < 512
  · rw [if_pos h4]
    rw [dif_neg (by omega), dif_neg (by omega), dif_neg (by omega), dif_neg (by omega)]
    by_cases h3 : 384 ≤ (y 1).val
    · rw [dif_pos ⟨hy, h3, by omega⟩]; congr 2; apply Fin.ext; show (y 1).val - 384 = (y 1).val % 128; omega
    rw [dif_neg (by omega)]
    by_cases h2 : 256 ≤ (y 1).val
    · rw [dif_pos ⟨hy, h2, by omega⟩]; congr 2; apply Fin.ext; show (y 1).val - 256 = (y 1).val % 128; omega
    rw [dif_neg (by omega)]
    by_cases h1 : 128 ≤ (y 1).val
    · rw [dif_pos ⟨hy, h1, by omega⟩]; congr 2; apply Fin.ext; show (y 1).val - 128 = (y 1).val % 128; omega
    rw [dif_neg (by omega)]
    rw [dif_pos ⟨hy, Nat.zero_le _, by omega⟩]; congr 2; apply Fin.ext; show (y 1).val - 0 = (y 1).val % 128; omega
  · rw [if_neg h4]
    by_cases h3 : 896 ≤ (y 1).val
    · rw [dif_pos ⟨hy, h3, by omega⟩]; congr 2; apply Fin.ext; show (y 1).val - 896 = (y 1).val % 128; omega
    rw [dif_neg (by omega)]
    by_cases h2 : 768 ≤ (y 1).val
    · rw [dif_pos ⟨hy, h2, by omega⟩]; congr 2; apply Fin.ext; show (y 1).val - 768 = (y 1).val % 128; omega
    rw [dif_neg (by omega)]
    by_cases h1 : 640 ≤ (y 1).val
    · rw [dif_pos ⟨hy, h1, by omega⟩]; congr 2; apply Fin.ext; show (y 1).val - 640 = (y 1).val % 128; omega
    rw [dif_neg (by omega)]
    rw [dif_pos ⟨hy, by omega, by omega⟩]; congr 2; apply Fin.ext; show (y 1).val - 512 = (y 1).val % 128; omega

/-- What a branch of fewer than 256 rows leaves. -/
theorem table_of_writes {sp : Space} {m : ℕ} (v : View sig .tc sp S256x1024 .f32) (f : v.ty.Contents (Elt F)) (h : Fits n) (hm : n + m = 256)
    (p : FVec F (Rows n 1024) .f32) (v25 : IVec S1x128 32)
    (inb : ∀ a, (![n, 0] : Fin 2 → ℕ) a + (Rows m 1024).size a ≤ S256x1024.size a)
    (i7 i6 i5 i4 i3 i2 i1 i0) (u0 u1 : FVec F (Rows n 128) .f32)
    (hu0 : u0 = picked h (pickScore h v25 (extractStridedSlice (Rows n 512) ![0, 0] p h.half0)))
    (hu1 : u1 = picked h (pickScore h v25 (extractStridedSlice (Rows n 512) ![0, 512] p h.half1))) :
    v.read (Elt F) (v.writes (Elt F) f [⟨Rect.unit ![n, 0] (Rows m 1024).size inb, broadcast (Rows m 1024) (Scalar.ofBits .f32 0x00000000#32)⟩,
      colPiece 896 i7 (shapeCast (Rows n 128) u1 h.castSame), colPiece 768 i6 (shapeCast (Rows n 128) u1 h.castSame), colPiece 640 i5 (shapeCast (Rows n 128) u1 h.castSame), colPiece 512 i4 (shapeCast (Rows n 128) u1 h.castSame),
      colPiece 384 i3 (shapeCast (Rows n 128) u0 h.castSame), colPiece 256 i2 (shapeCast (Rows n 128) u0 h.castSame), colPiece 128 i1 (shapeCast (Rows n 128) u0 h.castSame), colPiece 0 i0 (shapeCast (Rows n 128) u0 h.castSame)]) = selTable h p v25 := by
  subst hu0 hu1
  funext y
  rw [read_rest v f hm inb _ y (Scalar.ofBits .f32 0x00000000#32) (broadcast (Rows m 1024) (Scalar.ofBits .f32 0x00000000#32)) rfl]
  by_cases hy : (y 0).val < n
  · rw [if_pos hy]; exact read_cols v f h p v25 y hy i7 i6 i5 i4 i3 i2 i1 i0 _ _ rfl rfl
  · rw [if_neg hy]; simp only [selTable, dif_neg hy]

/-- What the branch of all 256 rows leaves. -/
theorem table_of_writes_all {sp : Space} (v : View sig .tc sp S256x1024 .f32) (f : v.ty.Contents (Elt F)) (h : Fits 256)
    (p : FVec F (Rows 256 1024) .f32) (v25 : IVec S1x128 32) (i7 i6 i5 i4 i3 i2 i1 i0) (u0 u1 : FVec F (Rows 256 128) .f32)
    (hu0 : u0 = picked h (pickScore h v25 (extractStridedSlice (Rows 256 512) ![0, 0] p h.half0)))
    (hu1 : u1 = picked h (pickScore h v25 (extractStridedSlice (Rows 256 512) ![0, 512] p h.half1))) :
    v.read (Elt F) (v.writes (Elt F) f [colPiece 896 i7 (shapeCast (Rows 256 128) u1 h.castSame), colPiece 768 i6 (shapeCast (Rows 256 128) u1 h.castSame), colPiece 640 i5 (shapeCast (Rows 256 128) u1 h.castSame), colPiece 512 i4 (shapeCast (Rows 256 128) u1 h.castSame),
      colPiece 384 i3 (shapeCast (Rows 256 128) u0 h.castSame), colPiece 256 i2 (shapeCast (Rows 256 128) u0 h.castSame), colPiece 128 i1 (shapeCast (Rows 256 128) u0 h.castSame), colPiece 0 i0 (shapeCast (Rows 256 128) u0 h.castSame)]) = selTable h p v25 := by
  subst hu0 hu1
  funext y
  exact read_cols v f h p v25 y (y 0).isLt i7 i6 i5 i4 i3 i2 i1 i0 _ _ rfl rfl

end Cert.KernelIdeal.Nsa
-- ==== Proof.Switch.lean ====
/-
  The kernel's switch: whichever branch the step takes, it returns the two outputs of the compressed attention of its
  first `n` blocks and leaves the table of picked blocks, with `n` the number of blocks the branch works on, which is
  beyond the last block that the step's queries lie in.
-/
module

public import proofs.«01_k».proof.Proof.Table
public import proofs.«01_k».proof.Proof.Gen.KernelIdeal.Frame
public import Idealize.ShloMosaic.Lib.Exec
public import Idealize.ShloMosaic.Lib.Tactic

@[expose] public section

set_option maxRecDepth 16384

noncomputable section

namespace Cert.KernelIdeal.Nsa

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F] {n : ℕ}

local notation "𝕄" => MT nD τ sig Unit (Elt F) ℕ (UR sig nD τ) ℕ

theorem fits32 : Fits 32 := by constructor <;> decide +kernel
theorem fits64 : Fits 64 := by constructor <;> decide +kernel
theorem fits96 : Fits 96 := by constructor <;> decide +kernel
theorem fits128 : Fits 128 := by constructor <;> decide +kernel
theorem fits160 : Fits 160 := by constructor <;> decide +kernel
theorem fits192 : Fits 192 := by constructor <;> decide +kernel
theorem fits224 : Fits 224 := by constructor <;> decide +kernel
theorem fits256 : Fits 256 := by constructor <;> decide +kernel

/-- The weights of the branch of `n` blocks, of the step's queries and the compressed keys. -/
def swProbs (h : Fits n) (i : grid0.Coords) (X2 : Vec F S512x128 .f32) (X4 : Vec F S1x256x128 .bf16) : FVec F (Rows n 1024) .f32 :=
  cmpProbs h (k0_pay212 X2) (k0_pay213 i) (VecWindow.window X4 ![0, 0, 0] (Rows3 n 128).size h.rowsIn)

/-- Its outputs, one per key-value head. -/
def swOut0 (h : Fits n) (i : grid0.Coords) (X2 : Vec F S512x128 .f32) (X4 : Vec F S1x256x128 .bf16) (X5 : Vec F S1x128x256 .bf16) : FVec F S64x512 .f32 :=
  cmpOut0 h (swProbs h i X2 X4) (VecWindow.window X5 ![0, 0, 0] (Rows3 64 n).size h.cols0In)
def swOut1 (h : Fits n) (i : grid0.Coords) (X2 : Vec F S512x128 .f32) (X4 : Vec F S1x256x128 .bf16) (X5 : Vec F S1x128x256 .bf16) : FVec F S64x512 .f32 :=
  cmpOut1 h (swProbs h i X2 X4) (VecWindow.window X5 ![0, 64, 0] (Rows3 64 n).size h.cols1In)

/-- The table it leaves. -/
def swSel (h : Fits n) (i : grid0.Coords) (X2 : Vec F S512x128 .f32) (X4 : Vec F S1x256x128 .bf16) : Vec F S256x1024 .f32 :=
  selTable h (swProbs h i X2 X4) (k0_pay214 i)

/-- The number of blocks the step's branch works on. -/
def nOf (i : grid0.Coords) : ℕ := 32 * ((2 * (i 1).val + 1) / 32 + 1)

/-- What the switch's part of the program returns: the step's first position, the queries, their positions, the two
    outputs, and the table that spreads a block's row over its 64 keys. -/
abbrev Switched (F : FTy → Type) [FloatOps F] : Type :=
  (Σ' (v0 : BitVec 32) (v17 : FVec F S128x1024 .bf16) (v22 : IVec S1x1024 32) (v33_0 : FVec F S64x512 .f32) (v33_1 : FVec F S64x512 .f32), FVec F S512x128 .f32)

def switched (h : Fits n) (i : grid0.Coords) (X2 : Vec F S512x128 .f32) (X4 : Vec F S1x256x128 .bf16) (X5 : Vec F S1x128x256 .bf16) : Switched F :=
  ⟨Scalar.muli (BitVec.ofNat 32 (i 1).val) 128#32, k0_pay212 X2, k0_pay213 i, swOut0 h i X2 X4 X5, swOut1 h i X2 X4 X5, k0_pay302⟩

/-- Which branch is taken. -/
theorem cond1_iff (i : grid0.Coords) : k0_cond1 i = 1#1 ↔ (2 * (i 1).val + 1) / 32 ≠ 0 := by
  have h : (i 1).val < 128 := (i 1).isLt
  unfold k0_cond1
  revert h
  generalize (i 1).val = q
  revert q
  decide +kernel

theorem cond2_iff (i : grid0.Coords) : k0_cond2 i = 1#1 ↔ (2 * (i 1).val + 1) / 32 ≠ 1 := by
  have h : (i 1).val < 128 := (i 1).isLt
  unfold k0_cond2
  revert h
  generalize (i 1).val = q
  revert q
  decide +kernel

theorem cond3_iff (i : grid0.Coords) : k0_cond3 i = 1#1 ↔ (2 * (i 1).val + 1) / 32 ≠ 2 := by
  have h : (i 1).val < 128 := (i 1).isLt
  unfold k0_cond3
  revert h
  generalize (i 1).val = q
  revert q
  decide +kernel

theorem cond4_iff (i : grid0.Coords) : k0_cond4 i = 1#1 ↔ (2 * (i 1).val + 1) / 32 ≠ 3 := by
  have h : (i 1).val < 128 := (i 1).isLt
  unfold k0_cond4
  revert h
  generalize (i 1).val = q
  revert q
  decide +kernel

theorem cond5_iff (i : grid0.Coords) : k0_cond5 i = 1#1 ↔ (2 * (i 1).val + 1) / 32 ≠ 4 := by
  have h : (i 1).val < 128 := (i 1).isLt
  unfold k0_cond5
  revert h
  generalize (i 1).val = q
  revert q
  decide +kernel

theorem cond6_iff (i : grid0.Coords) : k0_cond6 i = 1#1 ↔ (2 * (i 1).val + 1) / 32 ≠ 5 := by
  have h : (i 1).val < 128 := (i 1).isLt
  unfold k0_cond6
  revert h
  generalize (i 1).val = q
  revert q
  decide +kernel

theorem cond7_iff (i : grid0.Coords) : k0_cond7 i = 1#1 ↔ (2 * (i 1).val + 1) / 32 ≠ 6 := by
  have h : (i 1).val < 128 := (i 1).isLt
  unfold k0_cond7
  revert h
  generalize (i 1).val = q
  revert q
  decide +kernel

set_option maxHeartbeats 40000000 in
/-- The step's branch. -/
theorem run_switch (𝒱 : Variants) (c : Dev nD) (bd : Option 𝒱.V) (E : Set ℕ) (i : grid0.Coords) (arg2 : Memref sig .tc .vmem S512x128 .f32) (harg2 : arg2.IsWhole) (arg3 : Memref sig .tc .vmem S32x128 .f32) (harg3 : arg3.IsWhole) (arg4 : Memref sig .tc .vmem S1x256x128 .bf16) (harg4 : arg4.IsWhole) (arg5 : Memref sig .tc .vmem S1x128x256 .bf16) (harg5 : arg5.IsWhole) (arg6 : Memref sig .tc .vmem S1x16384x128 .bf16) (harg6 : arg6.IsWhole) (arg7 : Memref sig .tc .vmem S1x128x16384 .bf16) (harg7 : arg7.IsWhole) (arg8 : Memref sig .tc .vmem S1x16384x128 .bf16) (harg8 : arg8.IsWhole) (arg9 : Memref sig .tc .vmem S1x128x16384 .bf16) (harg9 : arg9.IsWhole) (arg10 : Memref sig .tc .vmem S512x128 .f32) (harg10 : arg10.IsWhole) (arg11 : Memref sig .tc .vmem S256x1024 .f32) (harg11 : arg11.IsWhole) (arg12 : Memref sig .tc .vmem S256x1024 .bf16) (harg12 : arg12.IsWhole) (arg13 : Memref sig .tc .vmem S256x1024 .bf16) (harg13 : arg13.IsWhole) (arg14 : Memref sig .tc .vmem S512x1024 .f32) (harg14 : arg14.IsWhole) (arg15 : Memref sig .tc .vmem S512x1024 .f32) (harg15 : arg15.IsWhole)
   (x2 : Buf (Elt F) (arg2.view.loc (c : Thread nD τ))) (x4 : Buf (Elt F) (arg4.view.loc (c : Thread nD τ))) (x5 : Buf (Elt F) (arg5.view.loc (c : Thread nD τ))) (x11 : Buf (Elt F) (arg11.view.loc (c : Thread nD τ)))
   (K : Switched F → sProp 𝕄) :
   iprop((arg2.view.loc (c : Thread nD τ) ↦[arg2.view.set]{fullShare} x2) ∗ (arg4.view.loc (c : Thread nD τ) ↦[arg4.view.set]{fullShare} x4) ∗ (arg5.view.loc (c : Thread nD τ) ↦[arg5.view.set]{fullShare} x5) ∗ (arg11.view.loc (c : Thread nD τ) ↦[arg11.view.set]{fullShare} x11) ∗
     (∀ (n : ℕ) (h : Fits n) (r : Switched F) (f : Buf (Elt F) (arg11.view.loc (c : Thread nD τ))),
      (arg2.view.loc (c : Thread nD τ) ↦[arg2.view.set]{fullShare} x2) -∗ (arg4.view.loc (c : Thread nD τ) ↦[arg4.view.set]{fullShare} x4) -∗ (arg5.view.loc (c : Thread nD τ) ↦[arg5.view.set]{fullShare} x5) -∗ (arg11.view.loc (c : Thread nD τ) ↦[arg11.view.set]{fullShare} f) -∗
      ⌜nOf i = n ∧ r = switched h i (arg2.view.readAt (Elt F) (Rect.unit (s := S512x128) ![0, 0] S512x128.size inb_S512x128_S512x128_0_0).toLoadRect x2) (arg4.view.read (Elt F) x4) (arg5.view.read (Elt F) x5)
          ∧ arg11.view.read (Elt F) f = swSel h i (arg2.view.readAt (Elt F) (Rect.unit (s := S512x128) ![0, 0] S512x128.size inb_S512x128_S512x128_0_0).toLoadRect x2) (arg4.view.read (Elt F) x4)⌝ -∗ K r))
   ⊢ wp frame (wpE (defs₀ (F := F)) 𝒱 (c : Thread nD τ) bd) E (k0_part33 (F := F) i arg2 harg2 arg3 harg3 arg4 harg4 arg5 harg5 arg6 harg6 arg7 harg7 arg8 harg8 arg9 harg9 arg10 harg10 arg11 harg11 arg12 harg12 arg13 harg13 arg14 harg14 arg15 harg15) K := by
  rw [k0_part33_eq_skeleton]
  unfold k0_part33_skel
  have hq : (i 1).val < 128 := (i 1).isLt
  by_cases h1 : k0_cond1 i = 1#1
  by_cases h2 : k0_cond2 i = 1#1
  by_cases h3 : k0_cond3 i = 1#1
  by_cases h4 : k0_cond4 i = 1#1
  by_cases h5 : k0_cond5 i = 1#1
  by_cases h6 : k0_cond6 i = 1#1
  by_cases h7 : k0_cond7 i = 1#1
  all_goals iintro ⟨H2, H4, H5, H11, HK⟩
  all_goals sl_exec
  all_goals sl_step
  · iapply HK $$ %256 %fits256 %_ %_ [H2] [H4] [H5] [H11] []
    all_goals first | iexact H2 | iexact H4 | iexact H5 | iexact H11 | skip
    ipureintro
    refine ⟨by simp only [nOf, cond1_iff, cond2_iff, cond3_iff, cond4_iff, cond5_iff, cond6_iff, cond7_iff] at *; omega,
      congrArg₂ (fun a b => (⟨_, _, _, a, b, _⟩ : Switched F)) (congrArg₂ (fun x y => matmul _ none x y _) rfl rfl) (congrArg₂ (fun x y => matmul _ none x y _) rfl rfl),
      table_of_writes_all arg11.view x11 fits256 (swProbs fits256 i _ _) (k0_pay214 i) _ _ _ _ _ _ _ _ _ _ ?_ ?_⟩
    all_goals exact picked_of_fold fits256 (by decide) _ _ rfl _ (fun _ _ => rfl)
  · iapply HK $$ %224 %fits224 %_ %_ [H2] [H4] [H5] [H11] []
    all_goals first | iexact H2 | iexact H4 | iexact H5 | iexact H11 | skip
    ipureintro
    refine ⟨by simp only [nOf, cond1_iff, cond2_iff, cond3_iff, cond4_iff, cond5_iff, cond6_iff, cond7_iff] at *; omega,
      congrArg₂ (fun a b => (⟨_, _, _, a, b, _⟩ : Switched F)) (congrArg₂ (fun x y => matmul _ none x y _) rfl rfl) (congrArg₂ (fun x y => matmul _ none x y _) rfl rfl),
      table_of_writes (m := 32) arg11.view x11 fits224 rfl (swProbs fits224 i _ _) (k0_pay214 i) _ _ _ _ _ _ _ _ _ _ _ ?_ ?_⟩
    all_goals exact picked_of_fold fits224 (by decide) _ _ rfl _ (fun _ _ => rfl)
  · iapply HK $$ %192 %fits192 %_ %_ [H2] [H4] [H5] [H11] []
    all_goals first | iexact H2 | iexact H4 | iexact H5 | iexact H11 | skip
    ipureintro
    refine ⟨by simp only [nOf, cond1_iff, cond2_iff, cond3_iff, cond4_iff, cond5_iff, cond6_iff, cond7_iff] at *; omega,
      congrArg₂ (fun a b => (⟨_, _, _, a, b, _⟩ : Switched F)) (congrArg₂ (fun x y => matmul _ none x y _) rfl rfl) (congrArg₂ (fun x y => matmul _ none x y _) rfl rfl),
      table_of_writes (m := 64) arg11.view x11 fits192 rfl (swProbs fits192 i _ _) (k0_pay214 i) _ _ _ _ _ _ _ _ _ _ _ ?_ ?_⟩
    all_goals exact picked_of_fold fits192 (by decide) _ _ rfl _ (fun _ _ => rfl)
  · iapply HK $$ %160 %fits160 %_ %_ [H2] [H4] [H5] [H11] []
    all_goals first | iexact H2 | iexact H4 | iexact H5 | iexact H11 | skip
    ipureintro
    refine ⟨by simp only [nOf, cond1_iff, cond2_iff, cond3_iff, cond4_iff, cond5_iff, cond6_iff, cond7_iff] at *; omega,
      congrArg₂ (fun a b => (⟨_, _, _, a, b, _⟩ : Switched F)) (congrArg₂ (fun x y => matmul _ none x y _) rfl rfl) (congrArg₂ (fun x y => matmul _ none x y _) rfl rfl),
      table_of_writes (m := 96) arg11.view x11 fits160 rfl (swProbs fits160 i _ _) (k0_pay214 i) _ _ _ _ _ _ _ _ _ _ _ ?_ ?_⟩
    all_goals exact picked_of_fold fits160 (by decide) _ _ rfl _ (fun _ _ => rfl)
  · iapply HK $$ %128 %fits128 %_ %_ [H2] [H4] [H5] [H11] []
    all_goals first | iexact H2 | iexact H4 | iexact H5 | iexact H11 | skip
    ipureintro
    refine ⟨by simp only [nOf, cond1_iff, cond2_iff, cond3_iff, cond4_iff, cond5_iff, cond6_iff, cond7_iff] at *; omega,
      congrArg₂ (fun a b => (⟨_, _, _, a, b, _⟩ : Switched F)) (congrArg₂ (fun x y => matmul _ none x y _) rfl rfl) (congrArg₂ (fun x y => matmul _ none x y _) rfl rfl),
      table_of_writes (m := 128) arg11.view x11 fits128 rfl (swProbs fits128 i _ _) (k0_pay214 i) _ _ _ _ _ _ _ _ _ _ _ ?_ ?_⟩
    all_goals exact picked_of_fold fits128 (by decide) _ _ rfl _ (fun _ _ => rfl)
  · iapply HK $$ %96 %fits96 %_ %_ [H2] [H4] [H5] [H11] []
    all_goals first | iexact H2 | iexact H4 | iexact H5 | iexact H11 | skip
    ipureintro
    refine ⟨by simp only [nOf, cond1_iff, cond2_iff, cond3_iff, cond4_iff, cond5_iff, cond6_iff, cond7_iff] at *; omega,
      congrArg₂ (fun a b => (⟨_, _, _, a, b, _⟩ : Switched F)) (congrArg₂ (fun x y => matmul _ none x y _) rfl rfl) (congrArg₂ (fun x y => matmul _ none x y _) rfl rfl),
      table_of_writes (m := 160) arg11.view x11 fits96 rfl (swProbs fits96 i _ _) (k0_pay214 i) _ _ _ _ _ _ _ _ _ _ _ ?_ ?_⟩
    all_goals exact picked_of_fold fits96 (by decide) _ _ rfl _ (fun _ _ => rfl)
  · iapply HK $$ %64 %fits64 %_ %_ [H2] [H4] [H5] [H11] []
    all_goals first | iexact H2 | iexact H4 | iexact H5 | iexact H11 | skip
    ipureintro
    refine ⟨by simp only [nOf, cond1_iff, cond2_iff, cond3_iff, cond4_iff, cond5_iff, cond6_iff, cond7_iff] at *; omega,
      congrArg₂ (fun a b => (⟨_, _, _, a, b, _⟩ : Switched F)) (congrArg₂ (fun x y => matmul _ none x y _) rfl rfl) (congrArg₂ (fun x y => matmul _ none x y _) rfl rfl),
      table_of_writes (m := 192) arg11.view x11 fits64 rfl (swProbs fits64 i _ _) (k0_pay214 i) _ _ _ _ _ _ _ _ _ _ _ ?_ ?_⟩
    all_goals exact picked_of_fold fits64 (by decide) _ _ rfl _ (fun _ _ => rfl)
  · iapply HK $$ %32 %fits32 %_ %_ [H2] [H4] [H5] [H11] []
    all_goals first | iexact H2 | iexact H4 | iexact H5 | iexact H11 | skip
    ipureintro
    refine ⟨by simp only [nOf, cond1_iff, cond2_iff, cond3_iff, cond4_iff, cond5_iff, cond6_iff, cond7_iff] at *; omega,
      congrArg₂ (fun a b => (⟨_, _, _, a, b, _⟩ : Switched F)) (congrArg₂ (fun x y => matmul _ none x y _) rfl rfl) (congrArg₂ (fun x y => matmul _ none x y _) rfl rfl),
      table_of_writes (m := 224) arg11.view x11 fits32 rfl (swProbs fits32 i _ _) (k0_pay214 i) _ _ _ _ _ _ _ _ _ _ _ ?_ ?_⟩
    all_goals exact picked_of_fold fits32 (by decide) _ _ rfl _ (fun _ _ => rfl)

end Cert.KernelIdeal.Nsa
-- ==== Proof.Flow.lean ====
/-
  What one step of the kernel computes after its switch, as functions of the arrays it reads: the tiles of keys, values
  and picked blocks; the scores of a tile; the running softmax from tile to tile; the sliding window; the gated sum.
-/
module

public import proofs.«01_k».proof.Proof.Switch

@[expose] public section

set_option maxRecDepth 16384

noncomputable section

namespace Cert.KernelIdeal.Nsa

open Cert.KernelIdeal Cert.KernelIdeal.Gen
open Idealize.ShloMosaic Idealize.SL.Sem

variable {F : FTy → Type} [FloatOps F] [Named F]

/-! ## Tiles -/

/-- `m` rows of the keys from row `b`. -/
def keyRows (m : ℕ) (X : Vec F S1x16384x128 .bf16) (b : ℕ) : Vec F (Rows3 m 128) .bf16 := fun z =>
  X (ValueIdx.ix3 ⟨0, by norm_num⟩ ⟨min (b + (z 1).val) 16383, by omega⟩ (z 2))

/-- The 64 rows of head `h` of `m` columns of the values from column `b`. -/
def valCols (m : ℕ) (X : Vec F S1x128x16384 .bf16) (h : Fin 2) (b : ℕ) : Vec F (Rows3 64 m) .bf16 := fun z =>
  X (ValueIdx.ix3 ⟨0, by norm_num⟩ ⟨64 * h.val + (z 1).val, by have h1 : (z 1).val < 64 := (z 1).isLt; omega⟩ ⟨min (b + (z 2).val) 16383, by omega⟩)

/-- Eight rows of the table of picked blocks from row `b`. -/
def selRows (X : Vec F S256x1024 .f32) (b : ℕ) : Vec F S8x1024 .f32 := fun z =>
  X (ValueIdx.ix2 ⟨min (b + (z 0).val) 255, by omega⟩ (z 1))

theorem keyRows_of_readAt {sp : Space} (v : View sig .tc sp S1x16384x128 .bf16) (f : v.ty.Contents (Elt F)) {m b : ℕ} {off : Fin 3 → ℕ}
    (inb : ∀ a, off a + (Rows3 m 128).size a ≤ S1x16384x128.size a) (h : off = ![0, b, 0]) :
    v.readAt (Elt F) (Rect.unit (s := S1x16384x128) off (Rows3 m 128).size inb).toLoadRect f = keyRows m (v.read (Elt F) f) b := by
  subst h
  funext z
  have h1 : (z 1).val < m := (z 1).isLt
  have h0 : (z 0).val < 1 := (z 0).isLt
  have hb : b + m ≤ 16384 := inb 1
  refine congrArg (v.read (Elt F) f) (funext fun a => Fin.ext ?_)
  fin_cases a
  · show 0 + 1 * (z 0).val = 0; omega
  · show b + 1 * (z 1).val = min (b + (z 1).val) 16383; omega
  · show 0 + 1 * (z 2).val = (z 2).val; omega

theorem valCols_of_readAt {sp : Space} (v : View sig .tc sp S1x128x16384 .bf16) (f : v.ty.Contents (Elt F)) {m b : ℕ} (hd : Fin 2) {off : Fin 3 → ℕ}
    (inb : ∀ a, off a + (Rows3 64 m).size a ≤ S1x128x16384.size a) (h : off = ![0, 64 * hd.val, b]) :
    v.readAt (Elt F) (Rect.unit (s := S1x128x16384) off (Rows3 64 m).size inb).toLoadRect f = valCols m (v.read (Elt F) f) hd b := by
  subst h
  funext z
  have h2 : (z 2).val < m := (z 2).isLt
  have h0 : (z 0).val < 1 := (z 0).isLt
  have hb : b + m ≤ 16384 := inb 2
  refine congrArg (v.read (Elt F) f) (funext fun a => Fin.ext ?_)
  fin_cases a
  · show 0 + 1 * (z 0).val = 0; omega
  · show 64 * hd.val + 1 * (z 1).val = 64 * hd.val + (z 1).val; omega
  · show b + 1 * (z 2).val = min (b + (z 2).val) 16383; omega

theorem selRows_of_readAt {sp : Space} (v : View sig .tc sp S256x1024 .f32) (f : v.ty.Contents (Elt F)) {b : ℕ} {off : Fin 2 → ℕ}
    (inb : ∀ a, off a + S8x1024.size a ≤ S256x1024.size a) (h : off = ![b, 0]) :
    v.readAt (Elt F) (Rect.unit (s := S256x1024) off S8x1024.size inb).toLoadRect f = selRows (v.read (Elt F) f) b := by
  subst h
  funext z
  have h0 : (z 0).val < 8 := (z 0).isLt
  have hb : b + 8 ≤ 256 := inb 0
  refine congrArg (v.read (Elt F) f) (funext fun a => Fin.ext ?_)
  fin_cases a
  · show b + 1 * (z 0).val = min (b + (z 0).val) 255; omega
  · show 0 + 1 * (z 1).val = (z 1).val; omega

/-! ## The right-hand side of the scores: the queries over the biases of eight blocks -/

def rhs (v17 : FVec F S128x1024 .bf16) (b : Vec F S16x1024 .bf16) : Vec F S256x1024 .bf16 := fun y =>
  if h : 128 ≤ (y 0).val ∧ (y 0).val < 144 then b (ValueIdx.ix2 ⟨(y 0).val - 128, by omega⟩ (y 1))
  else if h' : (y 0).val < 128 then k0_pay305 v17 (ValueIdx.ix2 ⟨(y 0).val, h'⟩ (y 1))
  else k0_pay306 (F := F) (ValueIdx.ix2 ⟨(y 0).val - 128, by have : (y 0).val < 256 := (y 0).isLt; omega⟩ (y 1))

/-- The biases just stored are the ones read. -/
theorem rhs_store {sp : Space} (v : View sig .tc sp S256x1024 .bf16) (f : v.ty.Contents (Elt F)) (L : List (View.Piece (Elt F) S256x1024 .bf16))
    (inb : ∀ a, (![128, 0] : Fin 2 → ℕ) a + S16x1024.size a ≤ S256x1024.size a) (b b' : Vec F S16x1024 .bf16) (v17 : FVec F S128x1024 .bf16)
    (h : v.read (Elt F) (v.writes (Elt F) f L) = rhs v17 b) :
    v.read (Elt F) (v.writes (Elt F) f (⟨Rect.unit ![128, 0] S16x1024.size inb, b'⟩ :: L)) = rhs v17 b' := by
  rw [View.read_writes_cons_put v f inb b' L rfl, h]
  funext y
  have b1 : (y 1).val < 1024 := (y 1).isLt
  unfold VecWindow.put rhs
  by_cases hy : 128 ≤ (y 0).val ∧ (y 0).val < 144
  · rw [dif_pos (by intro a; fin_cases a <;> simp <;> omega), dif_pos hy]
    congr 1
    funext a
    fin_cases a <;> apply Fin.ext <;> simp [Rect.unitLocal, ValueIdx.ix2]
  · rw [dif_neg hy, dif_neg (by intro hh; have h0 := hh 0; simp at h0; omega), dif_neg hy]

/-- The two stores that fill it, and the biases stored over them. -/
theorem rhs_fill {sp : Space} (v : View sig .tc sp S256x1024 .bf16) (f : v.ty.Contents (Elt F)) (v17 : FVec F S128x1024 .bf16)
    (inb : ∀ a, (![0, 0] : Fin 2 → ℕ) a + S128x1024.size a ≤ S256x1024.size a) (inb' : ∀ a, (![128, 0] : Fin 2 → ℕ) a + S128x1024.size a ≤ S256x1024.size a) :
    v.read (Elt F) (v.writes (Elt F) f [⟨Rect.unit ![128, 0] S128x1024.size inb', k0_pay306 (F := F)⟩, ⟨Rect.unit ![0, 0] S128x1024.size inb, k0_pay305 v17⟩])
      = rhs v17 (fun z => k0_pay306 (F := F) (ValueIdx.ix2 ⟨(z 0).val, lt_trans (z 0).isLt (by norm_num)⟩ (z 1))) := by
  rw [View.read_writes_cons_put v f inb' _ _ rfl, View.read_writes_cons_put v f inb _ _ rfl]
  funext y
  have b1 : (y 1).val < 1024 := (y 1).isLt
  have b0 : (y 0).val < 256 := (y 0).isLt
  unfold VecWindow.put rhs
  by_cases hy : (y 0).val < 128
  · rw [dif_neg (by intro hh; have h0 := hh 0; simp at h0; omega), dif_pos (by intro a; fin_cases a <;> simp <;> omega),
      dif_neg (by omega), dif_pos hy]
    congr 1
    funext a
    fin_cases a <;> apply Fin.ext <;> simp [Rect.unitLocal, ValueIdx.ix2]
  · rw [dif_pos (by intro a; fin_cases a <;> simp <;> omega), dif_neg hy]
    split
    all_goals
      congr 1
      funext a
      fin_cases a <;> apply Fin.ext <;> simp [Rect.unitLocal, ValueIdx.ix2]

/-! ## The picked blocks -/

/-- The table that spreads a block's row over its 64 keys, and the ones that make a value product give the sum too. -/
def spread : FVec F S512x128 .bf16 := k0_pay303 (k0_pay302 (F := F))
def ones16 : FVec F S16x512 .bf16 := k0_pay304 (F := F)

/-- The scores of tile `j`: its keys times the queries, plus 0 where the key's block is picked and −∞ where it isn't. -/
def tileScores (X6 : Vec F S1x16384x128 .bf16) (Sel : Vec F S256x1024 .f32) (v17 : FVec F S128x1024 .bf16) (j : ℕ) : FVec F S512x1024 .f32 :=
  k0_pay314 (k0_pay313 spread (keyRows 512 X6 (512 * j))) (rhs v17 (k0_pay312 (selRows Sel (8 * j))))

/-- The running maximum and the two heads' running sums. -/
abbrev Run (F : FTy → Type) [FloatOps F] : Type := FVec F S1x1024 .f32 × FVec F S80x512 .f32 × FVec F S80x512 .f32

/-- One tile more. -/
def upd (a : Run F) (s : FVec F S512x1024 .f32) (vt0 vt1 : Vec F S1x64x512 .bf16) : Run F :=
  (k0_pay176 a.1 s, k0_pay315 a.2.1 (k0_pay178 a.1 s) (k0_pay180 ones16 vt0) (k0_pay181 a.1 s),
    k0_pay316 ones16 a.2.2 (k0_pay178 a.1 s) (k0_pay179 a.1 s) vt1)

/-- After `j` whole tiles. -/
def runAt (X6 : Vec F S1x16384x128 .bf16) (X7 : Vec F S1x128x16384 .bf16) (Sel : Vec F S256x1024 .f32) (v17 : FVec F S128x1024 .bf16) : ℕ → Run F
  | 0 => (k0_pay309 (F := F), k0_pay310 (F := F), k0_pay311 (F := F))
  | j + 1 => upd (runAt X6 X7 Sel v17 j) (tileScores X6 Sel v17 j) (valCols 512 X7 0 (512 * j)) (valCols 512 X7 1 (512 * j))

/-- The number of whole tiles before the step's last one. -/
def nFull (i : grid0.Coords) : ℕ := (128 * (i 1).val + 127) / 512

/-- After the last tile, its scores masked to the positions at or before the query's. -/
def runEnd (i : grid0.Coords) (X6 : Vec F S1x16384x128 .bf16) (X7 : Vec F S1x128x16384 .bf16) (Sel : Vec F S256x1024 .f32) (v17 : FVec F S128x1024 .bf16) : Run F :=
  upd (runAt X6 X7 Sel v17 (nFull i)) (k0_pay322 (k0_pay213 i) (BitVec.ofNat 32 (nFull i)) (tileScores X6 Sel v17 (nFull i)))
    (valCols 512 X7 0 (512 * nFull i)) (valCols 512 X7 1 (512 * nFull i))

/-! ## The window -/

/-- The first position the step's window reads. -/
def winBase (i : grid0.Coords) : ℕ := 128 * (i 1).val - 512

def winScores (i : grid0.Coords) (X8 : Vec F S1x16384x128 .bf16) (v17 : FVec F S128x1024 .bf16) : FVec F S640x1024 .f32 :=
  k0_pay330 v17 (keyRows 640 X8 (winBase i))

def winDist (i : grid0.Coords) : IVec S640x1024 32 := k0_pay331 (Scalar.muli (BitVec.ofNat 32 (i 1).val) 128#32) (k0_pay213 i)

/-! ## The gated sum -/

/-- The 64 rows of query head `r`: its gates times the three outputs of its key-value head. -/
def headOut (oc0 oc1 os0 os1 ow0 ow1 : FVec F S64x512 .f32) (X3 : Vec F S32x128 .f32) (r : ℕ) : FVec F S64x128 .f32 :=
  match r with
  | 0 => k0_pay339 oc0 os0 ow0 (k0_pay336 X3) (k0_pay337 (F := F))
  | 1 => k0_pay340 oc0 os0 ow0 (k0_pay336 X3) (k0_pay337 (F := F))
  | 2 => k0_pay341 oc0 os0 ow0 (k0_pay336 X3) (k0_pay337 (F := F))
  | 3 => k0_pay342 oc0 os0 ow0 (k0_pay338 (k0_pay336 X3) (k0_pay337 (F := F)))
  | 4 => k0_pay343 oc1 os1 ow1 (k0_pay338 (k0_pay336 X3) (k0_pay337 (F := F)))
  | 5 => k0_pay1 (k0_pay344 oc1 os1 (k0_pay338 (k0_pay336 X3) (k0_pay337 (F := F)))) (k0_pay345 (k0_pay338 (k0_pay336 X3) (k0_pay337 (F := F)))) (k0_pay346 ow1)
  | 6 => k0_pay2 oc1 os1 ow1 (k0_pay338 (k0_pay336 X3) (k0_pay337 (F := F)))
  | _ => k0_pay3 oc1 os1 ow1 (k0_pay338 (k0_pay336 X3) (k0_pay337 (F := F)))

/-- The step's output block from the eight heads' rows. -/
def stackHeads (w : ℕ → FVec F S64x128 .f32) : Vec F S512x128 .f32 := fun y =>
  w ((y 0).val / 64) (ValueIdx.ix2 ⟨(y 0).val % 64, Nat.mod_lt _ (by norm_num)⟩ (y 1))

/-- The step's output, of the blocks it reads, for a branch of `n` blocks. -/
def stepOut {n : ℕ} (h : Fits n) (i : grid0.Coords) (X2 : Vec F S512x128 .f32) (X3 : Vec F S32x128 .f32) (X4 : Vec F S1x256x128 .bf16) (X5 : Vec F S1x128x256 .bf16)
    (X6 : Vec F S1x16384x128 .bf16) (X7 : Vec F S1x128x16384 .bf16) (X8 : Vec F S1x16384x128 .bf16) (X9 : Vec F S1x128x16384 .bf16) : Vec F S512x128 .f32 :=
  stackHeads (headOut (swOut0 h i X2 X4 X5) (swOut1 h i X2 X4 X5)
    (k0_pay328 (runEnd i X6 X7 (swSel h i X2 X4) (k0_pay212 X2)).2.1) (k0_pay329 (runEnd i X6 X7 (swSel h i X2 X4) (k0_pay212 X2)).2.2)
    (k0_pay334 (winScores i X8 (k0_pay212 X2)) (winDist i) (valCols 640 X9 0 (winBase i)))
    (k0_pay335 (winScores i X8 (k0_pay212 X2)) (winDist i) (valCols 640 X9 1 (winBase i))) X3)

theorem read_heads {sp : Space} (v : View sig .tc sp S512x128 .f32) (f : v.ty.Contents (Elt F)) (w : ℕ → FVec F S64x128 .f32) (i7 i6 i5 i4 i3 i2 i1 i0) :
    v.read (Elt F) (v.writes (Elt F) f [⟨Rect.unit (s := S512x128) ![448, 0] S64x128.size i7, w 7⟩, ⟨Rect.unit (s := S512x128) ![384, 0] S64x128.size i6, w 6⟩,
      ⟨Rect.unit (s := S512x128) ![320, 0] S64x128.size i5, w 5⟩, ⟨Rect.unit (s := S512x128) ![256, 0] S64x128.size i4, w 4⟩,
      ⟨Rect.unit (s := S512x128) ![192, 0] S64x128.size i3, w 3⟩, ⟨Rect.unit (s := S512x128) ![128, 0] S64x128.size i2, w 2⟩,
      ⟨Rect.unit (s := S512x128) ![64, 0] S64x128.size i1, w 1⟩, ⟨Rect.unit (s := S512x128) ![0, 0] S64x128.size i0, w 0⟩]) = stackHeads w := by
  have key : ∀ (r : ℕ) (X : Vec F S512x128 .f32) (y : S512x128.Idx),
      VecWindow.put X ![64 * r, 0] S64x128.size (w r) y = if (y 0).val / 64 = r then stackHeads w y else X y := by
    intro r X y
    have b1 : (y 1).val < 128 := (y 1).isLt
    unfold VecWindow.put stackHeads
    by_cases hy : (y 0).val / 64 = r
    · rw [if_pos hy, dif_pos (by intro a; fin_cases a <;> simp <;> omega)]
      subst hy
      congr 1
      funext a
      fin_cases a <;> apply Fin.ext
      · simp [Rect.unitLocal, ValueIdx.ix2]; omega
      · simp [Rect.unitLocal, ValueIdx.ix2]
    · rw [if_neg hy, dif_neg (by intro hh; have h0 := hh 0; simp at h0; omega)]
  rw [View.read_writes_cons_put v f i7 _ _ rfl, View.read_writes_cons_put v f i6 _ _ rfl, View.read_writes_cons_put v f i5 _ _ rfl,
    View.read_writes_cons_put v f i4 _ _ rfl, View.read_writes_cons_put v f i3 _ _ rfl, View.read_writes_cons_put v f i2 _ _ rfl,
    View.read_writes_cons_put v f i1 _ _ rfl, View.read_writes_cons_put v f i0 _ _ rfl]
  funext y
  have b0 : (y 0).val < 512 := (y 0).isLt
  rw [key 7, key 6, key 5, key 4, key 3, key 2, key 1, key 0]
  split_ifs <;> first | rfl | omega

end Cert.KernelIdeal.Nsa
-- ==== Proof.Words.lean ====
/-
  The step's integers in closed form: how many tiles its loop takes two at a time, whether one is left over, and where
  each load starts.
-/
module

public import proofs.«01_k».proof.Proof.Flow

@[expose] public section

set_option maxRecDepth 16384

noncomputable section

namespace Cert.KernelIdeal.Nsa

open Cert.KernelIdeal Cert.KernelIdeal.Gen
open Idealize.ShloMosaic Idealize.SL.Sem

/-- The number of whole tiles as the program computes it: the floor of a quotient, spelt out. -/
def nFullWord (v0 : BitVec 32) : BitVec 32 :=
  Scalar.select (Scalar.andi (Scalar.cmpi .ne (Scalar.subi (Scalar.extui (Scalar.cmpi .sgt (Scalar.subi (Scalar.addi v0 128#32) 1#32) 0#32) : BitVec 32) (Scalar.extui (Scalar.cmpi .slt (Scalar.subi (Scalar.addi v0 128#32) 1#32) 0#32)))
      (Scalar.subi (Scalar.extui (Scalar.cmpi .sgt (512#32 : BitVec 32) 0#32)) (Scalar.extui (Scalar.cmpi .slt (512#32 : BitVec 32) 0#32))))
    (Scalar.cmpi .ne (Scalar.remsi (Scalar.subi (Scalar.addi v0 128#32) 1#32) 512#32) 0#32))
    (Scalar.subi (Scalar.divsi (Scalar.subi (Scalar.addi v0 128#32) 1#32) 512#32) 1#32) (Scalar.divsi (Scalar.subi (Scalar.addi v0 128#32) 1#32) 512#32)

theorem nFullWord_eq (i : grid0.Coords) : nFullWord (Scalar.muli (BitVec.ofNat 32 (i 1).val) 128#32) = BitVec.ofNat 32 (nFull i) := by
  have h : (i 1).val < 128 := (i 1).isLt
  unfold nFullWord nFull
  revert h
  generalize (i 1).val = q
  revert q
  decide +kernel

theorem nFull_lt (i : grid0.Coords) : nFull i < 32 := by
  have h : (i 1).val < 128 := (i 1).isLt
  unfold nFull; omega

theorem trips17 (i : grid0.Coords) : (k0_t17_loop i).trips = nFull i / 2 := by
  have h : (i 1).val < 128 := (i 1).isLt
  unfold k0_t17_loop nFull
  revert h
  generalize (i 1).val = q
  revert q
  decide +kernel

theorem trips18 (i : grid0.Coords) : (k0_t18_loop i).trips = 0 := by
  have h : (i 1).val < 128 := (i 1).isLt
  unfold k0_t18_loop
  revert h
  generalize (i 1).val = q
  revert q
  decide +kernel

theorem cond8_iff (i : grid0.Coords) : k0_cond8 i = 1#1 ↔ nFull i % 2 = 1 := by
  have h : (i 1).val < 128 := (i 1).isLt
  unfold k0_cond8 nFull
  revert h
  generalize (i 1).val = q
  revert q
  decide +kernel

theorem trip_lt {i : grid0.Coords} (k : Fin (k0_t17_loop i).trips) : k.val < 16 := by
  have h := k.isLt
  have h2 := trips17 i
  have := nFull_lt i
  omega

theorem off1_one (i : grid0.Coords) (k : Fin (k0_t17_loop i).trips) : k0_off1 i k 1#32 = ![8 * (2 * k.val + 1), 0] := by
  have h := trip_lt k
  unfold k0_off1 Scf.iv
  revert h
  generalize k.val = q
  revert q
  decide +kernel

theorem off1_two (i : grid0.Coords) (k : Fin (k0_t17_loop i).trips) : k0_off1 i k 2#32 = ![8 * (2 * k.val + 2), 0] := by
  have h := trip_lt k
  unfold k0_off1 Scf.iv
  revert h
  generalize k.val = q
  revert q
  decide +kernel

theorem off2_one (i : grid0.Coords) (k : Fin (k0_t17_loop i).trips) : k0_off2 i k 1#32 = ![0, 512 * (2 * k.val + 1), 0] := by
  have h := trip_lt k
  unfold k0_off2 Scf.iv
  revert h
  generalize k.val = q
  revert q
  decide +kernel

theorem off2_two (i : grid0.Coords) (k : Fin (k0_t17_loop i).trips) : k0_off2 i k 2#32 = ![0, 512 * (2 * k.val + 2), 0] := by
  have h := trip_lt k
  unfold k0_off2 Scf.iv
  revert h
  generalize k.val = q
  revert q
  decide +kernel

theorem off3_eq (i : grid0.Coords) (k : Fin (k0_t17_loop i).trips) : k0_off3 i k = ![0, 64 * (0 : Fin 2).val, 512 * (2 * k.val)] := by
  have h := trip_lt k
  unfold k0_off3 Scf.iv
  revert h
  generalize k.val = q
  revert q
  decide +kernel

theorem off4_eq (i : grid0.Coords) (k : Fin (k0_t17_loop i).trips) : k0_off4 i k = ![0, 64 * (1 : Fin 2).val, 512 * (2 * k.val)] := by
  have h := trip_lt k
  unfold k0_off4 Scf.iv
  revert h
  generalize k.val = q
  revert q
  decide +kernel

theorem off5_eq (i : grid0.Coords) (k : Fin (k0_t17_loop i).trips) : k0_off5 i k = ![0, 64 * (0 : Fin 2).val, 512 * (2 * k.val + 1)] := by
  have h := trip_lt k
  unfold k0_off5 Scf.iv
  revert h
  generalize k.val = q
  revert q
  decide +kernel

theorem off6_eq (i : grid0.Coords) (k : Fin (k0_t17_loop i).trips) : k0_off6 i k = ![0, 64 * (1 : Fin 2).val, 512 * (2 * k.val + 1)] := by
  have h := trip_lt k
  unfold k0_off6 Scf.iv
  revert h
  generalize k.val = q
  revert q
  decide +kernel

theorem off13_eq (i : grid0.Coords) : k0_off13 i = ![8 * nFull i, 0] := by
  have h : (i 1).val < 128 := (i 1).isLt
  unfold k0_off13 nFull
  revert h
  generalize (i 1).val = q
  revert q
  decide +kernel

theorem off14_eq (i : grid0.Coords) : k0_off14 i = ![0, 512 * nFull i, 0] := by
  have h : (i 1).val < 128 := (i 1).isLt
  unfold k0_off14 nFull
  revert h
  generalize (i 1).val = q
  revert q
  decide +kernel

theorem off15_eq (i : grid0.Coords) (hc : nFull i % 2 = 1) : k0_off15 i = ![0, 64 * (0 : Fin 2).val, 512 * (nFull i - 1)] := by
  have h : (i 1).val < 128 := (i 1).isLt
  revert hc
  unfold k0_off15 nFull
  revert h
  generalize (i 1).val = q
  revert q
  decide +kernel

theorem off16_eq (i : grid0.Coords) (hc : nFull i % 2 = 1) : k0_off16 i = ![0, 64 * (1 : Fin 2).val, 512 * (nFull i - 1)] := by
  have h : (i 1).val < 128 := (i 1).isLt
  revert hc
  unfold k0_off16 nFull
  revert h
  generalize (i 1).val = q
  revert q
  decide +kernel

theorem off17_eq (i : grid0.Coords) : k0_off17 i = ![0, 64 * (0 : Fin 2).val, 512 * nFull i] := by
  have h : (i 1).val < 128 := (i 1).isLt
  unfold k0_off17 nFull
  revert h
  generalize (i 1).val = q
  revert q
  decide +kernel

theorem off18_eq (i : grid0.Coords) : k0_off18 i = ![0, 64 * (1 : Fin 2).val, 512 * nFull i] := by
  have h : (i 1).val < 128 := (i 1).isLt
  unfold k0_off18 nFull
  revert h
  generalize (i 1).val = q
  revert q
  decide +kernel

theorem off19_eq (i : grid0.Coords) : k0_off19 i = ![0, 64 * (0 : Fin 2).val, 512 * nFull i] := by
  have h : (i 1).val < 128 := (i 1).isLt
  unfold k0_off19 nFull
  revert h
  generalize (i 1).val = q
  revert q
  decide +kernel

theorem off20_eq (i : grid0.Coords) : k0_off20 i = ![0, 64 * (1 : Fin 2).val, 512 * nFull i] := by
  have h : (i 1).val < 128 := (i 1).isLt
  unfold k0_off20 nFull
  revert h
  generalize (i 1).val = q
  revert q
  decide +kernel

theorem off21_eq (i : grid0.Coords) : k0_off21 i = ![0, winBase i, 0] := by
  have h : (i 1).val < 128 := (i 1).isLt
  unfold k0_off21 winBase
  revert h
  generalize (i 1).val = q
  revert q
  decide +kernel

theorem off22_eq (i : grid0.Coords) : k0_off22 i = ![0, 64 * (0 : Fin 2).val, winBase i] := by
  have h : (i 1).val < 128 := (i 1).isLt
  unfold k0_off22 winBase
  revert h
  generalize (i 1).val = q
  revert q
  decide +kernel

theorem off23_eq (i : grid0.Coords) : k0_off23 i = ![0, 64 * (1 : Fin 2).val, winBase i] := by
  have h : (i 1).val < 128 := (i 1).isLt
  unfold k0_off23 winBase
  revert h
  generalize (i 1).val = q
  revert q
  decide +kernel

end Cert.KernelIdeal.Nsa
-- ==== Proof.Trip.lean ====
/-
  Two tiles of the loop: what one trip leaves, given what it finds.
-/
module

public import proofs.«01_k».proof.Proof.Words

@[expose] public section

set_option maxRecDepth 16384

noncomputable section

namespace Cert.KernelIdeal.Nsa

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- Before trip `k`, `2k` tiles are in the running sums and the scores of tile `2k` wait in the first of the two score arrays. -/
def tripInv (c : Dev nD) (arg6 : Memref sig .tc .vmem S1x16384x128 .bf16) (arg7 : Memref sig .tc .vmem S1x128x16384 .bf16) (arg11 : Memref sig .tc .vmem S256x1024 .f32) (arg12 : Memref sig .tc .vmem S256x1024 .bf16) (arg13 : Memref sig .tc .vmem S256x1024 .bf16) (arg14 : Memref sig .tc .vmem S512x1024 .f32) (arg15 : Memref sig .tc .vmem S512x1024 .f32) (x6 : Buf (Elt F) (arg6.view.loc (c : Thread nD τ))) (x7 : Buf (Elt F) (arg7.view.loc (c : Thread nD τ))) (x11 : Buf (Elt F) (arg11.view.loc (c : Thread nD τ))) (v17 : FVec F S128x1024 .bf16) (k : ℕ) (a : Run F) : sProp 𝕄 :=
  iprop(∃ (f12 : Buf (Elt F) (arg12.view.loc (c : Thread nD τ))) (f13 : Buf (Elt F) (arg13.view.loc (c : Thread nD τ))) (f14 : Buf (Elt F) (arg14.view.loc (c : Thread nD τ))) (f15 : Buf (Elt F) (arg15.view.loc (c : Thread nD τ))),
    (arg6.view.loc (c : Thread nD τ) ↦[arg6.view.set]{fullShare} x6) ∗ (arg7.view.loc (c : Thread nD τ) ↦[arg7.view.set]{fullShare} x7) ∗ (arg11.view.loc (c : Thread nD τ) ↦[arg11.view.set]{fullShare} x11) ∗
    (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗
    ⌜(∃ b, arg12.view.read (Elt F) f12 = rhs v17 b) ∧ (∃ b, arg13.view.read (Elt F) f13 = rhs v17 b)
      ∧ arg14.view.read (Elt F) f14 = tileScores (arg6.view.read (Elt F) x6) (arg11.view.read (Elt F) x11) v17 (2 * k)
      ∧ a = runAt (arg6.view.read (Elt F) x6) (arg7.view.read (Elt F) x7) (arg11.view.read (Elt F) x11) v17 (2 * k)⌝)

theorem tile_of_loads (X6 : Vec F S1x16384x128 .bf16) (Sel : Vec F S256x1024 .f32) (v17 : FVec F S128x1024 .bf16) (j : ℕ) (kt : Vec F S1x512x128 .bf16) (rt : Vec F S256x1024 .bf16)
    (hk : kt = keyRows 512 X6 (512 * j)) (hr : rt = rhs v17 (k0_pay312 (selRows Sel (8 * j)))) :
    k0_pay314 (k0_pay313 spread kt) rt = tileScores X6 Sel v17 j := by
  subst hk; subst hr; rfl

theorem upd_of_loads (X6 : Vec F S1x16384x128 .bf16) (X7 : Vec F S1x128x16384 .bf16) (Sel : Vec F S256x1024 .f32) (v17 : FVec F S128x1024 .bf16) (j : ℕ) (a : Run F)
    (s : FVec F S512x1024 .f32) (vt0 vt1 : Vec F S1x64x512 .bf16)
    (ha : a = runAt X6 X7 Sel v17 j) (hs : s = tileScores X6 Sel v17 j) (h0 : vt0 = valCols 512 X7 0 (512 * j)) (h1 : vt1 = valCols 512 X7 1 (512 * j)) :
    upd a s vt0 vt1 = runAt X6 X7 Sel v17 (j + 1) := by
  subst ha; subst hs; subst h0; subst h1; rfl

set_option maxHeartbeats 40000000 in
theorem run_trip (𝒱 : Variants) (c : Dev nD) (bd : Option 𝒱.V) (E : Set ℕ) (i : grid0.Coords) (arg2 : Memref sig .tc .vmem S512x128 .f32) (harg2 : arg2.IsWhole) (arg3 : Memref sig .tc .vmem S32x128 .f32) (harg3 : arg3.IsWhole) (arg4 : Memref sig .tc .vmem S1x256x128 .bf16) (harg4 : arg4.IsWhole) (arg5 : Memref sig .tc .vmem S1x128x256 .bf16) (harg5 : arg5.IsWhole) (arg6 : Memref sig .tc .vmem S1x16384x128 .bf16) (harg6 : arg6.IsWhole) (arg7 : Memref sig .tc .vmem S1x128x16384 .bf16) (harg7 : arg7.IsWhole) (arg8 : Memref sig .tc .vmem S1x16384x128 .bf16) (harg8 : arg8.IsWhole) (arg9 : Memref sig .tc .vmem S1x128x16384 .bf16) (harg9 : arg9.IsWhole) (arg10 : Memref sig .tc .vmem S512x128 .f32) (harg10 : arg10.IsWhole) (arg11 : Memref sig .tc .vmem S256x1024 .f32) (harg11 : arg11.IsWhole) (arg12 : Memref sig .tc .vmem S256x1024 .bf16) (harg12 : arg12.IsWhole) (arg13 : Memref sig .tc .vmem S256x1024 .bf16) (harg13 : arg13.IsWhole) (arg14 : Memref sig .tc .vmem S512x1024 .f32) (harg14 : arg14.IsWhole) (arg15 : Memref sig .tc .vmem S512x1024 .f32) (harg15 : arg15.IsWhole)
   (x6 : Buf (Elt F) (arg6.view.loc (c : Thread nD τ))) (x7 : Buf (Elt F) (arg7.view.loc (c : Thread nD τ))) (x11 : Buf (Elt F) (arg11.view.loc (c : Thread nD τ)))
   (v0 : BitVec 32) (v17 : FVec F S128x1024 .bf16) (v22 : IVec S1x1024 32) (v76 v93 : BitVec 32) (v94 : FVec F S1x1024 .f32) (v95 : FVec F S80x512 .f32) (v96 : FVec F S80x512 .f32) (v115 : FVec F S512x256 .bf16)
   (k : Fin (k0_t17_loop i).trips) (a : Run F) :
   tripInv c arg6 arg7 arg11 arg12 arg13 arg14 arg15 x6 x7 x11 v17 k.val a
   ⊢ wp frame (wpE (defs₀ (F := F)) 𝒱 (c : Thread nD τ) bd) E (k0_t17_body (F := F) i arg2 harg2 arg3 harg3 arg4 harg4 arg5 harg5 arg6 harg6 arg7 harg7 arg8 harg8 arg9 harg9 arg10 harg10 arg11 harg11 arg12 harg12 arg13 harg13 arg14 harg14 arg15 harg15 v0 v17 v22 spread ones16 v76 v93 v94 v95 v96 v115 k a)
      (fun a' => tripInv c arg6 arg7 arg11 arg12 arg13 arg14 arg15 x6 x7 x11 v17 (k.val + 1) a') := by
  obtain ⟨a0, a1, a2⟩ := a
  unfold tripInv k0_t17_body
  iintro ⟨%f12, %f13, %f14, %f15, H6, H7, H11, H12, H13, H14, H15, %hp⟩
  obtain ⟨⟨b12, h12⟩, ⟨b13, h13⟩, h14, ha⟩ := hp
  sl_exec
  sl_step
  iexists _, _, _, _
  isplitl [H6]; · iexact H6
  isplitl [H7]; · iexact H7
  isplitl [H11]; · iexact H11
  isplitl [H12]; · iexact H12
  isplitl [H13]; · iexact H13
  isplitl [H14]; · iexact H14
  isplitl [H15]; · iexact H15
  ipureintro
  refine ⟨?_, ?_, ?_, ?_⟩
  · exact ⟨_, rhs_store arg12.view f12 [] _ b12 _ v17 h12⟩
  · exact ⟨_, rhs_store arg13.view f13 [] _ b13 _ v17 h13⟩
  · refine (View.read_writes_full _ _ _ _ []).trans (tile_of_loads _ _ _ (2 * (k.val + 1)) _ _ (keyRows_of_readAt _ _ _ (off2_two i k)) ?_)
    refine (View.readAt_full _ _ _).trans ((rhs_store arg12.view f12 [] _ b12 _ v17 h12).trans (congrArg (fun z => rhs v17 (k0_pay312 z)) (selRows_of_readAt _ _ _ (off1_two i k))))
  · delta run_trip.sl.r_6 run_trip.sl.r_3 run_trip.sl.r_7 run_trip.sl.r_9 run_trip.sl.r_10 run_trip.sl.r_4 run_trip.sl.r_8
    refine (upd_of_loads _ _ _ _ (2 * k.val + 1) (upd (a0, a1, a2) (run_trip.sl.r c arg14 f14) _ _) (run_trip.sl.v434 c i arg6 arg11 arg13 arg15 x6 x11 k f13) _ _
      (upd_of_loads _ _ _ _ (2 * k.val) (a0, a1, a2) (run_trip.sl.r c arg14 f14) _ _ ha ?_ (valCols_of_readAt _ _ 0 _ (off3_eq i k)) (valCols_of_readAt _ _ 1 _ (off4_eq i k)))
      ?_ (valCols_of_readAt _ _ 0 _ (off5_eq i k)) (valCols_of_readAt _ _ 1 _ (off6_eq i k)))
    · exact (View.readAt_full _ _ _).trans h14
    · delta run_trip.sl.v434 run_trip.sl.H15_1
      refine (View.readCov_cons_toLoadRect _ _ _ _).trans (tile_of_loads _ _ _ (2 * k.val + 1) _ _ (keyRows_of_readAt _ _ _ (off2_one i k)) ?_)
      refine (View.readAt_full _ _ _).trans ((rhs_store arg13.view f13 [] _ b13 _ v17 h13).trans (congrArg (fun z => rhs v17 (k0_pay312 z)) (selRows_of_readAt _ _ _ (off1_one i k))))

end Cert.KernelIdeal.Nsa
-- ==== Proof.Tiles.lean ====
/-
  The tiles and the window of a step: from the scores' right-hand side stored, to the attention over the picked blocks and
  the window's scores.
-/
module

public import proofs.«01_k».proof.Proof.Trip

@[expose] public section

set_option maxRecDepth 16384

noncomputable section

namespace Cert.KernelIdeal.Nsa

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- What the part of the step with the tiles returns. -/
abbrev Tiled (F : FTy → Type) [FloatOps F] : Type := Σ' (v138 : FVec F S64x512 .f32) (v144 : FVec F S64x512 .f32) (v147 : BitVec 32) (v151 : FVec F S640x1024 .f32), IVec S640x1024 32

/-- The sums after the last tile. -/
theorem end_of (i : grid0.Coords) (X6 : Vec F S1x16384x128 .bf16) (X7 : Vec F S1x128x16384 .bf16) (Sel : Vec F S256x1024 .f32) (v17 : FVec F S128x1024 .bf16) (a : Run F)
    (s : FVec F S512x1024 .f32) (vt0 vt1 : Vec F S1x64x512 .bf16)
    (ha : a = runAt X6 X7 Sel v17 (nFull i)) (hs : s = tileScores X6 Sel v17 (nFull i)) (h0 : vt0 = valCols 512 X7 0 (512 * nFull i)) (h1 : vt1 = valCols 512 X7 1 (512 * nFull i)) :
    upd a (k0_pay322 (k0_pay213 i) (BitVec.ofNat 32 (nFull i)) s) vt0 vt1 = runEnd i X6 X7 Sel v17 := by
  subst ha; subst hs; subst h0; subst h1
  rfl

theorem tiled_ext (v17 : FVec F S128x1024 .bf16) {x x' y y' : FVec F S80x512 .f32} (w : BitVec 32) {z z' : Vec F S1x640x128 .bf16} (d : IVec S640x1024 32)
    (hx : x = x') (hy : y = y') (hz : z = z') :
    (⟨k0_pay328 x, k0_pay329 y, w, k0_pay330 v17 z, d⟩ : Tiled F) = ⟨k0_pay328 x', k0_pay329 y', w, k0_pay330 v17 z', d⟩ := by
  subst hx; subst hy; subst hz; rfl

set_option maxHeartbeats 40000000 in
theorem run_tiles (𝒱 : Variants) (c : Dev nD) (bd : Option 𝒱.V) (E : Set ℕ) (i : grid0.Coords) (arg2 : Memref sig .tc .vmem S512x128 .f32) (harg2 : arg2.IsWhole) (arg3 : Memref sig .tc .vmem S32x128 .f32) (harg3 : arg3.IsWhole) (arg4 : Memref sig .tc .vmem S1x256x128 .bf16) (harg4 : arg4.IsWhole) (arg5 : Memref sig .tc .vmem S1x128x256 .bf16) (harg5 : arg5.IsWhole) (arg6 : Memref sig .tc .vmem S1x16384x128 .bf16) (harg6 : arg6.IsWhole) (arg7 : Memref sig .tc .vmem S1x128x16384 .bf16) (harg7 : arg7.IsWhole) (arg8 : Memref sig .tc .vmem S1x16384x128 .bf16) (harg8 : arg8.IsWhole) (arg9 : Memref sig .tc .vmem S1x128x16384 .bf16) (harg9 : arg9.IsWhole) (arg10 : Memref sig .tc .vmem S512x128 .f32) (harg10 : arg10.IsWhole) (arg11 : Memref sig .tc .vmem S256x1024 .f32) (harg11 : arg11.IsWhole) (arg12 : Memref sig .tc .vmem S256x1024 .bf16) (harg12 : arg12.IsWhole) (arg13 : Memref sig .tc .vmem S256x1024 .bf16) (harg13 : arg13.IsWhole) (arg14 : Memref sig .tc .vmem S512x1024 .f32) (harg14 : arg14.IsWhole) (arg15 : Memref sig .tc .vmem S512x1024 .f32) (harg15 : arg15.IsWhole)
   (x6 : Buf (Elt F) (arg6.view.loc (c : Thread nD τ))) (x7 : Buf (Elt F) (arg7.view.loc (c : Thread nD τ))) (x8 : Buf (Elt F) (arg8.view.loc (c : Thread nD τ))) (x11 : Buf (Elt F) (arg11.view.loc (c : Thread nD τ))) (x12 : Buf (Elt F) (arg12.view.loc (c : Thread nD τ))) (x13 : Buf (Elt F) (arg13.view.loc (c : Thread nD τ))) (x14 : Buf (Elt F) (arg14.view.loc (c : Thread nD τ))) (x15 : Buf (Elt F) (arg15.view.loc (c : Thread nD τ)))
   (v17 : FVec F S128x1024 .bf16) (v93 : BitVec 32) (b12 b13 : Vec F S16x1024 .bf16)
   (h12 : arg12.view.read (Elt F) x12 = rhs v17 (k0_pay312 (selRows (arg11.view.read (Elt F) x11) 0))) (h13 : arg13.view.read (Elt F) x13 = rhs v17 b13)
   (K : Tiled F → sProp 𝕄) :
   iprop((arg6.view.loc (c : Thread nD τ) ↦[arg6.view.set]{fullShare} x6) ∗ (arg7.view.loc (c : Thread nD τ) ↦[arg7.view.set]{fullShare} x7) ∗ (arg8.view.loc (c : Thread nD τ) ↦[arg8.view.set]{fullShare} x8) ∗ (arg11.view.loc (c : Thread nD τ) ↦[arg11.view.set]{fullShare} x11) ∗ (arg12.view.loc (c : Thread nD τ) ↦[arg12.view.set]{fullShare} x12) ∗ (arg13.view.loc (c : Thread nD τ) ↦[arg13.view.set]{fullShare} x13) ∗ (arg14.view.loc (c : Thread nD τ) ↦[arg14.view.set]{fullShare} x14) ∗ (arg15.view.loc (c : Thread nD τ) ↦[arg15.view.set]{fullShare} x15) ∗
     (∀ (r : Tiled F) (f12 : Buf (Elt F) (arg12.view.loc (c : Thread nD τ))) (f13 : Buf (Elt F) (arg13.view.loc (c : Thread nD τ))) (f14 : Buf (Elt F) (arg14.view.loc (c : Thread nD τ))) (f15 : Buf (Elt F) (arg15.view.loc (c : Thread nD τ))),
      (arg6.view.loc (c : Thread nD τ) ↦[arg6.view.set]{fullShare} x6) -∗ (arg7.view.loc (c : Thread nD τ) ↦[arg7.view.set]{fullShare} x7) -∗ (arg8.view.loc (c : Thread nD τ) ↦[arg8.view.set]{fullShare} x8) -∗ (arg11.view.loc (c : Thread nD τ) ↦[arg11.view.set]{fullShare} x11) -∗ (arg12.view.loc (c : Thread nD τ) ↦[arg12.view.set]{fullShare} f12) -∗ (arg13.view.loc (c : Thread nD τ) ↦[arg13.view.set]{fullShare} f13) -∗ (arg14.view.loc (c : Thread nD τ) ↦[arg14.view.set]{fullShare} f14) -∗ (arg15.view.loc (c : Thread nD τ) ↦[arg15.view.set]{fullShare} f15) -∗
      ⌜r = ⟨k0_pay328 (runEnd i (arg6.view.read (Elt F) x6) (arg7.view.read (Elt F) x7) (arg11.view.read (Elt F) x11) v17).2.1, k0_pay329 (runEnd i (arg6.view.read (Elt F) x6) (arg7.view.read (Elt F) x7) (arg11.view.read (Elt F) x11) v17).2.2, Scalar.maxsi (Scalar.subi (Scalar.muli (BitVec.ofNat 32 (i 1).val) 128#32) 512#32) 0#32, winScores i (arg8.view.read (Elt F) x8) v17, winDist i⟩⌝ -∗ K r))
   ⊢ wp frame (wpE (defs₀ (F := F)) 𝒱 (c : Thread nD τ) bd) E (k0_part36 (F := F) i arg2 harg2 arg3 harg3 arg4 harg4 arg5 harg5 arg6 harg6 arg7 harg7 arg8 harg8 arg9 harg9 arg10 harg10 arg11 harg11 arg12 harg12 arg13 harg13 arg14 harg14 arg15 harg15 (Scalar.muli (BitVec.ofNat 32 (i 1).val) 128#32) v17 (k0_pay213 i) spread ones16 (BitVec.ofNat 32 (nFull i)) v93
        (k0_pay309 (F := F)) (k0_pay310 (F := F)) (k0_pay311 (F := F)) (k0_pay313 spread (keyRows 512 (arg6.view.read (Elt F) x6) 0))) K := by
  rw [k0_part36_eq_skeleton]
  unfold k0_part36_skel
  have ht := trips17 i
  have hc := cond8_iff i
  by_cases h8 : k0_cond8 i = 1#1
  all_goals iintro ⟨H6, H7, H8, H11, H12, H13, H14, H15, HK⟩
  all_goals sl_exec
  · have hodd : nFull i % 2 = 1 := hc.1 h8
    sl_for (tripInv c arg6 arg7 arg11 arg12 arg13 arg14 arg15 x6 x7 x11 v17) $$ [H6 H7 H11 H12 H13 H14 H15]
    case region => intro k a; exact run_trip 𝒱 c bd _ i arg2 harg2 arg3 harg3 arg4 harg4 arg5 harg5 arg6 harg6 arg7 harg7 arg8 harg8 arg9 harg9 arg10 harg10 arg11 harg11 arg12 harg12 arg13 harg13 arg14 harg14 arg15 harg15 x6 x7 x11 _ v17 _ _ _ _ _ _ _ k a
    · unfold tripInv
      iexists _, _, _, _
      isplitl [H6]; · iexact H6
      isplitl [H7]; · iexact H7
      isplitl [H11]; · iexact H11
      isplitl [H12]; · iexact H12
      isplitl [H13]; · iexact H13
      isplitl [H14]; · iexact H14
      isplitl [H15]; · iexact H15
      ipureintro
      refine ⟨⟨_, h12⟩, ⟨_, h13⟩, ?_, rfl⟩
      delta run_tiles.sl.H14_1
      refine (View.read_writes_full _ _ _ _ []).trans (tile_of_loads _ _ _ 0 _ _ rfl ((View.readAt_full _ _ _).trans h12))
    iintro %a HI
    have ht' : 2 * Scf.trips (k0_t17_loop i).lb (k0_t17_loop i).ub (k0_t17_loop i).st = nFull i - 1 := by
      have : Scf.trips (k0_t17_loop i).lb (k0_t17_loop i).ub (k0_t17_loop i).st = nFull i / 2 := ht
      omega
    unfold tripInv
    rw [ht']
    icases HI with ⟨%f12, %f13, %f14, %f15, H6, H7, H11, H12, H13, H14, H15, %hp⟩
    obtain ⟨⟨b12', h12'⟩, ⟨b13', h13'⟩, h14, ha⟩ := hp
    sl_exec
    sl_for (fun _ z => iprop(⌜z = (a.1, a.2.1, a.2.2)⌝)) $$ []
    case region => intro k; exact absurd (lt_of_lt_of_eq k.isLt (trips18 i)) (Nat.not_lt_zero _)
    · ipureintro; rfl
    iintro %z %hz
    subst hz
    sl_exec
    sl_step
    iapply HK $$ %_ %_ %_ %_ %_ [H6] [H7] [H8] [H11] [H12] [H13] [H14] [H15] []
    all_goals first | iexact H6 | iexact H7 | iexact H8 | iexact H11 | iexact H12 | iexact H13 | iexact H14 | iexact H15 | skip
    ipureintro
    refine tiled_ext v17 _ _ ?_ ?_ (keyRows_of_readAt _ _ _ (off21_eq i))
    all_goals
      have he := upd_of_loads (arg6.view.read (Elt F) x6) (arg7.view.read (Elt F) x7) (arg11.view.read (Elt F) x11) v17 (nFull i - 1) a (run_tiles.sl.r c arg14 f14) _ _
        ha ((View.readAt_full _ _ _).trans h14) (valCols_of_readAt arg7.view x7 0 (k0_off15_inb i h8) (off15_eq i hodd)) (valCols_of_readAt arg7.view x7 1 (k0_off16_inb i h8) (off16_eq i hodd))
      rw [show nFull i - 1 + 1 = nFull i by omega] at he
      have hs : run_tiles.sl.v402 c i arg6 arg11 arg13 arg15 x6 x11 h8 f13 = tileScores (arg6.view.read (Elt F) x6) (arg11.view.read (Elt F) x11) v17 (nFull i) := by
        delta run_tiles.sl.v402 run_tiles.sl.H15_1
        refine (View.readCov_cons_toLoadRect _ _ _ _).trans (tile_of_loads _ _ _ _ _ _ (keyRows_of_readAt _ _ _ (off14_eq i)) ?_)
        refine (View.readAt_full _ _ _).trans ((rhs_store arg13.view f13 [] _ b13' _ v17 h13').trans (congrArg (fun z => rhs v17 (k0_pay312 z)) (selRows_of_readAt _ _ _ (off13_eq i))))
    · delta run_tiles.sl.r_3 run_tiles.sl.r_5 run_tiles.sl.r_6 run_tiles.sl.r_7
      exact (Eq.trans (b := (upd (upd a (run_tiles.sl.r c arg14 f14) _ _) (k0_pay322 (k0_pay213 i) (BitVec.ofNat 32 (nFull i)) (run_tiles.sl.v402 c i arg6 arg11 arg13 arg15 x6 x11 h8 f13)) _
        (valCols 512 (arg7.view.read (Elt F) x7) 1 (512 * nFull i))).2.1) rfl
        (congrArg (fun z => z.2.1) (end_of i _ _ _ v17 _ _ _ _ he hs (valCols_of_readAt arg7.view x7 0 (k0_off17_inb i h8) (off17_eq i)) rfl)))
    · delta run_tiles.sl.r_4 run_tiles.sl.r_5 run_tiles.sl.r_6 run_tiles.sl.r_7
      exact (Eq.trans (b := (upd (upd a (run_tiles.sl.r c arg14 f14) _ _) (k0_pay322 (k0_pay213 i) (BitVec.ofNat 32 (nFull i)) (run_tiles.sl.v402 c i arg6 arg11 arg13 arg15 x6 x11 h8 f13))
        (valCols 512 (arg7.view.read (Elt F) x7) 0 (512 * nFull i)) _).2.2) rfl
        (congrArg (fun z => z.2.2) (end_of i _ _ _ v17 _ _ _ _ he hs rfl (valCols_of_readAt arg7.view x7 1 (k0_off18_inb i h8) (off18_eq i)))))
  · have heven : nFull i % 2 = 0 := by
      by_contra h; exact h8 (hc.2 (by omega))
    sl_for (tripInv c arg6 arg7 arg11 arg12 arg13 arg14 arg15 x6 x7 x11 v17) $$ [H6 H7 H11 H12 H13 H14 H15]
    case region => intro k a; exact run_trip 𝒱 c bd _ i arg2 harg2 arg3 harg3 arg4 harg4 arg5 harg5 arg6 harg6 arg7 harg7 arg8 harg8 arg9 harg9 arg10 harg10 arg11 harg11 arg12 harg12 arg13 harg13 arg14 harg14 arg15 harg15 x6 x7 x11 _ v17 _ _ _ _ _ _ _ k a
    · unfold tripInv
      iexists _, _, _, _
      isplitl [H6]; · iexact H6
      isplitl [H7]; · iexact H7
      isplitl [H11]; · iexact H11
      isplitl [H12]; · iexact H12
      isplitl [H13]; · iexact H13
      isplitl [H14]; · iexact H14
      isplitl [H15]; · iexact H15
      ipureintro
      refine ⟨⟨_, h12⟩, ⟨_, h13⟩, ?_, rfl⟩
      delta run_tiles.sl.H14_1_1
      refine (View.read_writes_full _ _ _ _ []).trans (tile_of_loads _ _ _ 0 _ _ rfl ((View.readAt_full _ _ _).trans h12))
    iintro %a HI
    have ht' : 2 * Scf.trips (k0_t17_loop i).lb (k0_t17_loop i).ub (k0_t17_loop i).st = nFull i := by
      have : Scf.trips (k0_t17_loop i).lb (k0_t17_loop i).ub (k0_t17_loop i).st = nFull i / 2 := ht
      omega
    unfold tripInv
    rw [ht']
    icases HI with ⟨%f12, %f13, %f14, %f15, H6, H7, H11, H12, H13, H14, H15, %hp⟩
    obtain ⟨⟨b12', h12'⟩, ⟨b13', h13'⟩, h14, ha⟩ := hp
    sl_exec
    sl_for (fun _ z => iprop(⌜z = (a.1, a.2.1, a.2.2)⌝)) $$ []
    case region => intro k; exact absurd (lt_of_lt_of_eq k.isLt (trips18 i)) (Nat.not_lt_zero _)
    · ipureintro; rfl
    iintro %z %hz
    subst hz
    sl_exec
    sl_step
    iapply HK $$ %_ %_ %_ %_ %_ [H6] [H7] [H8] [H11] [H12] [H13] [H14] [H15] []
    all_goals first | iexact H6 | iexact H7 | iexact H8 | iexact H11 | iexact H12 | iexact H13 | iexact H14 | iexact H15 | skip
    ipureintro
    refine tiled_ext v17 _ _ ?_ ?_ (keyRows_of_readAt _ _ _ (off21_eq i))
    · refine (Eq.trans (b := (upd a (arg14.view.readAt (Elt F) (Rect.unit (s := S512x1024) ![0, 0] S512x1024.size inb_S512x1024_S512x1024_0_0).toLoadRect f14 |> k0_pay322 (k0_pay213 i) (BitVec.ofNat 32 (nFull i))) _
        (valCols 512 (arg7.view.read (Elt F) x7) 1 (512 * nFull i))).2.1) rfl
        (congrArg (fun z => z.2.1) (end_of i _ _ _ v17 _ _ _ _ ha ((View.readAt_full _ _ _).trans h14) (valCols_of_readAt arg7.view x7 0 (k0_off19_inb i h8) (off19_eq i)) rfl)))
    · refine (Eq.trans (b := (upd a (arg14.view.readAt (Elt F) (Rect.unit (s := S512x1024) ![0, 0] S512x1024.size inb_S512x1024_S512x1024_0_0).toLoadRect f14 |> k0_pay322 (k0_pay213 i) (BitVec.ofNat 32 (nFull i)))
        (valCols 512 (arg7.view.read (Elt F) x7) 0 (512 * nFull i)) _).2.2) rfl
        (congrArg (fun z => z.2.2) (end_of i _ _ _ v17 _ _ _ _ ha ((View.readAt_full _ _ _).trans h14) rfl (valCols_of_readAt arg7.view x7 1 (k0_off20_inb i h8) (off20_eq i)))))

end Cert.KernelIdeal.Nsa
-- ==== Proof.Step.lean ====
/-
  The body of a step: after the switch the scores' right-hand sides are filled, the tiles taken, the window taken, and the
  eight heads' rows stored.
-/
module

public import proofs.«01_k».proof.Proof.Tiles

@[expose] public section

set_option maxRecDepth 16384

noncomputable section

namespace Cert.KernelIdeal.Nsa

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

abbrev Filled (F : FTy → Type) [FloatOps F] : Type := Σ' (v42 : FVec F S512x128 .bf16) (v43 : FVec F S16x512 .bf16) (v76 : BitVec 32), BitVec 32
abbrev First (F : FTy → Type) [FloatOps F] : Type := Σ' (v93 : BitVec 32) (v94 : FVec F S1x1024 .f32) (v95 : FVec F S80x512 .f32) (v96 : FVec F S80x512 .f32), FVec F S512x256 .bf16

set_option maxHeartbeats 40000000 in
theorem run_fill (𝒱 : Variants) (c : Dev nD) (bd : Option 𝒱.V) (E : Set ℕ) (i : grid0.Coords) (arg2 : Memref sig .tc .vmem S512x128 .f32) (harg2 : arg2.IsWhole) (arg3 : Memref sig .tc .vmem S32x128 .f32) (harg3 : arg3.IsWhole) (arg4 : Memref sig .tc .vmem S1x256x128 .bf16) (harg4 : arg4.IsWhole) (arg5 : Memref sig .tc .vmem S1x128x256 .bf16) (harg5 : arg5.IsWhole) (arg6 : Memref sig .tc .vmem S1x16384x128 .bf16) (harg6 : arg6.IsWhole) (arg7 : Memref sig .tc .vmem S1x128x16384 .bf16) (harg7 : arg7.IsWhole) (arg8 : Memref sig .tc .vmem S1x16384x128 .bf16) (harg8 : arg8.IsWhole) (arg9 : Memref sig .tc .vmem S1x128x16384 .bf16) (harg9 : arg9.IsWhole) (arg10 : Memref sig .tc .vmem S512x128 .f32) (harg10 : arg10.IsWhole) (arg11 : Memref sig .tc .vmem S256x1024 .f32) (harg11 : arg11.IsWhole) (arg12 : Memref sig .tc .vmem S256x1024 .bf16) (harg12 : arg12.IsWhole) (arg13 : Memref sig .tc .vmem S256x1024 .bf16) (harg13 : arg13.IsWhole) (arg14 : Memref sig .tc .vmem S512x1024 .f32) (harg14 : arg14.IsWhole) (arg15 : Memref sig .tc .vmem S512x1024 .f32) (harg15 : arg15.IsWhole)
   (x12 : Buf (Elt F) (arg12.view.loc (c : Thread nD τ))) (x13 : Buf (Elt F) (arg13.view.loc (c : Thread nD τ))) (v17 : FVec F S128x1024 .bf16) (K : Filled F → sProp 𝕄) :
   iprop((arg12.view.loc (c : Thread nD τ) ↦[arg12.view.set]{fullShare} x12) ∗ (arg13.view.loc (c : Thread nD τ) ↦[arg13.view.set]{fullShare} x13) ∗
     (∀ (r : Filled F) (f12 : Buf (Elt F) (arg12.view.loc (c : Thread nD τ))) (f13 : Buf (Elt F) (arg13.view.loc (c : Thread nD τ))), (arg12.view.loc (c : Thread nD τ) ↦[arg12.view.set]{fullShare} f12) -∗ (arg13.view.loc (c : Thread nD τ) ↦[arg13.view.set]{fullShare} f13) -∗
      ⌜r = ⟨spread, ones16, BitVec.ofNat 32 (nFull i), 2#32⟩ ∧ (∃ b, arg12.view.read (Elt F) f12 = rhs v17 b) ∧ (∃ b, arg13.view.read (Elt F) f13 = rhs v17 b)⌝ -∗ K r))
   ⊢ wp frame (wpE (defs₀ (F := F)) 𝒱 (c : Thread nD τ) bd) E (k0_part34 (F := F) i arg2 harg2 arg3 harg3 arg4 harg4 arg5 harg5 arg6 harg6 arg7 harg7 arg8 harg8 arg9 harg9 arg10 harg10 arg11 harg11 arg12 harg12 arg13 harg13 arg14 harg14 arg15 harg15 (Scalar.muli (BitVec.ofNat 32 (i 1).val) 128#32) v17 (k0_pay302 (F := F))) K := by
  rw [k0_part34_eq_skeleton]
  unfold k0_part34_skel
  iintro ⟨H12, H13, HK⟩
  sl_exec
  sl_step
  iapply HK $$ %_ %_ %_ [H12] [H13] []
  all_goals first | iexact H12 | iexact H13 | skip
  ipureintro
  refine ⟨?_, ⟨_, rhs_fill arg12.view _ v17 _ _⟩, ⟨_, rhs_fill arg13.view _ v17 _ _⟩⟩
  refine congrArg (fun w => (⟨spread, ones16, w, 2#32⟩ : Filled F)) ?_
  exact nFullWord_eq i

set_option maxHeartbeats 40000000 in
theorem run_first (𝒱 : Variants) (c : Dev nD) (bd : Option 𝒱.V) (E : Set ℕ) (i : grid0.Coords) (arg2 : Memref sig .tc .vmem S512x128 .f32) (harg2 : arg2.IsWhole) (arg3 : Memref sig .tc .vmem S32x128 .f32) (harg3 : arg3.IsWhole) (arg4 : Memref sig .tc .vmem S1x256x128 .bf16) (harg4 : arg4.IsWhole) (arg5 : Memref sig .tc .vmem S1x128x256 .bf16) (harg5 : arg5.IsWhole) (arg6 : Memref sig .tc .vmem S1x16384x128 .bf16) (harg6 : arg6.IsWhole) (arg7 : Memref sig .tc .vmem S1x128x16384 .bf16) (harg7 : arg7.IsWhole) (arg8 : Memref sig .tc .vmem S1x16384x128 .bf16) (harg8 : arg8.IsWhole) (arg9 : Memref sig .tc .vmem S1x128x16384 .bf16) (harg9 : arg9.IsWhole) (arg10 : Memref sig .tc .vmem S512x128 .f32) (harg10 : arg10.IsWhole) (arg11 : Memref sig .tc .vmem S256x1024 .f32) (harg11 : arg11.IsWhole) (arg12 : Memref sig .tc .vmem S256x1024 .bf16) (harg12 : arg12.IsWhole) (arg13 : Memref sig .tc .vmem S256x1024 .bf16) (harg13 : arg13.IsWhole) (arg14 : Memref sig .tc .vmem S512x1024 .f32) (harg14 : arg14.IsWhole) (arg15 : Memref sig .tc .vmem S512x1024 .f32) (harg15 : arg15.IsWhole)
   (x6 : Buf (Elt F) (arg6.view.loc (c : Thread nD τ))) (x11 : Buf (Elt F) (arg11.view.loc (c : Thread nD τ))) (x12 : Buf (Elt F) (arg12.view.loc (c : Thread nD τ))) (v17 : FVec F S128x1024 .bf16) (v76 w : BitVec 32) (b12 : Vec F S16x1024 .bf16) (h12 : arg12.view.read (Elt F) x12 = rhs v17 b12) (K : First F → sProp 𝕄) :
   iprop((arg6.view.loc (c : Thread nD τ) ↦[arg6.view.set]{fullShare} x6) ∗ (arg11.view.loc (c : Thread nD τ) ↦[arg11.view.set]{fullShare} x11) ∗ (arg12.view.loc (c : Thread nD τ) ↦[arg12.view.set]{fullShare} x12) ∗
     (∀ (r : First F) (f12 : Buf (Elt F) (arg12.view.loc (c : Thread nD τ))), (arg6.view.loc (c : Thread nD τ) ↦[arg6.view.set]{fullShare} x6) -∗ (arg11.view.loc (c : Thread nD τ) ↦[arg11.view.set]{fullShare} x11) -∗ (arg12.view.loc (c : Thread nD τ) ↦[arg12.view.set]{fullShare} f12) -∗
      ⌜(∃ v93, r = ⟨v93, k0_pay309 (F := F), k0_pay310 (F := F), k0_pay311 (F := F), k0_pay313 spread (keyRows 512 (arg6.view.read (Elt F) x6) 0)⟩)
        ∧ arg12.view.read (Elt F) f12 = rhs v17 (k0_pay312 (selRows (arg11.view.read (Elt F) x11) 0))⌝ -∗ K r))
   ⊢ wp frame (wpE (defs₀ (F := F)) 𝒱 (c : Thread nD τ) bd) E (k0_part35 (F := F) i arg2 harg2 arg3 harg3 arg4 harg4 arg5 harg5 arg6 harg6 arg7 harg7 arg8 harg8 arg9 harg9 arg10 harg10 arg11 harg11 arg12 harg12 arg13 harg13 arg14 harg14 arg15 harg15 spread v76 w) K := by
  rw [k0_part35_eq_skeleton]
  unfold k0_part35_skel
  iintro ⟨H6, H11, H12, HK⟩
  sl_exec
  sl_step
  iapply HK $$ %_ %_ [H6] [H11] [H12] []
  all_goals first | iexact H6 | iexact H11 | iexact H12 | skip
  ipureintro
  refine ⟨⟨_, congrArg (fun z => (⟨_, k0_pay309 (F := F), k0_pay310 (F := F), k0_pay311 (F := F), k0_pay313 spread z⟩ : First F)) (keyRows_of_readAt arg6.view x6 _ rfl)⟩, ?_⟩
  exact (rhs_store arg12.view x12 [] _ b12 _ v17 h12).trans (congrArg (fun z => rhs v17 (k0_pay312 z)) (selRows_of_readAt arg11.view x11 _ rfl))

set_option maxHeartbeats 40000000 in
theorem run_step (𝒱 : Variants) (c : Dev nD) (bd : Option 𝒱.V) (E : Set ℕ) (i : grid0.Coords) (arg2 : Memref sig .tc .vmem S512x128 .f32) (harg2 : arg2.IsWhole) (arg3 : Memref sig .tc .vmem S32x128 .f32) (harg3 : arg3.IsWhole) (arg4 : Memref sig .tc .vmem S1x256x128 .bf16) (harg4 : arg4.IsWhole) (arg5 : Memref sig .tc .vmem S1x128x256 .bf16) (harg5 : arg5.IsWhole) (arg6 : Memref sig .tc .vmem S1x16384x128 .bf16) (harg6 : arg6.IsWhole) (arg7 : Memref sig .tc .vmem S1x128x16384 .bf16) (harg7 : arg7.IsWhole) (arg8 : Memref sig .tc .vmem S1x16384x128 .bf16) (harg8 : arg8.IsWhole) (arg9 : Memref sig .tc .vmem S1x128x16384 .bf16) (harg9 : arg9.IsWhole) (arg10 : Memref sig .tc .vmem S512x128 .f32) (harg10 : arg10.IsWhole) (arg11 : Memref sig .tc .vmem S256x1024 .f32) (harg11 : arg11.IsWhole) (arg12 : Memref sig .tc .vmem S256x1024 .bf16) (harg12 : arg12.IsWhole) (arg13 : Memref sig .tc .vmem S256x1024 .bf16) (harg13 : arg13.IsWhole) (arg14 : Memref sig .tc .vmem S512x1024 .f32) (harg14 : arg14.IsWhole) (arg15 : Memref sig .tc .vmem S512x1024 .f32) (harg15 : arg15.IsWhole)
   (x2 : Buf (Elt F) (arg2.view.loc (c : Thread nD τ))) (x3 : Buf (Elt F) (arg3.view.loc (c : Thread nD τ))) (x4 : Buf (Elt F) (arg4.view.loc (c : Thread nD τ))) (x5 : Buf (Elt F) (arg5.view.loc (c : Thread nD τ))) (x6 : Buf (Elt F) (arg6.view.loc (c : Thread nD τ))) (x7 : Buf (Elt F) (arg7.view.loc (c : Thread nD τ))) (x8 : Buf (Elt F) (arg8.view.loc (c : Thread nD τ))) (x9 : Buf (Elt F) (arg9.view.loc (c : Thread nD τ))) (x10 : Buf (Elt F) (arg10.view.loc (c : Thread nD τ))) (x11 : Buf (Elt F) (arg11.view.loc (c : Thread nD τ))) (x12 : Buf (Elt F) (arg12.view.loc (c : Thread nD τ))) (x13 : Buf (Elt F) (arg13.view.loc (c : Thread nD τ))) (x14 : Buf (Elt F) (arg14.view.loc (c : Thread nD τ))) (x15 : Buf (Elt F) (arg15.view.loc (c : Thread nD τ))) (K : PUnit → sProp 𝕄) :
   iprop((arg2.view.loc (c : Thread nD τ) ↦[arg2.view.set]{fullShare} x2) ∗ (arg3.view.loc (c : Thread nD τ) ↦[arg3.view.set]{fullShare} x3) ∗ (arg4.view.loc (c : Thread nD τ) ↦[arg4.view.set]{fullShare} x4) ∗ (arg5.view.loc (c : Thread nD τ) ↦[arg5.view.set]{fullShare} x5) ∗ (arg6.view.loc (c : Thread nD τ) ↦[arg6.view.set]{fullShare} x6) ∗ (arg7.view.loc (c : Thread nD τ) ↦[arg7.view.set]{fullShare} x7) ∗ (arg8.view.loc (c : Thread nD τ) ↦[arg8.view.set]{fullShare} x8) ∗ (arg9.view.loc (c : Thread nD τ) ↦[arg9.view.set]{fullShare} x9) ∗ (arg10.view.loc (c : Thread nD τ) ↦[arg10.view.set]{fullShare} x10) ∗ (arg11.view.loc (c : Thread nD τ) ↦[arg11.view.set]{fullShare} x11) ∗ (arg12.view.loc (c : Thread nD τ) ↦[arg12.view.set]{fullShare} x12) ∗ (arg13.view.loc (c : Thread nD τ) ↦[arg13.view.set]{fullShare} x13) ∗ (arg14.view.loc (c : Thread nD τ) ↦[arg14.view.set]{fullShare} x14) ∗ (arg15.view.loc (c : Thread nD τ) ↦[arg15.view.set]{fullShare} x15) ∗
     (∀ (n : ℕ) (h : Fits n) (f10 : Buf (Elt F) (arg10.view.loc (c : Thread nD τ))) (f11 : Buf (Elt F) (arg11.view.loc (c : Thread nD τ))) (f12 : Buf (Elt F) (arg12.view.loc (c : Thread nD τ))) (f13 : Buf (Elt F) (arg13.view.loc (c : Thread nD τ))) (f14 : Buf (Elt F) (arg14.view.loc (c : Thread nD τ))) (f15 : Buf (Elt F) (arg15.view.loc (c : Thread nD τ))), (arg2.view.loc (c : Thread nD τ) ↦[arg2.view.set]{fullShare} x2) -∗ (arg3.view.loc (c : Thread nD τ) ↦[arg3.view.set]{fullShare} x3) -∗ (arg4.view.loc (c : Thread nD τ) ↦[arg4.view.set]{fullShare} x4) -∗ (arg5.view.loc (c : Thread nD τ) ↦[arg5.view.set]{fullShare} x5) -∗ (arg6.view.loc (c : Thread nD τ) ↦[arg6.view.set]{fullShare} x6) -∗ (arg7.view.loc (c : Thread nD τ) ↦[arg7.view.set]{fullShare} x7) -∗ (arg8.view.loc (c : Thread nD τ) ↦[arg8.view.set]{fullShare} x8) -∗ (arg9.view.loc (c : Thread nD τ) ↦[arg9.view.set]{fullShare} x9) -∗ (arg10.view.loc (c : Thread nD τ) ↦[arg10.view.set]{fullShare} f10) -∗ (arg11.view.loc (c : Thread nD τ) ↦[arg11.view.set]{fullShare} f11) -∗ (arg12.view.loc (c : Thread nD τ) ↦[arg12.view.set]{fullShare} f12) -∗ (arg13.view.loc (c : Thread nD τ) ↦[arg13.view.set]{fullShare} f13) -∗ (arg14.view.loc (c : Thread nD τ) ↦[arg14.view.set]{fullShare} f14) -∗ (arg15.view.loc (c : Thread nD τ) ↦[arg15.view.set]{fullShare} f15) -∗
      ⌜nOf i = n ∧ arg10.view.read (Elt F) f10 = stepOut h i (arg2.view.read (Elt F) x2) (arg3.view.read (Elt F) x3) (arg4.view.read (Elt F) x4) (arg5.view.read (Elt F) x5) (arg6.view.read (Elt F) x6) (arg7.view.read (Elt F) x7) (arg8.view.read (Elt F) x8) (arg9.view.read (Elt F) x9)⌝ -∗ K ⟨⟩))
   ⊢ wp frame (wpE (defs₀ (F := F)) 𝒱 (c : Thread nD τ) bd) E (cc0_nsa_prompt (F := F) i arg2 harg2 arg3 harg3 arg4 harg4 arg5 harg5 arg6 harg6 arg7 harg7 arg8 harg8 arg9 harg9 arg10 harg10 arg11 harg11 arg12 harg12 arg13 harg13 arg14 harg14 arg15 harg15) K := by
  rw [cc0_nsa_prompt_eq_skeleton]
  unfold cc0_nsa_prompt_skel
  iintro ⟨H2, H3, H4, H5, H6, H7, H8, H9, H10, H11, H12, H13, H14, H15, HK⟩
  rw [wp_bind]
  iapply run_switch 𝒱 c bd E i arg2 harg2 arg3 harg3 arg4 harg4 arg5 harg5 arg6 harg6 arg7 harg7 arg8 harg8 arg9 harg9 arg10 harg10 arg11 harg11 arg12 harg12 arg13 harg13 arg14 harg14 arg15 harg15 x2 x4 x5 x11
  isplitl [H2]; · iexact H2
  isplitl [H4]; · iexact H4
  isplitl [H5]; · iexact H5
  isplitl [H11]; · iexact H11
  iintro %n %h %r %f11 H2 H4 H5 H11 %hp
  obtain ⟨hn, hr, h11⟩ := hp
  subst hr
  rw [View.readAt_full] at *
  delta switched
  dsimp only
  rw [wp_bind]
  iapply run_fill 𝒱 c bd E i arg2 harg2 arg3 harg3 arg4 harg4 arg5 harg5 arg6 harg6 arg7 harg7 arg8 harg8 arg9 harg9 arg10 harg10 arg11 harg11 arg12 harg12 arg13 harg13 arg14 harg14 arg15 harg15 x12 x13
  isplitl [H12]; · iexact H12
  isplitl [H13]; · iexact H13
  iintro %r %f12 %f13 H12 H13 %hp
  obtain ⟨hr, ⟨b12, h12⟩, b13, h13⟩ := hp
  subst hr
  dsimp only
  rw [wp_bind]
  iapply run_first 𝒱 c bd E i arg2 harg2 arg3 harg3 arg4 harg4 arg5 harg5 arg6 harg6 arg7 harg7 arg8 harg8 arg9 harg9 arg10 harg10 arg11 harg11 arg12 harg12 arg13 harg13 arg14 harg14 arg15 harg15 x6 f11 f12 _ _ _ b12 h12
  isplitl [H6]; · iexact H6
  isplitl [H11]; · iexact H11
  isplitl [H12]; · iexact H12
  iintro %r %g12 H6 H11 H12 %hp
  obtain ⟨⟨v93, hr⟩, g12h⟩ := hp
  subst hr
  dsimp only
  rw [wp_bind]
  iapply run_tiles 𝒱 c bd E i arg2 harg2 arg3 harg3 arg4 harg4 arg5 harg5 arg6 harg6 arg7 harg7 arg8 harg8 arg9 harg9 arg10 harg10 arg11 harg11 arg12 harg12 arg13 harg13 arg14 harg14 arg15 harg15 x6 x7 x8 f11 g12 f13 x14 x15 _ v93 b12 b13 g12h h13
  isplitl [H6]; · iexact H6
  isplitl [H7]; · iexact H7
  isplitl [H8]; · iexact H8
  isplitl [H11]; · iexact H11
  isplitl [H12]; · iexact H12
  isplitl [H13]; · iexact H13
  isplitl [H14]; · iexact H14
  isplitl [H15]; · iexact H15
  iintro %r %e12 %e13 %e14 %e15 H6 H7 H8 H11 H12 H13 H14 H15 %hr
  subst hr
  dsimp only
  sl_exec
  sl_step
  iapply HK $$ %n %h %_ %_ %_ %_ %_ %_ [H2] [H3] [H4] [H5] [H6] [H7] [H8] [H9] [H10] [H11] [H12] [H13] [H14] [H15] []
  all_goals first | iexact H2 | iexact H3 | iexact H4 | iexact H5 | iexact H6 | iexact H7 | iexact H8 | iexact H9 | iexact H10 | iexact H11 | iexact H12 | iexact H13 | iexact H14 | iexact H15 | skip
  ipureintro
  refine ⟨hn, ?_⟩
  refine Eq.trans (b := stackHeads (headOut (swOut0 h i (arg2.view.read (Elt F) x2) (arg4.view.read (Elt F) x4) (arg5.view.read (Elt F) x5))
      (swOut1 h i (arg2.view.read (Elt F) x2) (arg4.view.read (Elt F) x4) (arg5.view.read (Elt F) x5))
      (k0_pay328 (runEnd i (arg6.view.read (Elt F) x6) (arg7.view.read (Elt F) x7) (arg11.view.read (Elt F) f11) (k0_pay212 (arg2.view.read (Elt F) x2))).2.1)
      (k0_pay329 (runEnd i (arg6.view.read (Elt F) x6) (arg7.view.read (Elt F) x7) (arg11.view.read (Elt F) f11) (k0_pay212 (arg2.view.read (Elt F) x2))).2.2)
      (k0_pay334 (winScores i (arg8.view.read (Elt F) x8) (k0_pay212 (arg2.view.read (Elt F) x2))) (winDist i)
        (arg9.view.readAt (Elt F) (Rect.unit (s := S1x128x16384) (k0_off22 i) S1x64x640.size (k0_off22_inb i)).toLoadRect x9))
      (k0_pay335 (winScores i (arg8.view.read (Elt F) x8) (k0_pay212 (arg2.view.read (Elt F) x2))) (winDist i)
        (arg9.view.readAt (Elt F) (Rect.unit (s := S1x128x16384) (k0_off23 i) S1x64x640.size (k0_off23_inb i)).toLoadRect x9))
      (arg3.view.readAt (Elt F) (Rect.unit (s := S32x128) ![0, 0] S32x128.size inb_S32x128_S32x128_0_0).toLoadRect x3))) ?_ ?_
  · exact read_heads arg10.view x10 (headOut _ _ _ _ _ _ _) _ _ _ _ _ _ _ _
  · rw [valCols_of_readAt arg9.view x9 0 (k0_off22_inb i) (off22_eq i), valCols_of_readAt arg9.view x9 1 (k0_off23_inb i) (off23_eq i),
      View.readAt_full, h11]
    rfl

end Cert.KernelIdeal.Nsa
-- ==== Proof.Launch.lean ====
/-
  The kernel's run over its grid: what each step finds, what it leaves, and the run from any memory.
-/
module

public import proofs.«01_k».proof.Proof.Step
public import Idealize.ShloMosaic.Lib.Pipeline.Frame

@[expose] public section

set_option maxRecDepth 16384

noncomputable section

namespace Cert.KernelIdeal.Nsa

open Cert.KernelIdeal Cert.KernelIdeal.Gen
open Idealize.ShloMosaic Idealize.ShloMosaic.TcCoe Idealize.ShloMosaic.Tactic
open Idealize.ShloMosaic.Rounds
open Idealize.ShloMosaic.Pipeline (Dat Cfg Window BodyObligation cellOf)
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

theorem fits_nOf (i : grid0.Coords) : Fits (nOf i) := by
  have h : (i 1).val < 128 := (i 1).isLt
  have h8 : (2 * (i 1).val + 1) / 32 < 8 := by omega
  unfold nOf
  revert h8
  generalize (2 * (i 1).val + 1) / 32 = j
  intro h8
  interval_cases j
  exacts [fits32, fits64, fits96, fits128, fits160, fits192, fits224, fits256]

/-- A step on the arrays as it holds them. -/
theorem run_owned (𝒱 : Variants) (c : Dev nD) (bd : Option 𝒱.V) (E : Set ℕ) (i : grid0.Coords) (arg2 : Memref sig .tc .vmem S512x128 .f32) (harg2 : arg2.IsWhole) (arg3 : Memref sig .tc .vmem S32x128 .f32) (harg3 : arg3.IsWhole) (arg4 : Memref sig .tc .vmem S1x256x128 .bf16) (harg4 : arg4.IsWhole) (arg5 : Memref sig .tc .vmem S1x128x256 .bf16) (harg5 : arg5.IsWhole) (arg6 : Memref sig .tc .vmem S1x16384x128 .bf16) (harg6 : arg6.IsWhole) (arg7 : Memref sig .tc .vmem S1x128x16384 .bf16) (harg7 : arg7.IsWhole) (arg8 : Memref sig .tc .vmem S1x16384x128 .bf16) (harg8 : arg8.IsWhole) (arg9 : Memref sig .tc .vmem S1x128x16384 .bf16) (harg9 : arg9.IsWhole) (arg10 : Memref sig .tc .vmem S512x128 .f32) (harg10 : arg10.IsWhole) (arg11 : Memref sig .tc .vmem S256x1024 .f32) (harg11 : arg11.IsWhole) (arg12 : Memref sig .tc .vmem S256x1024 .bf16) (harg12 : arg12.IsWhole) (arg13 : Memref sig .tc .vmem S256x1024 .bf16) (harg13 : arg13.IsWhole) (arg14 : Memref sig .tc .vmem S512x1024 .f32) (harg14 : arg14.IsWhole) (arg15 : Memref sig .tc .vmem S512x1024 .f32) (harg15 : arg15.IsWhole)
   (X2 : Vec F S512x128 .f32) (X3 : Vec F S32x128 .f32) (X4 : Vec F S1x256x128 .bf16) (X5 : Vec F S1x128x256 .bf16) (X6 : Vec F S1x16384x128 .bf16) (X7 : Vec F S1x128x16384 .bf16) (X8 : Vec F S1x16384x128 .bf16) (X9 : Vec F S1x128x16384 .bf16) (K : PUnit → sProp 𝕄) :
   iprop(owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7 ∗ owns (c : Thread nD τ) arg8 fullShare X8 ∗ owns (c : Thread nD τ) arg9 fullShare X9 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗
     (owns (c : Thread nD τ) arg2 fullShare X2 -∗ owns (c : Thread nD τ) arg3 fullShare X3 -∗ owns (c : Thread nD τ) arg4 fullShare X4 -∗ owns (c : Thread nD τ) arg5 fullShare X5 -∗ owns (c : Thread nD τ) arg6 fullShare X6 -∗ owns (c : Thread nD τ) arg7 fullShare X7 -∗ owns (c : Thread nD τ) arg8 fullShare X8 -∗ owns (c : Thread nD τ) arg9 fullShare X9 -∗ owns (c : Thread nD τ) arg10 fullShare (stepOut (fits_nOf i) i X2 X3 X4 X5 X6 X7 X8 X9) -∗ (∃ d, owns (c : Thread nD τ) arg11 fullShare d) -∗ (∃ d, owns (c : Thread nD τ) arg12 fullShare d) -∗ (∃ d, owns (c : Thread nD τ) arg13 fullShare d) -∗ (∃ d, owns (c : Thread nD τ) arg14 fullShare d) -∗ (∃ d, owns (c : Thread nD τ) arg15 fullShare d) -∗ K ⟨⟩))
   ⊢ wp frame (wpE (defs₀ (F := F)) 𝒱 (c : Thread nD τ) bd) E (cc0_nsa_prompt (F := F) i arg2 harg2 arg3 harg3 arg4 harg4 arg5 harg5 arg6 harg6 arg7 harg7 arg8 harg8 arg9 harg9 arg10 harg10 arg11 harg11 arg12 harg12 arg13 harg13 arg14 harg14 arg15 harg15) K := by
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, HK⟩
  iapply run_step 𝒱 c bd E i arg2 harg2 arg3 harg3 arg4 harg4 arg5 harg5 arg6 harg6 arg7 harg7 arg8 harg8 arg9 harg9 arg10 harg10 arg11 harg11 arg12 harg12 arg13 harg13 arg14 harg14 arg15 harg15 f2 f3 f4 f5 f6 f7 f8 f9 f10 f11 f12 f13 f14 f15
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iintro %n %h %g10 %g11 %g12 %g13 %g14 %g15 H2 H3 H4 H5 H6 H7 H8 H9 H10 H11 H12 H13 H14 H15 %hp
  obtain ⟨hn, h10⟩ := hp
  subst hn
  rw [hf2, hf3, hf4, hf5, hf6, hf7, hf8, hf9] at h10
  iapply HK $$ [H2] [H3] [H4] [H5] [H6] [H7] [H8] [H9] [H10] [H11] [H12] [H13] [H14] [H15]
  · iexists _; isplitr; swap; · iexact H2
    ipureintro; exact hf2
  · iexists _; isplitr; swap; · iexact H3
    ipureintro; exact hf3
  · iexists _; isplitr; swap; · iexact H4
    ipureintro; exact hf4
  · iexists _; isplitr; swap; · iexact H5
    ipureintro; exact hf5
  · iexists _; isplitr; swap; · iexact H6
    ipureintro; exact hf6
  · iexists _; isplitr; swap; · iexact H7
    ipureintro; exact hf7
  · iexists _; isplitr; swap; · iexact H8
    ipureintro; exact hf8
  · iexists _; isplitr; swap; · iexact H9
    ipureintro; exact hf9
  · iexists _; isplitr; swap; · iexact H10
    ipureintro; exact h10
  · iexists _, _; isplitr; swap; · iexact H11
    ipureintro; rfl
  · iexists _, _; isplitr; swap; · iexact H12
    ipureintro; rfl
  · iexists _, _; isplitr; swap; · iexact H13
    ipureintro; rfl
  · iexists _, _; isplitr; swap; · iexact H14
    ipureintro; rfl
  · iexists _, _; isplitr; swap; · iexact H15
    ipureintro; rfl

variable (m : (ℓ : Loc nD τ sig) → Buf (Elt F) ℓ) (ρ : Dev nD → PrngReg)

/-- What the step at point `t` leaves in the output's block. -/
def outAt (c : Dev nD) (t : Fin cfg0.N) : Vec F S512x128 .f32 :=
  stepOut (fits_nOf (grid0.coords t)) (grid0.coords t) (iblk m c 0 t) (iblk m c 1 t) (iblk m c 2 t) (iblk m c 3 t) (iblk m c 4 t) (iblk m c 5 t) (iblk m c 6 t) (iblk m c 7 t)

/-- The arrays as the run finds them; after each step the inputs' blocks in place and the output's block computed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outAt m c t
  Φ _ := Pipeline.ΦA spec0 c
  q _ := fullShare
  owed _ := 0

theorem A_eq (c : Dev nD) (w : Fin cfg0.W) : (dats m 0 c).A w = V m c (Pipeline.arrRef spec0 w) := rfl
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = outAt m c t := by dsimp only [dats]
theorem before_0 (c : Dev nD) (t : Fin cfg0.N) (d) : (dats m 0 c).before 0 t d = iblk m c 0 t := before0_0_of m (dats m 0 c) (A_eq m c 0) (after_0 m c) t d
theorem before_1 (c : Dev nD) (t : Fin cfg0.N) (d) : (dats m 0 c).before 1 t d = iblk m c 1 t := before0_1_of m (dats m 0 c) (A_eq m c 1) (after_1 m c) t d
theorem before_2 (c : Dev nD) (t : Fin cfg0.N) (d) : (dats m 0 c).before 2 t d = iblk m c 2 t := before0_2_of m (dats m 0 c) (A_eq m c 2) (after_2 m c) t d
theorem before_3 (c : Dev nD) (t : Fin cfg0.N) (d) : (dats m 0 c).before 3 t d = iblk m c 3 t := before0_3_of m (dats m 0 c) (A_eq m c 3) (after_3 m c) t d
theorem before_4 (c : Dev nD) (t : Fin cfg0.N) (d) : (dats m 0 c).before 4 t d = iblk m c 4 t := before0_4_of m (dats m 0 c) (A_eq m c 4) (after_4 m c) t d
theorem before_5 (c : Dev nD) (t : Fin cfg0.N) (d) : (dats m 0 c).before 5 t d = iblk m c 5 t := before0_5_of m (dats m 0 c) (A_eq m c 5) (after_5 m c) t d
theorem before_6 (c : Dev nD) (t : Fin cfg0.N) (d) : (dats m 0 c).before 6 t d = iblk m c 6 t := before0_6_of m (dats m 0 c) (A_eq m c 6) (after_6 m c) t d
theorem before_7 (c : Dev nD) (t : Fin cfg0.N) (d) : (dats m 0 c).before 7 t d = iblk m c 7 t := before0_7_of m (dats m 0 c) (A_eq m c 7) (after_7 m c) t d

/-- The scratch arrays at some contents, one by one. -/
theorem scratch_eq (c : Dev nD) :
    (Pipeline.ΦA spec0 c : sProp 𝕄)
      = iprop(((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d)) ∗ (∃ r, prngReg c r)) := by
  unfold Pipeline.ΦA
  rw [scopedRest0_eq]; simp only [owns_whole]; try rfl

set_option maxHeartbeats 4000000 in
theorem body_obligation (c : Dev nD) : BodyObligation (dats (F := F) m 0 c) (defs₀ (F := F)) Variants.none () Set.univ := fun t => by
  rw [bigSep_W0, bigSep_W0]
  sl_whnfR [defs₀, Defs.onTc]
  simp only [before_0, before_1, before_2, before_3, before_4, before_5, before_6, before_7]
  rw [show (dats m 0 c).Φ t.succ = (dats m 0 c).Φ t.castSucc from rfl,
    show (dats m 0 c).owesAt () t.succ = (dats m 0 c).owesAt () t.castSucc from rfl, after_0, after_1, after_2, after_3, after_4, after_5, after_6, after_7, after_8,
    show (dats m 0 c).Φ t.castSucc = Pipeline.ΦA spec0 c from rfl, scratch_eq]
  unfold outAt
  iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply run_owned Variants.none c none Set.univ (grid0.coords t) _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [HS0]; · iexact HS0
  isplitl [HS1]; · iexact HS1
  isplitl [HS2]; · iexact HS2
  isplitl [HS3]; · iexact HS3
  isplitl [HS4]; · iexact HS4
  iintro H0 H1 H2 H3 H4 H5 H6 H7 H8 HS0 HS1 HS2 HS3 HS4
  isplitl [HS0 HS1 HS2 HS3 HS4 Hg]
  · isplitl [HS0 HS1 HS2 HS3 HS4]
    · isplitl [HS0]; · iexact HS0
      isplitl [HS1]; · iexact HS1
      isplitl [HS2]; · iexact HS2
      isplitl [HS3]; · iexact HS3
      iexact HS4
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

set_option backward.isDefEq.respectTransparency.types false in
/-- From any memory every run of the program ends, with every array at what the steps leave in it and every counter at zero. -/
theorem run_main : θ_run defs (onTc (τ := τ) (main (F := F))) (s₀ m ρ)
    (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := fun _ _ => rfl) (hΦ := fun _ _ => rfl)

/-- The arguments are as they were and the counters zero. -/
theorem quiescent : θ_run defs (onTc (τ := τ) (main (F := F))) ⟨m, fun _ => 0, ρ⟩ (fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5))
      ∧ r.2.sem = fun _ => 0) :=
  θ_run_with_sems (frame_of m ρ (dats m) fun _ _ => rfl) (run_main m ρ)

end Cert.KernelIdeal.Nsa
-- ==== Proof.Frames.lean ====
/-
  The runs of the kernel as printed and of its idealization: the two are one program, read at two kinds of numbers.
-/
module

public import proofs.«01_k».proof.Defs
public import proofs.«01_k».proof.Proof.Gen.Kernel
public import proofs.«01_k».proof.Proof.Launch

@[expose] public section

set_option maxRecDepth 65536

noncomputable section

namespace Cert.KernelIdeal.Nsa

open Idealize.ShloMosaic Idealize.SL.Sem

/-- The constants' names carry no value at the machine's numbers: each is its literal. -/
@[reducible] def plainNamed : Named Bits := ⟨fun _ _ {φ} bits => FloatOps.ofBits φ bits⟩

attribute [local instance] plainNamed
attribute [local instance] Cert.Kernel.Gen.facts Cert.KernelIdeal.Gen.facts

/-- The kernels' body tables agree: there is one label. -/
theorem bodies_eq : Cert.Kernel.defs₀ (F := Bits) = Cert.KernelIdeal.defs₀ (F := Bits) := by
  unfold Cert.Kernel.defs₀ Cert.KernelIdeal.defs₀
  refine congrArg Defs.onTc (funext fun ℓ => funext fun a => ?_)
  obtain ⟨n, hn⟩ := ℓ
  obtain _ | n := n
  · obtain ⟨t, s⟩ := a
    rfl
  · exact absurd hn (by omega)

theorem defs_eq : Cert.Kernel.defs (F := Bits) = Cert.KernelIdeal.defs (F := Bits) := by
  unfold Cert.Kernel.defs Cert.KernelIdeal.defs
  rw [bodies_eq]
  rfl

theorem frame_kernelIdeal : @Cert.quiescent_KernelIdeal Cert.KernelIdeal.Gen.facts :=
  fun m ρ _ => quiescent (F := Ideal) m ρ

theorem frame_kernel : @Cert.quiescent_Kernel Cert.Kernel.Gen.facts := by
  intro m ρ _
  rw [defs_eq]
  exact quiescent (F := Bits) m ρ

end Cert.KernelIdeal.Nsa

end
-- ==== Proof.Softmax.lean ====
/-
  Softmax attention on the extended reals, in base 2: one query's output is the sum of the values weighted by
  `exp2 (s k − max s)` over the sum of these. A key at −∞ has weight 0, and where the greatest score is −∞ or +∞ every
  weight is 0. Beside it: the same weights as the natural exponential gives them, and the running form, tile by tile.
-/
module

public import Idealize.ShloMosaic.PureOps.Ideal

@[expose] public section

noncomputable section

namespace Cert.Attn

open Idealize.ShloMosaic Finset

variable {ι κ : Type} [DecidableEq ι] [DecidableEq κ]

/-! ## Sums of extended reals and a real factor -/

theorem mul_sum_real (c : ℝ) (hc : 0 ≤ c) (A : Finset ι) (f : ι → EReal) : (c : EReal) * ∑ k ∈ A, f k = ∑ k ∈ A, (c : EReal) * f k := by
  induction A using Finset.induction_on with
  | empty => simp
  | insert a A ha ih =>
    rw [sum_insert ha, sum_insert ha, EReal.left_distrib_of_nonneg_of_ne_top (by exact_mod_cast hc) (EReal.coe_ne_top c), ih]

theorem sum_mul_real (c : ℝ) (hc : 0 ≤ c) (A : Finset ι) (f : ι → EReal) : (∑ k ∈ A, f k) * (c : EReal) = ∑ k ∈ A, f k * (c : EReal) := by
  rw [mul_comm, mul_sum_real c hc]
  exact sum_congr rfl fun k _ => mul_comm _ _

/-! ## Exponentials -/

theorem exp2_nonneg (x : EReal) : 0 ≤ Ideal.exp2 x := by
  induction x using EReal.rec with
  | bot => simp
  | top => simp
  | coe r => rw [Ideal.exp2_coe]; exact_mod_cast (Real.rpow_nonneg (by norm_num) r)

theorem exp2_sub_le {x m : EReal} (h : x ≤ m) : ∃ c : ℝ, 0 ≤ c ∧ Ideal.exp2 (x - m) = (c : EReal) := by
  induction m using EReal.rec with
  | bot =>
    rw [le_bot_iff] at h; subst h
    exact ⟨0, le_refl _, by simp⟩
  | top =>
    refine ⟨0, le_refl _, ?_⟩
    rw [EReal.sub_top]; simp
  | coe r =>
    induction x using EReal.rec with
    | bot => exact ⟨0, le_refl _, by simp⟩
    | top => exact absurd h (by simp)
    | coe t => exact ⟨Real.rpow 2 (t - r), Real.rpow_nonneg (by norm_num) _, by rw [← EReal.coe_sub, Ideal.exp2_coe]⟩

/-- Moving a term from one maximum to a greater one. -/
theorem exp2_rescale {s m m' : EReal} (h : s ≤ m) (h' : m ≤ m') :
    Ideal.exp2 (m - m') * Ideal.exp2 (s - m) = Ideal.exp2 (s - m') := by
  induction m' using EReal.rec with
  | bot =>
    rw [le_bot_iff] at h'; subst h'
    rw [le_bot_iff] at h; subst h
    simp
  | top => rw [EReal.sub_top, EReal.sub_top]; simp
  | coe r' =>
    induction m using EReal.rec with
    | bot =>
      rw [le_bot_iff] at h; subst h
      simp
    | top => exact absurd h' (by simp)
    | coe r =>
      induction s using EReal.rec with
      | bot => simp
      | top => exact absurd h (by simp)
      | coe t =>
        rw [← EReal.coe_sub, ← EReal.coe_sub, ← EReal.coe_sub, Ideal.exp2_coe, Ideal.exp2_coe, Ideal.exp2_coe, ← EReal.coe_mul]
        congr 1
        show (2 : ℝ) ^ (r - r') * 2 ^ (t - r) = 2 ^ (t - r')
        rw [← Real.rpow_add (by norm_num)]
        congr 1; ring

/-- The factor between natural and base-2 exponents. -/
def log2e : ℝ := (Real.log 2)⁻¹

theorem log2e_pos : 0 < log2e := inv_pos.mpr (Real.log_pos (by norm_num))

theorem exp_eq_exp2 (x : EReal) : Ideal.exp x = Ideal.exp2 (x * (log2e : EReal)) := by
  induction x using EReal.rec with
  | bot => rw [EReal.bot_mul_coe_of_pos log2e_pos]; simp
  | top => rw [EReal.top_mul_coe_of_pos log2e_pos]; simp
  | coe r =>
    rw [← EReal.coe_mul, Ideal.exp_coe, Ideal.exp2_coe]
    congr 1
    show Real.exp r = 2 ^ (r * log2e)
    have h2 : Real.log 2 ≠ 0 := (Real.log_pos (by norm_num)).ne'
    rw [Real.rpow_def_of_pos (by norm_num)]
    congr 1
    unfold log2e
    field_simp

theorem sub_mul_pos (x y : EReal) {a : ℝ} (ha : 0 < a) : (x - y) * (a : EReal) = x * (a : EReal) - y * (a : EReal) := by
  rw [sub_eq_add_neg, EReal.right_distrib_of_nonneg_of_ne_top (by exact_mod_cast ha.le) (EReal.coe_ne_top a), EReal.neg_mul, ← sub_eq_add_neg]

theorem sup_mul_pos (A : Finset ι) (x : ι → EReal) {a : ℝ} (ha : 0 < a) : (A.sup x) * (a : EReal) = A.sup fun k => x k * (a : EReal) := by
  have hm : ∀ y z : EReal, max y z * (a : EReal) = max (y * a) (z * a) := fun y z =>
    (show Monotone fun w : EReal => w * (a : EReal) from fun u v h => mul_le_mul_of_nonneg_right h (by exact_mod_cast ha.le)).map_max
  induction A using Finset.induction_on with
  | empty => simp [EReal.bot_mul_coe_of_pos ha]
  | insert b A hb ih => rw [sup_insert, sup_insert, ← ih]; exact hm _ _

/-! ## Weights -/

/-- The greatest score. -/
def peak (A : Finset ι) (s : ι → EReal) : EReal := A.sup s

/-- The sum of the exponentials. -/
def mass (A : Finset ι) (s : ι → EReal) : EReal := ∑ k ∈ A, Ideal.exp2 (s k - peak A s)

/-- A key's weight. -/
def weight (A : Finset ι) (s : ι → EReal) (k : ι) : EReal := Ideal.exp2 (s k - peak A s) * (mass A s)⁻¹

/-- The weighted sum of the values. -/
def attend (A : Finset ι) (s v : ι → EReal) : EReal := ∑ k ∈ A, weight A s k * v k

theorem exp2_peak_top {A : Finset ι} {s : ι → EReal} (h : peak A s = ⊤) (k : ι) : Ideal.exp2 (s k - peak A s) = 0 := by
  rw [h, EReal.sub_top]; simp

theorem exp2_peak_bot {A : Finset ι} {s : ι → EReal} (h : peak A s = ⊥) {k : ι} (hk : k ∈ A) : Ideal.exp2 (s k - peak A s) = 0 := by
  have := (le_sup (f := s) hk).trans_eq h
  rw [le_bot_iff] at this
  rw [this]; simp

/-- The sum of the exponentials is a real number, and positive where the greatest score is one. -/
theorem mass_real (A : Finset ι) (s : ι → EReal) : ∃ c : ℝ, 0 ≤ c ∧ mass A s = (c : EReal) := by
  have key : ∀ B ⊆ A, ∃ c : ℝ, 0 ≤ c ∧ ∑ k ∈ B, Ideal.exp2 (s k - peak A s) = (c : EReal) := by
    intro B
    induction B using Finset.induction_on with
    | empty => exact fun _ => ⟨0, le_refl _, by simp⟩
    | insert b B hb ih =>
      intro hB
      obtain ⟨c, hc, e⟩ := ih fun x hx => hB (mem_insert_of_mem hx)
      obtain ⟨d, hd, e'⟩ := exp2_sub_le (le_sup (f := s) (hB (mem_insert_self b B)))
      refine ⟨d + c, add_nonneg hd hc, ?_⟩
      rw [sum_insert hb, e, EReal.coe_add]
      exact congrArg (· + (c : EReal)) e'
  exact key A (Subset.refl A)

theorem mass_pos {A : Finset ι} {s : ι → EReal} {r : ℝ} (h : peak A s = (r : EReal)) : 0 < mass A s := by
  have hA : A.Nonempty := by
    rw [nonempty_iff_ne_empty]; rintro rfl
    exact absurd h (by simp [peak])
  obtain ⟨k, hk, e⟩ := exists_mem_eq_sup A hA s
  have h1 : Ideal.exp2 (s k - peak A s) = 1 := by
    have : s k = (r : EReal) := e.symm.trans h
    rw [this, h, ← EReal.coe_sub, sub_self, Ideal.exp2_coe]
    show ((2 ^ (0 : ℝ) : ℝ) : EReal) = 1
    rw [Real.rpow_zero]; rfl
  calc (0 : EReal) < 1 := by norm_num
    _ = Ideal.exp2 (s k - peak A s) := h1.symm
    _ ≤ mass A s := single_le_sum (f := fun k => Ideal.exp2 (s k - peak A s)) (fun i _ => exp2_nonneg _) hk

theorem mass_inv (A : Finset ι) (s : ι → EReal) : ∃ c : ℝ, 0 ≤ c ∧ (mass A s)⁻¹ = (c : EReal) := by
  obtain ⟨c, hc, e⟩ := mass_real A s
  exact ⟨c⁻¹, inv_nonneg.mpr hc, by rw [e, EReal.coe_inv]⟩

theorem div_pos_eq (x : EReal) {y : EReal} (h : 0 < y) : Ideal.div x y = x * y⁻¹ := by
  unfold Ideal.div; rw [if_neg h.ne']

theorem div_one_eq (x : EReal) : Ideal.div x 1 = x := by
  rw [div_pos_eq x (by norm_num), inv_one, mul_one]

/-- The sum of the exponentials times the values, over the sum of the exponentials. -/
theorem attend_of_sums (A : Finset ι) (s v : ι → EReal) :
    (∑ k ∈ A, v k * Ideal.exp2 (s k - peak A s)) * Ideal.div 1 (mass A s) = attend A s v := by
  unfold attend
  by_cases h0 : mass A s = 0
  · have hz : ∀ k ∈ A, Ideal.exp2 (s k - peak A s) = 0 := by
      intro k hk
      exact (sum_eq_zero_iff_of_nonneg fun i _ => exp2_nonneg _).mp h0 k hk
    rw [sum_eq_zero fun k hk => by rw [hz k hk, mul_zero], zero_mul, sum_eq_zero fun k hk => by
      show Ideal.exp2 (s k - peak A s) * (mass A s)⁻¹ * v k = 0
      rw [hz k hk, zero_mul, zero_mul]]
  · obtain ⟨c, hc, e⟩ := mass_inv A s
    have : Ideal.div 1 (mass A s) = (c : EReal) := by unfold Ideal.div; rw [if_neg h0, one_mul, e]
    rw [this, sum_mul_real c hc]
    refine sum_congr rfl fun k _ => ?_
    show _ = Ideal.exp2 (s k - peak A s) * (mass A s)⁻¹ * v k
    rw [e, mul_comm (v k), mul_right_comm]

/-- Keys at −∞ may be left out. -/
theorem peak_subset {A B : Finset ι} {s : ι → EReal} (hB : B ⊆ A) (h : ∀ k ∈ A, k ∉ B → s k = ⊥) : peak A s = peak B s := by
  refine le_antisymm (Finset.sup_le fun k hk => ?_) (sup_mono hB)
  by_cases hkB : k ∈ B
  · exact le_sup (f := s) hkB
  · rw [h k hk hkB]; exact bot_le

theorem mass_subset {A B : Finset ι} {s : ι → EReal} (hB : B ⊆ A) (h : ∀ k ∈ A, k ∉ B → s k = ⊥) : mass A s = mass B s := by
  unfold mass
  rw [peak_subset hB h]
  exact (sum_subset hB fun k hk hkB => by rw [h k hk hkB]; simp).symm

theorem weight_subset {A B : Finset ι} {s : ι → EReal} (hB : B ⊆ A) (h : ∀ k ∈ A, k ∉ B → s k = ⊥) (k : ι) : weight A s k = weight B s k := by
  unfold weight
  rw [mass_subset hB h, peak_subset hB h]

theorem weight_bot (A : Finset ι) {s : ι → EReal} {k : ι} (h : s k = ⊥) : weight A s k = 0 := by
  unfold weight; rw [h]; simp

theorem attend_subset {A B : Finset ι} {s : ι → EReal} (v : ι → EReal) (hB : B ⊆ A) (h : ∀ k ∈ A, k ∉ B → s k = ⊥) : attend A s v = attend B s v := by
  unfold attend
  rw [sum_congr rfl fun k _ => by rw [weight_subset hB h k]]
  exact (sum_subset hB fun k hk hkB => by rw [weight_bot B (h k hk hkB), zero_mul]).symm

/-- Keys may be renamed. -/
theorem attend_map (A : Finset κ) (e : κ ↪ ι) (s v : ι → EReal) : attend (A.map e) s v = attend A (fun k => s (e k)) fun k => v (e k) := by
  have hp : peak (A.map e) s = peak A fun k => s (e k) := by unfold peak; rw [sup_map]; rfl
  have hm : mass (A.map e) s = mass A fun k => s (e k) := by unfold mass; rw [sum_map, hp]
  unfold attend weight
  rw [sum_map, hm, hp]

/-- The scores outside the keys do not matter. -/
theorem attend_congr {A : Finset ι} {s s' v v' : ι → EReal} (hs : ∀ k ∈ A, s k = s' k) (hv : ∀ k ∈ A, v k = v' k) : attend A s v = attend A s' v' := by
  have hp : peak A s = peak A s' := sup_congr rfl hs
  have hm : mass A s = mass A s' := sum_congr rfl fun k hk => by rw [hs k hk, hp]
  refine sum_congr rfl fun k hk => ?_
  unfold weight
  rw [hs k hk, hv k hk, hp, hm]

theorem weight_congr {A : Finset ι} {s s' : ι → EReal} (hs : ∀ k ∈ A, s k = s' k) {k : ι} (hk : k ∈ A) : weight A s k = weight A s' k := by
  have hp : peak A s = peak A s' := sup_congr rfl hs
  have hm : mass A s = mass A s' := sum_congr rfl fun k hk => by rw [hs k hk, hp]
  unfold weight
  rw [hs k hk, hp, hm]

theorem weight_nonneg (A : Finset ι) (s : ι → EReal) (k : ι) : 0 ≤ weight A s k := by
  obtain ⟨c, hc, e⟩ := mass_inv A s
  unfold weight
  rw [e]
  exact mul_nonneg (exp2_nonneg _) (by exact_mod_cast hc)

/-- The weights as a softmax over a mask gives them, the exponentials natural. -/
theorem weight_of_exp (A : Finset ι) (p : ι → Prop) [DecidablePred p] (s : ι → EReal) {M : EReal} (hM : M = A.sup fun k => if p k then s k else ⊥)
    {e : ι → EReal} (he : ∀ k, e k = if p k then Ideal.exp ((if p k then s k else ⊥) - if max M (-M) < ⊤ then M else 0) else 0)
    {T : EReal} (hT : T = ∑ k ∈ A, e k) {k : ι} (hk : k ∈ A) :
    Ideal.div (e k) (if 0 < T then T else 1) = weight A (fun k => if p k then s k * (log2e : EReal) else ⊥) k := by
  obtain ⟨x, hxd⟩ : ∃ x : ι → EReal, x = fun k => if p k then s k else ⊥ := ⟨_, rfl⟩
  have hx : (fun k => if p k then s k * (log2e : EReal) else ⊥) = fun k => x k * (log2e : EReal) := by
    funext k
    rw [hxd]
    show _ = (if p k then s k else ⊥) * (log2e : EReal)
    split
    · rfl
    · rw [EReal.bot_mul_coe_of_pos log2e_pos]
  rw [hx]
  rw [← hxd] at hM
  have hP : peak A (fun k => x k * (log2e : EReal)) = M * (log2e : EReal) := by
    unfold peak; rw [hM, sup_mul_pos A x log2e_pos]
  have he' : ∀ k, e k = if p k then Ideal.exp (x k - if max M (-M) < ⊤ then M else 0) else 0 := by
    intro k; rw [he k, hxd]
  induction M using EReal.rec with
  | bot =>
    have hb : ∀ k ∈ A, x k = ⊥ := fun k hk => le_bot_iff.mp ((le_sup (f := x) hk).trans_eq hM.symm)
    have hz : ∀ k ∈ A, e k = 0 := by
      intro k hk
      rw [he' k, hb k hk]
      simp
    rw [hz k hk, show T = 0 from hT.trans (sum_eq_zero hz), if_neg (lt_irrefl _), div_one_eq]
    refine (weight_bot A ?_).symm
    show x k * (log2e : EReal) = ⊥
    rw [hb k hk, EReal.bot_mul_coe_of_pos log2e_pos]
  | top =>
    have hA : A.Nonempty := ⟨k, hk⟩
    obtain ⟨j, hj, ej⟩ := exists_mem_eq_sup A hA x
    have hxj : x j = ⊤ := ej.symm.trans hM.symm
    have hpj : p j := by
      by_contra hn
      have : x j = ⊥ := by rw [hxd]; exact if_neg hn
      rw [this] at hxj; exact absurd hxj (by simp)
    have hej : e j = ⊤ := by rw [he' j, if_pos hpj, hxj]; simp
    have hTt : T = ⊤ := by
      rw [hT]
      refine top_le_iff.mp (hej ▸ single_le_sum (f := e) (fun i _ => ?_) hj)
      rw [he' i]
      split
      · generalize (x i - _) = y
        induction y using EReal.rec with
        | bot => simp
        | top => simp
        | coe r => rw [Ideal.exp_coe]; exact_mod_cast (Real.exp_pos r).le
      · exact le_refl _
    rw [hTt, if_pos (by simp), div_pos_eq _ (by simp), EReal.inv_top, mul_zero]
    have hz : Ideal.exp2 (x k * (log2e : EReal) - peak A fun k => x k * (log2e : EReal)) = 0 :=
      exp2_peak_top (s := fun k => x k * (log2e : EReal)) (by rw [hP, EReal.top_mul_coe_of_pos log2e_pos]) k
    unfold weight
    rw [hz, zero_mul]
  | coe r =>
    have hlt : max (r : EReal) (-(r : EReal)) < ⊤ := by
      rw [← EReal.coe_neg, max_lt_iff]; exact ⟨EReal.coe_lt_top _, EReal.coe_lt_top _⟩
    have hee : ∀ k, e k = Ideal.exp2 (x k * (log2e : EReal) - peak A fun k => x k * (log2e : EReal)) := by
      intro k
      rw [he' k, hP, ← sub_mul_pos _ _ log2e_pos, ← exp_eq_exp2, if_pos hlt]
      split
      · rfl
      · rename_i hn
        have : x k = ⊥ := by rw [hxd]; exact if_neg hn
        rw [this, EReal.bot_sub]; simp
    have hTm : T = mass A fun k => x k * (log2e : EReal) := hT.trans (sum_congr rfl fun k _ => hee k)
    have hpos : 0 < T := hTm ▸ mass_pos (r := r * log2e) (by rw [hP, EReal.coe_mul])
    rw [if_pos hpos, div_pos_eq _ hpos, hee k, hTm]
    rfl

/-- The same with base-2 exponentials, the greatest score replaced by 0 only where it is −∞. -/
theorem weight_of_exp2 (A : Finset ι) (p : ι → Prop) [DecidablePred p] (s : ι → EReal) {M : EReal} (hM : M = A.sup fun k => if p k then s k else ⊥)
    {e : ι → EReal} (he : ∀ k, e k = if p k then Ideal.exp2 ((if p k then s k else ⊥) - if M = ⊥ then 0 else M) else 0)
    {T : EReal} (hT : T = ∑ k ∈ A, e k) {k : ι} (hk : k ∈ A) :
    Ideal.div (e k) (if 0 < T then T else 1) = weight A (fun k => if p k then s k else ⊥) k := by
  set x : ι → EReal := fun k => if p k then s k else ⊥ with hxd
  have hP : peak A x = M := hM.symm
  have hee : ∀ k ∈ A, e k = Ideal.exp2 (x k - peak A x) := by
    intro k hk
    have hxk : x k = if p k then s k else ⊥ := rfl
    rw [he k, hP, ← hxk]
    by_cases hp : p k
    · rw [if_pos hp]
      by_cases hb : M = ⊥
      · have : x k = ⊥ := le_bot_iff.mp ((le_sup (f := x) hk).trans_eq (hP.trans hb))
        rw [this, EReal.bot_sub, EReal.bot_sub]
      · rw [if_neg hb]
    · rw [if_neg hp, hxk, if_neg hp, EReal.bot_sub]; simp
  have hTm : T = mass A x := hT.trans (sum_congr rfl fun k hk => hee k hk)
  unfold weight
  rw [← hTm, hee k hk]
  by_cases hpos : 0 < T
  · rw [if_pos hpos, div_pos_eq _ hpos]
  · have h0 : mass A x = 0 := le_antisymm (hTm ▸ not_lt.mp hpos) (sum_nonneg fun i _ => exp2_nonneg _)
    have hz : Ideal.exp2 (x k - peak A x) = 0 := (sum_eq_zero_iff_of_nonneg fun i _ => exp2_nonneg _).mp h0 k hk
    rw [hz, if_neg hpos, div_one_eq, zero_mul]

/-! ## The running form -/

/-- One tile more: the sum over the keys so far, moved to the new maximum, plus the tile's own. -/
theorem running_step (A B : Finset ι) (hd : Disjoint A B) (s v : ι → EReal) :
    Ideal.exp2 (peak A s - peak (A ∪ B) s) * (∑ k ∈ A, v k * Ideal.exp2 (s k - peak A s)) + ∑ k ∈ B, v k * Ideal.exp2 (s k - peak (A ∪ B) s)
      = ∑ k ∈ A ∪ B, v k * Ideal.exp2 (s k - peak (A ∪ B) s) := by
  have hle : peak A s ≤ peak (A ∪ B) s := sup_mono subset_union_left
  obtain ⟨c, hc, e⟩ := exp2_sub_le hle
  rw [sum_union hd, e, mul_sum_real c hc, ← e]
  congr 1
  refine sum_congr rfl fun k hk => ?_
  rw [mul_left_comm, exp2_rescale (show s k ≤ peak A s from le_sup (f := s) hk) hle]

theorem peak_union (A B : Finset ι) (s : ι → EReal) : peak (A ∪ B) s = max (peak A s) (peak B s) := sup_union

end Cert.Attn
-- ==== Proof.Rank.lean ====
/-
  The k greatest of n values, in two ways: by their rank (greater first, equal values in index order), by a stable sort,
  and by rounds that each take the first greatest value and overwrite it with −∞.
-/
module

public import Idealize.ShloMosaic.Lib.SortFacts
public import Idealize.ShloMosaic.PureOps.Ideal

@[expose] public section

noncomputable section

namespace Cert.Attn

open Idealize.ShloMosaic Finset

/-- `i` comes before `j`: its value is greater, or equal at a lower index. -/
def Before {n : ℕ} (f : Fin n → EReal) (i j : Fin n) : Prop := f j < f i ∨ (f i = f j ∧ i < j)

instance {n : ℕ} (f : Fin n → EReal) (i j : Fin n) : Decidable (Before f i j) := Classical.dec _

/-- The number of values before one. -/
def rank {n : ℕ} (f : Fin n → EReal) (j : Fin n) : ℕ := (univ.filter fun i => Before f i j).card

variable {n : ℕ} (f : Fin n → EReal)

theorem before_irrefl (i : Fin n) : ¬ Before f i i := by
  rintro (h | h)
  · exact lt_irrefl _ h
  · exact lt_irrefl _ h.2

theorem before_trans {i j k : Fin n} (h : Before f i j) (h' : Before f j k) : Before f i k := by
  rcases h with h | ⟨h, hi⟩ <;> rcases h' with h' | ⟨h', hi'⟩
  · exact .inl (h'.trans h)
  · exact .inl (h' ▸ h)
  · exact .inl (h ▸ h')
  · exact .inr ⟨h.trans h', hi.trans hi'⟩

theorem before_total {i j : Fin n} (h : i ≠ j) : Before f i j ∨ Before f j i := by
  rcases lt_trichotomy (f i) (f j) with h' | h' | h'
  · exact .inr (.inl h')
  · rcases lt_or_gt_of_ne h with g | g
    · exact .inl (.inr ⟨h', g⟩)
    · exact .inr (.inr ⟨h'.symm, g⟩)
  · exact .inl (.inl h')

theorem rank_lt_of_before {i j : Fin n} (h : Before f i j) : rank f i < rank f j := by
  refine card_lt_card ⟨fun k hk => ?_, fun hs => ?_⟩
  · simp only [mem_filter, mem_univ, true_and] at hk ⊢
    exact before_trans f hk h
  · have := hs (by simp only [mem_filter, mem_univ, true_and]; exact h : i ∈ _)
    simp only [mem_filter, mem_univ, true_and] at this
    exact before_irrefl f i this

theorem before_iff_rank {i j : Fin n} : Before f i j ↔ rank f i < rank f j := by
  refine ⟨rank_lt_of_before f, fun h => ?_⟩
  by_contra hn
  by_cases e : i = j
  · subst e; exact lt_irrefl _ h
  · exact absurd (rank_lt_of_before f ((before_total f e).resolve_left hn)) (not_lt.mpr h.le)

theorem rank_injective : Function.Injective (rank f) := by
  intro i j h
  by_contra e
  rcases before_total f e with g | g
  · exact absurd h (rank_lt_of_before f g).ne
  · exact absurd h (rank_lt_of_before f g).ne'

theorem rank_lt (j : Fin n) : rank f j < n := by
  have : (univ.filter fun i => Before f i j) ⊂ univ := by
    rw [filter_ssubset]; exact ⟨j, mem_univ _, before_irrefl f j⟩
  have h := card_lt_card this
  rwa [card_univ, Fintype.card_fin] at h

/-! ## A stable sort -/

theorem stableSort_increasing (R R' : Fin n → Fin n → Bool) (h : ∀ a b : Fin n, a < b → R b a = R' b a) :
    ∀ l : List (Fin n), l.Pairwise (· < ·) → stableSort R l = stableSort R' l
  | [], _ => rfl
  | a :: l, hl => by
    rw [List.pairwise_cons] at hl
    unfold stableSort
    rw [stableSort_increasing R R' h l hl.2]
    exact insertBefore_congr R R' a _ fun b hb => h a b (hl.1 b ((perm_stableSort R' l).mem_iff.mp hb))

/-- The stable sort by "greater" puts at place `k` the value of rank `k`. -/
theorem rank_sortedFrom (R : Fin n → Fin n → Bool) (hR : ∀ a b, R a b = decide (f b < f a)) (k : Fin n) : rank f (sortedFrom R k) = k.val := by
  let R' : Fin n → Fin n → Bool := fun a b => decide (Before f a b)
  have hs : sortedFrom R = sortedFrom R' := by
    have hp : sortPositions n R = sortPositions n R' := by
      refine stableSort_increasing R R' (fun a b hab => ?_) _ (List.pairwise_lt_finRange n)
      rw [hR]
      refine decide_eq_decide.mpr ⟨fun h => .inl h, fun h => h.resolve_right fun h => absurd h.2 (not_lt.mpr hab.le)⟩
    funext k
    unfold sortedFrom
    rw [List.get_of_eq hp]
    rfl
  have hR' : ∀ a b, R' a b = decide (rank f a < rank f b) := fun a b => decide_eq_decide.mpr (before_iff_rank f)
  rw [hs]
  clear_value R'
  let τ : Fin n → Fin n := fun k => ⟨rank f (sortedFrom R' k), rank_lt f _⟩
  have hmono : StrictMono τ := by
    intro i j hij
    have h := sortedFrom_noInversion R' R' (fun a b h => by
        simp only [hR', decide_eq_true_eq, decide_eq_false_iff_not] at h ⊢; omega) (fun _ _ h => h)
      (fun a b c h h' => by simp only [hR', decide_eq_false_iff_not] at h h' ⊢; omega) i j hij
    simp only [hR', decide_eq_false_iff_not] at h
    have hne : rank f (sortedFrom R' i) ≠ rank f (sortedFrom R' j) := fun e =>
      hij.ne (sortedFrom_injective R' (rank_injective f e))
    show rank f (sortedFrom R' i) < rank f (sortedFrom R' j)
    omega
  have : hmono.orderIsoOfSurjective τ (Finite.surjective_of_injective hmono.injective) = OrderIso.refl (Fin n) := Subsingleton.elim _ _
  exact congrArg Fin.val (DFunLike.congr_fun this k)

/-- A position is among the first `m` places of the sort, at a value above −∞, when it is above −∞ itself and of rank below `m`. -/
theorem exists_sortedFrom (R : Fin n → Fin n → Bool) (hR : ∀ a b, R a b = decide (f b < f a)) (m : ℕ) (j : Fin n) :
    (∃ k : Fin n, k.val < m ∧ sortedFrom R k = j ∧ ⊥ < f (sortedFrom R k)) ↔ ⊥ < f j ∧ rank f j < m := by
  constructor
  · rintro ⟨k, hk, rfl, hb⟩
    exact ⟨hb, by rw [rank_sortedFrom f R hR]; exact hk⟩
  · rintro ⟨hb, hr⟩
    obtain ⟨k, hk⟩ := sortedFrom_surjective R j
    refine ⟨k, ?_, hk, hk ▸ hb⟩
    rw [← rank_sortedFrom f R hR k, hk]; exact hr

/-! ## Rounds -/

/-- What is left after the values of rank below `t` are overwritten with −∞. -/
def left (t : ℕ) (j : Fin n) : EReal := if rank f j < t then ⊥ else f j

/-- One round: where the greatest value left is above −∞, it is at the position of rank `t` exactly. -/
theorem first_iff_rank (t : ℕ) {m : Fin n} (hm : ∀ i, left f t i ≤ left f t m) (hfirst : ∀ i, left f t i = left f t m → m ≤ i)
    (hb : ⊥ < left f t m) (j : Fin n) : j = m ↔ rank f j = t := by
  have hmt : ¬ rank f m < t := by
    intro h; unfold left at hb; rw [if_pos h] at hb; exact lt_irrefl _ hb
  have hlm : left f t m = f m := if_neg hmt
  have hsub : ∀ i, Before f i m → rank f i < t := by
    intro i hi
    by_contra hn
    have hli : left f t i = f i := if_neg hn
    have h1 := hm i
    rw [hli, hlm] at h1
    rcases hi with h | ⟨h, hlt⟩
    · exact absurd h (not_lt.mpr h1)
    · exact absurd (hfirst i (by rw [hli, hlm, h])) (not_le.mpr hlt)
  have hrank : rank f m = t := by
    refine le_antisymm ?_ (not_lt.mp hmt)
    have : ((univ.filter fun i => Before f i m).image (rank f)) ⊆ range t := by
      intro x hx
      obtain ⟨i, hi, rfl⟩ := mem_image.mp hx
      simp only [mem_filter, mem_univ, true_and] at hi
      exact mem_range.mpr (hsub i hi)
    have h := card_le_card this
    rwa [card_image_of_injective _ (rank_injective f), card_range] at h
  constructor
  · rintro rfl; exact hrank
  · intro h; exact rank_injective f (h.trans hrank.symm)

/-- Where every value left is −∞, nothing above −∞ has rank `t` or more. -/
theorem left_bot_iff (t : ℕ) (h : ∀ i, left f t i = ⊥) (j : Fin n) : ⊥ < f j → rank f j < t := by
  intro hb
  by_contra hn
  have := h j
  unfold left at this
  rw [if_neg hn] at this
  exact absurd hb (this ▸ lt_irrefl _)

end Cert.Attn
-- ==== Proof.Spec.lean ====
/-
  The prompt's sparse attention as mathematics on the extended reals, for one query position and one of its heads: the
  scores, the compressed attention, the blocks picked by it, the attention over the picked blocks' tokens, the attention
  over the window, and the gated sum of the three.
-/
module

public import proofs.«01_k».proof.Proof.Softmax
public import proofs.«01_k».proof.Proof.Rank

@[expose] public section

noncomputable section

namespace Cert.Attn

open Idealize.ShloMosaic Finset

/-- The factor of the base-2 scores: one over eight times the natural logarithm of 2. -/
def scale : ℝ := (8 * Real.log 2)⁻¹

/-- The base-2 score of a query and a key. -/
def score (Q : Fin 64 → EReal) (K : ℕ → Fin 64 → EReal) (k : ℕ) : EReal := (∑ d, K k d * Q d) * (scale : EReal)

/-- Scores outside the mask are −∞. -/
def masked (p : ℕ → Prop) (s : ℕ → EReal) (k : ℕ) : EReal := @ite _ (p k) (Classical.propDecidable _) (s k) ⊥

theorem masked_pos {p : ℕ → Prop} {k : ℕ} (s : ℕ → EReal) (h : p k) : masked p s k = s k := by
  unfold masked; rw [if_pos h]

theorem masked_neg {p : ℕ → Prop} {k : ℕ} (s : ℕ → EReal) (h : ¬ p k) : masked p s k = ⊥ := by
  unfold masked; rw [if_neg h]

theorem masked_eq (p : ℕ → Prop) (s : ℕ → EReal) (k : ℕ) [Decidable (p k)] : masked p s k = if p k then s k else ⊥ := by
  by_cases h : p k
  · rw [masked_pos s h, if_pos h]
  · rw [masked_neg s h, if_neg h]

/-- Block `j` ends at or before position `q`. -/
def Complete (q j : ℕ) : Prop := 64 * j + 63 ≤ q

/-- The first block, the one of position `q`, and the one before it. -/
def Forced (q j : ℕ) : Prop := (j = 0 ∨ j = q / 64 ∨ j + 1 = q / 64) ∧ j ≤ q / 64

instance (q j : ℕ) : Decidable (Complete q j) := inferInstanceAs (Decidable (_ ≤ _))
instance (q j : ℕ) : Decidable (Forced q j) := inferInstanceAs (Decidable (_ ∧ _))

/-- The compressed attention's weight of block `j`. -/
def cweight (q : ℕ) (Q : Fin 64 → EReal) (CK : ℕ → Fin 64 → EReal) (j : ℕ) : EReal :=
  weight (range 256) (masked (Complete q) (score Q CK)) j

/-- What the blocks are picked by: +∞ for the forced ones, for the other complete ones the weights of the group's four heads. -/
def blockScore (q : ℕ) (Q : Fin 4 → Fin 64 → EReal) (CK : ℕ → Fin 64 → EReal) (j : ℕ) : EReal :=
  if Forced q j then ⊤ else if Complete q j then ∑ r, cweight q (Q r) CK j else ⊥

/-- The sixteen best blocks that are not at −∞. -/
def Chosen (q : ℕ) (Q : Fin 4 → Fin 64 → EReal) (CK : ℕ → Fin 64 → EReal) (j : ℕ) : Prop :=
  ∃ h : j < 256, ⊥ < blockScore q Q CK j ∧ rank (fun i : Fin 256 => blockScore q Q CK i.val) ⟨j, h⟩ < 16

/-- The three attentions. -/
def compressed (q : ℕ) (Q : Fin 64 → EReal) (CK : ℕ → Fin 64 → EReal) (v : ℕ → EReal) : EReal :=
  attend (range 256) (masked (Complete q) (score Q CK)) v

def selected (q : ℕ) (C : ℕ → Prop) (Q : Fin 64 → EReal) (K : ℕ → Fin 64 → EReal) (v : ℕ → EReal) : EReal :=
  attend (range 16384) (masked (fun k => C (k / 64) ∧ k ≤ q) (score Q K)) v

def windowed (q : ℕ) (Q : Fin 64 → EReal) (K : ℕ → Fin 64 → EReal) (v : ℕ → EReal) : EReal :=
  attend (range 16384) (masked (fun k => k ≤ q ∧ q < k + 512) (score Q K)) v

/-- Their gated sum. -/
def gated (g0 g1 g2 oc os ow : EReal) : EReal := Ideal.logistic g0 * oc + Ideal.logistic g1 * os + Ideal.logistic g2 * ow

end Cert.Attn
-- ==== Proof.Columns.lean ====
/-
  How the kernel lays out a step's queries: column `128 r + l` is head `r` of the step's position `l`, and the two
  key-value heads' keys, 64 entries each, lie side by side, so that the queries are block-diagonal. Beside it, the words
  of positions and block numbers.
-/
module

public import proofs.«01_k».proof.Proof.Flow
public import proofs.«01_k».proof.Proof.Spec
public import Idealize.ShloMosaic.Lib.Pointwise
public import Idealize.ShloMosaic.Lib.Pointwise.IndexVar
public import Idealize.ShloMosaic.Lib.WordCmp

@[expose] public section

set_option maxRecDepth 16384

noncomputable section

namespace Cert.Attn

open Idealize.ShloMosaic Idealize.ShloMosaic.WordCmp

/-! ## Words -/

theorem subi_ofNat {a b : ℕ} (h : b ≤ a) : IntOp.subi (BitVec.ofNat 32 a) (BitVec.ofNat 32 b) = BitVec.ofNat 32 (a - b) := by
  have e : a = (a - b) + b := by omega
  show BitVec.ofNat 32 a - BitVec.ofNat 32 b = _
  conv_lhs => rw [e, BitVec.ofNat_add]
  exact BitVec.add_sub_cancel _ _

theorem andi_ofNat_127 (a : ℕ) (h : a < 2 ^ 32) : IntOp.andi (BitVec.ofNat 32 a) 127#32 = BitVec.ofNat 32 (a % 128) := by
  apply BitVec.eq_of_toNat_eq
  show (BitVec.ofNat 32 a &&& 127#32).toNat = _
  rw [BitVec.toNat_and, toNat_ofNat_of_lt h, toNat_ofNat_of_lt (show a % 128 < 2 ^ 32 by omega)]
  exact Nat.and_two_pow_sub_one_eq_mod a 7

theorem shrsi_ofNat_6 {u : ArithUnit} (a : ℕ) (h : a < 2 ^ 31) : IntOp.shrsi u (BitVec.ofNat 32 a) 6#32 = BitVec.ofNat 32 (a / 64) := by
  have hm : (BitVec.ofNat 32 a).msb = false := by
    rw [BitVec.msb_eq_false_iff_two_mul_lt, toNat_ofNat_of_lt (by omega)]; omega
  have e : (BitVec.ofNat 32 a).sshiftRight 6 = BitVec.ofNat 32 (a / 64) := by
    rw [BitVec.sshiftRight_eq_of_msb_false hm]
    apply BitVec.eq_of_toNat_eq
    rw [BitVec.toNat_ushiftRight, toNat_ofNat_of_lt (show a < 2 ^ 32 by omega), toNat_ofNat_of_lt (show a / 64 < 2 ^ 32 by omega), Nat.shiftRight_eq_div_pow]
  unfold IntOp.shrsi
  simpa using e

theorem divsi_ofNat_64 {u : ArithUnit} (a : ℕ) (h : a < 2 ^ 31) : IntOp.divsi u (BitVec.ofNat 32 a) 64#32 = BitVec.ofNat 32 (a / 64) := by
  have hm : (BitVec.ofNat 32 a).msb = false := by
    rw [BitVec.msb_eq_false_iff_two_mul_lt, toNat_ofNat_of_lt (by omega)]; omega
  have e : (BitVec.ofNat 32 a).sdiv 64#32 = BitVec.ofNat 32 (a / 64) := by
    rw [BitVec.sdiv_eq, hm, show (64#32).msb = false by decide]
    apply BitVec.eq_of_toNat_eq
    show (BitVec.ofNat 32 a / 64#32).toNat = _
    rw [BitVec.toNat_udiv, toNat_ofNat_of_lt (show a < 2 ^ 32 by omega), toNat_ofNat_of_lt (show a / 64 < 2 ^ 32 by omega)]
    rfl
  unfold IntOp.divsi
  rw [if_neg (by unfold IntOp.SDivCorner; simp)]
  exact e

end Cert.Attn

namespace Cert.KernelIdeal.Nsa

open Cert.KernelIdeal Cert.KernelIdeal.Gen Cert.Attn
open Idealize.ShloMosaic Idealize.ShloMosaic.WordCmp Idealize.SL.Sem

/-! ## Columns -/

/-- The column of head `r` at the step's position `l`. -/
def col (r : Fin 8) (l : Fin 128) : Fin 1024 := ⟨128 * r.val + l.val, by omega⟩

/-- The key-value head of head `r`. -/
def grp (r : Fin 8) : Fin 2 := ⟨r.val / 4, by omega⟩

/-- A head's query. -/
def qvec (X2 : Vec Ideal S512x128 .f32) (r : Fin 8) (l : Fin 128) (d : Fin 64) : EReal := X2 (ix2 ⟨64 * r.val + d.val, by omega⟩ l)

/-- A compressed key, a compressed value's entry, a token's key, a token's value's entry. -/
def crow (X4 : Vec Ideal S1x256x128 .bf16) (g : Fin 2) (k : ℕ) (d : Fin 64) : EReal := X4 (ix3 0 ⟨min k 255, by omega⟩ ⟨64 * g.val + d.val, by omega⟩)
def ccol (X5 : Vec Ideal S1x128x256 .bf16) (g : Fin 2) (d : Fin 64) (k : ℕ) : EReal := X5 (ix3 0 ⟨64 * g.val + d.val, by omega⟩ ⟨min k 255, by omega⟩)
def trow (X6 : Vec Ideal S1x16384x128 .bf16) (g : Fin 2) (k : ℕ) (d : Fin 64) : EReal := X6 (ix3 0 ⟨min k 16383, by omega⟩ ⟨64 * g.val + d.val, by omega⟩)
def tcol (X7 : Vec Ideal S1x128x16384 .bf16) (g : Fin 2) (d : Fin 64) (k : ℕ) : EReal := X7 (ix3 0 ⟨64 * g.val + d.val, by omega⟩ ⟨min k 16383, by omega⟩)

theorem named_scale : (Named.named κ "q_scale" 0x3E38AA3B#32 : Ideal .f32) = (scale : EReal) := rfl
theorem named_mask : (Named.named κ "mask" 0xF149F2CA#32 : Ideal .f32) = (⊥ : EReal) := rfl
theorem named_half : (Named.named κ "half_mask" 0xF0C9F2CA#32 : Ideal .f32) = (⊥ : EReal) := rfl

theorem ofBits_neg_inf : Ideal.ofBits .f32 0xFF800000#32 = ⊥ := by
  simp [Ideal.ofBits, Ideal.ieee]

theorem dite_eq {α : Type} {p : Prop} [Decidable p] {a : p → α} {b : ¬ p → α} {z : α} (h1 : ∀ h, a h = z) (h2 : ∀ h, b h = z) : dite p a b = z := by
  by_cases h : p
  · rw [dif_pos h, h1]
  · rw [dif_neg h, h2]

set_option maxHeartbeats 4000000 in
/-- The block-diagonal queries. -/
theorem queries_apply (X2 : Vec Ideal S512x128 .f32) (c : Fin 128) (r : Fin 8) (l : Fin 128) :
    k0_pay212 X2 (ix2 c (col r l))
      = if c.val / 64 = r.val / 4 then X2 (ix2 ⟨64 * r.val + c.val % 64, by omega⟩ l) * (scale : EReal) else 0 := by
  have hr := r.isLt
  have hl := l.isLt
  have hc := c.isLt
  obtain ⟨y, hy⟩ : ∃ y, y = col r l := ⟨_, rfl⟩
  have hv : y.val = 128 * r.val + l.val := by rw [hy]; rfl
  rw [← hy]
  have key : ∀ (t : EReal) (a b a' : ℕ) (h1 : a < 512) (h2 : b < 128) (h1' : a' < 512), a = a' → b = l.val →
      X2 (ix2 ⟨a, h1⟩ ⟨b, h2⟩) * t = X2 (ix2 ⟨a', h1'⟩ l) * t := by
    intro t a b a' _ _ _ e e'; subst e e'; rfl
  rw [← named_scale]
  pointwise [k0_pay212]
  generalize (Named.named κ "q_scale" 0x3E38AA3B#32 : Ideal .f32) = t
  by_cases hg : c.val / 64 = r.val / 4
  · rw [if_pos hg]
    repeat' with_reducible refine dite_eq (fun h => ?_) (fun h => ?_)
    all_goals first
      | with_reducible refine key t _ _ _ _ _ _ ?_ ?_ <;> omega
      | (exfalso; omega)
  · rw [if_neg hg]
    repeat' with_reducible refine dite_eq (fun h => ?_) (fun h => ?_)
    all_goals first
      | with_reducible rfl
      | (exfalso; omega)

/-- A row of the two heads' keys times a column of the queries is the head's own product. -/
theorem block_dot (X2 : Vec Ideal S512x128 .f32) (K : Fin 128 → EReal) (r : Fin 8) (l : Fin 128) :
    ∑ c, K c * k0_pay212 X2 (ix2 c (col r l))
      = (∑ d : Fin 64, K ⟨64 * (grp r).val + d.val, by have := (grp r).isLt; omega⟩ * qvec X2 r l d) * (scale : EReal) := by
  have hr := r.isLt
  have hs : (0 : ℝ) ≤ scale := by unfold scale; positivity
  simp only [queries_apply]
  rw [Fin.sum_univ_two_halves 64 64 rfl, sum_mul_real _ hs]
  have hz : ∀ f : Fin 64 → EReal, (∀ d, f d = 0) → ∑ d, f d = 0 := fun f hf => Finset.sum_eq_zero fun d _ => hf d
  have key : ∀ (a b a' : ℕ) (ha : a < 128) (hb : b < 512) (ha' : a' < 128) (d : Fin 64), a = a' → b = 64 * r.val + d.val →
      K ⟨a, ha⟩ * (X2 (ix2 ⟨b, hb⟩ l) * (scale : EReal)) = K ⟨a', ha'⟩ * qvec X2 r l d * (scale : EReal) := by
    intro a b a' _ _ _ d e e'; subst e e'; rw [mul_assoc]; rfl
  by_cases h : r.val / 4 = 0
  · rw [hz (fun k : Fin 64 => K ⟨64 + k.val, by omega⟩ * if (64 + k.val) / 64 = r.val / 4 then _ else 0) (fun d => by
      rw [if_neg (by omega), mul_zero]), add_zero]
    refine Finset.sum_congr rfl fun d _ => ?_
    rw [if_pos (by show d.val / 64 = _; omega)]
    exact key _ _ _ _ _ _ d (by show d.val = 64 * (r.val / 4) + d.val; omega) (by show 64 * r.val + d.val % 64 = _; omega)
  · rw [hz (fun k : Fin 64 => K ⟨k.val, by omega⟩ * if k.val / 64 = r.val / 4 then _ else 0) (fun d => by
      rw [if_neg (by omega), mul_zero]), zero_add]
    refine Finset.sum_congr rfl fun d _ => ?_
    rw [if_pos (by show (64 + d.val) / 64 = _; omega)]
    exact key _ _ _ _ _ _ d (by show 64 + d.val = 64 * (r.val / 4) + d.val; omega) (by show 64 * r.val + (64 + d.val) % 64 = _; omega)

end Cert.KernelIdeal.Nsa
-- ==== Proof.Compressed.lean ====
/-
  What the kernel's compressed branch computes: its weights are the softmax of the complete blocks' scores, and its
  outputs the compressed attention of each head. A branch leaves out only blocks that are complete at none of the step's
  positions.
-/
module

public import proofs.«01_k».proof.Proof.Columns
public import proofs.«01_k».proof.Proof.Switch
public import Idealize.ShloMosaic.Lib.MatmulPlain

@[expose] public section

set_option maxRecDepth 16384

noncomputable section

namespace Cert.Attn

open Idealize.ShloMosaic Finset

theorem weight_map {ι κ : Type} (A : Finset κ) (e : κ ↪ ι) (s : ι → EReal) (k : κ) : weight (A.map e) s (e k) = weight A (fun k => s (e k)) k := by
  have hp : peak (A.map e) s = peak A fun k => s (e k) := by unfold peak; rw [sup_map]; rfl
  have hm : mass (A.map e) s = mass A fun k => s (e k) := by unfold mass; rw [sum_map, hp]
  unfold weight
  rw [hm, hp]

theorem univ_map_range (n : ℕ) : (univ : Finset (Fin n)).map Fin.valEmbedding = range n := by
  ext k
  simp only [mem_map, mem_univ, true_and, Fin.valEmbedding_apply, mem_range]
  exact ⟨fun ⟨j, e⟩ => e ▸ j.isLt, fun h => ⟨⟨k, h⟩, rfl⟩⟩

theorem weight_fin (n : ℕ) (s : ℕ → EReal) (k : Fin n) : weight univ (fun k : Fin n => s k.val) k = weight (range n) s k.val := by
  rw [← univ_map_range]
  exact (weight_map univ Fin.valEmbedding s k).symm

theorem attend_fin (n : ℕ) (s v : ℕ → EReal) : attend univ (fun k : Fin n => s k.val) (fun k => v k.val) = attend (range n) s v := by
  rw [← univ_map_range]
  exact (attend_map univ Fin.valEmbedding s v).symm

end Cert.Attn

namespace Cert.KernelIdeal.Nsa

open Cert.KernelIdeal Cert.KernelIdeal.Gen Cert.Attn
open Idealize.ShloMosaic Idealize.ShloMosaic.WordCmp Idealize.SL.Sem

variable {n : ℕ} (h : Fits n)

/-- The position of the step's column `l`. -/
def qpos (i : grid0.Coords) (l : Fin 128) : ℕ := 128 * (i 1).val + l.val

theorem qpos_lt (i : grid0.Coords) (l : Fin 128) : qpos i l < 16384 := by
  have h1 : (i 1).val < 128 := (i 1).isLt
  have := l.isLt
  unfold qpos; omega

theorem pos_apply (i : grid0.Coords) (r : Fin 8) (l : Fin 128) : k0_pay213 i (ix2 0 (col r l)) = BitVec.ofNat 32 (qpos i l) := by
  have hl := l.isLt
  have hr := r.isLt
  pointwise [k0_pay213]
  rw [show (Scalar.muli (BitVec.ofNat 32 (i 1).val) 128#32) = BitVec.ofNat 32 ((i 1).val * 128) from muli_ofNat _ _,
    andi_ofNat_127 _ (lt_trans (col r l).isLt (by norm_num)), addi_ofNat]
  congr 1
  unfold qpos
  show (i 1).val * 128 + (128 * r.val + l.val) % 128 = _
  omega

theorem le_256 {n : ℕ} (h : Fits n) : n ≤ 256 := by
  have := h.rowsIn 1
  simpa using this

theorem mask_apply (i : grid0.Coords) (k : Fin n) (r : Fin 8) (l : Fin 128) :
    cmpMask h (k0_pay213 i) (ix2 k (col r l)) = BitVec.ofBool (decide (Complete (qpos i l) k.val)) := by
  have hk := k.isLt
  have hn := le_256 h
  have hq := qpos_lt i l
  pointwise [cmpMask]
  rw [pos_apply, addi_ofNat, muli_ofNat, subi_ofNat (by omega), cmpi_sle_ofNat (by omega) (by omega)]
  congr 2
  unfold Complete
  exact propext (by omega)

theorem reshape_rows {a b : ℕ} (h : (⟨2, ![a, b]⟩ : Shape).numel = (⟨3, ![1, a, b]⟩ : Shape).numel) (x : Fin a) (y : Fin b) :
    Shape.reshapeEquiv h (ix2 x y) = ix3 (0 : Fin 1) x y := by
  refine Shape.reshapeEquiv_eq_of_rowMajor h ?_
  rw [rowMajor_val2 _ b rfl, rowMajor_val3 _ (a * b) b rfl rfl]
  show 0 * (a * b) + x.val * b + y.val = x.val * b + y.val
  omega

theorem window_row (X4 : Vec Ideal S1x256x128 .bf16) (k : Fin n) (c : Fin 128) :
    VecWindow.window X4 ![0, 0, 0] (Rows3 n 128).size h.rowsIn (ix3 0 k c) = X4 (ix3 0 ⟨min k.val 255, by omega⟩ c) := by
  have hk := k.isLt
  have hn := le_256 h
  refine congrArg X4 (funext fun a => Fin.ext ?_)
  fin_cases a
  · rfl
  · show 0 + 1 * k.val = min k.val 255; omega
  · show 0 + 1 * c.val = c.val; omega

theorem scores_apply (X2 : Vec Ideal S512x128 .f32) (X4 : Vec Ideal S1x256x128 .bf16) (k : Fin n) (r : Fin 8) (l : Fin 128) :
    cmpScores h (k0_pay212 X2) (VecWindow.window X4 ![0, 0, 0] (Rows3 n 128).size h.rowsIn) (ix2 k (col r l))
      = score (qvec X2 r l) (crow X4 (grp r)) k.val := by
  refine Eq.trans ?_ (block_dot X2 (fun c => X4 (ix3 0 ⟨min k.val 255, by omega⟩ c)) r l)
  pointwise [cmpScores]
  refine Finset.sum_congr rfl fun c _ => ?_
  rw [reshape_rows]
  exact congrArg (· * _) (window_row h X4 k c)

theorem masked_apply (i : grid0.Coords) (X2 : Vec Ideal S512x128 .f32) (X4 : Vec Ideal S1x256x128 .bf16) (k : Fin n) (r : Fin 8) (l : Fin 128) :
    cmpMasked h (k0_pay212 X2) (k0_pay213 i) (VecWindow.window X4 ![0, 0, 0] (Rows3 n 128).size h.rowsIn) (ix2 k (col r l))
      = if Complete (qpos i l) k.val then score (qvec X2 r l) (crow X4 (grp r)) k.val else ⊥ := by
  pointwise [cmpMasked]
  rw [mask_apply, scores_apply, select_decide, ofBits_neg_inf]

theorem max_apply (i : grid0.Coords) (X2 : Vec Ideal S512x128 .f32) (X4 : Vec Ideal S1x256x128 .bf16) (r : Fin 8) (l : Fin 128) :
    cmpMax h (k0_pay212 X2) (k0_pay213 i) (VecWindow.window X4 ![0, 0, 0] (Rows3 n 128).size h.rowsIn) (ix2 0 (col r l))
      = if (Finset.univ.sup fun k : Fin n => if Complete (qpos i l) k.val then score (qvec X2 r l) (crow X4 (grp r)) k.val else ⊥) = ⊥ then 0
        else Finset.univ.sup fun k : Fin n => if Complete (qpos i l) k.val then score (qvec X2 r l) (crow X4 (grp r)) k.val else ⊥ := by
  pointwise [cmpMax]
  rw [ofBits_neg_inf]
  exact congrArg (fun f : Fin n → EReal => if Finset.fold max ⊥ f Finset.univ = ⊥ then 0 else Finset.fold max ⊥ f Finset.univ)
    (funext fun k => masked_apply h i X2 X4 k r l)

theorem exp_apply (i : grid0.Coords) (X2 : Vec Ideal S512x128 .f32) (X4 : Vec Ideal S1x256x128 .bf16) (k : Fin n) (r : Fin 8) (l : Fin 128) :
    cmpExp h (k0_pay212 X2) (k0_pay213 i) (VecWindow.window X4 ![0, 0, 0] (Rows3 n 128).size h.rowsIn) (ix2 k (col r l))
      = if Complete (qpos i l) k.val then
          Ideal.exp2 ((if Complete (qpos i l) k.val then score (qvec X2 r l) (crow X4 (grp r)) k.val else ⊥)
            - if (Finset.univ.sup fun k : Fin n => if Complete (qpos i l) k.val then score (qvec X2 r l) (crow X4 (grp r)) k.val else ⊥) = ⊥ then 0
              else Finset.univ.sup fun k : Fin n => if Complete (qpos i l) k.val then score (qvec X2 r l) (crow X4 (grp r)) k.val else ⊥)
        else 0 := by
  pointwise [cmpExp]
  rw [masked_apply, mask_apply, max_apply, select_decide]
  rfl

theorem incomplete (i : grid0.Coords) (l : Fin 128) {k : ℕ} (hk : nOf i ≤ k) : ¬ Complete (qpos i l) k := by
  have hl := l.isLt
  unfold Complete qpos nOf at *
  omega

theorem probs_apply (i : grid0.Coords) (hn : n = nOf i) (X2 : Vec Ideal S512x128 .f32) (X4 : Vec Ideal S1x256x128 .bf16) (k : Fin n) (r : Fin 8) (l : Fin 128) :
    swProbs h i X2 X4 (ix2 k (col r l)) = cweight (qpos i l) (qvec X2 r l) (crow X4 (grp r)) k.val := by
  have e := weight_of_exp2 (Finset.univ : Finset (Fin n)) (fun k => Complete (qpos i l) k.val) (fun k => score (qvec X2 r l) (crow X4 (grp r)) k.val)
    rfl (e := fun k => cmpExp h (k0_pay212 X2) (k0_pay213 i) (VecWindow.window X4 ![0, 0, 0] (Rows3 n 128).size h.rowsIn) (ix2 k (col r l)))
    (fun k => exp_apply h i X2 X4 k r l) rfl (Finset.mem_univ k)
  refine Eq.trans (b := weight Finset.univ (fun k : Fin n => if Complete (qpos i l) k.val then score (qvec X2 r l) (crow X4 (grp r)) k.val else ⊥) k) ?_ ?_
  · unfold swProbs
    pointwise [cmpProbs, cmpTot]
    exact e
  unfold cweight
  rw [weight_subset (Finset.range_subset_range.mpr (le_256 h)) (fun k _ hk => masked_neg _ (incomplete i l (by rw [Finset.mem_range] at hk; omega)))]
  rw [← weight_fin n (masked _ _) k]
  exact weight_congr (fun k _ => (masked_eq _ _ _).symm) (Finset.mem_univ k)

theorem out_apply (i : grid0.Coords) (hn : n = nOf i) (X2 : Vec Ideal S512x128 .f32) (X4 : Vec Ideal S1x256x128 .bf16) (v : ℕ → EReal) (r : Fin 8) (l : Fin 128) :
    ∑ k : Fin n, v k.val * swProbs h i X2 X4 (ix2 k (col r l)) = compressed (qpos i l) (qvec X2 r l) (crow X4 (grp r)) v := by
  unfold compressed
  rw [attend_subset v (Finset.range_subset_range.mpr (le_256 h)) (fun k _ hk => masked_neg _ (incomplete i l (by rw [Finset.mem_range] at hk; omega)))]
  rw [← attend_fin n]
  refine Finset.sum_congr rfl fun k _ => ?_
  rw [probs_apply h i hn, mul_comm]
  congr 1
  unfold cweight
  rw [weight_subset (Finset.range_subset_range.mpr (le_256 h)) (fun k _ hk => masked_neg _ (incomplete i l (by rw [Finset.mem_range] at hk; omega)))]
  exact (weight_fin n _ k).symm

/-- The column of query head `ρ` of a key-value head at the step's position `l`. -/
def lane (ρ : Fin 4) (l : Fin 128) : Fin 512 := ⟨128 * ρ.val + l.val, by omega⟩

def head0 (ρ : Fin 4) : Fin 8 := ⟨ρ.val, by omega⟩
def head1 (ρ : Fin 4) : Fin 8 := ⟨4 + ρ.val, by omega⟩

theorem grp_head0 (ρ : Fin 4) : grp (head0 ρ) = 0 := Fin.ext (by show ρ.val / 4 = 0; have := ρ.isLt; omega)
theorem grp_head1 (ρ : Fin 4) : grp (head1 ρ) = 1 := Fin.ext (by show (4 + ρ.val) / 4 = 1; have := ρ.isLt; omega)

theorem cmpOut_apply (p : FVec Ideal (Rows n 512) .f32) (y : Vec Ideal (Rows3 64 n) .bf16) (d : Fin 64) (c : Fin 512) :
    cmpOut h p y (ix2 d c) = ∑ k : Fin n, y (ix3 0 d k) * p (ix2 k c) := by
  refine (Ideal.matmul_plain_apply none (shapeCast (Rows 64 n) y h.castV) (truncf .bf16 p bitsLt_bf16_f32) (constant S64x512 .f32 0x00000000#32) d c).trans ?_
  have z : (constant S64x512 .f32 0x00000000#32 : FVec Ideal S64x512 .f32) (ix2 d c) = 0 := by pointwise []
  refine (congrArg (· + _) z).trans ((zero_add _).trans (Finset.sum_congr rfl fun k _ => congrArg (· * _) ?_))
  exact congrArg y (reshape_rows _ d k)

theorem out0_apply (i : grid0.Coords) (hn : n = nOf i) (X2 : Vec Ideal S512x128 .f32) (X4 : Vec Ideal S1x256x128 .bf16) (X5 : Vec Ideal S1x128x256 .bf16)
    (d : Fin 64) (ρ : Fin 4) (l : Fin 128) :
    swOut0 h i X2 X4 X5 (ix2 d (lane ρ l)) = compressed (qpos i l) (qvec X2 (head0 ρ) l) (crow X4 0) (ccol X5 0 d) := by
  rw [← grp_head0 ρ, ← out_apply h i hn]
  unfold swOut0
  unfold cmpOut0
  rw [cmpOut_apply h]
  refine Finset.sum_congr rfl fun k _ => ?_
  refine congrArg₂ (· * ·) (congrArg X5 (funext fun a => Fin.ext ?_)) ?_
  · have hk := k.isLt
    have hn := le_256 h
    rw [grp_head0]
    fin_cases a
    · rfl
    · show 0 + 1 * d.val = 64 * 0 + d.val; omega
    · show 0 + 1 * k.val = min k.val 255; omega
  · pointwise []
    exact congrArg (fun y => swProbs h i X2 X4 (ix2 k y)) (Fin.ext (by simp [lane, col, head0]))

theorem out1_apply (i : grid0.Coords) (hn : n = nOf i) (X2 : Vec Ideal S512x128 .f32) (X4 : Vec Ideal S1x256x128 .bf16) (X5 : Vec Ideal S1x128x256 .bf16)
    (d : Fin 64) (ρ : Fin 4) (l : Fin 128) :
    swOut1 h i X2 X4 X5 (ix2 d (lane ρ l)) = compressed (qpos i l) (qvec X2 (head1 ρ) l) (crow X4 1) (ccol X5 1 d) := by
  rw [← grp_head1 ρ, ← out_apply h i hn]
  unfold swOut1
  unfold cmpOut1
  rw [cmpOut_apply h]
  refine Finset.sum_congr rfl fun k _ => ?_
  refine congrArg₂ (· * ·) (congrArg X5 (funext fun a => Fin.ext ?_)) ?_
  · have hk := k.isLt
    have hn := le_256 h
    rw [grp_head1]
    fin_cases a
    · rfl
    · show 64 + 1 * d.val = 64 * 1 + d.val; omega
    · show 0 + 1 * k.val = min k.val 255; omega
  · pointwise []
    exact congrArg (fun y => swProbs h i X2 X4 (ix2 k y)) (Fin.ext (by simp [lane, col, head1]; omega))

end Cert.KernelIdeal.Nsa
-- ==== Proof.Marks.lean ====
/-
  The words by which the kernel and the reference mark blocks: which are complete, which are forced, and the first of
  those that have a property.
-/
module

public import proofs.«01_k».proof.Proof.Columns

@[expose] public section

set_option maxRecDepth 16384

noncomputable section

namespace Cert.Attn

open Idealize.ShloMosaic Idealize.ShloMosaic.WordCmp

theorem ofBits_pos_inf : Ideal.ofBits .f32 0x7F800000#32 = ⊤ := by
  simp [Ideal.ofBits, Ideal.ieee]

theorem complete_word (j q : ℕ) (hj : j < 256) (hq : q < 16384) :
    IntOp.cmpi .sle (IntOp.subi (IntOp.muli (IntOp.addi (BitVec.ofNat 32 j) 1#32) 64#32) 1#32) (BitVec.ofNat 32 q) = BitVec.ofBool (decide (Complete q j)) := by
  rw [addi_ofNat, muli_ofNat, subi_ofNat (by omega), cmpi_sle_ofNat (by omega) (by omega)]
  congr 2
  unfold Complete
  exact propext (by omega)

theorem before_word (j c : ℕ) (hj : j < 256) (hc : c < 256) :
    IntOp.cmpi .eq (BitVec.ofNat 32 j) (IntOp.subi (BitVec.ofNat 32 c) 1#32) = BitVec.ofBool (decide (j + 1 = c)) := by
  by_cases h : c = 0
  · subst h
    rw [show IntOp.subi (BitVec.ofNat 32 0) 1#32 = BitVec.ofNat 32 4294967295 from by decide, cmpi_eq_ofNat (by omega) (by omega)]
    congr 2
    exact propext (by omega)
  · rw [subi_ofNat (by omega), cmpi_eq_ofNat (by omega) (by omega)]
    congr 2
    exact propext (by omega)

theorem forced_word (j q : ℕ) (hj : j < 256) (hq : q < 16384) :
    IntOp.andi (IntOp.ori (IntOp.ori (IntOp.cmpi .eq (BitVec.ofNat 32 j) 0#32) (IntOp.cmpi .eq (BitVec.ofNat 32 j) (BitVec.ofNat 32 (q / 64))))
        (IntOp.cmpi .eq (BitVec.ofNat 32 j) (IntOp.subi (BitVec.ofNat 32 (q / 64)) 1#32)))
      (IntOp.cmpi .sle (BitVec.ofNat 32 j) (BitVec.ofNat 32 (q / 64))) = BitVec.ofBool (decide (Forced q j)) := by
  rw [before_word j _ hj (by omega), show IntOp.cmpi .eq (BitVec.ofNat 32 j) 0#32 = _ from cmpi_eq_ofNat (b := 0) (by omega) (by omega),
    cmpi_eq_ofNat (by omega) (by omega), cmpi_sle_ofNat (by omega) (by omega), ori_ofBool, ori_ofBool, andi_ofBool]
  congr 1
  unfold Forced
  simp only [← Bool.decide_or, ← Bool.decide_and]
  congr 1
  exact propext (by tauto)

/-- The least word of those that mark the numbers with a property, the others marked by a greater one. -/
theorem first_word {n : ℕ} (hn : n ≤ 256) (p : Fin n → Prop) [DecidablePred p] (m : Fin n) (hm : p m) (hf : ∀ i, p i → m ≤ i) :
    Finset.fold IntOp.minsi 2147483647#32 (fun x => if p x then BitVec.ofNat 32 x.val else BitVec.ofNat 32 n) Finset.univ = BitVec.ofNat 32 m.val := by
  have hb := m.isLt
  have hom : ∀ x y : ℕ, BitVec.ofNat 32 (min (min x y) 2147483647) = IntOp.minsi (BitVec.ofNat 32 (min x 2147483647)) (BitVec.ofNat 32 (min y 2147483647)) := by
    intro x y
    have e := cmpi_slt_ofNat_eq_one_iff (w := 32) (a := min x 2147483647) (b := min y 2147483647) (by omega) (by omega)
    unfold IntOp.minsi
    by_cases hxy : min x 2147483647 < min y 2147483647
    · have hs : (BitVec.ofNat 32 (min x 2147483647)).slt (BitVec.ofNat 32 (min y 2147483647)) = true := by
        have h1 : BitVec.ofBool ((BitVec.ofNat 32 (min x 2147483647)).slt (BitVec.ofNat 32 (min y 2147483647))) = 1#1 := e.mpr hxy
        cases hc : (BitVec.ofNat 32 (min x 2147483647)).slt (BitVec.ofNat 32 (min y 2147483647))
        · rw [hc] at h1; exact absurd h1 (by decide)
        · rfl
      rw [if_pos hs]; congr 1; omega
    · have hs : ¬ (BitVec.ofNat 32 (min x 2147483647)).slt (BitVec.ofNat 32 (min y 2147483647)) = true := by
        intro hc
        exact hxy (e.mp (by show BitVec.ofBool _ = 1#1; rw [hc]; rfl))
      rw [if_neg hs]; congr 1; omega
  have hg : (fun x : Fin n => if p x then BitVec.ofNat 32 x.val else BitVec.ofNat 32 n)
      = fun x => BitVec.ofNat 32 (min (if p x then x.val else n) 2147483647) := by
    funext x
    have := x.isLt
    split <;> congr 1 <;> omega
  rw [hg]
  have hh := Finset.fold_hom (op := (min : ℕ → ℕ → ℕ)) (op' := IntOp.minsi (w := 32)) (s := (Finset.univ : Finset (Fin n))) (b := 2147483647)
    (f := fun x => if p x then x.val else n) (m := fun a => BitVec.ofNat 32 (min a 2147483647)) hom
  refine Eq.trans hh ?_
  have e : Finset.fold min 2147483647 (fun x : Fin n => if p x then x.val else n) Finset.univ = m.val := by
    refine le_antisymm ((Finset.fold_min_le _).mpr (.inr ⟨m, Finset.mem_univ m, by rw [if_pos hm]⟩)) ((Finset.le_fold_min _).mpr ⟨by omega, fun x _ => ?_⟩)
    split
    · exact hf x ‹_›
    · omega
  rw [e]
  congr 1
  omega

end Cert.Attn
-- ==== Proof.Picks.lean ====
/-
  What the kernel's sixteen rounds pick: the blocks of the sixteen greatest scores that are not at −∞, among blocks of
  equal scores those that come first.
-/
module

public import proofs.«01_k».proof.Proof.Compressed
public import proofs.«01_k».proof.Proof.Marks

@[expose] public section

set_option maxRecDepth 16384

noncomputable section

namespace Cert.Attn

open Finset

/-- Values at −∞ past the first `n` change no rank. -/
theorem rank_prefix {n N : ℕ} (hn : n ≤ N) (F : ℕ → EReal) (hF : ∀ k, n ≤ k → F k = ⊥) (j : Fin n) (hb : ⊥ < F j.val) :
    rank (fun i : Fin N => F i.val) ⟨j.val, by omega⟩ = rank (fun i : Fin n => F i.val) j := by
  unfold rank
  rw [← card_map (Fin.castLEEmb hn)]
  congr 1
  ext i
  simp only [mem_filter, mem_univ, true_and, mem_map]
  constructor
  · intro hi
    have hin : i.val < n := by
      by_contra hc
      rcases hi with hi | hi
      · exact absurd hi (by show ¬ F j.val < F i.val; rw [hF i.val (by omega)]; exact not_lt_bot)
      · have e : F i.val = F j.val := hi.1
        rw [hF i.val (by omega)] at e
        exact absurd hb (by rw [← e]; exact lt_irrefl _)
    refine ⟨⟨i.val, hin⟩, ?_, Fin.ext rfl⟩
    rcases hi with hi | hi
    · exact .inl hi
    · exact .inr ⟨hi.1, hi.2⟩
  · rintro ⟨k, hk, rfl⟩
    rcases hk with hk | hk
    · exact .inl hk
    · exact .inr ⟨hk.1, hk.2⟩

end Cert.Attn

namespace Cert.KernelIdeal.Nsa

open Cert.KernelIdeal Cert.KernelIdeal.Gen Cert.Attn
open Idealize.ShloMosaic Idealize.ShloMosaic.WordCmp Idealize.SL.Sem

variable {n : ℕ} (h : Fits n)

theorem pos128_apply (i : grid0.Coords) (l : Fin 128) : k0_pay214 i (ix2 0 l) = BitVec.ofNat 32 (qpos i l) := by
  pointwise [k0_pay214]
  rw [show (Scalar.muli (BitVec.ofNat 32 (i 1).val) 128#32) = BitVec.ofNat 32 ((i 1).val * 128) from muli_ofNat _ _, addi_ofNat]
  congr 1
  unfold qpos
  omega

theorem pickScore_apply (i : grid0.Coords) (p : FVec Ideal (Rows n 512) .f32) (Q : Fin 4 → Fin 64 → EReal) (CK : ℕ → Fin 64 → EReal) (j : Fin n) (l : Fin 128)
    (hp : ∀ ρ, p (ix2 j (lane ρ l)) = cweight (qpos i l) (Q ρ) CK j.val) :
    pickScore h (k0_pay214 i) p (ix2 j l) = blockScore (qpos i l) Q CK j.val := by
  have hq := qpos_lt i l
  have hj := j.isLt
  have hn := le_256 h
  pointwise [pickScore, forced, done, imp, cur]
  rw [pos128_apply, shrsi_ofNat_6 _ (by omega), forced_word _ _ (by omega) hq, complete_word _ _ (by omega) hq, cmpi_slt_ofNat (by omega) (by omega),
    select_decide, select_decide, select_decide, if_pos hj, ofBits_neg_inf, ofBits_pos_inf]
  unfold blockScore
  rw [Fin.sum_univ_four, ← hp 0, ← hp 1, ← hp 2, ← hp 3]
  have e : ∀ (a : Fin 512) (ρ : Fin 4), a.val = 128 * ρ.val + l.val → p (ix2 j a) = p (ix2 j (lane ρ l)) := fun a ρ ha =>
    congrArg (fun y => p (ix2 j y)) (Fin.ext ha)
  rw [← e ⟨l.val, by omega⟩ 0 (by show l.val = 128 * 0 + l.val; omega), ← e ⟨128 + l.val, by omega⟩ 1 rfl, ← e ⟨256 + l.val, by omega⟩ 2 rfl,
    ← e ⟨384 + l.val, by omega⟩ 3 rfl]

/-- One round on a column. -/
theorem pick_step (f : Fin n → EReal) (t : ℕ) (l : Fin 128) (a : FVec Ideal (Rows n 128) .f32 × FVec Ideal (Rows n 128) .f32) (hpos : 0 < n)
    (h1 : ∀ j, a.1 (ix2 j l) = left f t j) (h2 : ∀ j, a.2 (ix2 j l) = if ⊥ < f j ∧ rank f j < t then 1 else 0) (j : Fin n) :
    (pick h a).1 (ix2 j l) = left f (t + 1) j ∧ (pick h a).2 (ix2 j l) = if ⊥ < f j ∧ rank f j < t + 1 then 1 else 0 := by
  have hn := le_256 h
  have hb : best h a.1 (ix2 0 l) = Finset.univ.sup (left f t) := by
    pointwise [best]
    rw [ofBits_neg_inf]
    exact congrArg (fun g : Fin n → EReal => Finset.fold max ⊥ g Finset.univ) (funext h1)
  haveI : Nonempty (Fin n) := ⟨⟨0, hpos⟩⟩
  obtain ⟨m0, -, hm0⟩ := Finset.exists_mem_eq_sup (Finset.univ : Finset (Fin n)) Finset.univ_nonempty (left f t)
  obtain ⟨m, hm, hfirst⟩ : ∃ m : Fin n, left f t m = Finset.univ.sup (left f t) ∧ ∀ i, left f t i = Finset.univ.sup (left f t) → m ≤ i := by
    classical
    let S : Finset (Fin n) := Finset.univ.filter fun i => left f t i = Finset.univ.sup (left f t)
    have hS : S.Nonempty := ⟨m0, Finset.mem_filter.mpr ⟨Finset.mem_univ _, hm0.symm⟩⟩
    exact ⟨S.min' hS, (Finset.mem_filter.mp (S.min'_mem hS)).2, fun i hi => S.min'_le i (Finset.mem_filter.mpr ⟨Finset.mem_univ _, hi⟩)⟩
  have hrow : bestRow h a.1 (ix2 j l) = BitVec.ofBool (decide (j = m)) := by
    have hj := j.isLt
    have hml := m.isLt
    pointwise [bestRow]
    have e := first_word hn (fun x : Fin n => a.1 (ix2 x l) = best h a.1 (ix2 0 l)) m (by rw [h1, hb]; exact hm)
      (fun i hi => hfirst i (by rw [← h1, ← hb]; exact hi))
    rw [e, cmpi_eq_ofNat (by omega) (by omega)]
    congr 2
    exact propext Fin.ext_iff.symm
  have hle : ∀ i, left f t i ≤ left f t m := fun i => by rw [hm]; exact Finset.le_sup (Finset.mem_univ i)
  have hbit : (pick h a).1 (ix2 j l) = if j = m then ⊥ else left f t j := by
    pointwise [pick]
    rw [hrow, select_decide, h1, ofBits_neg_inf]
  have hmark : (pick h a).2 (ix2 j l) = if j = m ∧ ⊥ < left f t m then 1 else if ⊥ < f j ∧ rank f j < t then 1 else 0 := by
    pointwise [pick]
    rw [hrow, hb, ← hm, andi_ofBool, h2, ofBits_neg_inf, ← Bool.decide_and, select_decide]
  rw [hbit, hmark]
  by_cases hbm : ⊥ < left f t m
  · have key := first_iff_rank f t hle (fun i hi => hfirst i (hi.trans hm)) hbm
    by_cases hj : j = m
    · have hr : rank f j = t := (key j).mp hj
      have hfj : ⊥ < f j := by
        have : left f t m = f j := by rw [← hj]; exact if_neg (by omega)
        rw [← this]; exact hbm
      rw [if_pos hj, if_pos ⟨hj, hbm⟩, if_pos ⟨hfj, by omega⟩]
      exact ⟨(if_pos (by omega)).symm, rfl⟩
    · have hr : rank f j ≠ t := fun e => hj ((key j).mpr e)
      rw [if_neg hj, if_neg (fun e : j = m ∧ ⊥ < left f t m => hj e.1)]
      have e : rank f j < t + 1 ↔ rank f j < t := by omega
      unfold left
      simp only [e]
      exact ⟨trivial, trivial⟩
  · have hall : ∀ i, left f t i = ⊥ := fun i => le_bot_iff.mp ((hle i).trans (not_lt.mp hbm |>.trans (le_refl _)))
    have hlt := left_bot_iff f t hall
    rw [if_neg (fun e : j = m ∧ ⊥ < left f t m => hbm e.2)]
    constructor
    · have e1 : left f (t + 1) j = ⊥ := by
        unfold left
        split
        · rfl
        · have := hall j
          unfold left at this
          rwa [if_neg (by omega)] at this
      rw [e1, hall j, ite_self]
    · by_cases hfj : ⊥ < f j
      · have := hlt j hfj
        rw [if_pos ⟨hfj, this⟩, if_pos ⟨hfj, by omega⟩]
      · rw [if_neg (fun e => hfj e.1), if_neg (fun e => hfj e.1)]

theorem picked_apply (s : FVec Ideal (Rows n 128) .f32) (l : Fin 128) (f : Fin n → EReal) (hf : ∀ j, s (ix2 j l) = f j) (j : Fin n) :
    picked h s (ix2 j l) = if ⊥ < f j ∧ rank f j < 16 then 1 else 0 := by
  have key : ∀ t : ℕ, ∀ j, (Nat.iterate (pick h) t (s, broadcast (Rows n 128) (Scalar.ofBits .f32 0x00000000#32))).1 (ix2 j l) = left f t j
      ∧ (Nat.iterate (pick h) t (s, broadcast (Rows n 128) (Scalar.ofBits .f32 0x00000000#32))).2 (ix2 j l) = if ⊥ < f j ∧ rank f j < t then 1 else 0 := by
    intro t
    induction t with
    | zero =>
      intro j
      refine ⟨(hf j).trans (if_neg (Nat.not_lt_zero _)).symm, ?_⟩
      rw [if_neg (fun e => Nat.not_lt_zero _ e.2)]
      show (broadcast (Rows n 128) (Scalar.ofBits .f32 0x00000000#32) : FVec Ideal (Rows n 128) .f32) (ix2 j l) = 0
      pointwise []
    | succ t ih =>
      intro j
      rw [Function.iterate_succ_apply']
      exact pick_step h f t l _ (lt_of_le_of_lt (Nat.zero_le _) j.isLt) (fun j => (ih j).1) (fun j => (ih j).2) j
  exact (key 16 j).2

theorem blockScore_past (i : grid0.Coords) (l : Fin 128) (Q : Fin 4 → Fin 64 → EReal) (CK : ℕ → Fin 64 → EReal) {k : ℕ} (hk : nOf i ≤ k) :
    blockScore (qpos i l) Q CK k = ⊥ := by
  unfold blockScore
  rw [if_neg, if_neg (incomplete i l hk)]
  have hl := l.isLt
  unfold Forced qpos nOf at *
  omega

/-- The picked blocks of a key-value head. -/
theorem picked_iff (i : grid0.Coords) (hn : n = nOf i) (p : FVec Ideal (Rows n 512) .f32) (Q : Fin 4 → Fin 64 → EReal) (CK : ℕ → Fin 64 → EReal) (j : Fin n) (l : Fin 128)
    (hp : ∀ (j : Fin n) ρ, p (ix2 j (lane ρ l)) = cweight (qpos i l) (Q ρ) CK j.val) :
    0 < picked h (pickScore h (k0_pay214 i) p) (ix2 j l) ↔ Chosen (qpos i l) Q CK j.val := by
  have h256 := le_256 h
  have hj := j.isLt
  rw [picked_apply h _ l (fun j => blockScore (qpos i l) Q CK j.val) (fun j => pickScore_apply h i p Q CK j l (hp j))]
  have e : ∀ hb : ⊥ < blockScore (qpos i l) Q CK j.val, rank (fun i' : Fin 256 => blockScore (qpos i l) Q CK i'.val) ⟨j.val, by omega⟩
      = rank (fun i' : Fin n => blockScore (qpos i l) Q CK i'.val) j := fun hb =>
    rank_prefix h256 (fun k => blockScore (qpos i l) Q CK k) (fun k hk => blockScore_past i l Q CK (by omega)) j hb
  unfold Chosen
  constructor
  · intro hlt
    by_cases hc : ⊥ < blockScore (qpos i l) Q CK j.val ∧ rank (fun i' : Fin n => blockScore (qpos i l) Q CK i'.val) j < 16
    · exact ⟨by omega, hc.1, by rw [e hc.1]; exact hc.2⟩
    · rw [if_neg hc] at hlt; exact absurd hlt (lt_irrefl _)
  · rintro ⟨_, hb, hr⟩
    rw [e hb] at hr
    rw [if_pos ⟨hb, hr⟩]
    exact zero_lt_one

/-- The four query heads of a key-value head. -/
def headsOf (X2 : Vec Ideal S512x128 .f32) (g : Fin 2) (l : Fin 128) (ρ : Fin 4) : Fin 64 → EReal := qvec X2 ⟨4 * g.val + ρ.val, by omega⟩ l

theorem selTable_half0 (p : FVec Ideal (Rows n 1024) .f32) (v25 : IVec S1x128 32) (k : Fin 256) (y : Fin 1024) (hk : k.val < n) (hy : y.val < 512) :
    selTable h p v25 (ix2 k y) = picked h (pickScore h v25 (extractStridedSlice (Rows n 512) ![0, 0] p h.half0))
      (ix2 ⟨k.val, hk⟩ ⟨y.val % 128, Nat.mod_lt _ (by norm_num)⟩) := by
  unfold selTable
  exact (dif_pos hk).trans (congrFun (if_pos hy) _)

theorem selTable_half1 (p : FVec Ideal (Rows n 1024) .f32) (v25 : IVec S1x128 32) (k : Fin 256) (y : Fin 1024) (hk : k.val < n) (hy : ¬ y.val < 512) :
    selTable h p v25 (ix2 k y) = picked h (pickScore h v25 (extractStridedSlice (Rows n 512) ![0, 512] p h.half1))
      (ix2 ⟨k.val, hk⟩ ⟨y.val % 128, Nat.mod_lt _ (by norm_num)⟩) := by
  unfold selTable
  exact (dif_pos hk).trans (congrFun (if_neg hy) _)

theorem selTable_below (p : FVec Ideal (Rows n 1024) .f32) (v25 : IVec S1x128 32) (k : Fin 256) (y : Fin 1024) (hk : ¬ k.val < n) :
    selTable h p v25 (ix2 k y) = 0 := by
  unfold selTable
  exact (dif_neg hk).trans (Ideal.ofBits_zero .f32)

theorem half0_probs (i : grid0.Coords) (hn : n = nOf i) (X2 : Vec Ideal S512x128 .f32) (X4 : Vec Ideal S1x256x128 .bf16) (j : Fin n) (ρ : Fin 4) (l : Fin 128) :
    extractStridedSlice (Rows n 512) ![0, 0] (swProbs h i X2 X4) h.half0 (ix2 j (lane ρ l)) = cweight (qpos i l) (headsOf X2 0 l ρ) (crow X4 0) j.val := by
  have e : head0 ρ = ⟨4 * (0 : Fin 2).val + ρ.val, by have := ρ.isLt; simp; omega⟩ := Fin.ext (by simp [head0])
  refine Eq.trans ?_ ((probs_apply h i hn X2 X4 j (head0 ρ) l).trans ?_)
  · pointwise []
    exact congrArg (fun y => swProbs h i X2 X4 (ix2 j y)) (Fin.ext (by simp [lane, col, head0]))
  · rw [grp_head0, e]
    rfl

theorem half1_probs (i : grid0.Coords) (hn : n = nOf i) (X2 : Vec Ideal S512x128 .f32) (X4 : Vec Ideal S1x256x128 .bf16) (j : Fin n) (ρ : Fin 4) (l : Fin 128) :
    extractStridedSlice (Rows n 512) ![0, 512] (swProbs h i X2 X4) h.half1 (ix2 j (lane ρ l)) = cweight (qpos i l) (headsOf X2 1 l ρ) (crow X4 1) j.val := by
  have e : head1 ρ = ⟨4 * (1 : Fin 2).val + ρ.val, by have := ρ.isLt; simp; omega⟩ := Fin.ext (by simp [head1])
  refine Eq.trans ?_ ((probs_apply h i hn X2 X4 j (head1 ρ) l).trans ?_)
  · pointwise []
    exact congrArg (fun y => swProbs h i X2 X4 (ix2 j y)) (Fin.ext (by simp [lane, col, head1]; omega))
  · rw [grp_head1, e]
    rfl

/-- The table's entries. -/
theorem sel_iff (i : grid0.Coords) (hn : n = nOf i) (X2 : Vec Ideal S512x128 .f32) (X4 : Vec Ideal S1x256x128 .bf16) (k : Fin 256) (r : Fin 8) (l : Fin 128) :
    0 < swSel h i X2 X4 (ix2 k (col r l)) ↔ Chosen (qpos i l) (headsOf X2 (grp r) l) (crow X4 (grp r)) k.val := by
  have hl := l.isLt
  have hr := r.isLt
  obtain ⟨y, hy⟩ : ∃ y, y = col r l := ⟨_, rfl⟩
  have hv : y.val = 128 * r.val + l.val := by rw [hy]; rfl
  have hcol : (⟨y.val % 128, Nat.mod_lt _ (by norm_num)⟩ : Fin 128) = l := Fin.ext (by show y.val % 128 = l.val; omega)
  rw [← hy]
  unfold swSel
  by_cases hk : k.val < n
  · by_cases hg : r.val < 4
    · have eg : grp r = 0 := Fin.ext (by show r.val / 4 = 0; omega)
      rw [selTable_half0 h _ _ k y hk (by omega), hcol, eg]
      exact picked_iff h i hn _ _ _ ⟨k.val, hk⟩ l (fun j ρ => half0_probs h i hn X2 X4 j ρ l)
    · have eg : grp r = 1 := Fin.ext (by show r.val / 4 = 1; omega)
      rw [selTable_half1 h _ _ k y hk (by omega), hcol, eg]
      exact picked_iff h i hn _ _ _ ⟨k.val, hk⟩ l (fun j ρ => half1_probs h i hn X2 X4 j ρ l)
  · rw [selTable_below h _ _ k y hk]
    refine ⟨fun e => absurd e (lt_irrefl _), ?_⟩
    rintro ⟨_, hb, -⟩
    rw [show blockScore (qpos i l) (headsOf X2 (grp r) l) (crow X4 (grp r)) k.val = ⊥ from blockScore_past i l _ _ (by omega)] at hb
    exact absurd hb (lt_irrefl _)

end Cert.KernelIdeal.Nsa
-- ==== Proof.Running.lean ====
/-
  What the kernel's loop over the tiles computes: after the last tile, the selected attention of each head, its keys
  those of the picked blocks at or before the query's position.
-/
module

public import proofs.«01_k».proof.Proof.Picks

@[expose] public section

set_option maxRecDepth 16384

noncomputable section

namespace Cert.Attn

open Finset

/-- The next `m` numbers after the first `N`. -/
def nexts (N m : ℕ) : Finset ℕ := (univ : Finset (Fin m)).map ⟨fun k => N + k.val, fun a b e => Fin.ext (Nat.add_left_cancel (show N + a.val = N + b.val from e))⟩

theorem mem_nexts {N m k : ℕ} : k ∈ nexts N m ↔ N ≤ k ∧ k < N + m := by
  unfold nexts
  simp only [mem_map, mem_univ, true_and, Function.Embedding.coeFn_mk]
  constructor
  · rintro ⟨a, rfl⟩; have := a.isLt; show N ≤ N + a.val ∧ N + a.val < N + m; omega
  · rintro ⟨h, h'⟩; exact ⟨⟨k - N, by omega⟩, by show N + (k - N) = k; omega⟩

theorem range_union_nexts (N m : ℕ) : range N ∪ nexts N m = range (N + m) := by
  ext k
  rw [mem_union, mem_range, mem_range, mem_nexts]
  omega

theorem disjoint_nexts (N m : ℕ) : Disjoint (range N) (nexts N m) := by
  rw [disjoint_left]
  intro k hk hk'
  rw [mem_range] at hk
  rw [mem_nexts] at hk'
  omega

theorem attend_nexts (N m : ℕ) (s v : ℕ → EReal) : attend (nexts N m) s v = attend (univ : Finset (Fin m)) (fun k => s (N + k.val)) fun k => v (N + k.val) := attend_map _ _ _ _

theorem sum_nexts (N m : ℕ) (f : ℕ → EReal) : ∑ k ∈ nexts N m, f k = ∑ k : Fin m, f (N + k.val) := sum_map _ _ _

theorem peak_nexts (N m : ℕ) (s : ℕ → EReal) : peak (nexts N m) s = univ.sup fun k : Fin m => s (N + k.val) := sup_map _ _ _

end Cert.Attn

namespace Cert.KernelIdeal.Nsa

open Cert.KernelIdeal Cert.KernelIdeal.Gen Cert.Attn
open Idealize.ShloMosaic Idealize.ShloMosaic.WordCmp Idealize.SL.Sem

/-! ## The scores of a tile -/

theorem rhs_low (v17 : FVec Ideal S128x1024 .bf16) (b : Vec Ideal S16x1024 .bf16) (a : Fin 256) (y : Fin 1024) (ha : a.val < 128) :
    rhs v17 b (ix2 a y) = v17 (ix2 ⟨a.val, ha⟩ y) := by
  unfold rhs
  refine (dif_neg (by show ¬ (128 ≤ a.val ∧ a.val < 144); omega)).trans ((dif_pos (show ((ix2 a y : S256x1024.Idx) 0).val < 128 from ha)).trans ?_)
  show k0_pay305 v17 (ix2 ⟨a.val, ha⟩ y) = _
  pointwise [k0_pay305]

theorem rhs_mid (v17 : FVec Ideal S128x1024 .bf16) (b : Vec Ideal S16x1024 .bf16) (a : Fin 256) (y : Fin 1024) (ha : 128 ≤ a.val ∧ a.val < 144) :
    rhs v17 b (ix2 a y) = b (ix2 ⟨a.val - 128, by omega⟩ y) := by
  unfold rhs
  exact dif_pos (show 128 ≤ ((ix2 a y : S256x1024.Idx) 0).val ∧ ((ix2 a y : S256x1024.Idx) 0).val < 144 from ha)

theorem spread_apply (k : Fin 512) (y : Fin 128) : spread (F := Ideal) (ix2 k y) = if k.val / 64 = y.val then (1 : EReal) else 0 := by
  have hk := k.isLt
  have hy := y.isLt
  pointwise [spread, k0_pay303, k0_pay302]
  rw [shrsi_ofNat_6 _ (by omega), cmpi_eq_ofNat (by omega) (by omega), select_decide]

theorem bias_apply (Sel : Vec Ideal S256x1024 .f32) (j : ℕ) (k : Fin 16) (y : Fin 1024) (hk : k.val < 8) :
    k0_pay312 (selRows Sel (8 * j)) (ix2 k y) = if 0 < Sel (ix2 ⟨min (8 * j + k.val) 255, by omega⟩ y) then (0 : EReal) else ⊥ := by
  pointwise [k0_pay312]
  rw [dif_pos hk]
  show (if 0 < _ then (0 : EReal) else (Named.named κ "mask" 0xF149F2CA#32 : Ideal .f32)) = _
  rw [named_mask]
  rfl

/-- A tile's scores: −∞ where the key's block isn't picked. -/
theorem tile_apply (X6 : Vec Ideal S1x16384x128 .bf16) (Sel : Vec Ideal S256x1024 .f32) (X2 : Vec Ideal S512x128 .f32) (C : ℕ → Prop) (j : ℕ) (hj : j < 32)
    (r : Fin 8) (l : Fin 128) (hC : ∀ k : Fin 256, 0 < Sel (ix2 k (col r l)) ↔ C k.val) (k : Fin 512) :
    tileScores X6 Sel (k0_pay212 X2) j (ix2 k (col r l)) = masked (fun t => C (t / 64)) (score (qvec X2 r l) (trow X6 (grp r))) (512 * j + k.val) := by
  have hk := k.isLt
  have e : tileScores X6 Sel (k0_pay212 X2) j (ix2 k (col r l)) = score (qvec X2 r l) (trow X6 (grp r)) (512 * j + k.val)
      + if 0 < Sel (ix2 ⟨min (8 * j + k.val / 64) 255, by omega⟩ (col r l)) then (0 : EReal) else ⊥ := by
    pointwise [tileScores, k0_pay314, k0_pay313]
    refine congrArg₂ (· + ·) ?_ ?_
    · refine Eq.trans (Finset.sum_congr rfl fun x _ => ?_) (block_dot X2 (fun c => X6 (ix3 0 ⟨min (512 * j + k.val) 16383, by omega⟩ c)) r l)
      rw [rhs_low _ _ _ _ (show x.val < 128 from x.isLt)]
      rfl
    · rw [Finset.sum_eq_single (⟨k.val / 64, by omega⟩ : Fin 128)]
      · rw [spread_apply, if_pos rfl, one_mul, rhs_mid _ _ _ _ (by show 128 ≤ 128 + k.val / 64 ∧ 128 + k.val / 64 < 144; omega)]
        have ee : (⟨128 + k.val / 64 - 128, by omega⟩ : Fin 16) = ⟨k.val / 64, by omega⟩ := Fin.ext (by show 128 + k.val / 64 - 128 = k.val / 64; omega)
        refine (congrArg (fun a : Fin 16 => k0_pay312 (selRows Sel (8 * j)) (ix2 a (col r l))) ee).trans ?_
        rw [bias_apply _ _ _ _ (by show k.val / 64 < 8; omega)]
      · intro x _ hx
        rw [spread_apply, if_neg (fun ee => hx (Fin.ext ee.symm)), zero_mul]
      · intro hx; exact absurd (Finset.mem_univ _) hx
  rw [e]
  have hb : (⟨min (8 * j + k.val / 64) 255, by omega⟩ : Fin 256).val = (512 * j + k.val) / 64 := by
    show min (8 * j + k.val / 64) 255 = _; omega
  have hc := hC ⟨min (8 * j + k.val / 64) 255, by omega⟩
  rw [hb] at hc
  by_cases hp : C ((512 * j + k.val) / 64)
  · rw [if_pos (hc.mpr hp), add_zero, masked_pos (p := fun t => C (t / 64)) _ hp]
  · rw [if_neg (fun ee => hp (hc.mp ee)), EReal.add_bot, masked_neg (p := fun t => C (t / 64)) _ hp]

/-! ## The running sums -/

theorem runmax_apply (m : FVec Ideal S1x1024 .f32) (s : FVec Ideal S512x1024 .f32) (y : Fin 1024) :
    k0_pay176 m s (ix2 0 y) = max (m (ix2 0 y)) (Finset.univ.sup fun k : Fin 512 => s (ix2 k y)) := by
  pointwise [k0_pay176]
  rw [ofBits_neg_inf]
  rfl

theorem runsafe_apply (m : FVec Ideal S1x1024 .f32) (s : FVec Ideal S512x1024 .f32) (y : Fin 1024) :
    k0_pay177 m s (ix2 0 y) = max (m (ix2 0 y)) (Finset.univ.sup fun k : Fin 512 => s (ix2 k y)) := by
  rw [← runmax_apply]
  pointwise [k0_pay177]
  show (if _ < (Named.named κ "half_mask" 0xF0C9F2CA#32 : Ideal .f32) then (0 : EReal) else _) = _
  rw [named_half]
  exact if_neg not_lt_bot

/-- What a head's column holds after the keys before `N`. -/
structure Held (s : ℕ → EReal) (vv : Fin 80 → ℕ → EReal) (N : ℕ) (m : EReal) (acc : Fin 80 → EReal) : Prop where
  top : m = peak (Finset.range N) s
  sums : ∀ d, acc d = ∑ k ∈ Finset.range N, vv d k * Ideal.exp2 (s k - peak (Finset.range N) s)

theorem held_zero (s : ℕ → EReal) (vv : Fin 80 → ℕ → EReal) : Held s vv 0 ⊥ (fun _ => 0) where
  top := rfl
  sums := fun d => rfl

/-- One tile more. -/
theorem held_step {s : ℕ → EReal} {vv : Fin 80 → ℕ → EReal} {N : ℕ} {m : EReal} {acc : Fin 80 → EReal} (H : Held s vv N m acc) (M : EReal)
    (hM : M = max m (Finset.univ.sup fun k : Fin 512 => s (N + k.val))) (acc' : Fin 80 → EReal)
    (ha : ∀ d, acc' d = Ideal.exp2 (m - M) * acc d + ∑ k : Fin 512, vv d (N + k.val) * Ideal.exp2 (s (N + k.val) - M)) : Held s vv (N + 512) M acc' := by
  have hp : M = peak (Finset.range N ∪ nexts N 512) s := by rw [peak_union, peak_nexts, ← H.top, hM]
  refine ⟨by rw [hp, range_union_nexts], fun d => ?_⟩
  rw [ha, H.sums, H.top, ← range_union_nexts, ← running_step _ _ (disjoint_nexts N 512), sum_nexts, ← hp]

/-- A head's values, and below them ones. -/
def valOf (X7 : Vec Ideal S1x128x16384 .bf16) (g : Fin 2) (d : Fin 80) (k : ℕ) : EReal := if h : d.val < 64 then tcol X7 g ⟨d.val, h⟩ k else 1

theorem upd0 (X7 : Vec Ideal S1x128x16384 .bf16) (a : Run Ideal) (t : FVec Ideal S512x1024 .f32) (vt1 : Vec Ideal S1x64x512 .bf16) (b : ℕ) (ρ : Fin 4) (l : Fin 128) (s : ℕ → EReal)
    (hs : ∀ k : Fin 512, t (ix2 k (col (head0 ρ) l)) = s (b + k.val))
    (H : Held s (valOf X7 0) b (a.1 (ix2 0 (col (head0 ρ) l))) (fun d => a.2.1 (ix2 d (lane ρ l)))) :
    Held s (valOf X7 0) (b + 512) ((upd a t (valCols 512 X7 0 b) vt1).1 (ix2 0 (col (head0 ρ) l))) (fun d => (upd a t (valCols 512 X7 0 b) vt1).2.1 (ix2 d (lane ρ l))) := by
  obtain ⟨y, hy⟩ : ∃ y, y = col (head0 ρ) l := ⟨_, rfl⟩
  rw [← hy] at H hs ⊢
  have em : (upd a t (valCols 512 X7 0 b) vt1).1 (ix2 0 y) = k0_pay177 a.1 t (ix2 0 y) := (runmax_apply a.1 t y).trans (runsafe_apply a.1 t y).symm
  rw [em]
  refine held_step H _ ((runsafe_apply a.1 t y).trans (by simp only [hs])) _ (fun d => ?_)
  have ec : ∀ hh, (⟨(lane ρ l).val, hh⟩ : Fin 1024) = y := fun hh => by rw [hy]; exact Fin.ext rfl
  show k0_pay315 a.2.1 (k0_pay178 a.1 t) (k0_pay180 ones16 (valCols 512 X7 0 b)) (k0_pay181 a.1 t) (ix2 d (lane ρ l)) = _
  have e : k0_pay315 a.2.1 (k0_pay178 a.1 t) (k0_pay180 ones16 (valCols 512 X7 0 b)) (k0_pay181 a.1 t) (ix2 d (lane ρ l))
      = k0_pay178 a.1 t (ix2 0 ⟨(lane ρ l).val, by have := (lane ρ l).isLt; omega⟩) * a.2.1 (ix2 d (lane ρ l))
        + ∑ x : Fin 512, (if h : d.val < 64 then valCols 512 X7 0 b (ix3 0 ⟨d.val, h⟩ x) else (1 : EReal)) * k0_pay179 a.1 t (ix2 x ⟨(lane ρ l).val, by have := (lane ρ l).isLt; omega⟩) := by
    pointwise [k0_pay315, k0_pay180, k0_pay181, ones16, k0_pay304]
  rw [e, ec]
  have e8 : k0_pay178 a.1 t (ix2 0 y) = Ideal.exp2 (a.1 (ix2 0 y) - k0_pay177 a.1 t (ix2 0 y)) := by
    pointwise [k0_pay178]
    rfl
  have e9 : ∀ x, k0_pay179 a.1 t (ix2 x y) = Ideal.exp2 (t (ix2 x y) - k0_pay177 a.1 t (ix2 0 y)) := fun x => by
    pointwise [k0_pay179]
    rfl
  rw [e8]
  refine congrArg (_ + ·) (Finset.sum_congr rfl fun x _ => ?_)
  rw [e9, hs]
  rfl

theorem upd1 (X7 : Vec Ideal S1x128x16384 .bf16) (a : Run Ideal) (t : FVec Ideal S512x1024 .f32) (vt0 : Vec Ideal S1x64x512 .bf16) (b : ℕ) (ρ : Fin 4) (l : Fin 128) (s : ℕ → EReal)
    (hs : ∀ k : Fin 512, t (ix2 k (col (head1 ρ) l)) = s (b + k.val))
    (H : Held s (valOf X7 1) b (a.1 (ix2 0 (col (head1 ρ) l))) (fun d => a.2.2 (ix2 d (lane ρ l)))) :
    Held s (valOf X7 1) (b + 512) ((upd a t vt0 (valCols 512 X7 1 b)).1 (ix2 0 (col (head1 ρ) l))) (fun d => (upd a t vt0 (valCols 512 X7 1 b)).2.2 (ix2 d (lane ρ l))) := by
  obtain ⟨y, hy⟩ : ∃ y, y = col (head1 ρ) l := ⟨_, rfl⟩
  rw [← hy] at H hs ⊢
  have em : (upd a t vt0 (valCols 512 X7 1 b)).1 (ix2 0 y) = k0_pay177 a.1 t (ix2 0 y) := (runmax_apply a.1 t y).trans (runsafe_apply a.1 t y).symm
  rw [em]
  refine held_step H _ ((runsafe_apply a.1 t y).trans (by simp only [hs])) _ (fun d => ?_)
  have ec : ∀ hh, (⟨512 + (lane ρ l).val, hh⟩ : Fin 1024) = y := fun hh => by
    rw [hy]; exact Fin.ext (by show 512 + (128 * ρ.val + l.val) = 128 * (4 + ρ.val) + l.val; omega)
  show k0_pay316 ones16 a.2.2 (k0_pay178 a.1 t) (k0_pay179 a.1 t) (valCols 512 X7 1 b) (ix2 d (lane ρ l)) = _
  have e : k0_pay316 ones16 a.2.2 (k0_pay178 a.1 t) (k0_pay179 a.1 t) (valCols 512 X7 1 b) (ix2 d (lane ρ l))
      = k0_pay178 a.1 t (ix2 0 ⟨512 + (lane ρ l).val, by have := (lane ρ l).isLt; omega⟩) * a.2.2 (ix2 d (lane ρ l))
        + ∑ x : Fin 512, (if h : d.val < 64 then valCols 512 X7 1 b (ix3 0 ⟨d.val, h⟩ x) else (1 : EReal)) * k0_pay179 a.1 t (ix2 x ⟨512 + (lane ρ l).val, by have := (lane ρ l).isLt; omega⟩) := by
    pointwise [k0_pay316, ones16, k0_pay304]
  rw [e, ec]
  have e8 : k0_pay178 a.1 t (ix2 0 y) = Ideal.exp2 (a.1 (ix2 0 y) - k0_pay177 a.1 t (ix2 0 y)) := by
    pointwise [k0_pay178]
    rfl
  have e9 : ∀ x, k0_pay179 a.1 t (ix2 x y) = Ideal.exp2 (t (ix2 x y) - k0_pay177 a.1 t (ix2 0 y)) := fun x => by
    pointwise [k0_pay179]
    rfl
  rw [e8]
  refine congrArg (_ + ·) (Finset.sum_congr rfl fun x _ => ?_)
  rw [e9, hs]
  rfl

/-! ## All tiles -/

/-- The scores of the selected attention. -/
def selScore (q : ℕ) (C : ℕ → Prop) (Q : Fin 64 → EReal) (K : ℕ → Fin 64 → EReal) : ℕ → EReal := masked (fun k => C (k / 64) ∧ k ≤ q) (score Q K)

theorem selScore_eq (q : ℕ) (C : ℕ → Prop) (Q : Fin 64 → EReal) (K : ℕ → Fin 64 → EReal) (k : ℕ) :
    selScore q C Q K k = if k ≤ q then masked (fun t => C (t / 64)) (score Q K) k else ⊥ := by
  unfold selScore
  by_cases hp : C (k / 64)
  · by_cases hle : k ≤ q
    · rw [if_pos hle, masked_pos (p := fun k => C (k / 64) ∧ k ≤ q) _ ⟨hp, hle⟩, masked_pos (p := fun t => C (t / 64)) _ hp]
    · rw [if_neg hle, masked_neg (p := fun k => C (k / 64) ∧ k ≤ q) _ (fun ee => hle ee.2)]
  · rw [masked_neg (p := fun k => C (k / 64) ∧ k ≤ q) _ (fun ee => hp ee.1), masked_neg (p := fun t => C (t / 64)) _ hp, ite_self]

theorem nFull_lt (i : grid0.Coords) : nFull i < 32 := by
  have h1 : (i 1).val < 128 := (i 1).isLt
  unfold nFull; omega

theorem tile_before (i : grid0.Coords) (X6 : Vec Ideal S1x16384x128 .bf16) (Sel : Vec Ideal S256x1024 .f32) (X2 : Vec Ideal S512x128 .f32) (C : ℕ → Prop) (j : ℕ) (hj : j < nFull i)
    (r : Fin 8) (l : Fin 128) (hC : ∀ k : Fin 256, 0 < Sel (ix2 k (col r l)) ↔ C k.val) (k : Fin 512) :
    tileScores X6 Sel (k0_pay212 X2) j (ix2 k (col r l)) = selScore (qpos i l) C (qvec X2 r l) (trow X6 (grp r)) (512 * j + k.val) := by
  have hk := k.isLt
  have hle : 512 * j + k.val ≤ qpos i l := by unfold qpos nFull at *; omega
  rw [tile_apply X6 Sel X2 C j (by have := nFull_lt i; omega) r l hC, selScore_eq, if_pos hle]

theorem tile_last (i : grid0.Coords) (X6 : Vec Ideal S1x16384x128 .bf16) (Sel : Vec Ideal S256x1024 .f32) (X2 : Vec Ideal S512x128 .f32) (C : ℕ → Prop)
    (r : Fin 8) (l : Fin 128) (hC : ∀ k : Fin 256, 0 < Sel (ix2 k (col r l)) ↔ C k.val) (k : Fin 512) :
    (k0_pay322 (F := Ideal) (k0_pay213 i) (BitVec.ofNat 32 (nFull i)) (tileScores X6 Sel (k0_pay212 X2) (nFull i))) (ix2 k (col r l))
      = selScore (qpos i l) C (qvec X2 r l) (trow X6 (grp r)) (512 * nFull i + k.val) := by
  have hk := k.isLt
  have hn := nFull_lt i
  have hq := qpos_lt i l
  have e := tile_apply X6 Sel X2 C (nFull i) hn r l hC k
  pointwise [k0_pay322]
  rw [e, pos_apply, show (Scalar.muli (BitVec.ofNat 32 (nFull i)) 512#32) = BitVec.ofNat 32 (nFull i * 512) from muli_ofNat _ _, addi_ofNat,
    cmpi_sle_ofNat (by omega) (by omega), select_decide, ofBits_neg_inf, selScore_eq, Nat.mul_comm 512]

theorem run0 (i : grid0.Coords) (X6 : Vec Ideal S1x16384x128 .bf16) (X7 : Vec Ideal S1x128x16384 .bf16) (Sel : Vec Ideal S256x1024 .f32) (X2 : Vec Ideal S512x128 .f32) (C : ℕ → Prop)
    (ρ : Fin 4) (l : Fin 128) (hC : ∀ k : Fin 256, 0 < Sel (ix2 k (col (head0 ρ) l)) ↔ C k.val) : ∀ j, j ≤ nFull i →
    Held (selScore (qpos i l) C (qvec X2 (head0 ρ) l) (trow X6 (grp (head0 ρ)))) (valOf X7 0) (512 * j)
      ((runAt X6 X7 Sel (k0_pay212 X2) j).1 (ix2 0 (col (head0 ρ) l))) (fun d => (runAt X6 X7 Sel (k0_pay212 X2) j).2.1 (ix2 d (lane ρ l)))
  | 0, _ => by
    have e1 : (runAt X6 X7 Sel (k0_pay212 X2) 0).1 (ix2 0 (col (head0 ρ) l)) = ⊥ := by
      show (k0_pay309 (F := Ideal)) (ix2 0 (col (head0 ρ) l)) = ⊥
      pointwise [k0_pay309]
      exact ofBits_neg_inf
    have e2 : (fun d : Fin 80 => (runAt X6 X7 Sel (k0_pay212 X2) 0).2.1 (ix2 d (lane ρ l))) = fun _ => 0 := by
      funext d
      show (k0_pay310 (F := Ideal)) (ix2 d (lane ρ l)) = 0
      pointwise [k0_pay310]
    rw [e1, e2]
    exact held_zero _ _
  | j + 1, hj => upd0 X7 _ _ _ (512 * j) ρ l _ (fun k => tile_before i X6 Sel X2 C j (by omega) (head0 ρ) l hC k) (run0 i X6 X7 Sel X2 C ρ l hC j (by omega))

theorem run1 (i : grid0.Coords) (X6 : Vec Ideal S1x16384x128 .bf16) (X7 : Vec Ideal S1x128x16384 .bf16) (Sel : Vec Ideal S256x1024 .f32) (X2 : Vec Ideal S512x128 .f32) (C : ℕ → Prop)
    (ρ : Fin 4) (l : Fin 128) (hC : ∀ k : Fin 256, 0 < Sel (ix2 k (col (head1 ρ) l)) ↔ C k.val) : ∀ j, j ≤ nFull i →
    Held (selScore (qpos i l) C (qvec X2 (head1 ρ) l) (trow X6 (grp (head1 ρ)))) (valOf X7 1) (512 * j)
      ((runAt X6 X7 Sel (k0_pay212 X2) j).1 (ix2 0 (col (head1 ρ) l))) (fun d => (runAt X6 X7 Sel (k0_pay212 X2) j).2.2 (ix2 d (lane ρ l)))
  | 0, _ => by
    have e1 : (runAt X6 X7 Sel (k0_pay212 X2) 0).1 (ix2 0 (col (head1 ρ) l)) = ⊥ := by
      show (k0_pay309 (F := Ideal)) (ix2 0 (col (head1 ρ) l)) = ⊥
      pointwise [k0_pay309]
      exact ofBits_neg_inf
    have e2 : (fun d : Fin 80 => (runAt X6 X7 Sel (k0_pay212 X2) 0).2.2 (ix2 d (lane ρ l))) = fun _ => 0 := by
      funext d
      show (k0_pay311 (F := Ideal)) (ix2 d (lane ρ l)) = 0
      pointwise [k0_pay311]
    rw [e1, e2]
    exact held_zero _ _
  | j + 1, hj => upd1 X7 _ _ _ (512 * j) ρ l _ (fun k => tile_before i X6 Sel X2 C j (by omega) (head1 ρ) l hC k) (run1 i X6 X7 Sel X2 C ρ l hC j (by omega))

/-- The sums after the last tile, divided. -/
theorem held_attend (i : grid0.Coords) (l : Fin 128) (C : ℕ → Prop) (Q : Fin 64 → EReal) (K : ℕ → Fin 64 → EReal) (X7 : Vec Ideal S1x128x16384 .bf16) (g : Fin 2) {m : EReal} {acc : Fin 80 → EReal}
    (H : Held (selScore (qpos i l) C Q K) (valOf X7 g) (512 * nFull i + 512) m acc) (d : Fin 64) :
    acc ⟨d.val, by omega⟩ * Ideal.div 1 (acc 64) = selected (qpos i l) C Q K (tcol X7 g d) := by
  have hv : valOf X7 g ⟨d.val, by omega⟩ = tcol X7 g d := by
    funext k
    exact dif_pos d.isLt
  have ho : ∀ k, valOf X7 g 64 k = 1 := fun k => dif_neg (by decide)
  rw [H.sums, H.sums, hv]
  simp only [ho, one_mul]
  refine (attend_of_sums (Finset.range (512 * nFull i + 512)) (selScore (qpos i l) C Q K) (tcol X7 g d)).trans ?_
  unfold selected
  have hn := nFull_lt i
  refine (attend_subset _ (Finset.range_subset_range.mpr (by omega)) (fun k _ hk => masked_neg _ (fun e => ?_))).symm
  rw [Finset.mem_range] at hk
  have := e.2
  have hl := l.isLt
  unfold qpos nFull at *
  omega

theorem selOut0 {n : ℕ} (h : Fits n) (i : grid0.Coords) (hn : n = nOf i) (X2 : Vec Ideal S512x128 .f32) (X4 : Vec Ideal S1x256x128 .bf16) (X6 : Vec Ideal S1x16384x128 .bf16)
    (X7 : Vec Ideal S1x128x16384 .bf16) (d : Fin 64) (ρ : Fin 4) (l : Fin 128) :
    k0_pay328 (runEnd i X6 X7 (swSel h i X2 X4) (k0_pay212 X2)).2.1 (ix2 d (lane ρ l))
      = selected (qpos i l) (Chosen (qpos i l) (headsOf X2 0 l) (crow X4 0)) (qvec X2 (head0 ρ) l) (trow X6 0) (tcol X7 0 d) := by
  have hC := fun k : Fin 256 => sel_iff h i hn X2 X4 k (head0 ρ) l
  have H := upd0 X7 _ _ (valCols 512 X7 1 (512 * nFull i)) (512 * nFull i) ρ l _
    (fun k => tile_last i X6 (swSel h i X2 X4) X2 _ (head0 ρ) l hC k) (run0 i X6 X7 (swSel h i X2 X4) X2 _ ρ l hC (nFull i) le_rfl)
  refine Eq.trans ?_ ((held_attend i l _ _ _ X7 0 H d).trans (by rw [grp_head0]))
  pointwise [k0_pay328]
  rfl

theorem selOut1 {n : ℕ} (h : Fits n) (i : grid0.Coords) (hn : n = nOf i) (X2 : Vec Ideal S512x128 .f32) (X4 : Vec Ideal S1x256x128 .bf16) (X6 : Vec Ideal S1x16384x128 .bf16)
    (X7 : Vec Ideal S1x128x16384 .bf16) (d : Fin 64) (ρ : Fin 4) (l : Fin 128) :
    k0_pay329 (runEnd i X6 X7 (swSel h i X2 X4) (k0_pay212 X2)).2.2 (ix2 d (lane ρ l))
      = selected (qpos i l) (Chosen (qpos i l) (headsOf X2 1 l) (crow X4 1)) (qvec X2 (head1 ρ) l) (trow X6 1) (tcol X7 1 d) := by
  have hC := fun k : Fin 256 => sel_iff h i hn X2 X4 k (head1 ρ) l
  have H := upd1 X7 _ _ (valCols 512 X7 0 (512 * nFull i)) (512 * nFull i) ρ l _
    (fun k => tile_last i X6 (swSel h i X2 X4) X2 _ (head1 ρ) l hC k) (run1 i X6 X7 (swSel h i X2 X4) X2 _ ρ l hC (nFull i) le_rfl)
  refine Eq.trans ?_ ((held_attend i l _ _ _ X7 1 H d).trans (by rw [grp_head1]))
  pointwise [k0_pay329]
  rfl

end Cert.KernelIdeal.Nsa
-- ==== Proof.Window.lean ====
/-
  What the kernel's window computes: the attention of each head over the 512 keys up to the query.
-/
module

public import proofs.«01_k».proof.Proof.Running

@[expose] public section

set_option maxRecDepth 16384

noncomputable section

namespace Cert.KernelIdeal.Nsa

open Cert.KernelIdeal Cert.KernelIdeal.Gen Cert.Attn
open Idealize.ShloMosaic Idealize.ShloMosaic.WordCmp Idealize.SL.Sem

/-- An unsigned distance below 512. -/
theorem near_word (a b : ℕ) (ha : a < 2 ^ 31) (hb : b < 2 ^ 31) :
    IntOp.cmpi .ult (IntOp.subi (BitVec.ofNat 32 a) (BitVec.ofNat 32 b)) 512#32 = BitVec.ofBool (decide (b ≤ a ∧ a < b + 512)) := by
  show BitVec.ofBool (BitVec.ult (BitVec.ofNat 32 a - BitVec.ofNat 32 b) 512#32) = _
  refine congrArg BitVec.ofBool ?_
  unfold BitVec.ult
  refine decide_eq_decide.mpr ?_
  rw [BitVec.toNat_sub, BitVec.toNat_ofNat, BitVec.toNat_ofNat, BitVec.toNat_ofNat]
  omega

theorem base_word (n : ℕ) (hn : n < 128) :
    Scalar.maxsi (Scalar.subi (Scalar.muli (BitVec.ofNat 32 n) 128#32) 512#32) 0#32 = BitVec.ofNat 32 (128 * n - 512) := by
  have h : ∀ n : Fin 128, Scalar.maxsi (Scalar.subi (Scalar.muli (BitVec.ofNat 32 n.val) 128#32) 512#32) 0#32 = BitVec.ofNat 32 (128 * n.val - 512) := by decide +kernel
  exact h ⟨n, hn⟩

/-- The scores of the window's attention. -/
def nearScore (q : ℕ) (Q : Fin 64 → EReal) (K : ℕ → Fin 64 → EReal) : ℕ → EReal := masked (fun k => k ≤ q ∧ q < k + 512) (score Q K)

theorem winBase_le (i : grid0.Coords) : winBase i + 640 ≤ 16384 := by
  have h1 : (i 1).val < 128 := (i 1).isLt
  unfold winBase; omega

theorem near_apply (i : grid0.Coords) (X8 : Vec Ideal S1x16384x128 .bf16) (X2 : Vec Ideal S512x128 .f32) (r : Fin 8) (l : Fin 128) (k : Fin 640) :
    Scalar.select (IntOp.cmpi .ult (winDist i (ix2 k (col r l))) 512#32) (winScores i X8 (k0_pay212 X2) (ix2 k (col r l))) (Ideal.ofBits .f32 4286578688#32)
      = nearScore (qpos i l) (qvec X2 r l) (trow X8 (grp r)) (winBase i + k.val) := by
  have hk := k.isLt
  have hb := winBase_le i
  have hq := qpos_lt i l
  have h1 : (i 1).val < 128 := (i 1).isLt
  have ew : winDist i (ix2 k (col r l)) = IntOp.subi (BitVec.ofNat 32 (qpos i l)) (BitVec.ofNat 32 (winBase i + k.val)) := by
    pointwise [winDist, k0_pay331]
    rw [pos_apply, base_word _ h1, addi_ofNat]
    rfl
  have es : winScores i X8 (k0_pay212 X2) (ix2 k (col r l)) = score (qvec X2 r l) (trow X8 (grp r)) (winBase i + k.val) := by
    pointwise [winScores, k0_pay330]
    exact block_dot X2 (fun c => X8 (ix3 0 ⟨min (winBase i + k.val) 16383, by omega⟩ c)) r l
  rw [ew, es, near_word _ _ (by omega) (by omega), select_decide, ofBits_neg_inf]
  exact (masked_eq (fun k => k ≤ qpos i l ∧ qpos i l < k + 512) _ _).symm

theorem winprob_apply (s : FVec Ideal S640x1024 .f32) (w : IVec S640x1024 32) (f : Fin 640 → EReal) (y : Fin 1024)
    (hf : ∀ k, Scalar.select (IntOp.cmpi .ult (w (ix2 k y)) 512#32) (s (ix2 k y)) (Ideal.ofBits .f32 4286578688#32) = f k) (k : Fin 640) :
    k0_pay332 s w (ix2 k y) = Ideal.exp2 (f k - peak Finset.univ f) := by
  pointwise [k0_pay332]
  simp only [hf]
  rw [ofBits_neg_inf]
  rfl

theorem ones_apply (k : Fin 640) : k0_pay333 (F := Ideal) (ix2 0 k) = (1 : EReal) := by pointwise [k0_pay333]

/-- The window's 640 keys are enough. -/
theorem near_all (i : grid0.Coords) (l : Fin 128) (Q : Fin 64 → EReal) (K : ℕ → Fin 64 → EReal) (v : ℕ → EReal) :
    attend (Finset.univ : Finset (Fin 640)) (fun k => nearScore (qpos i l) Q K (winBase i + k.val)) (fun k => v (winBase i + k.val)) = windowed (qpos i l) Q K v := by
  have hl := l.isLt
  have hb := winBase_le i
  rw [← attend_nexts (winBase i) 640 (nearScore (qpos i l) Q K) v]
  unfold windowed
  refine (attend_subset (B := nexts (winBase i) 640) v ?_ ?_).symm
  · intro k hk
    rw [mem_nexts] at hk
    rw [Finset.mem_range]; omega
  · intro k _ hk
    rw [mem_nexts] at hk
    refine masked_neg _ (fun e => hk ?_)
    have h1 := e.1
    have h2 := e.2
    unfold qpos winBase at *
    omega

theorem winOut0 (i : grid0.Coords) (X2 : Vec Ideal S512x128 .f32) (X8 : Vec Ideal S1x16384x128 .bf16) (X9 : Vec Ideal S1x128x16384 .bf16) (d : Fin 64) (ρ : Fin 4) (l : Fin 128) :
    k0_pay334 (winScores i X8 (k0_pay212 X2)) (winDist i) (valCols 640 X9 0 (winBase i)) (ix2 d (lane ρ l))
      = windowed (qpos i l) (qvec X2 (head0 ρ) l) (trow X8 0) (tcol X9 0 d) := by
  have key := near_apply i X8 X2 (head0 ρ) l
  rw [grp_head0] at key
  have ec : ∀ hh, (⟨(lane ρ l).val, hh⟩ : Fin 1024) = col (head0 ρ) l := fun hh => Fin.ext rfl
  have e := winprob_apply _ _ _ _ key
  obtain ⟨y, hy⟩ : ∃ y, y = col (head0 ρ) l := ⟨_, rfl⟩
  rw [← hy] at e ec
  have hs : k0_pay334 (winScores i X8 (k0_pay212 X2)) (winDist i) (valCols 640 X9 0 (winBase i)) (ix2 d (lane ρ l))
      = (∑ x : Fin 640, valCols 640 X9 0 (winBase i) (ix3 0 d x) * k0_pay332 (winScores i X8 (k0_pay212 X2)) (winDist i) (ix2 x ⟨(lane ρ l).val, by have := (lane ρ l).isLt; omega⟩))
        * Ideal.div 1 (∑ x : Fin 640, k0_pay333 (F := Ideal) (ix2 0 x) * k0_pay332 (winScores i X8 (k0_pay212 X2)) (winDist i) (ix2 x ⟨(lane ρ l).val, by have := (lane ρ l).isLt; omega⟩)) := by
    pointwise [k0_pay334]
  rw [hs, ec]
  simp only [e, ones_apply, one_mul]
  exact (attend_of_sums Finset.univ _ (fun k : Fin 640 => tcol X9 0 d (winBase i + k.val))).trans (near_all i l _ _ _)

theorem winOut1 (i : grid0.Coords) (X2 : Vec Ideal S512x128 .f32) (X8 : Vec Ideal S1x16384x128 .bf16) (X9 : Vec Ideal S1x128x16384 .bf16) (d : Fin 64) (ρ : Fin 4) (l : Fin 128) :
    k0_pay335 (winScores i X8 (k0_pay212 X2)) (winDist i) (valCols 640 X9 1 (winBase i)) (ix2 d (lane ρ l))
      = windowed (qpos i l) (qvec X2 (head1 ρ) l) (trow X8 1) (tcol X9 1 d) := by
  have key := near_apply i X8 X2 (head1 ρ) l
  rw [grp_head1] at key
  have ec : ∀ hh, (⟨512 + (lane ρ l).val, hh⟩ : Fin 1024) = col (head1 ρ) l := fun hh =>
    Fin.ext (by show 512 + (128 * ρ.val + l.val) = 128 * (4 + ρ.val) + l.val; omega)
  have e := winprob_apply _ _ _ _ key
  obtain ⟨y, hy⟩ : ∃ y, y = col (head1 ρ) l := ⟨_, rfl⟩
  rw [← hy] at e ec
  have hs : k0_pay335 (winScores i X8 (k0_pay212 X2)) (winDist i) (valCols 640 X9 1 (winBase i)) (ix2 d (lane ρ l))
      = (∑ x : Fin 640, valCols 640 X9 1 (winBase i) (ix3 0 d x) * k0_pay332 (winScores i X8 (k0_pay212 X2)) (winDist i) (ix2 x ⟨512 + (lane ρ l).val, by have := (lane ρ l).isLt; omega⟩))
        * Ideal.div 1 (∑ x : Fin 640, k0_pay333 (F := Ideal) (ix2 0 x) * k0_pay332 (winScores i X8 (k0_pay212 X2)) (winDist i) (ix2 x ⟨512 + (lane ρ l).val, by have := (lane ρ l).isLt; omega⟩)) := by
    pointwise [k0_pay335]
  rw [hs, ec]
  simp only [e, ones_apply, one_mul]
  exact (attend_of_sums Finset.univ _ (fun k : Fin 640 => tcol X9 1 d (winBase i + k.val))).trans (near_all i l _ _ _)

end Cert.KernelIdeal.Nsa
-- ==== Proof.StepValue.lean ====
/-
  One step's output: for each of its eight heads the three attentions weighted by the head's gates.
-/
module

public import proofs.«01_k».proof.Proof.Window

@[expose] public section

set_option maxRecDepth 16384

noncomputable section

namespace Cert.KernelIdeal.Nsa

open Cert.KernelIdeal Cert.KernelIdeal.Gen Cert.Attn
open Idealize.ShloMosaic Idealize.ShloMosaic.WordCmp Idealize.SL.Sem

/-- Head `r`'s gated sum, of the three outputs of its key-value head. -/
def headRow (a b c : FVec Ideal S64x512 .f32) (X3 : Vec Ideal S32x128 .f32) (r : Fin 8) (d : Fin 64) (l : Fin 128) : EReal :=
  gated (X3 (ix2 ⟨8 + r.val, by omega⟩ l)) (X3 (ix2 ⟨16 + r.val, by omega⟩ l)) (X3 (ix2 ⟨24 + r.val, by omega⟩ l))
    (a (ix2 d (lane ⟨r.val % 4, by omega⟩ l))) (b (ix2 d (lane ⟨r.val % 4, by omega⟩ l))) (c (ix2 d (lane ⟨r.val % 4, by omega⟩ l)))

theorem logistic_zero_sub (x : EReal) : Ideal.div 1 (1 + Ideal.exp (0 - x)) = Ideal.logistic x := by
  rw [zero_sub]
  rfl

theorem gated_sub (g0 g1 g2 a b c : EReal) :
    Ideal.div 1 (1 + Ideal.exp (0 - g0)) * a + Ideal.div 1 (1 + Ideal.exp (0 - g1)) * b + Ideal.div 1 (1 + Ideal.exp (0 - g2)) * c = gated g0 g1 g2 a b c := by
  rw [logistic_zero_sub, logistic_zero_sub, logistic_zero_sub]
  rfl

theorem lane_zero (l : Fin 128) : lane 0 l = ⟨l.val, by omega⟩ := Fin.ext (by show 128 * 0 + l.val = l.val; omega)

section
variable (a b c : FVec Ideal S64x512 .f32) (X3 : Vec Ideal S32x128 .f32) (d : Fin 64) (l : Fin 128)

theorem head0_row : k0_pay339 a b c (k0_pay336 X3) (k0_pay337 (F := Ideal)) (ix2 d l) = headRow a b c X3 0 d l := by
  refine Eq.trans ?_ (gated_sub _ _ _ _ _ _)
  pointwise [k0_pay339, k0_pay338, k0_pay336, k0_pay337]
  rw [lane_zero]

theorem head1_row : k0_pay340 a b c (k0_pay336 X3) (k0_pay337 (F := Ideal)) (ix2 d l) = headRow a b c X3 1 d l := by
  refine Eq.trans ?_ (gated_sub _ _ _ _ _ _)
  pointwise [k0_pay340, k0_pay338, k0_pay336, k0_pay337]
  rfl

theorem head2_row : k0_pay341 a b c (k0_pay336 X3) (k0_pay337 (F := Ideal)) (ix2 d l) = headRow a b c X3 2 d l := by
  refine Eq.trans ?_ (gated_sub _ _ _ _ _ _)
  pointwise [k0_pay341, k0_pay338, k0_pay336, k0_pay337]
  rfl

theorem head3_row : k0_pay342 a b c (k0_pay338 (k0_pay336 X3) (k0_pay337 (F := Ideal))) (ix2 d l) = headRow a b c X3 3 d l := by
  refine Eq.trans ?_ (gated_sub _ _ _ _ _ _)
  pointwise [k0_pay342, k0_pay338, k0_pay336, k0_pay337]
  rfl

theorem head4_row : k0_pay343 a b c (k0_pay338 (k0_pay336 X3) (k0_pay337 (F := Ideal))) (ix2 d l) = headRow a b c X3 4 d l := by
  refine Eq.trans ?_ (gated_sub _ _ _ _ _ _)
  pointwise [k0_pay343, k0_pay338, k0_pay336, k0_pay337]
  rw [lane_zero]

theorem head5_row : k0_pay1 (k0_pay344 a b (k0_pay338 (k0_pay336 X3) (k0_pay337 (F := Ideal)))) (k0_pay345 (k0_pay338 (k0_pay336 X3) (k0_pay337 (F := Ideal)))) (k0_pay346 c) (ix2 d l)
    = headRow a b c X3 5 d l := by
  refine Eq.trans ?_ (gated_sub _ _ _ _ _ _)
  pointwise [k0_pay1, k0_pay344, k0_pay345, k0_pay346, k0_pay338, k0_pay336, k0_pay337]
  rfl

theorem head6_row : k0_pay2 a b c (k0_pay338 (k0_pay336 X3) (k0_pay337 (F := Ideal))) (ix2 d l) = headRow a b c X3 6 d l := by
  refine Eq.trans ?_ (gated_sub _ _ _ _ _ _)
  pointwise [k0_pay2, k0_pay338, k0_pay336, k0_pay337]
  rfl

theorem head7_row : k0_pay3 a b c (k0_pay338 (k0_pay336 X3) (k0_pay337 (F := Ideal))) (ix2 d l) = headRow a b c X3 7 d l := by
  refine Eq.trans ?_ (gated_sub _ _ _ _ _ _)
  pointwise [k0_pay3, k0_pay338, k0_pay336, k0_pay337]
  rfl

end

theorem headOut_low (oc0 oc1 os0 os1 ow0 ow1 : FVec Ideal S64x512 .f32) (X3 : Vec Ideal S32x128 .f32) (ρ : Fin 4) (d : Fin 64) (l : Fin 128) :
    headOut oc0 oc1 os0 os1 ow0 ow1 X3 (head0 ρ).val (ix2 d l) = headRow oc0 os0 ow0 X3 (head0 ρ) d l :=
  match ρ with
  | 0 => head0_row oc0 os0 ow0 X3 d l
  | 1 => head1_row oc0 os0 ow0 X3 d l
  | 2 => head2_row oc0 os0 ow0 X3 d l
  | 3 => head3_row oc0 os0 ow0 X3 d l

theorem headOut_high (oc0 oc1 os0 os1 ow0 ow1 : FVec Ideal S64x512 .f32) (X3 : Vec Ideal S32x128 .f32) (ρ : Fin 4) (d : Fin 64) (l : Fin 128) :
    headOut oc0 oc1 os0 os1 ow0 ow1 X3 (head1 ρ).val (ix2 d l) = headRow oc1 os1 ow1 X3 (head1 ρ) d l :=
  match ρ with
  | 0 => head4_row oc1 os1 ow1 X3 d l
  | 1 => head5_row oc1 os1 ow1 X3 d l
  | 2 => head6_row oc1 os1 ow1 X3 d l
  | 3 => head7_row oc1 os1 ow1 X3 d l

/-- Head `r`, row `d` of the output at query lane `l`. -/
def stepSpec (i : grid0.Coords) (X2 : Vec Ideal S512x128 .f32) (X3 : Vec Ideal S32x128 .f32) (X4 : Vec Ideal S1x256x128 .bf16) (X5 : Vec Ideal S1x128x256 .bf16)
    (X6 : Vec Ideal S1x16384x128 .bf16) (X7 : Vec Ideal S1x128x16384 .bf16) (X8 : Vec Ideal S1x16384x128 .bf16) (X9 : Vec Ideal S1x128x16384 .bf16) (r : Fin 8) (d : Fin 64) (l : Fin 128) : EReal :=
  gated (X3 (ix2 ⟨8 + r.val, by omega⟩ l)) (X3 (ix2 ⟨16 + r.val, by omega⟩ l)) (X3 (ix2 ⟨24 + r.val, by omega⟩ l))
    (compressed (qpos i l) (qvec X2 r l) (crow X4 (grp r)) (ccol X5 (grp r) d))
    (selected (qpos i l) (Chosen (qpos i l) (headsOf X2 (grp r) l) (crow X4 (grp r))) (qvec X2 r l) (trow X6 (grp r)) (tcol X7 (grp r) d))
    (windowed (qpos i l) (qvec X2 r l) (trow X8 (grp r)) (tcol X9 (grp r) d))

section
variable {n : ℕ} (h : Fits n) (i : grid0.Coords) (hn : n = nOf i) (X2 : Vec Ideal S512x128 .f32) (X3 : Vec Ideal S32x128 .f32) (X4 : Vec Ideal S1x256x128 .bf16) (X5 : Vec Ideal S1x128x256 .bf16)
    (X6 : Vec Ideal S1x16384x128 .bf16) (X7 : Vec Ideal S1x128x16384 .bf16) (X8 : Vec Ideal S1x16384x128 .bf16) (X9 : Vec Ideal S1x128x16384 .bf16)
include hn

theorem step_low (ρ : Fin 4) (d : Fin 64) (l : Fin 128) :
    headOut (swOut0 h i X2 X4 X5) (swOut1 h i X2 X4 X5)
      (k0_pay328 (runEnd i X6 X7 (swSel h i X2 X4) (k0_pay212 X2)).2.1) (k0_pay329 (runEnd i X6 X7 (swSel h i X2 X4) (k0_pay212 X2)).2.2)
      (k0_pay334 (winScores i X8 (k0_pay212 X2)) (winDist i) (valCols 640 X9 0 (winBase i)))
      (k0_pay335 (winScores i X8 (k0_pay212 X2)) (winDist i) (valCols 640 X9 1 (winBase i))) X3 (head0 ρ).val (ix2 d l)
      = stepSpec i X2 X3 X4 X5 X6 X7 X8 X9 (head0 ρ) d l := by
  rw [headOut_low]
  unfold headRow stepSpec
  have el : (⟨(head0 ρ).val % 4, by omega⟩ : Fin 4) = ρ := Fin.ext (by show ρ.val % 4 = ρ.val; omega)
  rw [el, out0_apply h i hn, selOut0 h i hn, winOut0, grp_head0]

theorem step_high (ρ : Fin 4) (d : Fin 64) (l : Fin 128) :
    headOut (swOut0 h i X2 X4 X5) (swOut1 h i X2 X4 X5)
      (k0_pay328 (runEnd i X6 X7 (swSel h i X2 X4) (k0_pay212 X2)).2.1) (k0_pay329 (runEnd i X6 X7 (swSel h i X2 X4) (k0_pay212 X2)).2.2)
      (k0_pay334 (winScores i X8 (k0_pay212 X2)) (winDist i) (valCols 640 X9 0 (winBase i)))
      (k0_pay335 (winScores i X8 (k0_pay212 X2)) (winDist i) (valCols 640 X9 1 (winBase i))) X3 (head1 ρ).val (ix2 d l)
      = stepSpec i X2 X3 X4 X5 X6 X7 X8 X9 (head1 ρ) d l := by
  rw [headOut_high]
  unfold headRow stepSpec
  have el : (⟨(head1 ρ).val % 4, by omega⟩ : Fin 4) = ρ := Fin.ext (by show (4 + ρ.val) % 4 = ρ.val; omega)
  rw [el, out1_apply h i hn, selOut1 h i hn, winOut1, grp_head1]

/-- The step's output block, entry by entry. -/
theorem stepOut_apply (y : Fin 512) (l : Fin 128) :
    stepOut h i X2 X3 X4 X5 X6 X7 X8 X9 (ix2 y l) = stepSpec i X2 X3 X4 X5 X6 X7 X8 X9 ⟨y.val / 64, by omega⟩ ⟨y.val % 64, by omega⟩ l := by
  unfold stepOut stackHeads
  by_cases hy : y.val / 64 < 4
  · exact step_low h i hn X2 X3 X4 X5 X6 X7 X8 X9 ⟨y.val / 64, hy⟩ ⟨y.val % 64, by omega⟩ l
  · have e : (⟨y.val / 64, by omega⟩ : Fin 8) = head1 ⟨y.val / 64 - 4, by omega⟩ := Fin.ext (by show y.val / 64 = 4 + (y.val / 64 - 4); omega)
    rw [e, ← step_high h i hn]
    exact congrArg (fun r => headOut _ _ _ _ _ _ X3 r (ix2 ⟨y.val % 64, by omega⟩ l)) (congrArg Fin.val e)

end

end Cert.KernelIdeal.Nsa
-- ==== Proof.Layer.lean ====
/-
  The prompt's sparse attention over the whole arrays: the entry of one batch, position, head and head column, from the
  queries, the gates, the compressed keys and values, and the two caches of keys and values.
-/
module

public import proofs.«01_k».proof.Proof.Spec

@[expose] public section

noncomputable section

namespace Cert.Attn

/-- The rows of an array of `n + 1` of them, by a natural number. -/
def rows (n : ℕ) (f : Fin (n + 1) → Fin 64 → EReal) (k : ℕ) : Fin 64 → EReal := f ⟨min k n, by omega⟩

theorem rows_val (n : ℕ) (f : Fin (n + 1) → Fin 64 → EReal) (k : Fin (n + 1)) : rows n f k.val = f k := by
  unfold rows
  exact congrArg f (Fin.ext (by show min k.val n = k.val; omega))

/-- Queries by batch, position, key-value head and head of its group; gates by batch, position, attention and head;
compressed keys and values by batch, block and key-value head; keys (at 0) and values (at 1) of the selected and of the
window's attention by batch, position, that and key-value head. -/
def layer (a0 : Fin 2 → Fin 16384 → Fin 2 → Fin 4 → Fin 64 → EReal) (a1 : Fin 2 → Fin 16384 → Fin 3 → Fin 2 → Fin 4 → EReal)
    (a2 a3 : Fin 2 → Fin 256 → Fin 2 → Fin 64 → EReal) (a4 a5 : Fin 2 → Fin 16384 → Fin 2 → Fin 2 → Fin 64 → EReal)
    (b : Fin 2) (q : Fin 16384) (g : Fin 2) (r : Fin 4) (d : Fin 64) : EReal :=
  gated (a1 b q 0 g r) (a1 b q 1 g r) (a1 b q 2 g r)
    (compressed q.val (a0 b q g r) (rows 255 fun k => a2 b k g) (fun k => rows 255 (fun k => a3 b k g) k d))
    (selected q.val (Chosen q.val (fun ρ => a0 b q g ρ) (rows 255 fun k => a2 b k g)) (a0 b q g r)
      (rows 16383 fun k => a4 b k 0 g) (fun k => rows 16383 (fun k => a4 b k 1 g) k d))
    (windowed q.val (a0 b q g r) (rows 16383 fun k => a5 b k 0 g) (fun k => rows 16383 (fun k => a5 b k 1 g) k d))

end Cert.Attn
-- ==== Proof.HostRead.lean ====
/-
  The arrays that the host makes of the launch's arguments, read at an entry.
-/
module

public import proofs.«01_k».proof.Proof.Launch
public import proofs.«01_k».proof.Proof.StepValue
public import proofs.«01_k».proof.Proof.Layer
public import Idealize.ShloMosaic.Lib.StableHlo.ReadAt

@[expose] public section

set_option maxRecDepth 16384

noncomputable section

namespace Cert.KernelIdeal.Nsa

open Cert.KernelIdeal Cert.KernelIdeal.Gen Cert.Attn
open Idealize.ShloMosaic Idealize.ShloMosaic.WordCmp Idealize.SL.Sem

variable (m : (b : Loc nD τ sig) → Buf (Elt Ideal) b) (c : Dev nD)

/-- The kernel's arguments by their indices. -/
def argQ (b : Fin 2) (q : Fin 16384) (g : Fin 2) (r : Fin 4) (d : Fin 64) : EReal := m (c, Proc.tc.devRef main_arg0) (ix5 b q g r d)
def argG (b : Fin 2) (q : Fin 16384) (j : Fin 3) (g : Fin 2) (r : Fin 4) : EReal := m (c, Proc.tc.devRef main_arg1) (ix3 b q ⟨j.val * 8 + g.val * 4 + r.val, by omega⟩)
def argCK (b : Fin 2) (k : Fin 256) (g : Fin 2) (d : Fin 64) : EReal := m (c, Proc.tc.devRef main_arg2) (ix4 b k g d)
def argCV (b : Fin 2) (k : Fin 256) (g : Fin 2) (d : Fin 64) : EReal := m (c, Proc.tc.devRef main_arg3) (ix4 b k g d)
def argS (b : Fin 2) (k : Fin 16384) (z g : Fin 2) (d : Fin 64) : EReal := m (c, Proc.tc.devRef main_arg4) (ix5 b k z g d)
def argW (b : Fin 2) (k : Fin 16384) (z g : Fin 2) (d : Fin 64) : EReal := m (c, Proc.tc.devRef main_arg5) (ix5 b k z g d)

theorem v1_apply (y : Fin 512) (x : Fin 32768) : (V m c main_v1 (ix2 y x) : EReal)
    = argQ m c ⟨x.val / 16384, by omega⟩ ⟨x.val % 16384, by omega⟩ ⟨y.val / 256, by omega⟩ ⟨y.val / 64 % 4, by omega⟩ ⟨y.val % 64, by omega⟩ := by
  unfold V
  after_reads_at
  rfl

theorem v5_apply (y : Fin 24) (x : Fin 32768) : (V m c main_v5 (ix2 (⟨8 + y.val, by omega⟩ : Fin 32) x) : EReal)
    = m (c, Proc.tc.devRef main_arg1) (ix3 ⟨x.val / 16384, by omega⟩ ⟨x.val % 16384, by omega⟩ y) := by
  unfold V
  after_reads_at

theorem v7_apply (b : Fin 2) (k : Fin 256) (e : Fin 128) : (V m c main_v7 (ix3 b k e) : EReal) = argCK m c b k ⟨e.val / 64, by omega⟩ ⟨e.val % 64, by omega⟩ := by
  unfold V
  after_reads_at
  rfl

theorem v10_apply (b : Fin 2) (k : Fin 256) (e : Fin 128) : (V m c main_v10 (ix3 b e k) : EReal) = argCV m c b k ⟨e.val / 64, by omega⟩ ⟨e.val % 64, by omega⟩ := by
  unfold V
  after_reads_at
  rfl

theorem v14_apply (b : Fin 2) (k : Fin 16384) (e : Fin 128) : (V m c main_v14 (ix3 b k e) : EReal) = argS m c b k 0 ⟨e.val / 64, by omega⟩ ⟨e.val % 64, by omega⟩ := by
  unfold V
  after_reads_at
  rfl

theorem v19_apply (b : Fin 2) (k : Fin 16384) (e : Fin 128) : (V m c main_v19 (ix3 b e k) : EReal) = argS m c b k 1 ⟨e.val / 64, by omega⟩ ⟨e.val % 64, by omega⟩ := by
  unfold V
  after_reads_at
  rfl

theorem v23_apply (b : Fin 2) (k : Fin 16384) (e : Fin 128) : (V m c main_v23 (ix3 b k e) : EReal) = argW m c b k 0 ⟨e.val / 64, by omega⟩ ⟨e.val % 64, by omega⟩ := by
  unfold V
  after_reads_at
  rfl

theorem v28_apply (b : Fin 2) (k : Fin 16384) (e : Fin 128) : (V m c main_v28 (ix3 b e k) : EReal) = argW m c b k 1 ⟨e.val / 64, by omega⟩ ⟨e.val % 64, by omega⟩ := by
  unfold V
  after_reads_at
  rfl

end Cert.KernelIdeal.Nsa
-- ==== Proof.Blocks.lean ====
/-
  The blocks a step of the kernel finds, read at an entry: entries of the launch's arguments.
-/
module

public import proofs.«01_k».proof.Proof.HostRead
public import Idealize.ShloMosaic.Lib.Pipeline.ValueKit.Geometry

@[expose] public section

set_option maxRecDepth 16384

noncomputable section

namespace Cert.KernelIdeal.Nsa

open Cert.KernelIdeal Cert.KernelIdeal.Gen Cert.Attn
open Idealize.ShloMosaic Idealize.ShloMosaic.WordCmp Idealize.SL.Sem

variable (m : (b : Loc nD τ sig) → Buf (Elt Ideal) b) (c : Dev nD)

/-- The step's batch, and the position of its column `l`. -/
def bat (t : Fin cfg0.N) : Fin 2 := grid0.coords t 0

def pos (t : Fin cfg0.N) (l : Fin 128) : Fin 16384 := ⟨qpos (grid0.coords t) l, qpos_lt _ _⟩

theorem col_lt (t : Fin cfg0.N) (l : Fin 128) : 16384 * (bat t).val + (pos t l).val < 32768 := by
  have := (bat t).isLt
  have := (pos t l).isLt
  omega

theorem index_0 : ∀ t : Fin cfg0.N, win0_0.index t = ![0, (grid0.coords t 0).val * 128 + (grid0.coords t 1).val] := (by decide +kernel : ∀ t : Fin grid0.N, _)
theorem index_1 : ∀ t : Fin cfg0.N, win0_1.index t = ![0, (grid0.coords t 0).val * 128 + (grid0.coords t 1).val] := (by decide +kernel : ∀ t : Fin grid0.N, _)
theorem index_2 : ∀ t : Fin cfg0.N, win0_2.index t = ![(grid0.coords t 0).val, 0, 0] := (by decide +kernel : ∀ t : Fin grid0.N, _)
theorem index_3 : ∀ t : Fin cfg0.N, win0_3.index t = ![(grid0.coords t 0).val, 0, 0] := (by decide +kernel : ∀ t : Fin grid0.N, _)
theorem index_4 : ∀ t : Fin cfg0.N, win0_4.index t = ![(grid0.coords t 0).val, 0, 0] := (by decide +kernel : ∀ t : Fin grid0.N, _)
theorem index_5 : ∀ t : Fin cfg0.N, win0_5.index t = ![(grid0.coords t 0).val, 0, 0] := (by decide +kernel : ∀ t : Fin grid0.N, _)
theorem index_6 : ∀ t : Fin cfg0.N, win0_6.index t = ![(grid0.coords t 0).val, 0, 0] := (by decide +kernel : ∀ t : Fin grid0.N, _)
theorem index_7 : ∀ t : Fin cfg0.N, win0_7.index t = ![(grid0.coords t 0).val, 0, 0] := (by decide +kernel : ∀ t : Fin grid0.N, _)
theorem index_8 : ∀ t : Fin cfg0.N, win0_8.index t = ![0, (grid0.coords t 0).val * 128 + (grid0.coords t 1).val] := (by decide +kernel : ∀ t : Fin grid0.N, _)

/-- The column of the arrays that a step's column is. -/
def colAt (t : Fin cfg0.N) (l : Fin 128) : Fin 32768 := ⟨16384 * (bat t).val + (pos t l).val, col_lt t l⟩

theorem colAt_div (t : Fin cfg0.N) (l : Fin 128) (h : (colAt t l).val / 16384 < 2) : (⟨(colAt t l).val / 16384, h⟩ : Fin 2) = bat t := by
  have hq := (pos t l).isLt
  have e : (colAt t l).val = 16384 * (bat t).val + (pos t l).val := rfl
  exact Fin.ext (by show (colAt t l).val / 16384 = (bat t).val; omega)

theorem colAt_mod (t : Fin cfg0.N) (l : Fin 128) (h : (colAt t l).val % 16384 < 16384) : (⟨(colAt t l).val % 16384, h⟩ : Fin 16384) = pos t l := by
  have hq := (pos t l).isLt
  have e : (colAt t l).val = 16384 * (bat t).val + (pos t l).val := rfl
  exact Fin.ext (by show (colAt t l).val % 16384 = (pos t l).val; omega)

theorem emb_0 (t : Fin cfg0.N) (y : Fin 512) (l : Fin 128) : (win0_0.blk t).view.emb (ix2 y l) = ix2 y (colAt t l) := by
  have hc : (colAt t l).val = 16384 * (grid0.coords t 0).val + (128 * (grid0.coords t 1).val + l.val) := rfl
  blk_ext [index_0]

theorem emb_1 (t : Fin cfg0.N) (y : Fin 32) (l : Fin 128) : (win0_1.blk t).view.emb (ix2 y l) = ix2 y (colAt t l) := by
  have hc : (colAt t l).val = 16384 * (grid0.coords t 0).val + (128 * (grid0.coords t 1).val + l.val) := rfl
  blk_ext [index_1]

theorem blk_0 (t : Fin cfg0.N) (y : Fin 512) (l : Fin 128) : (iblk m c 0 t (ix2 y l) : EReal)
    = argQ m c (bat t) (pos t l) ⟨y.val / 256, by omega⟩ ⟨y.val / 64 % 4, by omega⟩ ⟨y.val % 64, by omega⟩ := by
  have h : (iblk m c 0 t (ix2 y l) : EReal) = V m c main_v1 ((win0_0.blk t).view.emb (ix2 y l)) := rfl
  rw [h, emb_0, v1_apply, colAt_div, colAt_mod]

theorem blk_1 (t : Fin cfg0.N) (y : Fin 24) (l : Fin 128) (hy : 8 + y.val < 32) : (iblk m c 1 t (ix2 (⟨8 + y.val, hy⟩ : Fin 32) l) : EReal)
    = m (c, Proc.tc.devRef main_arg1) (ix3 (bat t) (pos t l) y) := by
  have h : (iblk m c 1 t (ix2 (⟨8 + y.val, hy⟩ : Fin 32) l) : EReal) = V m c main_v5 ((win0_1.blk t).view.emb (ix2 (⟨8 + y.val, hy⟩ : Fin 32) l)) := rfl
  rw [h, emb_1, v5_apply, colAt_div, colAt_mod]

theorem blk_2 (t : Fin cfg0.N) (k : Fin 256) (e : Fin 128) : (iblk m c 2 t (ix3 0 k e) : EReal) = argCK m c (bat t) k ⟨e.val / 64, by omega⟩ ⟨e.val % 64, by omega⟩ := by
  have h : (win0_2.blk t).view.emb (ix3 0 k e) = ix3 (bat t) k e := by
    have hb : (bat t).val = (grid0.coords t 0).val := rfl
    blk_ext [index_2]
  have h' : iblk m c 2 t = (win0_2.blk t).view.read (Elt Ideal) (V m c main_v7) := rfl
  rw [h', View.read_apply, cast_eq, h, v7_apply]

theorem blk_3 (t : Fin cfg0.N) (k : Fin 256) (e : Fin 128) : (iblk m c 3 t (ix3 0 e k) : EReal) = argCV m c (bat t) k ⟨e.val / 64, by omega⟩ ⟨e.val % 64, by omega⟩ := by
  have h : (win0_3.blk t).view.emb (ix3 0 e k) = ix3 (bat t) e k := by
    have hb : (bat t).val = (grid0.coords t 0).val := rfl
    blk_ext [index_3]
  have h' : iblk m c 3 t = (win0_3.blk t).view.read (Elt Ideal) (V m c main_v10) := rfl
  rw [h', View.read_apply, cast_eq, h, v10_apply]

theorem blk_4 (t : Fin cfg0.N) (k : Fin 16384) (e : Fin 128) : (iblk m c 4 t (ix3 0 k e) : EReal) = argS m c (bat t) k 0 ⟨e.val / 64, by omega⟩ ⟨e.val % 64, by omega⟩ := by
  have h : (win0_4.blk t).view.emb (ix3 0 k e) = ix3 (bat t) k e := by
    have hb : (bat t).val = (grid0.coords t 0).val := rfl
    blk_ext [index_4]
  have h' : iblk m c 4 t = (win0_4.blk t).view.read (Elt Ideal) (V m c main_v14) := rfl
  rw [h', View.read_apply, cast_eq, h, v14_apply]

theorem blk_5 (t : Fin cfg0.N) (k : Fin 16384) (e : Fin 128) : (iblk m c 5 t (ix3 0 e k) : EReal) = argS m c (bat t) k 1 ⟨e.val / 64, by omega⟩ ⟨e.val % 64, by omega⟩ := by
  have h : (win0_5.blk t).view.emb (ix3 0 e k) = ix3 (bat t) e k := by
    have hb : (bat t).val = (grid0.coords t 0).val := rfl
    blk_ext [index_5]
  have h' : iblk m c 5 t = (win0_5.blk t).view.read (Elt Ideal) (V m c main_v19) := rfl
  rw [h', View.read_apply, cast_eq, h, v19_apply]

theorem blk_6 (t : Fin cfg0.N) (k : Fin 16384) (e : Fin 128) : (iblk m c 6 t (ix3 0 k e) : EReal) = argW m c (bat t) k 0 ⟨e.val / 64, by omega⟩ ⟨e.val % 64, by omega⟩ := by
  have h : (win0_6.blk t).view.emb (ix3 0 k e) = ix3 (bat t) k e := by
    have hb : (bat t).val = (grid0.coords t 0).val := rfl
    blk_ext [index_6]
  have h' : iblk m c 6 t = (win0_6.blk t).view.read (Elt Ideal) (V m c main_v23) := rfl
  rw [h', View.read_apply, cast_eq, h, v23_apply]

theorem blk_7 (t : Fin cfg0.N) (k : Fin 16384) (e : Fin 128) : (iblk m c 7 t (ix3 0 e k) : EReal) = argW m c (bat t) k 1 ⟨e.val / 64, by omega⟩ ⟨e.val % 64, by omega⟩ := by
  have h : (win0_7.blk t).view.emb (ix3 0 e k) = ix3 (bat t) e k := by
    have hb : (bat t).val = (grid0.coords t 0).val := rfl
    blk_ext [index_7]
  have h' : iblk m c 7 t = (win0_7.blk t).view.read (Elt Ideal) (V m c main_v28) := rfl
  rw [h', View.read_apply, cast_eq, h, v28_apply]

end Cert.KernelIdeal.Nsa
-- ==== Proof.StepLayer.lean ====
/-
  What a step computes: the layer's entries at its columns.
-/
module

public import proofs.«01_k».proof.Proof.Blocks

@[expose] public section

set_option maxRecDepth 16384

noncomputable section

namespace Cert.KernelIdeal.Nsa

open Cert.KernelIdeal Cert.KernelIdeal.Gen Cert.Attn
open Idealize.ShloMosaic Idealize.ShloMosaic.WordCmp Idealize.SL.Sem

variable (m : (b : Loc nD τ sig) → Buf (Elt Ideal) b) (c : Dev nD)

section
variable (t : Fin cfg0.N) (l : Fin 128) (g : Fin 2)

theorem query_of (r : Fin 4) (h : 4 * g.val + r.val < 8) : qvec (iblk m c 0 t) ⟨4 * g.val + r.val, h⟩ l = argQ m c (bat t) (pos t l) g r := by
  funext d
  unfold qvec
  refine (blk_0 m c t _ l).trans ?_
  have hd := d.isLt
  have hr := r.isLt
  congr 1
  · exact Fin.ext (by show (64 * (4 * g.val + r.val) + d.val) / 256 = _; omega)
  · exact Fin.ext (by show (64 * (4 * g.val + r.val) + d.val) / 64 % 4 = _; omega)
  · exact Fin.ext (by show (64 * (4 * g.val + r.val) + d.val) % 64 = _; omega)

theorem group_entry (g : Fin 2) (d : Fin 64) :
    (⟨(64 * g.val + d.val) / 64, by omega⟩ : Fin 2) = g ∧ (⟨(64 * g.val + d.val) % 64, by omega⟩ : Fin 64) = d :=
  ⟨Fin.ext (by show (64 * g.val + d.val) / 64 = _; omega), Fin.ext (by show (64 * g.val + d.val) % 64 = _; omega)⟩

theorem ckeys_of : crow (iblk m c 2 t) g = rows 255 fun k => argCK m c (bat t) k g := by
  funext k d
  exact (blk_2 m c t _ _).trans (congrArg₂ (argCK m c (bat t) _) (group_entry g d).1 (group_entry g d).2)

theorem cvalues_of (d : Fin 64) : ccol (iblk m c 3 t) g d = fun k => rows 255 (fun k => argCV m c (bat t) k g) k d := by
  funext k
  exact (blk_3 m c t _ _).trans (congrArg₂ (argCV m c (bat t) _) (group_entry g d).1 (group_entry g d).2)

theorem skeys_of : trow (iblk m c 4 t) g = rows 16383 fun k => argS m c (bat t) k 0 g := by
  funext k d
  exact (blk_4 m c t _ _).trans (congrArg₂ (argS m c (bat t) _ 0) (group_entry g d).1 (group_entry g d).2)

theorem svalues_of (d : Fin 64) : tcol (iblk m c 5 t) g d = fun k => rows 16383 (fun k => argS m c (bat t) k 1 g) k d := by
  funext k
  exact (blk_5 m c t _ _).trans (congrArg₂ (argS m c (bat t) _ 1) (group_entry g d).1 (group_entry g d).2)

theorem wkeys_of : trow (iblk m c 6 t) g = rows 16383 fun k => argW m c (bat t) k 0 g := by
  funext k d
  exact (blk_6 m c t _ _).trans (congrArg₂ (argW m c (bat t) _ 0) (group_entry g d).1 (group_entry g d).2)

theorem wvalues_of (d : Fin 64) : tcol (iblk m c 7 t) g d = fun k => rows 16383 (fun k => argW m c (bat t) k 1 g) k d := by
  funext k
  exact (blk_7 m c t _ _).trans (congrArg₂ (argW m c (bat t) _ 1) (group_entry g d).1 (group_entry g d).2)

theorem gate_of (r : Fin 4) (j : Fin 3) (k : Fin 32) (hk : k.val = 8 + (j.val * 8 + g.val * 4 + r.val)) : (iblk m c 1 t (ix2 k l) : EReal) = argG m c (bat t) (pos t l) j g r := by
  have hlt : 8 + (j.val * 8 + g.val * 4 + r.val) < 32 := by have := j.isLt; have := g.isLt; have := r.isLt; omega
  have e : k = ⟨8 + (j.val * 8 + g.val * 4 + r.val), hlt⟩ := Fin.ext hk
  rw [e]
  exact blk_1 m c t ⟨j.val * 8 + g.val * 4 + r.val, by omega⟩ l hlt

theorem step_layer (r : Fin 4) (d : Fin 64) (h : 4 * g.val + r.val < 8) :
    stepSpec (grid0.coords t) (iblk m c 0 t) (iblk m c 1 t) (iblk m c 2 t) (iblk m c 3 t) (iblk m c 4 t) (iblk m c 5 t) (iblk m c 6 t) (iblk m c 7 t) ⟨4 * g.val + r.val, h⟩ d l
      = layer (argQ m c) (argG m c) (argCK m c) (argCV m c) (argS m c) (argW m c) (bat t) (pos t l) g r d := by
  have hg : grp ⟨4 * g.val + r.val, h⟩ = g := Fin.ext (by show (4 * g.val + r.val) / 4 = _; omega)
  have hh : headsOf (iblk m c 0 t) g l = fun ρ => argQ m c (bat t) (pos t l) g ρ := funext fun ρ => query_of m c t l g ρ _
  unfold stepSpec layer
  rw [hg, hh, query_of m c t l g r h, ckeys_of, cvalues_of, skeys_of, svalues_of, wkeys_of, wvalues_of,
    gate_of m c t l g r 0 ⟨8 + (4 * g.val + r.val), by omega⟩ (by show 8 + (4 * g.val + r.val) = 8 + (0 * 8 + g.val * 4 + r.val); omega),
    gate_of m c t l g r 1 ⟨16 + (4 * g.val + r.val), by omega⟩ (by show 16 + (4 * g.val + r.val) = 8 + (1 * 8 + g.val * 4 + r.val); omega),
    gate_of m c t l g r 2 ⟨24 + (4 * g.val + r.val), by omega⟩ (by show 24 + (4 * g.val + r.val) = 8 + (2 * 8 + g.val * 4 + r.val); omega)]
  rfl

end

end Cert.KernelIdeal.Nsa
-- ==== Proof.Output.lean ====
/-
  What the kernel leaves in its result: the layer of its arguments.
-/
module

public import proofs.«01_k».proof.Proof.StepLayer

@[expose] public section

set_option maxRecDepth 16384

noncomputable section

namespace Cert.KernelIdeal.Nsa

open Cert.KernelIdeal Cert.KernelIdeal.Gen Cert.Attn
open Idealize.ShloMosaic Idealize.ShloMosaic.WordCmp Idealize.SL.Sem

variable (m : (b : Loc nD τ sig) → Buf (Elt Ideal) b) (ρ : Dev nD → PrngReg) (c : Dev nD)

/-- The layer in the layout of the result. -/
def result (y : Fin 512) (x : Fin 32768) : EReal :=
  layer (argQ m c) (argG m c) (argCK m c) (argCV m c) (argS m c) (argW m c) ⟨x.val / 16384, by omega⟩ ⟨x.val % 16384, by omega⟩ ⟨y.val / 256, by omega⟩
    ⟨y.val / 64 % 4, by omega⟩ ⟨y.val % 64, by omega⟩

def resultBuf : Buf (Elt Ideal) ((c.tc : Thread nD τ).loc main_v29) := fun z : S512x32768.Idx => result m c (z 0) (z 1)

theorem result_entry (t : Fin cfg0.N) (y : Fin 512) (l : Fin 128) : (outAt m c t (ix2 y l) : EReal) = result m c y (colAt t l) := by
  unfold outAt
  have hr : 4 * (y.val / 256) + y.val / 64 % 4 < 8 := by omega
  have e : (⟨y.val / 64, by omega⟩ : Fin 8) = ⟨4 * (y.val / 256) + y.val / 64 % 4, hr⟩ := Fin.ext (by show y.val / 64 = 4 * (y.val / 256) + y.val / 64 % 4; omega)
  have hq := (pos t l).isLt
  refine (stepOut_apply (fits_nOf (grid0.coords t)) (grid0.coords t) rfl (iblk m c 0 t) (iblk m c 1 t) (iblk m c 2 t) (iblk m c 3 t) (iblk m c 4 t) (iblk m c 5 t) (iblk m c 6 t) (iblk m c 7 t) y l).trans ?_
  rw [e]
  refine (step_layer m c t l ⟨y.val / 256, by omega⟩ ⟨y.val / 64 % 4, by omega⟩ ⟨y.val % 64, by omega⟩ hr).trans ?_
  unfold result
  rw [colAt_div, colAt_mod]

theorem final : (dats m 0 c).arrAt 8 cfg0.N = resultBuf m c := by
  refine (dats m 0 c).arrAt_eq_of_covers 8 (resultBuf m c) (by decide +kernel) fun t hf z => ?_
  blk_simp
  obtain ⟨y, l, rfl⟩ : ∃ (y : Fin 512) (l : Fin 128), z = ix2 y l := ⟨z 0, z 1, by funext a; match a with | ⟨0, _⟩ => rfl | ⟨1, _⟩ => rfl⟩
  have e : (win0_8.blk t).view.emb (ix2 y l) = ix2 y (colAt t l) := by
    have hc : (colAt t l).val = 16384 * (grid0.coords t 0).val + (128 * (grid0.coords t 1).val + l.val) := rfl
    blk_ext [index_8]
  refine Eq.trans ?_ (congrArg (resultBuf m c) e).symm
  rw [after_8]
  exact result_entry m c t y l

/-- From any memory every run of the program ends with the layer in its result and the arguments as they were. -/
theorem run_result : θ_run defs (onTc (τ := τ) (main (F := Ideal))) ⟨m, fun _ => 0, ρ⟩ (fun r => ∀ c : Dev nD,
      r.2.mem ((c.tc : Thread nD τ).loc main_v29) = resultBuf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  refine (θ_run defs _ _).mono (fun r h c => ?_) (run_main m ρ)
  exact ⟨(h.1.out_eq c 8).trans (final m c),
    ((h.1 c).2 main_arg0 (Pipeline.mem_restRefs_of main_arg0 (by decide) (by decide))).trans (V_main_arg0 m c),
    ((h.1 c).2 main_arg1 (Pipeline.mem_restRefs_of main_arg1 (by decide) (by decide))).trans (V_main_arg1 m c),
    ((h.1 c).2 main_arg2 (Pipeline.mem_restRefs_of main_arg2 (by decide) (by decide))).trans (V_main_arg2 m c),
    ((h.1 c).2 main_arg3 (Pipeline.mem_restRefs_of main_arg3 (by decide) (by decide))).trans (V_main_arg3 m c),
    ((h.1 c).2 main_arg4 (Pipeline.mem_restRefs_of main_arg4 (by decide) (by decide))).trans (V_main_arg4 m c),
    ((h.1 c).2 main_arg5 (Pipeline.mem_restRefs_of main_arg5 (by decide) (by decide))).trans (V_main_arg5 m c)⟩

end Cert.KernelIdeal.Nsa

end
-- ==== Proof.RefTop.lean ====
/-
  The reference's top sixteen of a row of block scores: the values and the indices are those of the row's stable sort.
-/
module

public import proofs.«01_k».proof.Proof.Gen.ReferenceIdeal.Run
public import proofs.«01_k».proof.Proof.Compressed
public import proofs.«01_k».proof.Proof.Window
public import Idealize.ShloMosaic.Lib.Pointwise
public import Idealize.ShloMosaic.Lib.WordCmp

@[expose] public section

set_option maxRecDepth 16384

noncomputable section

namespace Cert.ReferenceIdeal.Value

open Cert.ReferenceIdeal Cert.ReferenceIdeal.Gen Cert.ReferenceIdeal.Value Cert.Attn
open Idealize.ShloMosaic Idealize.ShloMosaic.WordCmp Idealize.SL.Sem

variable (x : FVec Ideal S2x2x16384x256 .f32) (h : S2x2x16384x256.Slices (fun _ => 0) S2x2x16384x16) (b g : Fin 2) (q : Fin 16384)

/-- The row's order. -/
def above (f : Fin 256 → EReal) (j k : Fin 256) : Bool := (FloatOps.cmpfTotal (F := Ideal) (φ := .f32) .gt (f j) (f k)) == 1#1

theorem above_eq (f : Fin 256 → EReal) (j k : Fin 256) : above f j k = decide (f k < f j) := by
  unfold above
  show (BitVec.ofBool (decide (f k < f j)) == 1#1) = _
  by_cases h : f k < f j
  · rw [decide_eq_true h]; rfl
  · rw [decide_eq_false h]; rfl

theorem along_row (k : Fin 16) (j : Fin 256) :
    Shape.Idx.along (s := S2x2x16384x256) (ix4 b g q ⟨k.val, by omega⟩) (3 : Fin 4) j = ix4 b g q j := by
  funext a; apply Fin.ext
  match a with
  | ⟨0, _⟩ => rfl
  | ⟨1, _⟩ => rfl
  | ⟨2, _⟩ => rfl
  | ⟨3, _⟩ => rfl

theorem topK_val (k : Fin 16) :
    (Host.topK S2x2x16384x16 3 (FloatOps.cmpfTotal .gt) x h).1 (ix4 b g q k) = x (ix4 b g q (sortedFrom (above fun j => x (ix4 b g q j)) ⟨k.val, by omega⟩)) := by
  pointwise [Host.topK, Host.sort2]
  simp only [along_row]
  rfl

theorem topK_idx (k : Fin 16) :
    (Host.topK S2x2x16384x16 3 (FloatOps.cmpfTotal .gt) x h).2 (ix4 b g q k) = BitVec.ofNat 32 (sortedFrom (above fun j => x (ix4 b g q j)) ⟨k.val, by omega⟩).val := by
  pointwise [Host.topK, Host.sort2]
  simp only [along_row]
  rfl

theorem fold_ori {n : ℕ} (f : Fin n → BitVec 1) (P : Fin n → Prop) [DecidablePred P] (hf : ∀ k, f k = BitVec.ofBool (decide (P k))) :
    Finset.fold IntOp.ori 0#1 f Finset.univ = BitVec.ofBool (decide (∃ k, P k)) := by
  classical
  have key : ∀ A : Finset (Fin n), Finset.fold IntOp.ori 0#1 f A = BitVec.ofBool (decide (∃ k ∈ A, P k)) := by
    intro A
    induction A using Finset.induction_on with
    | empty => simp
    | insert a A ha ih =>
      rw [Finset.fold_insert ha, ih, hf, ori_ofBool, ← Bool.decide_or]
      refine congrArg BitVec.ofBool (decide_eq_decide.mpr ?_)
      simp only [Finset.mem_insert]
      constructor
      · rintro (hp | ⟨k, hk, hp⟩)
        · exact ⟨a, .inl rfl, hp⟩
        · exact ⟨k, .inr hk, hp⟩
      · rintro ⟨k, rfl | hk, hp⟩
        · exact .inl hp
        · exact .inr ⟨k, hk, hp⟩
  rw [key]
  refine congrArg BitVec.ofBool (decide_eq_decide.mpr ?_)
  simp

/-- A block is one of the top sixteen above −∞ when its rank is below sixteen and its score above −∞. -/
theorem top_apply (j : Fin 256) :
    Finset.fold IntOp.ori 0#1 (fun k : Fin 16 => IntOp.andi
        (IntOp.cmpi .eq ((Host.topK S2x2x16384x16 3 (FloatOps.cmpfTotal .gt) x h).2 (ix4 b g q k)) (BitVec.ofNat 32 j.val))
        (BitVec.ofBool (decide (Ideal.ofBits .f32 0xFF800000#32 < (Host.topK S2x2x16384x16 3 (FloatOps.cmpfTotal .gt) x h).1 (ix4 b g q k))))) Finset.univ
      = BitVec.ofBool (decide (⊥ < x (ix4 b g q j) ∧ rank (fun j => x (ix4 b g q j)) j < 16)) := by
  obtain ⟨f, hf⟩ : ∃ f : Fin 256 → EReal, f = fun j => x (ix4 b g q j) := ⟨_, rfl⟩
  rw [fold_ori _ (fun k : Fin 16 => sortedFrom (above f) ⟨k.val, by omega⟩ = j ∧ ⊥ < f (sortedFrom (above f) ⟨k.val, by omega⟩)) ?_]
  · refine congrArg BitVec.ofBool (decide_eq_decide.mpr ?_)
    rw [← hf, show x (ix4 b g q j) = f j from (congrFun hf j).symm, ← exists_sortedFrom f (above f) (above_eq f) 16 j]
    constructor
    · rintro ⟨k, hk, hb⟩
      exact ⟨⟨k.val, by omega⟩, k.isLt, hk, hb⟩
    · rintro ⟨k, hk, hj, hb⟩
      exact ⟨⟨k.val, hk⟩, hj, hb⟩
  · intro k
    rw [topK_val, topK_idx, ← hf, cmpi_eq_ofNat (by omega) (by omega), Cert.KernelIdeal.Nsa.ofBits_neg_inf, andi_ofBool, ← Bool.decide_and]
    refine congrArg BitVec.ofBool (decide_eq_decide.mpr (and_congr ⟨fun e => Fin.ext e, fun e => congrArg Fin.val e⟩ ?_))
    exact iff_of_eq (congrArg (⊥ < ·) (congrFun hf _).symm)

theorem top_of (f : Fin 256 → EReal) (hf : ∀ j, x (ix4 b g q j) = f j) (j : ℕ) (hj : j < 256) (w : BitVec 1) (p : Prop) [Decidable p] (hw : w = BitVec.ofBool (decide p)) :
    IntOp.andi (Finset.fold IntOp.ori 0#1 (fun k : Fin 16 => IntOp.andi
        (IntOp.cmpi .eq ((Host.topK S2x2x16384x16 3 (FloatOps.cmpfTotal .gt) x h).2 (ix4 b g q k)) (BitVec.ofNat 32 j))
        (BitVec.ofBool (decide (Ideal.ofBits .f32 0xFF800000#32 < (Host.topK S2x2x16384x16 3 (FloatOps.cmpfTotal .gt) x h).1 (ix4 b g q k))))) Finset.univ) w
      = BitVec.ofBool (decide ((⊥ < f ⟨j, hj⟩ ∧ rank f ⟨j, hj⟩ < 16) ∧ p)) := by
  have e : (fun j => x (ix4 b g q j)) = f := funext hf
  have ht := top_apply x h b g q ⟨j, hj⟩
  rw [hf, e] at ht
  rw [ht, hw, andi_ofBool, ← Bool.decide_and]

end Cert.ReferenceIdeal.Value
-- ==== Proof.RefSoftmax.lean ====
/-
  The reference's softmax over a mask, read at an entry: the weights of the masked base-2 scores. The number of keys is
  a variable: the compressed keys and the tokens are two cases.
-/
module

public import proofs.«01_k».proof.Proof.Gen.ReferenceIdeal.Run
public import proofs.«01_k».proof.Proof.Compressed
public import proofs.«01_k».proof.Proof.Marks
public import Idealize.ShloMosaic.Lib.Pointwise
public import Idealize.ShloMosaic.Lib.WordCmp

@[expose] public section

set_option maxRecDepth 16384

noncomputable section

namespace Cert.ReferenceIdeal.Value

open Cert.ReferenceIdeal Cert.ReferenceIdeal.Gen Cert.ReferenceIdeal.Value Cert.Attn
open Idealize.ShloMosaic Idealize.ShloMosaic.WordCmp Idealize.SL.Sem

/-- One number for every batch, key-value head, head of its group, query and key. -/
abbrev Keyed (N : ℕ) : Shape := ⟨5, ![2, 2, 4, 16384, N]⟩

section
variable {N : ℕ} (b g : Fin 2) (r : Fin 4) (q : Fin 16384)

theorem ofBits_one : Ideal.ofBits .f32 0x3F800000#32 = 1 := by
  simp [Ideal.ofBits, Ideal.ieee]
  refine (EReal.coe_mul _ _).symm.trans ?_
  norm_num

theorem ofBits_eighth : Ideal.ofBits .f32 0x3E000000#32 = ((1 / 8 : ℝ) : EReal) := by
  simp [Ideal.ofBits, Ideal.ieee]
  refine (EReal.coe_mul _ _).symm.trans ?_
  norm_num

theorem eighth_score (Q : Fin 64 → EReal) (K : ℕ → Fin 64 → EReal) (k : ℕ) :
    (∑ d, K k d * Q d) * Ideal.ofBits .f32 0x3E000000#32 * (log2e : EReal) = score Q K k := by
  rw [ofBits_eighth, mul_assoc, ← EReal.coe_mul]
  unfold score
  congr 2
  unfold log2e scale
  rw [mul_inv, one_div]

theorem max_last (h : (Keyed N).ReducesTo [4] S2x2x4x16384) (hb) (s : FVec Ideal (Keyed N) .f32) :
    broadcastInDim S2x2x4x16384x1 ![0, 1, 2, 3] hb (Host.reduce FloatOps.maximumf s (constant S_ .f32 0xFF800000#32) h h_S_) (ix5 b g r q 0)
      = Finset.univ.sup fun k : Fin N => s (ix5 b g r q k) := by
  pointwise []
  rw [Cert.KernelIdeal.Nsa.ofBits_neg_inf]
  rfl

theorem sum_last (h : (Keyed N).ReducesTo [4] S2x2x4x16384) (hb) (e : FVec Ideal (Keyed N) .f32) :
    broadcastInDim S2x2x4x16384x1 ![0, 1, 2, 3] hb (Host.reduceAdd e (constant S_ .f32 0x00000000#32) h h_S_) (ix5 b g r q 0) = ∑ k : Fin N, e (ix5 b g r q k) := by
  pointwise []

theorem safe_apply (mx : FVec Ideal S2x2x4x16384x1 .f32) :
    select (cmpf .olt (Host.absf mx) (broadcastInDim S2x2x4x16384x1 ![] bcast_S_S2x2x4x16384x1 (constant S_ .f32 0x7F800000#32))) mx (broadcastInDim S2x2x4x16384x1 ![] bcast_S_S2x2x4x16384x1 (id (constant S_ .f32 0x00000000#32))) (ix5 b g r q 0)
      = if max (mx (ix5 b g r q 0)) (-mx (ix5 b g r q 0)) < ⊤ then mx (ix5 b g r q 0) else 0 := by
  refine Eq.trans (b := Scalar.select (FloatOps.cmpf .olt (FloatOps.absf (mx (ix5 b g r q 0))) (Ideal.ofBits .f32 0x7F800000#32)) (mx (ix5 b g r q 0)) (Ideal.ofBits .f32 0x00000000#32)) rfl ?_
  rw [ofBits_pos_inf, Ideal.ofBits_zero .f32]
  exact select_decide _ _ _

theorem exp_apply (M : IVec (Keyed N) 1) (s : FVec Ideal (Keyed N) .f32) (mx : FVec Ideal S2x2x4x16384x1 .f32) (hb) (hz) (k : Fin N) :
    select M (Host.exp (subf s (broadcastInDim (Keyed N) ![0, 1, 2, 3, 4] hb mx))) (broadcastInDim (Keyed N) ![] hz (id (constant S_ .f32 0x00000000#32))) (ix5 b g r q k)
      = Scalar.select (M (ix5 b g r q k)) (Ideal.exp (s (ix5 b g r q k) - mx (ix5 b g r q 0))) 0 := by
  pointwise []
  exact congrArg _ (Ideal.ofBits_zero .f32)

theorem quot_apply (e : FVec Ideal (Keyed N) .f32) (T : FVec Ideal S2x2x4x16384x1 .f32) (hb) (k : Fin N) :
    Host.divf e (broadcastInDim (Keyed N) ![0, 1, 2, 3, 4] hb (select (cmpf .ogt T (broadcastInDim S2x2x4x16384x1 ![] bcast_S_S2x2x4x16384x1 (constant S_ .f32 0x00000000#32))) T (broadcastInDim S2x2x4x16384x1 ![] bcast_S_S2x2x4x16384x1 (id (constant S_ .f32 0x3F800000#32))))) (ix5 b g r q k)
      = Ideal.div (e (ix5 b g r q k)) (if 0 < T (ix5 b g r q 0) then T (ix5 b g r q 0) else 1) := by
  pointwise []
  refine congrArg (fun z : EReal => Ideal.div (e (ix5 b g r q k)) (if 0 < T (ix5 b g r q 0) then T (ix5 b g r q 0) else z)) ?_
  exact ofBits_one

/-- The reference's quotients are the weights of the masked base-2 scores. -/
theorem weights_apply (h : (Keyed N).ReducesTo [4] S2x2x4x16384) (h1) (h5) (hz) (p : ℕ → Prop) [DecidablePred p] (Q : Fin 64 → EReal) (K : ℕ → Fin 64 → EReal)
    {M : IVec (Keyed N) 1} {s e : FVec Ideal (Keyed N) .f32} {mx T : FVec Ideal S2x2x4x16384x1 .f32}
    (hM : ∀ k : Fin N, M (ix5 b g r q k) = BitVec.ofBool (decide (p k.val)))
    (hs : ∀ k : Fin N, s (ix5 b g r q k) = (Scalar.select (M (ix5 b g r q k)) ((∑ d, K k.val d * Q d) * Ideal.ofBits .f32 0x3E000000#32) (Ideal.ofBits .f32 0xFF800000#32) : EReal))
    (emx : mx = broadcastInDim S2x2x4x16384x1 ![0, 1, 2, 3] h1 (Host.reduce FloatOps.maximumf s (constant S_ .f32 0xFF800000#32) h h_S_))
    (ee : e = select M (Host.exp (subf s (broadcastInDim (Keyed N) ![0, 1, 2, 3, 4] h5 (select (cmpf .olt (Host.absf mx) (broadcastInDim S2x2x4x16384x1 ![] bcast_S_S2x2x4x16384x1 (constant S_ .f32 0x7F800000#32))) mx (broadcastInDim S2x2x4x16384x1 ![] bcast_S_S2x2x4x16384x1 (id (constant S_ .f32 0x00000000#32))))))) (broadcastInDim (Keyed N) ![] hz (id (constant S_ .f32 0x00000000#32))))
    (eT : T = broadcastInDim S2x2x4x16384x1 ![0, 1, 2, 3] h1 (Host.reduceAdd e (constant S_ .f32 0x00000000#32) h h_S_)) (k : Fin N) :
    Host.divf e (broadcastInDim (Keyed N) ![0, 1, 2, 3, 4] h5 (select (cmpf .ogt T (broadcastInDim S2x2x4x16384x1 ![] bcast_S_S2x2x4x16384x1 (constant S_ .f32 0x00000000#32))) T (broadcastInDim S2x2x4x16384x1 ![] bcast_S_S2x2x4x16384x1 (id (constant S_ .f32 0x3F800000#32))))) (ix5 b g r q k)
      = weight (Finset.range N) (masked p (score Q K)) k.val := by
  have hs' : ∀ k : Fin N, s (ix5 b g r q k) = if p k.val then (∑ d, K k.val d * Q d) * Ideal.ofBits .f32 0x3E000000#32 else ⊥ := by
    intro k
    rw [hs, hM, Cert.KernelIdeal.Nsa.ofBits_neg_inf]
    exact select_decide _ _ _
  have hmx : mx (ix5 b g r q 0) = Finset.univ.sup fun k : Fin N => if p k.val then (∑ d, K k.val d * Q d) * Ideal.ofBits .f32 0x3E000000#32 else ⊥ := by
    rw [emx, max_last b g r q h h1 s]
    exact congrArg _ (funext hs')
  have he : ∀ k : Fin N, e (ix5 b g r q k) = if p k.val then Ideal.exp ((if p k.val then (∑ d, K k.val d * Q d) * Ideal.ofBits .f32 0x3E000000#32 else ⊥)
      - if max (mx (ix5 b g r q 0)) (-mx (ix5 b g r q 0)) < ⊤ then mx (ix5 b g r q 0) else 0) else 0 := by
    intro k
    rw [ee, exp_apply, safe_apply, hM, hs']
    exact select_decide _ _ _
  have hT : T (ix5 b g r q 0) = ∑ k : Fin N, e (ix5 b g r q k) := by
    rw [eT]; exact sum_last b g r q h h1 e
  rw [quot_apply]
  refine (weight_of_exp Finset.univ (fun k : Fin N => p k.val) (fun k : Fin N => (∑ d, K k.val d * Q d) * Ideal.ofBits .f32 0x3E000000#32) hmx he hT (Finset.mem_univ k)).trans ?_
  have hf : (fun k : Fin N => if p k.val then (∑ d, K k.val d * Q d) * Ideal.ofBits .f32 0x3E000000#32 * (log2e : EReal) else ⊥)
      = fun k : Fin N => masked p (score Q K) k.val := by
    funext k
    rw [masked_eq, eighth_score]
  rw [hf]
  exact weight_fin N (masked p (score Q K)) k

end

end Cert.ReferenceIdeal.Value
-- ==== Proof.RefMask.lean ====
/-
  The reference's masks, weights and block scores, read at an entry.
-/
module

public import proofs.«01_k».proof.Proof.Gen.ReferenceIdeal.Run
public import proofs.«01_k».proof.Proof.Layer
public import proofs.«01_k».proof.Proof.RefTop
public import proofs.«01_k».proof.Proof.RefSoftmax
public import proofs.«01_k».proof.Proof.Window
public import Idealize.ShloMosaic.Lib.Pointwise
public import Idealize.ShloMosaic.Lib.WordCmp

@[expose] public section

set_option maxRecDepth 16384

noncomputable section

namespace Cert.ReferenceIdeal.Value

open Cert.ReferenceIdeal Cert.ReferenceIdeal.Gen Cert.ReferenceIdeal.Value Cert.Attn
open Idealize.ShloMosaic Idealize.ShloMosaic.WordCmp Idealize.SL.Sem

variable (V : Valuation τ sig (Elt Ideal)) (b g : Fin 2) (r : Fin 4) (q : Fin 16384)

/-- The reference's arguments by their indices. -/
def argQ (b : Fin 2) (q : Fin 16384) (g : Fin 2) (r : Fin 4) (d : Fin 64) : EReal := V (Proc.tc.devRef main_arg0) (ix5 b q g r d)
def argG (b : Fin 2) (q : Fin 16384) (j : Fin 3) (g : Fin 2) (r : Fin 4) : EReal := V (Proc.tc.devRef main_arg1) (ix3 b q ⟨j.val * 8 + g.val * 4 + r.val, by omega⟩)
def argCK (b : Fin 2) (k : Fin 256) (g : Fin 2) (d : Fin 64) : EReal := V (Proc.tc.devRef main_arg2) (ix4 b k g d)
def argCV (b : Fin 2) (k : Fin 256) (g : Fin 2) (d : Fin 64) : EReal := V (Proc.tc.devRef main_arg3) (ix4 b k g d)
def argS (b : Fin 2) (k : Fin 16384) (c g : Fin 2) (d : Fin 64) : EReal := V (Proc.tc.devRef main_arg4) (ix5 b k c g d)
def argW (b : Fin 2) (k : Fin 16384) (c g : Fin 2) (d : Fin 64) : EReal := V (Proc.tc.devRef main_arg5) (ix5 b k c g d)

theorem v14_apply (k : Fin 256) : (res_main_v14 V (ix2 q k) : BitVec 1) = BitVec.ofBool (decide (Complete q.val k.val)) := by
  pointwise [res_main_v14, res_main_v5, res_main_v1, res_main_v3]
  exact complete_word k.val q.val k.isLt q.isLt

theorem v36_apply (k : Fin 256) : (res_main_v36 V (ix5 b g r q k) : EReal) = weight (Finset.range 256) (masked (Complete q.val) (score (argQ V b q g r) (rows 255 fun k => argCK V b k g))) k.val := by
  refine weights_apply b g r q reducesTo_S2x2x4x16384x256_S2x2x4x16384_d4 bcast_S2x2x4x16384_S2x2x4x16384x1_0_1_2_3 bcast_S2x2x4x16384x1_S2x2x4x16384x256_0_1_2_3_4
    bcast_S_S2x2x4x16384x256 (Complete q.val) (argQ V b q g r) (rows 255 fun k => argCK V b k g) (M := broadcastInDim S2x2x4x16384x256 ![3, 4] bcast_S16384x256_S2x2x4x16384x256_3_4 (res_main_v14 V))
    (s := res_main_v19 V) (mx := res_main_v21 V) (T := res_main_v31 V) (e := res_main_v29 V) ?_ ?_ ?_ ?_ ?_ k
  · intro k
    pointwise []
    exact v14_apply V q k
  · intro k
    pointwise [res_main_v19]
    rw [rows_val 255]
    rfl
  · exact res_main_v21.eq_1 V
  · exact res_main_v29.eq_1 V
  · exact res_main_v31.eq_1 V

theorem v60_apply (k : Fin 256) : (res_main_v60 V (ix4 b g q k) : EReal) = blockScore q.val (fun ρ => argQ V b q g ρ) (rows 255 fun k => argCK V b k g) k.val := by
  pointwise [res_main_v60, res_main_v41, res_main_v5, res_main_v1]
  rw [divsi_ofNat_64 _ (by omega), forced_word k.val q.val k.isLt q.isLt, v14_apply]
  rw [show (∑ x, res_main_v36 V (ix5 b g x q k) : EReal) = ∑ r, cweight q.val (argQ V b q g r) (rows 255 fun k => argCK V b k g) k.val from
    Finset.sum_congr rfl fun r _ => v36_apply V b g r q k]
  refine (select_decide _ _ _).trans ?_
  unfold blockScore
  refine if_congr Iff.rfl ofBits_pos_inf ((select_decide _ _ _).trans (if_congr Iff.rfl rfl Cert.KernelIdeal.Nsa.ofBits_neg_inf))

/-- Whether a token's block is chosen and the token is not after the position. -/
def Seen (q : ℕ) (Q : Fin 4 → Fin 64 → EReal) (CK : ℕ → Fin 64 → EReal) (k : ℕ) : Prop := Chosen q Q CK (k / 64) ∧ k ≤ q

instance (q : ℕ) (Q : Fin 4 → Fin 64 → EReal) (CK : ℕ → Fin 64 → EReal) (k : ℕ) : Decidable (Seen q Q CK k) := Classical.propDecidable _

theorem seen_iff (q : ℕ) (Q : Fin 4 → Fin 64 → EReal) (CK : ℕ → Fin 64 → EReal) (k : ℕ) (hk : k / 64 < 256) (f : Fin 256 → EReal) (hf : f = fun i => blockScore q Q CK i.val) :
    ((⊥ < f ⟨k / 64, hk⟩ ∧ rank f ⟨k / 64, hk⟩ < 16) ∧ k ≤ q) ↔ Seen q Q CK k := by
  subst hf
  unfold Seen Chosen
  constructor
  · rintro ⟨h, h'⟩; exact ⟨⟨hk, h⟩, h'⟩
  · rintro ⟨⟨_, h⟩, h'⟩; exact ⟨h, h'⟩

theorem v86_apply (t : Fin 16384) : (res_main_v86 V (ix5 b g 0 q t) : BitVec 1)
    = BitVec.ofBool (decide (Seen q.val (fun ρ => argQ V b q g ρ) (rows 255 fun k => argCK V b k g) t.val)) := by
  have hj : t.val / 64 < 256 := by omega
  have hw : IntOp.cmpi .sle (res_main_v3 V (ix2 0 t) : BitVec 32) (res_main_v1 V (ix2 q 0)) = BitVec.ofBool (decide (t.val ≤ q.val)) := by
    rw [show (res_main_v3 V (ix2 0 t) : BitVec 32) = BitVec.ofNat 32 t.val from rfl, show (res_main_v1 V (ix2 q 0) : BitVec 32) = BitVec.ofNat 32 q.val from rfl]
    exact cmpi_sle_ofNat (by omega) (by omega)
  pointwise [res_main_v86]
  refine (top_of (res_main_v60 V) sliceFits_S2x2x16384x256_S2x2x16384x16 b g q (fun i => blockScore q.val (fun ρ => argQ V b q g ρ) (rows 255 fun k => argCK V b k g) i.val)
    (fun i => v60_apply V b g q i) (t.val / 64) hj _ _ hw).trans ?_
  exact congrArg BitVec.ofBool (decide_eq_decide.mpr (seen_iff _ _ _ _ hj _ rfl))

theorem v122_apply (t : Fin 16384) : (res_main_v122 V (ix2 q t) : BitVec 1) = BitVec.ofBool (decide (t.val ≤ q.val ∧ q.val < t.val + 512)) := by
  pointwise [res_main_v122, res_main_v113, res_main_v1, res_main_v3]
  rw [andi_sge_zero_slt_ofNat (by omega)]
  refine congrArg BitVec.ofBool (decide_eq_decide.mpr ?_)
  show (BitVec.ofNat 32 q.val - BitVec.ofNat 32 t.val).toNat < 512 ↔ _
  rw [BitVec.toNat_sub, BitVec.toNat_ofNat, BitVec.toNat_ofNat]
  have := q.isLt
  have := t.isLt
  omega

theorem v153_apply (j : Fin 3) : (res_main_v153 V (ix6 b q j g r 0) : EReal) = Ideal.logistic (argG V b q j g r) := by
  pointwise [res_main_v153]
  rfl

end Cert.ReferenceIdeal.Value
-- ==== Proof.RefValue.lean ====
/-
  The reference's result, read at an entry: the layer of its arguments.
-/
module

public import proofs.«01_k».proof.Proof.Gen.ReferenceIdeal.Run
public import proofs.«01_k».proof.Proof.RefMask
public import proofs.«01_k».proof.Proof.Window
public import Idealize.ShloMosaic.Lib.Pointwise
public import Idealize.ShloMosaic.Lib.WordCmp

@[expose] public section

set_option maxRecDepth 16384

noncomputable section

namespace Cert.ReferenceIdeal.Value

open Cert.ReferenceIdeal Cert.ReferenceIdeal.Gen Cert.ReferenceIdeal.Value Cert.Attn
open Idealize.ShloMosaic Idealize.ShloMosaic.WordCmp Idealize.SL.Sem

section
variable (V : Valuation τ sig (Elt Ideal)) (b g : Fin 2) (r : Fin 4) (q : Fin 16384)

/-- The quotients of the attention over the chosen blocks and of the one over the window, as the reference writes them. -/
def probs (e : FVec Ideal S2x2x4x16384x16384 .f32) (T : FVec Ideal S2x2x4x16384x1 .f32) : FVec Ideal S2x2x4x16384x16384 .f32 :=
  Host.divf e (broadcastInDim S2x2x4x16384x16384 ![0, 1, 2, 3, 4] bcast_S2x2x4x16384x1_S2x2x4x16384x16384_0_1_2_3_4 (select (cmpf .ogt T (broadcastInDim S2x2x4x16384x1 ![] bcast_S_S2x2x4x16384x1 (constant S_ .f32 0x00000000#32))) T (broadcastInDim S2x2x4x16384x1 ![] bcast_S_S2x2x4x16384x1 (id (constant S_ .f32 0x3F800000#32)))))

theorem selected_weights (k : Fin 16384) : (probs (res_main_v101 V) (res_main_v103 V) (ix5 b g r q k) : EReal)
    = weight (Finset.range 16384) (masked (Seen q.val (fun ρ => argQ V b q g ρ) (rows 255 fun k => argCK V b k g)) (score (argQ V b q g r) (rows 16383 fun k => argS V b k 0 g))) k.val := by
  refine weights_apply b g r q reducesTo_S2x2x4x16384x16384_S2x2x4x16384_d4 bcast_S2x2x4x16384_S2x2x4x16384x1_0_1_2_3 bcast_S2x2x4x16384x1_S2x2x4x16384x16384_0_1_2_3_4
    bcast_S_S2x2x4x16384x16384 (Seen q.val (fun ρ => argQ V b q g ρ) (rows 255 fun k => argCK V b k g)) (argQ V b q g r) (rows 16383 fun k => argS V b k 0 g)
    (M := broadcastInDim S2x2x4x16384x16384 ![0, 1, 2, 3, 4] bcast_S2x2x1x16384x16384_S2x2x4x16384x16384_0_1_2_3_4 (res_main_v86 V))
    (s := res_main_v91 V) (mx := res_main_v93 V) (T := res_main_v103 V) (e := res_main_v101 V) ?_ ?_ ?_ ?_ ?_ k
  · intro k
    pointwise []
    exact v86_apply V b g q k
  · intro k
    pointwise [res_main_v91]
    rw [rows_val 16383]
    rfl
  · exact res_main_v93.eq_1 V
  · exact res_main_v101.eq_1 V
  · exact res_main_v103.eq_1 V

theorem windowed_weights (k : Fin 16384) : (probs (res_main_v137 V) (res_main_v139 V) (ix5 b g r q k) : EReal)
    = weight (Finset.range 16384) (masked (fun k => k ≤ q.val ∧ q.val < k + 512) (score (argQ V b q g r) (rows 16383 fun k => argW V b k 0 g))) k.val := by
  refine weights_apply b g r q reducesTo_S2x2x4x16384x16384_S2x2x4x16384_d4 bcast_S2x2x4x16384_S2x2x4x16384x1_0_1_2_3 bcast_S2x2x4x16384x1_S2x2x4x16384x16384_0_1_2_3_4
    bcast_S_S2x2x4x16384x16384 (fun k => k ≤ q.val ∧ q.val < k + 512) (argQ V b q g r) (rows 16383 fun k => argW V b k 0 g)
    (M := broadcastInDim S2x2x4x16384x16384 ![3, 4] bcast_S16384x16384_S2x2x4x16384x16384_3_4 (res_main_v122 V))
    (s := res_main_v127 V) (mx := res_main_v129 V) (T := res_main_v139 V) (e := res_main_v137 V) ?_ ?_ ?_ ?_ ?_ k
  · intro k
    pointwise []
    exact v122_apply V q k
  · intro k
    pointwise [res_main_v127]
    rw [rows_val 16383]
    rfl
  · exact res_main_v129.eq_1 V
  · exact res_main_v137.eq_1 V
  · exact res_main_v139.eq_1 V

end

/-- The reference's last operations: the values' weighted sums, their gates, their sum, and the layout of the result. -/
def mix (v153 : FVec Ideal S2x16384x3x2x4x1 .f32) (a3 : FVec Ideal S2x256x2x64 .f32) (a4 a5 : FVec Ideal S2x16384x2x2x64 .f32)
    (v36 : FVec Ideal S2x2x4x16384x256 .f32) (p4 p5 : FVec Ideal S2x2x4x16384x16384 .f32) : FVec Ideal S512x32768 .f32 :=
  transpose S512x32768 [1, 0] (shapeCast _ (addf (addf (mulf (broadcastInDim S2x16384x2x4x64 ![0, 1, 2, 3, 4] bcast_S2x16384x2x4x1_S2x16384x2x4x64_0_1_2_3_4 (shapeCast _ (extractStridedSlice S2x16384x1x2x4x1 ![0, 0, 0, 0, 0, 0] v153 slices_S2x16384x3x2x4x1_S2x16384x1x2x4x1_0_0_0_0_0_0) shapeCasts_S2x16384x1x2x4x1_S2x16384x2x4x1)) (transpose S2x16384x2x4x64 [0, 4, 1, 3, 2] (Host.dotGeneral dot_S2x256x2x64_S2x2x4x16384x256_S2x2x64x4x16384_1_4_3_23_02_01 none a3 v36) transposes_S2x2x64x4x16384_S2x16384x2x4x64_0_4_1_3_2)) (mulf (broadcastInDim S2x16384x2x4x64 ![0, 1, 2, 3, 4] bcast_S2x16384x2x4x1_S2x16384x2x4x64_0_1_2_3_4 (shapeCast _ (extractStridedSlice S2x16384x1x2x4x1 ![0, 0, 1, 0, 0, 0] v153 slices_S2x16384x3x2x4x1_S2x16384x1x2x4x1_0_0_1_0_0_0) shapeCasts_S2x16384x1x2x4x1_S2x16384x2x4x1)) (transpose S2x16384x2x4x64 [0, 4, 1, 3, 2] (Host.dotGeneral dot_S2x16384x2x64_S2x2x4x16384x16384_S2x2x64x4x16384_1_4_3_23_02_01 none (shapeCast _ (extractStridedSlice S2x16384x1x2x64 ![0, 0, 1, 0, 0] a4 slices_S2x16384x2x2x64_S2x16384x1x2x64_0_0_1_0_0) shapeCasts_S2x16384x1x2x64_S2x16384x2x64) p4) transposes_S2x2x64x4x16384_S2x16384x2x4x64_0_4_1_3_2))) (mulf (broadcastInDim S2x16384x2x4x64 ![0, 1, 2, 3, 4] bcast_S2x16384x2x4x1_S2x16384x2x4x64_0_1_2_3_4 (shapeCast _ (extractStridedSlice S2x16384x1x2x4x1 ![0, 0, 2, 0, 0, 0] v153 slices_S2x16384x3x2x4x1_S2x16384x1x2x4x1_0_0_2_0_0_0) shapeCasts_S2x16384x1x2x4x1_S2x16384x2x4x1)) (transpose S2x16384x2x4x64 [0, 4, 1, 3, 2] (Host.dotGeneral dot_S2x16384x2x64_S2x2x4x16384x16384_S2x2x64x4x16384_1_4_3_23_02_01 none (shapeCast _ (extractStridedSlice S2x16384x1x2x64 ![0, 0, 1, 0, 0] a5 slices_S2x16384x2x2x64_S2x16384x1x2x64_0_0_1_0_0) shapeCasts_S2x16384x1x2x64_S2x16384x2x64) p5) transposes_S2x2x64x4x16384_S2x16384x2x4x64_0_4_1_3_2))) shapeCasts_S2x16384x2x4x64_S32768x512) transposes_S32768x512_S512x32768_1_0
theorem mix_apply (v153 : FVec Ideal S2x16384x3x2x4x1 .f32) (a3 : FVec Ideal S2x256x2x64 .f32) (a4 a5 : FVec Ideal S2x16384x2x2x64 .f32)
    (v36 : FVec Ideal S2x2x4x16384x256 .f32) (p4 p5 : FVec Ideal S2x2x4x16384x16384 .f32) (y : Fin 512) (x : Fin 32768)
    (b g : Fin 2) (q : Fin 16384) (r : Fin 4) (d : Fin 64) (hb : b = ⟨x.val / 16384, by omega⟩) (hq : q = ⟨x.val % 16384, by omega⟩)
    (hg : g = ⟨y.val / 256, by omega⟩) (hr : r = ⟨y.val / 64 % 4, by omega⟩) (hd : d = ⟨y.val % 64, by omega⟩) :
    (mix v153 a3 a4 a5 v36 p4 p5 (ix2 y x) : EReal)
      = v153 (ix6 b q 0 g r 0) * (∑ k : Fin 256, a3 (ix4 b k g d) * v36 (ix5 b g r q k))
        + v153 (ix6 b q 1 g r 0) * (∑ k : Fin 16384, a4 (ix5 b k 1 g d) * p4 (ix5 b g r q k))
        + v153 (ix6 b q 2 g r 0) * (∑ k : Fin 16384, a5 (ix5 b k 1 g d) * p5 (ix5 b g r q k)) := by
  subst hb hq hg hr hd
  pointwise [mix]

theorem sum_attend {N : ℕ} (f : Fin N → EReal) (v : ℕ → EReal) (s : ℕ → EReal) (w : Fin N → EReal) (hv : ∀ k : Fin N, f k = v k.val)
    (hw : ∀ k, w k = weight (Finset.range N) s k.val) : ∑ k, f k * w k = attend (Finset.range N) s v := by
  rw [← attend_fin N s v]
  unfold attend
  refine Finset.sum_congr rfl fun k _ => ?_
  rw [hw, hv, weight_fin N s k, mul_comm]

/-- The three attentions of the reference at one head and position. -/
theorem ref_compressed (V : Valuation τ sig (Elt Ideal)) (b g : Fin 2) (r : Fin 4) (q : Fin 16384) (d : Fin 64) :
    (∑ k : Fin 256, argCV V b k g d * (res_main_v36 V (ix5 b g r q k) : EReal))
      = compressed q.val (argQ V b q g r) (rows 255 fun k => argCK V b k g) (fun k => rows 255 (fun k => argCV V b k g) k d) := by
  refine sum_attend (fun k : Fin 256 => argCV V b k g d) _ _ (fun k : Fin 256 => (res_main_v36 V (ix5 b g r q k) : EReal)) (fun k => ?_) (fun k => v36_apply V b g r q k)
  rw [rows_val 255]

theorem ref_selected (V : Valuation τ sig (Elt Ideal)) (b g : Fin 2) (r : Fin 4) (q : Fin 16384) (d : Fin 64) :
    (∑ k : Fin 16384, argS V b k 1 g d * (probs (res_main_v101 V) (res_main_v103 V) (ix5 b g r q k) : EReal))
      = selected q.val (Chosen q.val (fun ρ => argQ V b q g ρ) (rows 255 fun k => argCK V b k g)) (argQ V b q g r)
        (rows 16383 fun k => argS V b k 0 g) (fun k => rows 16383 (fun k => argS V b k 1 g) k d) := by
  refine sum_attend (fun k : Fin 16384 => argS V b k 1 g d) _ _ (fun k : Fin 16384 => (probs (res_main_v101 V) (res_main_v103 V) (ix5 b g r q k) : EReal)) (fun k => ?_) (fun k => selected_weights V b g r q k)
  rw [rows_val 16383]

theorem ref_windowed (V : Valuation τ sig (Elt Ideal)) (b g : Fin 2) (r : Fin 4) (q : Fin 16384) (d : Fin 64) :
    (∑ k : Fin 16384, argW V b k 1 g d * (probs (res_main_v137 V) (res_main_v139 V) (ix5 b g r q k) : EReal))
      = windowed q.val (argQ V b q g r) (rows 16383 fun k => argW V b k 0 g) (fun k => rows 16383 (fun k => argW V b k 1 g) k d) := by
  refine sum_attend (fun k : Fin 16384 => argW V b k 1 g d) _ _ (fun k : Fin 16384 => (probs (res_main_v137 V) (res_main_v139 V) (ix5 b g r q k) : EReal)) (fun k => ?_) (fun k => windowed_weights V b g r q k)
  rw [rows_val 16383]

theorem result_apply (V : Valuation τ sig (Elt Ideal)) (y : Fin 512) (x : Fin 32768) :
    (mix (res_main_v153 V) (V (Proc.tc.devRef main_arg3)) (V (Proc.tc.devRef main_arg4)) (V (Proc.tc.devRef main_arg5)) (res_main_v36 V)
      (probs (res_main_v101 V) (res_main_v103 V)) (probs (res_main_v137 V) (res_main_v139 V)) (ix2 y x) : EReal)
      = layer (argQ V) (argG V) (argCK V) (argCV V) (argS V) (argW V) ⟨x.val / 16384, by omega⟩ ⟨x.val % 16384, by omega⟩ ⟨y.val / 256, by omega⟩
        ⟨y.val / 64 % 4, by omega⟩ ⟨y.val % 64, by omega⟩ := by
  obtain ⟨b, hb⟩ : ∃ b : Fin 2, b = ⟨x.val / 16384, by omega⟩ := ⟨_, rfl⟩
  obtain ⟨q, hq⟩ : ∃ q : Fin 16384, q = ⟨x.val % 16384, by omega⟩ := ⟨_, rfl⟩
  obtain ⟨g, hg⟩ : ∃ g : Fin 2, g = ⟨y.val / 256, by omega⟩ := ⟨_, rfl⟩
  obtain ⟨r, hr⟩ : ∃ r : Fin 4, r = ⟨y.val / 64 % 4, by omega⟩ := ⟨_, rfl⟩
  obtain ⟨d, hd⟩ : ∃ d : Fin 64, d = ⟨y.val % 64, by omega⟩ := ⟨_, rfl⟩
  rw [mix_apply _ _ _ _ _ _ _ y x b g q r d hb hq hg hr hd, ← hb, ← hq, ← hg, ← hr, ← hd, v153_apply, v153_apply, v153_apply]
  have e1 := ref_compressed V b g r q d
  have e2 := ref_selected V b g r q d
  have e3 := ref_windowed V b g r q d
  unfold layer gated
  rw [← e1, ← e2, ← e3]
  rfl

end Cert.ReferenceIdeal.Value
-- ==== Proof.Algebraic.lean ====
/-
  The kernel and the reference compute the same: each leaves the layer of its arguments.
-/
module

public import proofs.«01_k».proof.Defs
public import proofs.«01_k».proof.Proof.Output
public import proofs.«01_k».proof.Proof.RefValue

@[expose] public section

set_option maxRecDepth 16384

noncomputable section

namespace Cert.Nsa

open Cert.Attn
open Idealize.ShloMosaic Idealize.ShloMosaic.StableHlo Idealize.SL.Sem

variable (m : (ℓ : Loc KernelIdeal.nD KernelIdeal.τ KernelIdeal.sig) → Buf (Elt Ideal) ℓ)
  (m' : (ℓ : Loc ReferenceIdeal.nD ReferenceIdeal.τ ReferenceIdeal.sig) → Buf (Elt Ideal) ℓ) (c : Dev KernelIdeal.nD)

/-- The two memories hold the same arguments. -/
structure Agree : Prop where
  q : m' ((c.tc : Thread ReferenceIdeal.nD ReferenceIdeal.τ).loc ReferenceIdeal.main_arg0) = m ((c.tc : Thread KernelIdeal.nD KernelIdeal.τ).loc KernelIdeal.main_arg0)
  g : m' ((c.tc : Thread ReferenceIdeal.nD ReferenceIdeal.τ).loc ReferenceIdeal.main_arg1) = m ((c.tc : Thread KernelIdeal.nD KernelIdeal.τ).loc KernelIdeal.main_arg1)
  ck : m' ((c.tc : Thread ReferenceIdeal.nD ReferenceIdeal.τ).loc ReferenceIdeal.main_arg2) = m ((c.tc : Thread KernelIdeal.nD KernelIdeal.τ).loc KernelIdeal.main_arg2)
  cv : m' ((c.tc : Thread ReferenceIdeal.nD ReferenceIdeal.τ).loc ReferenceIdeal.main_arg3) = m ((c.tc : Thread KernelIdeal.nD KernelIdeal.τ).loc KernelIdeal.main_arg3)
  s : m' ((c.tc : Thread ReferenceIdeal.nD ReferenceIdeal.τ).loc ReferenceIdeal.main_arg4) = m ((c.tc : Thread KernelIdeal.nD KernelIdeal.τ).loc KernelIdeal.main_arg4)
  w : m' ((c.tc : Thread ReferenceIdeal.nD ReferenceIdeal.τ).loc ReferenceIdeal.main_arg5) = m ((c.tc : Thread KernelIdeal.nD KernelIdeal.τ).loc KernelIdeal.main_arg5)

variable {m m' c} (h : Agree m m' c)
include h

theorem Agree.argQ : ReferenceIdeal.Value.argQ (launchContents m' c) = KernelIdeal.Nsa.argQ m c := by
  funext b q g r d
  exact congrFun h.q (ix5 b q g r d)

theorem Agree.argG : ReferenceIdeal.Value.argG (launchContents m' c) = KernelIdeal.Nsa.argG m c := by
  funext b q j g r
  exact congrFun h.g (ix3 b q ⟨j.val * 8 + g.val * 4 + r.val, by omega⟩)

theorem Agree.argCK : ReferenceIdeal.Value.argCK (launchContents m' c) = KernelIdeal.Nsa.argCK m c := by
  funext b k g d
  exact congrFun h.ck (ix4 b k g d)

theorem Agree.argCV : ReferenceIdeal.Value.argCV (launchContents m' c) = KernelIdeal.Nsa.argCV m c := by
  funext b k g d
  exact congrFun h.cv (ix4 b k g d)

theorem Agree.argS : ReferenceIdeal.Value.argS (launchContents m' c) = KernelIdeal.Nsa.argS m c := by
  funext b k z g d
  exact congrFun h.s (ix5 b k z g d)

theorem Agree.argW : ReferenceIdeal.Value.argW (launchContents m' c) = KernelIdeal.Nsa.argW m c := by
  funext b k z g d
  exact congrFun h.w (ix5 b k z g d)

open ReferenceIdeal ReferenceIdeal.Value in
/-- The reference's result is the kernel's, entry by entry. -/
theorem Agree.entry (y : Fin 512) (x : Fin 32768) :
    (mix (res_main_v153 (launchContents m' c)) (launchContents m' c (Proc.tc.devRef main_arg3)) (launchContents m' c (Proc.tc.devRef main_arg4)) (launchContents m' c (Proc.tc.devRef main_arg5))
      (res_main_v36 (launchContents m' c)) (probs (res_main_v101 (launchContents m' c)) (res_main_v103 (launchContents m' c)))
      (probs (res_main_v137 (launchContents m' c)) (res_main_v139 (launchContents m' c))) (ix2 y x) : EReal) = KernelIdeal.Nsa.result m c y x := by
  refine (result_apply (launchContents m' c) y x).trans ?_
  rw [h.argQ, h.argG, h.argCK, h.argCV, h.argS, h.argW]
  rfl

open ReferenceIdeal ReferenceIdeal.Value in
theorem Agree.result : (mix (res_main_v153 (launchContents m' c)) (launchContents m' c (Proc.tc.devRef main_arg3)) (launchContents m' c (Proc.tc.devRef main_arg4)) (launchContents m' c (Proc.tc.devRef main_arg5))
      (res_main_v36 (launchContents m' c)) (probs (res_main_v101 (launchContents m' c)) (res_main_v103 (launchContents m' c)))
      (probs (res_main_v137 (launchContents m' c)) (res_main_v139 (launchContents m' c)))) = KernelIdeal.Nsa.resultBuf m c := by
  funext z
  have e : z = ix2 (z 0) (z 1) := by
    funext a
    match a with
    | ⟨0, _⟩ => rfl
    | ⟨1, _⟩ => rfl
  rw [e]
  exact h.entry (z 0) (z 1)

omit h in
/-- The kernel and the reference end with equal results from equal arguments. -/
theorem algebraic : @Cert.algebraic_KernelIdeal_ReferenceIdeal Cert.KernelIdeal.Gen.facts Cert.ReferenceIdeal.Gen.facts :=
  fun m g m' g' _ hin => ⟨fun c => KernelIdeal.Nsa.resultBuf m c, KernelIdeal.Nsa.run_result m g,
    (θ_run ReferenceIdeal.defs _ _).mono
      (fun r h c => ⟨(h c).1.trans (Agree.result ⟨(hin c).1, (hin c).2.1, (hin c).2.2.1, (hin c).2.2.2.1, (hin c).2.2.2.2.1, (hin c).2.2.2.2.2⟩), (h c).2⟩)
      (ReferenceIdeal.Value.run m' g')⟩

end Cert.Nsa

end
-- ==== Proof.Project.lean ====
/-
  The layer's input projection: a token's features are normalized and multiplied with the columns of the weights.
-/
module

public import Idealize.ShloMosaic.PureOps.Ideal
public import Idealize.ShloMosaic.Lib.Pointwise

@[expose] public section

noncomputable section

namespace Cert.Proj

open Idealize.ShloMosaic

/-- A token's features over the root of their mean square (the small constant added), times the norm's weights. -/
def normed (x g : Fin 1024 → EReal) (k : Fin 1024) : EReal :=
  x k * Ideal.rsqrt (Ideal.div (∑ i, x i * x i) (Ideal.ofBits .f32 0x44800000#32) + Ideal.ofBits .f32 0x358637BD#32) * g k

/-- One projected feature of a token. -/
def feature (x g w : Fin 1024 → EReal) : EReal := ∑ k, normed x g k * w k

theorem feature_comm (x g w : Fin 1024 → EReal) : ∑ k, w k * normed x g k = feature x g w :=
  Finset.sum_congr rfl fun k _ => mul_comm _ _

theorem feature_zero (x g : Fin 1024 → EReal) : feature x g (fun _ => 0) = 0 := by
  unfold feature
  simp

/-- The arguments of the projection. -/
structure Args where
  x : Fin 2 → Fin 16384 → Fin 1024 → EReal
  g : Fin 1024 → EReal
  w : Fin 1024 → Fin 4384 → EReal
  bi : Fin 4 → EReal
  bf : Fin 4 → EReal

variable (a : Args)

/-- Feature `j` of token `q` of sequence `b`. -/
def Args.feat (b : Fin 2) (q : Fin 16384) (j : Fin 4384) : EReal := feature (a.x b q) a.g fun k => a.w k j

/-- The same with the two sequences' tokens in one row. -/
def Args.flat (r : Fin 32768) (j : Fin 4384) : EReal := a.feat ⟨r.val / 16384, by omega⟩ ⟨r.val % 16384, by omega⟩ j

/-- `n` features of every token, from the `o`-th on: with the tokens as rows, and sequence by sequence with the tokens as columns. -/
def Args.rows {n : Nat} (o : Nat) (h : o + n ≤ 4384) (r : Fin 32768) (j : Fin n) : EReal := a.flat r ⟨o + j.val, by omega⟩

def Args.seqs {n : Nat} (o : Nat) (h : o + n ≤ 4384) (b : Fin 2) (j : Fin n) (q : Fin 16384) : EReal := a.feat b q ⟨o + j.val, by omega⟩

theorem Args.flat_of {x g w : Fin 1024 → EReal} (r : Fin 32768) (j : Fin 4384) (hx : x = a.x ⟨r.val / 16384, by omega⟩ ⟨r.val % 16384, by omega⟩) (hg : g = a.g)
    (hw : ∀ k, w k = a.w k j) : feature x g w = a.flat r j := by
  rw [hx, hg, funext hw]
  rfl

theorem Args.flat_eq (b : Fin 2) (q : Fin 16384) (r : Fin 32768) (hr : r.val = 16384 * b.val + q.val) (j : Fin 4384) : a.flat r j = a.feat b q j := by
  have eb : (⟨r.val / 16384, by omega⟩ : Fin 2) = b := Fin.ext (by show r.val / 16384 = b.val; omega)
  have eq : (⟨r.val % 16384, by omega⟩ : Fin 16384) = q := Fin.ext (by show r.val % 16384 = q.val; omega)
  unfold Args.flat
  rw [eb, eq]

/-- The gates: the input and forget gates with their biases, then the branch gates. -/
def Args.gate (r : Fin 32768) (j : Fin 32) : EReal :=
  if h : j.val < 4 then a.flat r ⟨2560 + j.val, by omega⟩ + a.bi ⟨j.val, h⟩
  else if h : j.val < 8 then a.flat r ⟨2560 + j.val, by omega⟩ + a.bf ⟨j.val - 4, by omega⟩
  else a.flat r ⟨3840 + j.val, by omega⟩

/-- The gates in rows of 128, zeros after them. -/
def Args.small (r : Fin 32768) (j : Fin 128) : EReal := if h : j.val < 32 then a.gate r ⟨j.val, h⟩ else 0

end Cert.Proj

end
-- ==== Proof.ProjStep.lean ====
/-
  What a step of the projection computes of its blocks, read at an entry.
-/
module

public import proofs.«01_k».proof.Proof.Gen.Kernel2Ideal.Skeleton
public import proofs.«01_k».proof.Proof.Project

@[expose] public section

set_option maxRecDepth 16384

noncomputable section

namespace Cert.Kernel2Ideal.Proj

open Cert.Kernel2Ideal Cert.Kernel2Ideal.Gen Cert.Proj
open Idealize.ShloMosaic Idealize.SL.Sem

variable (X : Vec Ideal S256x1024 .f32) (G : Vec Ideal S1x1024 .f32)

/-- A row's features and the norm's weights, by their index. -/
def rowOf (i : Fin 256) (k : Fin 1024) : EReal := X (ix2 i k)
def gOf (k : Fin 1024) : EReal := G (ix2 0 k)

theorem pay1_apply (i : Fin 256) (k : Fin 1024) : (k0_pay1 (F := Ideal) X G (ix2 i k) : EReal) = normed (rowOf X i) (gOf G) k := by
  pointwise [k0_pay1]
  rfl

theorem pay2_apply (W : Vec Ideal S1024x1536 .bf16) (i : Fin 256) (j : Fin 1536) :
    (k0_pay2 (F := Ideal) X G W (ix2 i j) : EReal) = feature (rowOf X i) (gOf G) fun k => W (ix2 k j) := by
  pointwise [k0_pay2]
  simp only [pay1_apply]
  rfl

theorem pay3_apply (W : Vec Ideal S1024x1024 .bf16) (i : Fin 256) (j : Fin 1024) :
    (k0_pay3 (F := Ideal) X G W (ix2 i j) : EReal) = feature (rowOf X i) (gOf G) fun k => W (ix2 k j) := by
  pointwise [k0_pay3]
  simp only [pay1_apply]
  rfl

theorem pay4_apply (W : Vec Ideal S1024x512 .bf16) (i : Fin 256) (j : Fin 512) :
    (k0_pay4 (F := Ideal) X G W (ix2 i j) : EReal) = feature (rowOf X i) (gOf G) fun k => W (ix2 k j) := by
  pointwise [k0_pay4]
  simp only [pay1_apply]
  rfl

theorem pay8_apply (W : Vec Ideal S1024x128 .bf16) (B : Vec Ideal S1x128 .f32) (i : Fin 256) (j : Fin 128) :
    (k0_pay8 (F := Ideal) (k0_pay1 X G) W B (ix2 i j) : EReal) = (feature (rowOf X i) (gOf G) fun k => W (ix2 k j)) + (B (ix2 0 j) : EReal) := by
  pointwise [k0_pay8]
  simp only [pay1_apply]
  rfl

theorem pay6_apply (W : Vec Ideal S1024x128 .bf16) (i : Fin 256) (j : Fin 128) :
    (k0_pay6 (F := Ideal) (k0_pay1 X G) (k0_pay5 W) (constant S256x128 .f32 0x00000000#32) (ix2 i j) : EReal) = feature (rowOf X i) (gOf G) fun k => W (ix2 k j) := by
  pointwise [k0_pay6, k0_pay5]
  simp only [pay1_apply]
  rfl

theorem pay7_apply (W : Vec Ideal S1024x128 .bf16) (i : Fin 256) (j : Fin 128) :
    (k0_pay7 (F := Ideal) (k0_pay1 X G) W (ix2 i j) : EReal) = feature (rowOf X i) (gOf G) fun k => W (ix2 k j) := by
  pointwise [k0_pay7]
  simp only [pay1_apply]
  rfl

theorem pay9_apply (W : Vec Ideal S512x1024 .bf16) (i : Fin 256) (j : Fin 512) :
    (k0_pay9 (F := Ideal) (k0_pay1 X G) W (ix2 j i) : EReal) = (feature (rowOf X i) (gOf G) fun k => W (ix2 j k)) * Ideal.ofBits .f32 0x3E38AA3B#32 := by
  pointwise [k0_pay9]
  simp only [pay1_apply]
  rw [feature_comm (rowOf X i) (gOf G) fun k => W (ix2 j k)]

theorem pay10_apply (W : Vec Ideal S256x1024 .bf16) (i : Fin 256) (j : Fin 256) :
    (k0_pay10 (F := Ideal) (k0_pay1 X G) W (ix3 0 j i) : EReal) = feature (rowOf X i) (gOf G) fun k => W (ix2 j k) := by
  pointwise [k0_pay10]
  simp only [pay1_apply]
  rw [feature_comm (rowOf X i) (gOf G) fun k => W (ix2 j k)]

theorem pay12_apply (W : Vec Ideal S256x1024 .bf16) (i : Fin 256) (j : Fin 256) :
    (k0_pay12 (F := Ideal) (k0_pay1 X G) W (ix3 0 j i) : EReal) = feature (rowOf X i) (gOf G) fun k => W (ix2 j k) := by
  pointwise [k0_pay12, k0_pay11]
  simp only [pay1_apply]
  rw [feature_comm (rowOf X i) (gOf G) fun k => W (ix2 j k)]

theorem pay15_apply (W : Vec Ideal S256x1024 .bf16) (i : Fin 256) (j : Fin 256) :
    (k0_pay15 (F := Ideal) (k0_pay1 X G) W (ix3 0 j i) : EReal) = feature (rowOf X i) (gOf G) fun k => W (ix2 j k) := by
  pointwise [k0_pay15, k0_pay14]
  simp only [pay1_apply]
  rw [feature_comm (rowOf X i) (gOf G) fun k => W (ix2 j k)]

theorem pay13_apply (W : Vec Ideal S256x1024 .bf16) (i : Fin 256) (j : Fin 128) :
    (k0_pay13 (F := Ideal) (k0_pay1 X G) W (ix3 0 j i) : EReal) = feature (rowOf X i) (gOf G) fun k => W (ix2 (⟨128 + j.val, by omega⟩ : Fin 256) k) := by
  pointwise [k0_pay13, k0_pay11]
  simp only [pay1_apply]
  rw [feature_comm (rowOf X i) (gOf G) fun k => W (ix2 (⟨128 + j.val, by omega⟩ : Fin 256) k)]

theorem pay16_apply (W : Vec Ideal S256x1024 .bf16) (i : Fin 256) (j : Fin 128) :
    (k0_pay16 (F := Ideal) (k0_pay1 X G) W (ix3 0 j i) : EReal) = feature (rowOf X i) (gOf G) fun k => W (ix2 (⟨128 + j.val, by omega⟩ : Fin 256) k) := by
  pointwise [k0_pay16, k0_pay14]
  simp only [pay1_apply]
  rw [feature_comm (rowOf X i) (gOf G) fun k => W (ix2 (⟨128 + j.val, by omega⟩ : Fin 256) k)]

theorem pay17_apply (W : Vec Ideal S32x1024 .bf16) (B : Vec Ideal S32x1 .f32) (i : Fin 256) (j : Fin 32) :
    (k0_pay17 (F := Ideal) (k0_pay1 X G) W B (ix2 j i) : EReal) = (feature (rowOf X i) (gOf G) fun k => W (ix2 j k)) + (B (ix2 j 0) : EReal) := by
  pointwise [k0_pay17]
  simp only [pay1_apply]
  rw [feature_comm (rowOf X i) (gOf G) fun k => W (ix2 j k)]

end Cert.Kernel2Ideal.Proj

end
-- ==== Proof.ProjBlock.lean ====
/-
  What a step of the projection leaves in each output's block, in the blocks it finds.
-/
module

public import proofs.«01_k».proof.Proof.Gen.Kernel2Ideal.Frame
public import proofs.«01_k».proof.Proof.ProjStep
public import Idealize.ShloMosaic.Lib.Pipeline.ValueKit

@[expose] public section

set_option maxRecDepth 16384

noncomputable section

namespace Cert.Kernel2Ideal.Proj

open Cert.Kernel2Ideal Cert.Kernel2Ideal.Gen Cert.Proj
open Idealize.ShloMosaic Idealize.SL.Sem

variable (x0 : Vec Ideal S256x1024 .f32) (x1 : Vec Ideal S1x1024 .f32) (x2 : Vec Ideal S1024x3456 .bf16) (x3 : Vec Ideal S1312x1024 .bf16) (x4 : Vec Ideal S1x128 .f32) (x5 : Vec Ideal S32x1 .f32)

theorem pay18_eq : k0_pay18 x0 x1 x2 x3 x4 x5 = k0_pay1 x0 x1 := by
  unfold k0_pay18
  frame_out

/-- Feature `p` of a row, by the rearranged weights' columns and by their rows. -/
def byCol (i : Fin 256) (p : Fin 3456) : EReal := feature (rowOf x0 i) (gOf x1) fun k => x2 (ix2 k p)
def byRow (i : Fin 256) (p : Fin 1312) : EReal := feature (rowOf x0 i) (gOf x1) fun k => x3 (ix2 p k)

theorem byCol_of (w : Fin 1024 → EReal) (i : Fin 256) (p : Fin 3456) (h : ∀ k, w k = x2 (ix2 k p)) : feature (rowOf x0 i) (gOf x1) w = byCol x0 x1 x2 i p :=
  congrArg (feature (rowOf x0 i) (gOf x1)) (funext h)

theorem byRow_of (w : Fin 1024 → EReal) (i : Fin 256) (p : Fin 1312) (h : ∀ k, w k = x3 (ix2 p k)) : feature (rowOf x0 i) (gOf x1) w = byRow x0 x1 x3 i p :=
  congrArg (feature (rowOf x0 i) (gOf x1)) (funext h)

theorem out6 (i : Fin 256) (j : Fin 1536) : (out0_6 x0 x1 x2 x3 x4 x5 (ix2 i j) : EReal) = byCol x0 x1 x2 i ⟨j.val, by omega⟩ := by
  unfold out0_6
  frame_out
  refine (pay2_apply x0 x1 _ i j).trans (byCol_of x0 x1 x2 _ i _ fun k => ?_)
  pointwise []

theorem out7 (i : Fin 256) (j : Fin 1024) : (out0_7 x0 x1 x2 x3 x4 x5 (ix2 i j) : EReal) = byCol x0 x1 x2 i ⟨1536 + j.val, by omega⟩ := by
  unfold out0_7
  frame_out
  refine (pay3_apply x0 x1 _ i j).trans (byCol_of x0 x1 x2 _ i _ fun k => ?_)
  pointwise []

theorem out8 (i : Fin 256) (j : Fin 512) : (out0_8 x0 x1 x2 x3 x4 x5 (ix2 i j) : EReal) = byCol x0 x1 x2 i ⟨2560 + j.val, by omega⟩ := by
  unfold out0_8
  frame_out
  refine (pay4_apply x0 x1 _ i j).trans (byCol_of x0 x1 x2 _ i _ fun k => ?_)
  pointwise []

theorem out9 (i : Fin 256) (j : Fin 128) : (out0_9 x0 x1 x2 x3 x4 x5 (ix2 i j) : EReal) = byCol x0 x1 x2 i ⟨3328 + j.val, by omega⟩ + (x4 (ix2 0 j) : EReal) := by
  unfold out0_9
  frame_out
  rw [pay18_eq]
  refine (pay8_apply x0 x1 _ _ i j).trans (congrArg (· + (x4 (ix2 0 j) : EReal)) (byCol_of x0 x1 x2 _ i _ fun k => ?_))
  pointwise []

theorem out10 (i : Fin 256) (j : Fin 128) : (out0_10 x0 x1 x2 x3 x4 x5 (ix2 i j) : EReal) = byCol x0 x1 x2 i ⟨3072 + j.val, by omega⟩ := by
  unfold out0_10
  frame_out
  rw [pay18_eq]
  refine (pay6_apply x0 x1 _ i j).trans (byCol_of x0 x1 x2 _ i _ fun k => ?_)
  pointwise []

theorem out11 (i : Fin 256) (j : Fin 128) : (out0_11 x0 x1 x2 x3 x4 x5 (ix2 i j) : EReal) = byCol x0 x1 x2 i ⟨3200 + j.val, by omega⟩ := by
  unfold out0_11
  frame_out
  rw [pay18_eq]
  refine (pay7_apply x0 x1 _ i j).trans (byCol_of x0 x1 x2 _ i _ fun k => ?_)
  pointwise []

theorem out12 (i : Fin 256) (j : Fin 512) : (out0_12 x0 x1 x2 x3 x4 x5 (ix2 j i) : EReal) = byRow x0 x1 x3 i ⟨j.val, by omega⟩ * Ideal.ofBits .f32 0x3E38AA3B#32 := by
  unfold out0_12
  frame_out
  rw [pay18_eq]
  refine (pay9_apply x0 x1 _ i j).trans (congrArg (· * Ideal.ofBits .f32 0x3E38AA3B#32) (byRow_of x0 x1 x3 _ i _ fun k => ?_))
  pointwise []

theorem out13 (i j : Fin 256) : (out0_13 x0 x1 x2 x3 x4 x5 (ix3 0 j i) : EReal) = byRow x0 x1 x3 i ⟨512 + j.val, by omega⟩ := by
  unfold out0_13
  frame_out
  rw [pay18_eq]
  refine (pay10_apply x0 x1 _ i j).trans (byRow_of x0 x1 x3 _ i _ fun k => ?_)
  pointwise []

theorem out14 (i j : Fin 256) : (out0_14 x0 x1 x2 x3 x4 x5 (ix3 0 j i) : EReal) = byRow x0 x1 x3 i ⟨768 + j.val, by omega⟩ := by
  unfold out0_14
  frame_out
  rw [pay18_eq]
  refine (pay12_apply x0 x1 _ i j).trans (byRow_of x0 x1 x3 _ i _ fun k => ?_)
  pointwise []

theorem out15 (i j : Fin 256) : (out0_15 x0 x1 x2 x3 x4 x5 (ix3 0 j i) : EReal) = byRow x0 x1 x3 i ⟨1024 + j.val, by omega⟩ := by
  unfold out0_15
  frame_out
  rw [pay18_eq]
  refine (pay15_apply x0 x1 _ i j).trans (byRow_of x0 x1 x3 _ i _ fun k => ?_)
  pointwise []

theorem out16 (i : Fin 256) (j : Fin 128) : (out0_16 x0 x1 x2 x3 x4 x5 (ix3 0 j i) : EReal) = byRow x0 x1 x3 i ⟨768 + (128 + j.val), by omega⟩ := by
  unfold out0_16
  frame_out
  rw [pay18_eq]
  refine (pay13_apply x0 x1 _ i j).trans (byRow_of x0 x1 x3 _ i _ fun k => ?_)
  pointwise []

theorem out17 (i : Fin 256) (j : Fin 128) : (out0_17 x0 x1 x2 x3 x4 x5 (ix3 0 j i) : EReal) = byRow x0 x1 x3 i ⟨1024 + (128 + j.val), by omega⟩ := by
  unfold out0_17
  frame_out
  rw [pay18_eq]
  refine (pay16_apply x0 x1 _ i j).trans (byRow_of x0 x1 x3 _ i _ fun k => ?_)
  pointwise []

theorem out18 (i : Fin 256) (j : Fin 32) : (out0_18 x0 x1 x2 x3 x4 x5 (ix2 j i) : EReal) = byRow x0 x1 x3 i ⟨1280 + j.val, by omega⟩ + (x5 (ix2 j 0) : EReal) := by
  unfold out0_18
  frame_out
  rw [pay18_eq]
  refine (pay17_apply x0 x1 _ _ i j).trans (congrArg (· + (x5 (ix2 j 0) : EReal)) (byRow_of x0 x1 x3 _ i _ fun k => ?_))
  pointwise []

end Cert.Kernel2Ideal.Proj

end
-- ==== Proof.ProjHost.lean ====
/-
  The arrays that the host makes of the projection's arguments, read at an entry: the weights' columns rearranged.
-/
module

public import proofs.«01_k».proof.Proof.Gen.Kernel2Ideal.Frame
public import proofs.«01_k».proof.Proof.Project
public import Idealize.ShloMosaic.Lib.StableHlo.ReadAt

@[expose] public section

set_option maxRecDepth 16384

noncomputable section

namespace Cert.Kernel2Ideal.Proj

open Cert.Kernel2Ideal Cert.Kernel2Ideal.Gen Cert.Proj
open Idealize.ShloMosaic Idealize.SL.Sem

variable (m : (b : Loc nD τ sig) → Buf (Elt Ideal) b) (c : Dev nD)

/-- The projection's arguments by their indices. -/
def args : Args where
  x b q k := m (c, Proc.tc.devRef main_arg0) (ix3 b q k)
  g k := m (c, Proc.tc.devRef main_arg1) (ix1 k)
  w k j := m (c, Proc.tc.devRef main_arg2) (ix2 k j)
  bi j := m (c, Proc.tc.devRef main_arg3) (ix1 j)
  bf j := m (c, Proc.tc.devRef main_arg4) (ix1 j)

theorem w_at (k : Fin 1024) (p q : Fin 4384) (h : p.val = q.val) : (m (c, Proc.tc.devRef main_arg2) (ix2 k p) : EReal) = (args m c).w k q :=
  congrArg (fun j : Fin 4384 => (m (c, Proc.tc.devRef main_arg2) (ix2 k j) : EReal)) (Fin.ext h)

theorem bi_at (p q : Fin 4) (h : p.val = q.val) : (m (c, Proc.tc.devRef main_arg3) (ix1 p) : EReal) = (args m c).bi q :=
  congrArg (fun j : Fin 4 => (m (c, Proc.tc.devRef main_arg3) (ix1 j) : EReal)) (Fin.ext h)

theorem bf_at (p q : Fin 4) (h : p.val = q.val) : (m (c, Proc.tc.devRef main_arg4) (ix1 p) : EReal) = (args m c).bf q :=
  congrArg (fun j : Fin 4 => (m (c, Proc.tc.devRef main_arg4) (ix1 j) : EReal)) (Fin.ext h)

theorem v25_apply (r : Fin 32768) (k : Fin 1024) : (V m c main_v25 (ix2 r k) : EReal) = (args m c).x ⟨r.val / 16384, by omega⟩ ⟨r.val % 16384, by omega⟩ k := by
  unfold V
  after_reads_at
  rfl

theorem v26_apply (k : Fin 1024) : (V m c main_v26 (ix2 0 k) : EReal) = (args m c).g k := by
  unfold V
  after_reads_at
  rfl

/-- The columns that the row-major outputs take. -/
theorem v15_qkv (k : Fin 1024) (p : Fin 3456) (q : Fin 4384) (h : p.val < 1536) (e : q.val = p.val) : (V m c main_v15 (ix2 k p) : EReal) = (args m c).w k q := by
  unfold V
  after_reads_at
  split_ifs <;> first | omega | skip
  after_reads_at
  exact w_at m c k _ q (by dsimp only; omega)

theorem v15_oz (k : Fin 1024) (p : Fin 3456) (q : Fin 4384) (h : 1536 ≤ p.val) (h' : p.val < 2560) (e : q.val = p.val) : (V m c main_v15 (ix2 k p) : EReal) = (args m c).w k q := by
  unfold V
  after_reads_at
  split_ifs <;> first | omega | skip
  after_reads_at
  exact w_at m c k _ q (by dsimp only; omega)

theorem v15_zn (k : Fin 1024) (p : Fin 3456) (q : Fin 4384) (h : 2560 ≤ p.val) (h' : p.val < 3072) (e : q.val = p.val + 1312) : (V m c main_v15 (ix2 k p) : EReal) = (args m c).w k q := by
  unfold V
  after_reads_at
  split_ifs <;> first | omega | skip
  after_reads_at
  exact w_at m c k _ q (by dsimp only; omega)

theorem v15_ks (k : Fin 1024) (p : Fin 3456) (q : Fin 4384) (h : 3072 ≤ p.val) (h' : p.val < 3200) (e : q.val = p.val + 264) : (V m c main_v15 (ix2 k p) : EReal) = (args m c).w k q := by
  unfold V
  after_reads_at
  split_ifs <;> first | omega | skip
  after_reads_at
  exact w_at m c k _ q (by dsimp only; omega)

theorem v15_kw (k : Fin 1024) (p : Fin 3456) (q : Fin 4384) (h : 3200 ≤ p.val) (h' : p.val < 3328) (e : q.val = p.val + 392) : (V m c main_v15 (ix2 k p) : EReal) = (args m c).w k q := by
  unfold V
  after_reads_at
  split_ifs <;> first | omega | skip
  after_reads_at
  exact w_at m c k _ q (by dsimp only; omega)

theorem v15_if (k : Fin 1024) (p : Fin 3456) (q : Fin 4384) (h : 3328 ≤ p.val) (h' : p.val < 3336) (e : q.val + 768 = p.val) : (V m c main_v15 (ix2 k p) : EReal) = (args m c).w k q := by
  unfold V
  after_reads_at
  split_ifs <;> first | omega | skip
  after_reads_at
  split_ifs <;> first | omega | skip
  all_goals
    after_reads_at
    exact w_at m c k _ q (by dsimp only; omega)

theorem v15_g (k : Fin 1024) (p : Fin 3456) (q : Fin 4384) (h : 3336 ≤ p.val) (h' : p.val < 3360) (e : q.val = p.val + 512) : (V m c main_v15 (ix2 k p) : EReal) = (args m c).w k q := by
  unfold V
  after_reads_at
  split_ifs <;> first | omega | skip
  after_reads_at
  split_ifs <;> first | omega | skip
  after_reads_at
  exact w_at m c k _ q (by dsimp only; omega)

theorem v15_zero (k : Fin 1024) (p : Fin 3456) (h : 3360 ≤ p.val) : (V m c main_v15 (ix2 k p) : EReal) = (0 : EReal) := by
  unfold V
  after_reads_at
  split_ifs <;> first | omega | skip
  after_reads_at
  split_ifs <;> first | omega | skip
  after_reads_at

/-- The columns that the outputs by features take, as rows. -/
theorem v19_q (k : Fin 1024) (p : Fin 1312) (q : Fin 4384) (h : p.val < 1280) (e : q.val = p.val + 2568) : (V m c main_v19 (ix2 p k) : EReal) = (args m c).w k q := by
  unfold V
  after_reads_at
  split_ifs <;> first | omega | skip
  all_goals
    after_reads_at
    exact w_at m c k _ q (by dsimp only; omega)

theorem v19_if (k : Fin 1024) (p : Fin 1312) (q : Fin 4384) (h : 1280 ≤ p.val) (h' : p.val < 1288) (e : q.val = p.val + 1280) : (V m c main_v19 (ix2 p k) : EReal) = (args m c).w k q := by
  unfold V
  after_reads_at
  split_ifs <;> first | omega | skip
  after_reads_at
  split_ifs <;> first | omega | skip
  all_goals
    after_reads_at
    exact w_at m c k _ q (by dsimp only; omega)

theorem v19_g (k : Fin 1024) (p : Fin 1312) (q : Fin 4384) (h : 1288 ≤ p.val) (e : q.val = p.val + 2560) : (V m c main_v19 (ix2 p k) : EReal) = (args m c).w k q := by
  unfold V
  after_reads_at
  split_ifs <;> first | omega | skip
  after_reads_at
  split_ifs <;> first | omega | skip
  after_reads_at
  exact w_at m c k _ q (by dsimp only; omega)

/-- The gates' biases, zeros after them. -/
theorem v22_apply (j : Fin 128) : (V m c main_v22 (ix2 0 j) : EReal)
    = if h : j.val < 4 then (args m c).bi ⟨j.val, h⟩ else if h : j.val < 8 then (args m c).bf ⟨j.val - 4, by omega⟩ else 0 := by
  unfold V
  after_reads_at
  split_ifs <;> first | omega | skip
  all_goals after_reads_at
  · rfl
  · rw [dif_pos (show j.val < 8 by omega)]
    rfl
  · rw [dif_neg (show ¬ j.val < 8 by omega)]

theorem v24_apply (j : Fin 32) : (V m c main_v24 (ix2 j 0) : EReal)
    = if h : j.val < 4 then (args m c).bi ⟨j.val, h⟩ else if h : j.val < 8 then (args m c).bf ⟨j.val - 4, by omega⟩ else 0 := by
  unfold V
  after_reads_at
  split_ifs <;> first | omega | skip
  all_goals after_reads_at
  · rfl
  · rw [dif_pos (show j.val < 8 by omega)]
    rfl
  · rw [dif_neg (show ¬ j.val < 8 by omega)]

end Cert.Kernel2Ideal.Proj

end
-- ==== Proof.ProjEntry.lean ====
/-
  What a step of the projection leaves in the blocks of its outputs: features and gates of its arguments' tokens.
-/
module

public import proofs.«01_k».proof.Proof.Gen.Kernel2Ideal.Value
public import proofs.«01_k».proof.Proof.ProjBlock
public import proofs.«01_k».proof.Proof.ProjHost

@[expose] public section

set_option maxRecDepth 16384

noncomputable section

namespace Cert.Kernel2Ideal.Proj

open Cert.Kernel2Ideal Cert.Kernel2Ideal.Gen Cert.Proj
open Idealize.ShloMosaic Idealize.SL.Sem

variable (m : (b : Loc nD τ sig) → Buf (Elt Ideal) b) (c : Dev nD)

theorem index_0 : ∀ t : Fin cfg0.N, win0_0.index t = ![t.val, 0] := (by decide +kernel : ∀ t : Fin grid0.N, _)
theorem index_1 : ∀ t : Fin cfg0.N, win0_1.index t = ![0, 0] := (by decide +kernel : ∀ t : Fin grid0.N, _)
theorem index_2 : ∀ t : Fin cfg0.N, win0_2.index t = ![0, 0] := (by decide +kernel : ∀ t : Fin grid0.N, _)
theorem index_3 : ∀ t : Fin cfg0.N, win0_3.index t = ![0, 0] := (by decide +kernel : ∀ t : Fin grid0.N, _)
theorem index_4 : ∀ t : Fin cfg0.N, win0_4.index t = ![0, 0] := (by decide +kernel : ∀ t : Fin grid0.N, _)
theorem index_5 : ∀ t : Fin cfg0.N, win0_5.index t = ![0, 0] := (by decide +kernel : ∀ t : Fin grid0.N, _)
theorem index_6 : ∀ t : Fin cfg0.N, win0_6.index t = ![t.val, 0] := (by decide +kernel : ∀ t : Fin grid0.N, _)
theorem index_7 : ∀ t : Fin cfg0.N, win0_7.index t = ![t.val, 0] := (by decide +kernel : ∀ t : Fin grid0.N, _)
theorem index_8 : ∀ t : Fin cfg0.N, win0_8.index t = ![t.val, 0] := (by decide +kernel : ∀ t : Fin grid0.N, _)
theorem index_9 : ∀ t : Fin cfg0.N, win0_9.index t = ![t.val, 0] := (by decide +kernel : ∀ t : Fin grid0.N, _)
theorem index_10 : ∀ t : Fin cfg0.N, win0_10.index t = ![t.val, 0] := (by decide +kernel : ∀ t : Fin grid0.N, _)
theorem index_11 : ∀ t : Fin cfg0.N, win0_11.index t = ![t.val, 0] := (by decide +kernel : ∀ t : Fin grid0.N, _)
theorem index_12 : ∀ t : Fin cfg0.N, win0_12.index t = ![0, t.val] := (by decide +kernel : ∀ t : Fin grid0.N, _)
theorem index_13 : ∀ t : Fin cfg0.N, win0_13.index t = ![t.val / 64, 0, t.val % 64] := (by decide +kernel : ∀ t : Fin grid0.N, _)
theorem index_14 : ∀ t : Fin cfg0.N, win0_14.index t = ![t.val / 64, 0, t.val % 64] := (by decide +kernel : ∀ t : Fin grid0.N, _)
theorem index_15 : ∀ t : Fin cfg0.N, win0_15.index t = ![t.val / 64, 0, t.val % 64] := (by decide +kernel : ∀ t : Fin grid0.N, _)
theorem index_16 : ∀ t : Fin cfg0.N, win0_16.index t = ![t.val / 64, 0, t.val % 64] := (by decide +kernel : ∀ t : Fin grid0.N, _)
theorem index_17 : ∀ t : Fin cfg0.N, win0_17.index t = ![t.val / 64, 0, t.val % 64] := (by decide +kernel : ∀ t : Fin grid0.N, _)
theorem index_18 : ∀ t : Fin cfg0.N, win0_18.index t = ![0, t.val] := (by decide +kernel : ∀ t : Fin grid0.N, _)

theorem point_lt (t : Fin cfg0.N) : t.val < 128 := lt_of_lt_of_eq t.isLt (by decide +kernel : grid0.N = 128)

/-- The token that a step's row is: in the one row of both sequences, and by sequence and position. -/
def tok (t : Fin cfg0.N) (i : Fin 256) : Fin 32768 := ⟨256 * t.val + i.val, by have := point_lt t; omega⟩
def sq (t : Fin cfg0.N) : Fin 2 := ⟨t.val / 64, by have := point_lt t; omega⟩
def at' (t : Fin cfg0.N) (i : Fin 256) : Fin 16384 := ⟨256 * (t.val % 64) + i.val, by omega⟩

theorem tok_eq (t : Fin cfg0.N) (i : Fin 256) : (tok t i).val = 16384 * (sq t).val + (at' t i).val := by
  show 256 * t.val + i.val = 16384 * (t.val / 64) + (256 * (t.val % 64) + i.val)
  omega

theorem blk_0 (t : Fin cfg0.N) (i : Fin 256) :
    rowOf (iblk m c 0 t) i = (args m c).x ⟨(tok t i).val / 16384, by omega⟩ ⟨(tok t i).val % 16384, by omega⟩ := by
  funext k
  have h : (win0_0.blk t).view.emb (ix2 i k) = ix2 (tok t i) k := by
    have ht : (tok t i).val = 256 * t.val + i.val := rfl
    blk_ext [index_0]
  have h' : iblk m c 0 t = (win0_0.blk t).view.read (Elt Ideal) (V m c main_v25) := rfl
  unfold rowOf
  rw [h', View.read_apply, cast_eq, h, v25_apply]

theorem blk_1 (t : Fin cfg0.N) : gOf (iblk m c 1 t) = (args m c).g := by
  funext k
  have h : (win0_1.blk t).view.emb (ix2 0 k) = ix2 0 k := by blk_ext [index_1]
  have h' : iblk m c 1 t = (win0_1.blk t).view.read (Elt Ideal) (V m c main_v26) := rfl
  unfold gOf
  rw [h', View.read_apply, cast_eq, h, v26_apply]

theorem blk_2 (t : Fin cfg0.N) (k : Fin 1024) (p : Fin 3456) : (iblk m c 2 t (ix2 k p) : EReal) = V m c main_v15 (ix2 k p) := by
  have h : (win0_2.blk t).view.emb (ix2 k p) = ix2 k p := by blk_ext [index_2]
  have h' : iblk m c 2 t = (win0_2.blk t).view.read (Elt Ideal) (V m c main_v15) := rfl
  rw [h', View.read_apply, cast_eq, h]

theorem blk_3 (t : Fin cfg0.N) (k : Fin 1024) (p : Fin 1312) : (iblk m c 3 t (ix2 p k) : EReal) = V m c main_v19 (ix2 p k) := by
  have h : (win0_3.blk t).view.emb (ix2 p k) = ix2 p k := by blk_ext [index_3]
  have h' : iblk m c 3 t = (win0_3.blk t).view.read (Elt Ideal) (V m c main_v19) := rfl
  rw [h', View.read_apply, cast_eq, h]

theorem blk_4 (t : Fin cfg0.N) (j : Fin 128) : (iblk m c 4 t (ix2 0 j) : EReal) = V m c main_v22 (ix2 0 j) := by
  have h : (win0_4.blk t).view.emb (ix2 0 j) = ix2 0 j := by blk_ext [index_4]
  have h' : iblk m c 4 t = (win0_4.blk t).view.read (Elt Ideal) (V m c main_v22) := rfl
  rw [h', View.read_apply, cast_eq, h]

theorem blk_5 (t : Fin cfg0.N) (j : Fin 32) : (iblk m c 5 t (ix2 j 0) : EReal) = V m c main_v24 (ix2 j 0) := by
  have h : (win0_5.blk t).view.emb (ix2 j 0) = ix2 j 0 := by blk_ext [index_5]
  have h' : iblk m c 5 t = (win0_5.blk t).view.read (Elt Ideal) (V m c main_v24) := rfl
  rw [h', View.read_apply, cast_eq, h]

/-- A step's feature `p` is the token's feature `q` where column `p` of the rearranged weights is column `q` of the weights. -/
theorem byCol_eq (t : Fin cfg0.N) (i : Fin 256) (p : Fin 3456) (q : Fin 4384) (h : ∀ k, (V m c main_v15 (ix2 k p) : EReal) = (args m c).w k q) :
    byCol (iblk m c 0 t) (iblk m c 1 t) (iblk m c 2 t) i p = (args m c).flat (tok t i) q :=
  (args m c).flat_of (tok t i) q (blk_0 m c t i) (blk_1 m c t) fun k => (blk_2 m c t k p).trans (h k)

theorem byRow_eq (t : Fin cfg0.N) (i : Fin 256) (p : Fin 1312) (q : Fin 4384) (h : ∀ k, (V m c main_v19 (ix2 p k) : EReal) = (args m c).w k q) :
    byRow (iblk m c 0 t) (iblk m c 1 t) (iblk m c 3 t) i p = (args m c).flat (tok t i) q :=
  (args m c).flat_of (tok t i) q (blk_0 m c t i) (blk_1 m c t) fun k => (blk_3 m c t k p).trans (h k)

theorem byCol_zero (t : Fin cfg0.N) (i : Fin 256) (p : Fin 3456) (h : 3360 ≤ p.val) :
    byCol (iblk m c 0 t) (iblk m c 1 t) (iblk m c 2 t) i p = 0 := by
  have e : ∀ k, (iblk m c 2 t (ix2 k p) : EReal) = (0 : EReal) := fun k => (blk_2 m c t k p).trans (v15_zero m c k p h)
  exact (congrArg (feature (rowOf (iblk m c 0 t) i) (gOf (iblk m c 1 t))) (funext e)).trans (feature_zero _ _)

/-- The gates by rows, and by columns. -/
theorem small_eq (t : Fin cfg0.N) (i : Fin 256) (j : Fin 128) :
    byCol (iblk m c 0 t) (iblk m c 1 t) (iblk m c 2 t) i ⟨3328 + j.val, by omega⟩ + (iblk m c 4 t (ix2 0 j) : EReal) = (args m c).small (tok t i) j := by
  rw [blk_4, v22_apply]
  unfold Args.small Args.gate
  by_cases h4 : j.val < 4
  · rw [dif_pos h4, dif_pos (show j.val < 32 by omega), dif_pos h4, byCol_eq m c t i _ ⟨2560 + j.val, by omega⟩ fun k => v15_if m c k _ _ (by dsimp only; omega) (by dsimp only; omega) (by dsimp only; omega)]
  · by_cases h8 : j.val < 8
    · rw [dif_neg h4, dif_pos h8, dif_pos (show j.val < 32 by omega), dif_neg h4, dif_pos h8,
        byCol_eq m c t i _ ⟨2560 + j.val, by omega⟩ fun k => v15_if m c k _ _ (by dsimp only; omega) (by dsimp only; omega) (by dsimp only; omega)]
    · rw [dif_neg h4, dif_neg h8, add_zero]
      by_cases h32 : j.val < 32
      · rw [dif_pos h32, dif_neg h4, dif_neg h8]
        exact byCol_eq m c t i _ ⟨3840 + j.val, by omega⟩ fun k => v15_g m c k _ _ (by dsimp only; omega) (by dsimp only; omega) (by dsimp only; omega)
      · rw [dif_neg h32]
        exact byCol_zero m c t i _ (by dsimp only; omega)

theorem gate_eq (t : Fin cfg0.N) (i : Fin 256) (j : Fin 32) :
    byRow (iblk m c 0 t) (iblk m c 1 t) (iblk m c 3 t) i ⟨1280 + j.val, by omega⟩ + (iblk m c 5 t (ix2 j 0) : EReal) = (args m c).gate (tok t i) j := by
  rw [blk_5, v24_apply]
  unfold Args.gate
  by_cases h4 : j.val < 4
  · rw [dif_pos h4, dif_pos h4, byRow_eq m c t i _ ⟨2560 + j.val, by omega⟩ fun k => v19_if m c k _ _ (by dsimp only; omega) (by dsimp only; omega) (by dsimp only; omega)]
  · by_cases h8 : j.val < 8
    · rw [dif_neg h4, dif_pos h8, dif_neg h4, dif_pos h8,
        byRow_eq m c t i _ ⟨2560 + j.val, by omega⟩ fun k => v19_if m c k _ _ (by dsimp only; omega) (by dsimp only; omega) (by dsimp only; omega)]
    · rw [dif_neg h4, dif_neg h8, add_zero, dif_neg h4, dif_neg h8]
      exact byRow_eq m c t i _ ⟨3840 + j.val, by omega⟩ fun k => v19_g m c k _ _ (by dsimp only; omega) (by dsimp only; omega)

/-- A step's feature by position in its sequence. -/
theorem seq_eq (t : Fin cfg0.N) (i : Fin 256) (p : Fin 1312) (q : Fin 4384) (h : p.val < 1280) (e : q.val = p.val + 2568) :
    byRow (iblk m c 0 t) (iblk m c 1 t) (iblk m c 3 t) i p = (args m c).feat (sq t) (at' t i) q :=
  (byRow_eq m c t i p q fun k => v19_q m c k p q h e).trans ((args m c).flat_eq (sq t) (at' t i) (tok t i) (tok_eq t i) q)

end Cert.Kernel2Ideal.Proj

end
-- ==== Proof.ProjOut.lean ====
/-
  What the projection leaves in its outputs: features and gates of its arguments.
-/
module

public import proofs.«01_k».proof.Proof.ProjEntry

@[expose] public section

set_option maxRecDepth 16384

noncomputable section

namespace Cert.Kernel2Ideal.Proj

open Cert.Kernel2Ideal Cert.Kernel2Ideal.Gen Cert.Proj
open Idealize.ShloMosaic Idealize.ShloMosaic.TcCoe Idealize.SL.Sem

variable (m : (b : Loc nD τ sig) → Buf (Elt Ideal) b) (ρ : Dev nD → PrngReg) (c : Dev nD)

def qkv : Buf (Elt Ideal) ((c : Thread nD τ).loc main_v27_0) := fun z : S32768x1536.Idx => (args m c).rows (n := 1536) 0 (by decide) (z 0) (z 1)
def oz : Buf (Elt Ideal) ((c : Thread nD τ).loc main_v27_1) := fun z : S32768x1024.Idx => (args m c).rows (n := 1024) 1536 (by decide) (z 0) (z 1)
def zn : Buf (Elt Ideal) ((c : Thread nD τ).loc main_v27_2) := fun z : S32768x512.Idx => (args m c).rows (n := 512) 3872 (by decide) (z 0) (z 1)
def small : Buf (Elt Ideal) ((c : Thread nD τ).loc main_v27_3) := fun z : S32768x128.Idx => (args m c).small (z 0) (z 1)
def ks : Buf (Elt Ideal) ((c : Thread nD τ).loc main_v27_4) := fun z : S32768x128.Idx => (args m c).rows (n := 128) 3336 (by decide) (z 0) (z 1)
def kw : Buf (Elt Ideal) ((c : Thread nD τ).loc main_v27_5) := fun z : S32768x128.Idx => (args m c).rows (n := 128) 3592 (by decide) (z 0) (z 1)
def qt : Buf (Elt Ideal) ((c : Thread nD τ).loc main_v27_6) :=
  fun z : S512x32768.Idx => (args m c).rows (n := 512) 2568 (by decide) (z 1) (z 0) * Ideal.ofBits .f32 0x3E38AA3B#32
def kvct : Buf (Elt Ideal) ((c : Thread nD τ).loc main_v27_7) := fun z : S2x256x16384.Idx => (args m c).seqs (n := 256) 3080 (by decide) (z 0) (z 1) (z 2)
def kvst : Buf (Elt Ideal) ((c : Thread nD τ).loc main_v27_8) := fun z : S2x256x16384.Idx => (args m c).seqs (n := 256) 3336 (by decide) (z 0) (z 1) (z 2)
def kvwt : Buf (Elt Ideal) ((c : Thread nD τ).loc main_v27_9) := fun z : S2x256x16384.Idx => (args m c).seqs (n := 256) 3592 (by decide) (z 0) (z 1) (z 2)
def vst : Buf (Elt Ideal) ((c : Thread nD τ).loc main_v27_10) := fun z : S2x128x16384.Idx => (args m c).seqs (n := 128) 3464 (by decide) (z 0) (z 1) (z 2)
def vwt : Buf (Elt Ideal) ((c : Thread nD τ).loc main_v27_11) := fun z : S2x128x16384.Idx => (args m c).seqs (n := 128) 3720 (by decide) (z 0) (z 1) (z 2)
def gates : Buf (Elt Ideal) ((c : Thread nD τ).loc main_v27_12) := fun z : S32x32768.Idx => (args m c).gate (z 1) (z 0)

theorem final_6 : (dats m 0 c).arrAt 6 cfg0.N = qkv m c := by
  refine (dats m 0 c).arrAt_eq_of_covers 6 (qkv m c) (by decide +kernel) fun t hf z => ?_
  blk_simp
  obtain ⟨i, j, rfl⟩ : ∃ (i : Fin 256) (j : Fin 1536), z = ix2 i j := ⟨z 0, z 1, by funext a; match a with | ⟨0, _⟩ => rfl | ⟨1, _⟩ => rfl⟩
  have e : (win0_6.blk t).view.emb (ix2 i j) = ix2 (tok t i) j := by
    have ht : (tok t i).val = 256 * t.val + i.val := rfl
    blk_ext [index_6]
  refine Eq.trans ?_ (congrArg (qkv m c) e).symm
  rw [after0_6]
  exact (out6 _ _ _ _ _ _ i j).trans (byCol_eq m c t i _ ⟨0 + j.val, by omega⟩ fun k => v15_qkv m c k _ _ (by dsimp only; omega) (by dsimp only; omega))

theorem final_7 : (dats m 0 c).arrAt 7 cfg0.N = oz m c := by
  refine (dats m 0 c).arrAt_eq_of_covers 7 (oz m c) (by decide +kernel) fun t hf z => ?_
  blk_simp
  obtain ⟨i, j, rfl⟩ : ∃ (i : Fin 256) (j : Fin 1024), z = ix2 i j := ⟨z 0, z 1, by funext a; match a with | ⟨0, _⟩ => rfl | ⟨1, _⟩ => rfl⟩
  have e : (win0_7.blk t).view.emb (ix2 i j) = ix2 (tok t i) j := by
    have ht : (tok t i).val = 256 * t.val + i.val := rfl
    blk_ext [index_7]
  refine Eq.trans ?_ (congrArg (oz m c) e).symm
  rw [after0_7]
  exact (out7 _ _ _ _ _ _ i j).trans (byCol_eq m c t i _ ⟨1536 + j.val, by omega⟩ fun k => v15_oz m c k _ _ (by dsimp only; omega) (by dsimp only; omega) (by dsimp only))

theorem final_8 : (dats m 0 c).arrAt 8 cfg0.N = zn m c := by
  refine (dats m 0 c).arrAt_eq_of_covers 8 (zn m c) (by decide +kernel) fun t hf z => ?_
  blk_simp
  obtain ⟨i, j, rfl⟩ : ∃ (i : Fin 256) (j : Fin 512), z = ix2 i j := ⟨z 0, z 1, by funext a; match a with | ⟨0, _⟩ => rfl | ⟨1, _⟩ => rfl⟩
  have e : (win0_8.blk t).view.emb (ix2 i j) = ix2 (tok t i) j := by
    have ht : (tok t i).val = 256 * t.val + i.val := rfl
    blk_ext [index_8]
  refine Eq.trans ?_ (congrArg (zn m c) e).symm
  rw [after0_8]
  exact (out8 _ _ _ _ _ _ i j).trans
    (byCol_eq m c t i _ ⟨3872 + j.val, by omega⟩ fun k => v15_zn m c k _ _ (by dsimp only; omega) (by dsimp only; omega) (by dsimp only; omega))

theorem final_9 : (dats m 0 c).arrAt 9 cfg0.N = small m c := by
  refine (dats m 0 c).arrAt_eq_of_covers 9 (small m c) (by decide +kernel) fun t hf z => ?_
  blk_simp
  obtain ⟨i, j, rfl⟩ : ∃ (i : Fin 256) (j : Fin 128), z = ix2 i j := ⟨z 0, z 1, by funext a; match a with | ⟨0, _⟩ => rfl | ⟨1, _⟩ => rfl⟩
  have e : (win0_9.blk t).view.emb (ix2 i j) = ix2 (tok t i) j := by
    have ht : (tok t i).val = 256 * t.val + i.val := rfl
    blk_ext [index_9]
  refine Eq.trans ?_ (congrArg (small m c) e).symm
  rw [after0_9]
  exact (out9 _ _ _ _ _ _ i j).trans (small_eq m c t i j)

theorem final_10 : (dats m 0 c).arrAt 10 cfg0.N = ks m c := by
  refine (dats m 0 c).arrAt_eq_of_covers 10 (ks m c) (by decide +kernel) fun t hf z => ?_
  blk_simp
  obtain ⟨i, j, rfl⟩ : ∃ (i : Fin 256) (j : Fin 128), z = ix2 i j := ⟨z 0, z 1, by funext a; match a with | ⟨0, _⟩ => rfl | ⟨1, _⟩ => rfl⟩
  have e : (win0_10.blk t).view.emb (ix2 i j) = ix2 (tok t i) j := by
    have ht : (tok t i).val = 256 * t.val + i.val := rfl
    blk_ext [index_10]
  refine Eq.trans ?_ (congrArg (ks m c) e).symm
  rw [after0_10]
  exact (out10 _ _ _ _ _ _ i j).trans
    (byCol_eq m c t i _ ⟨3336 + j.val, by omega⟩ fun k => v15_ks m c k _ _ (by dsimp only; omega) (by dsimp only; omega) (by dsimp only; omega))

theorem final_11 : (dats m 0 c).arrAt 11 cfg0.N = kw m c := by
  refine (dats m 0 c).arrAt_eq_of_covers 11 (kw m c) (by decide +kernel) fun t hf z => ?_
  blk_simp
  obtain ⟨i, j, rfl⟩ : ∃ (i : Fin 256) (j : Fin 128), z = ix2 i j := ⟨z 0, z 1, by funext a; match a with | ⟨0, _⟩ => rfl | ⟨1, _⟩ => rfl⟩
  have e : (win0_11.blk t).view.emb (ix2 i j) = ix2 (tok t i) j := by
    have ht : (tok t i).val = 256 * t.val + i.val := rfl
    blk_ext [index_11]
  refine Eq.trans ?_ (congrArg (kw m c) e).symm
  rw [after0_11]
  exact (out11 _ _ _ _ _ _ i j).trans
    (byCol_eq m c t i _ ⟨3592 + j.val, by omega⟩ fun k => v15_kw m c k _ _ (by dsimp only; omega) (by dsimp only; omega) (by dsimp only; omega))

theorem final_12 : (dats m 0 c).arrAt 12 cfg0.N = qt m c := by
  refine (dats m 0 c).arrAt_eq_of_covers 12 (qt m c) (by decide +kernel) fun t hf z => ?_
  blk_simp
  obtain ⟨j, i, rfl⟩ : ∃ (j : Fin 512) (i : Fin 256), z = ix2 j i := ⟨z 0, z 1, by funext a; match a with | ⟨0, _⟩ => rfl | ⟨1, _⟩ => rfl⟩
  have e : (win0_12.blk t).view.emb (ix2 j i) = ix2 j (tok t i) := by
    have ht : (tok t i).val = 256 * t.val + i.val := rfl
    blk_ext [index_12]
  refine Eq.trans ?_ (congrArg (qt m c) e).symm
  rw [after0_12]
  exact (out12 _ _ _ _ _ _ i j).trans (congrArg (· * Ideal.ofBits .f32 0x3E38AA3B#32)
    (byRow_eq m c t i _ ⟨2568 + j.val, by omega⟩ fun k => v19_q m c k _ _ (by dsimp only; omega) (by dsimp only; omega)))

theorem final_13 : (dats m 0 c).arrAt 13 cfg0.N = kvct m c := by
  refine (dats m 0 c).arrAt_eq_of_covers 13 (kvct m c) (by decide +kernel) fun t hf z => ?_
  blk_simp
  obtain ⟨j, i, rfl⟩ : ∃ (j : Fin 256) (i : Fin 256), z = ix3 0 j i :=
    ⟨z 1, z 2, by funext a; match a with | ⟨0, _⟩ => exact Subsingleton.elim (α := Fin 1) _ _ | ⟨1, _⟩ => rfl | ⟨2, _⟩ => rfl⟩
  have e : (win0_13.blk t).view.emb (ix3 0 j i) = ix3 (sq t) j (at' t i) := by
    have hs : (sq t).val = t.val / 64 := rfl
    have ha : (at' t i).val = 256 * (t.val % 64) + i.val := rfl
    blk_ext [index_13]
  refine Eq.trans ?_ (congrArg (kvct m c) e).symm
  rw [after0_13]
  exact (out13 _ _ _ _ _ _ i j).trans (seq_eq m c t i _ ⟨3080 + j.val, by omega⟩ (by dsimp only; omega) (by dsimp only; omega))

theorem final_14 : (dats m 0 c).arrAt 14 cfg0.N = kvst m c := by
  refine (dats m 0 c).arrAt_eq_of_covers 14 (kvst m c) (by decide +kernel) fun t hf z => ?_
  blk_simp
  obtain ⟨j, i, rfl⟩ : ∃ (j : Fin 256) (i : Fin 256), z = ix3 0 j i :=
    ⟨z 1, z 2, by funext a; match a with | ⟨0, _⟩ => exact Subsingleton.elim (α := Fin 1) _ _ | ⟨1, _⟩ => rfl | ⟨2, _⟩ => rfl⟩
  have e : (win0_14.blk t).view.emb (ix3 0 j i) = ix3 (sq t) j (at' t i) := by
    have hs : (sq t).val = t.val / 64 := rfl
    have ha : (at' t i).val = 256 * (t.val % 64) + i.val := rfl
    blk_ext [index_14]
  refine Eq.trans ?_ (congrArg (kvst m c) e).symm
  rw [after0_14]
  exact (out14 _ _ _ _ _ _ i j).trans (seq_eq m c t i _ ⟨3336 + j.val, by omega⟩ (by dsimp only; omega) (by dsimp only; omega))

theorem final_15 : (dats m 0 c).arrAt 15 cfg0.N = kvwt m c := by
  refine (dats m 0 c).arrAt_eq_of_covers 15 (kvwt m c) (by decide +kernel) fun t hf z => ?_
  blk_simp
  obtain ⟨j, i, rfl⟩ : ∃ (j : Fin 256) (i : Fin 256), z = ix3 0 j i :=
    ⟨z 1, z 2, by funext a; match a with | ⟨0, _⟩ => exact Subsingleton.elim (α := Fin 1) _ _ | ⟨1, _⟩ => rfl | ⟨2, _⟩ => rfl⟩
  have e : (win0_15.blk t).view.emb (ix3 0 j i) = ix3 (sq t) j (at' t i) := by
    have hs : (sq t).val = t.val / 64 := rfl
    have ha : (at' t i).val = 256 * (t.val % 64) + i.val := rfl
    blk_ext [index_15]
  refine Eq.trans ?_ (congrArg (kvwt m c) e).symm
  rw [after0_15]
  exact (out15 _ _ _ _ _ _ i j).trans (seq_eq m c t i _ ⟨3592 + j.val, by omega⟩ (by dsimp only; omega) (by dsimp only; omega))

theorem final_16 : (dats m 0 c).arrAt 16 cfg0.N = vst m c := by
  refine (dats m 0 c).arrAt_eq_of_covers 16 (vst m c) (by decide +kernel) fun t hf z => ?_
  blk_simp
  obtain ⟨j, i, rfl⟩ : ∃ (j : Fin 128) (i : Fin 256), z = ix3 0 j i :=
    ⟨z 1, z 2, by funext a; match a with | ⟨0, _⟩ => exact Subsingleton.elim (α := Fin 1) _ _ | ⟨1, _⟩ => rfl | ⟨2, _⟩ => rfl⟩
  have e : (win0_16.blk t).view.emb (ix3 0 j i) = ix3 (sq t) j (at' t i) := by
    have hs : (sq t).val = t.val / 64 := rfl
    have ha : (at' t i).val = 256 * (t.val % 64) + i.val := rfl
    blk_ext [index_16]
  refine Eq.trans ?_ (congrArg (vst m c) e).symm
  rw [after0_16]
  exact (out16 _ _ _ _ _ _ i j).trans (seq_eq m c t i _ ⟨3464 + j.val, by omega⟩ (by dsimp only; omega) (by dsimp only; omega))

theorem final_17 : (dats m 0 c).arrAt 17 cfg0.N = vwt m c := by
  refine (dats m 0 c).arrAt_eq_of_covers 17 (vwt m c) (by decide +kernel) fun t hf z => ?_
  blk_simp
  obtain ⟨j, i, rfl⟩ : ∃ (j : Fin 128) (i : Fin 256), z = ix3 0 j i :=
    ⟨z 1, z 2, by funext a; match a with | ⟨0, _⟩ => exact Subsingleton.elim (α := Fin 1) _ _ | ⟨1, _⟩ => rfl | ⟨2, _⟩ => rfl⟩
  have e : (win0_17.blk t).view.emb (ix3 0 j i) = ix3 (sq t) j (at' t i) := by
    have hs : (sq t).val = t.val / 64 := rfl
    have ha : (at' t i).val = 256 * (t.val % 64) + i.val := rfl
    blk_ext [index_17]
  refine Eq.trans ?_ (congrArg (vwt m c) e).symm
  rw [after0_17]
  exact (out17 _ _ _ _ _ _ i j).trans (seq_eq m c t i _ ⟨3720 + j.val, by omega⟩ (by dsimp only; omega) (by dsimp only; omega))

theorem final_18 : (dats m 0 c).arrAt 18 cfg0.N = gates m c := by
  refine (dats m 0 c).arrAt_eq_of_covers 18 (gates m c) (by decide +kernel) fun t hf z => ?_
  blk_simp
  obtain ⟨j, i, rfl⟩ : ∃ (j : Fin 32) (i : Fin 256), z = ix2 j i := ⟨z 0, z 1, by funext a; match a with | ⟨0, _⟩ => rfl | ⟨1, _⟩ => rfl⟩
  have e : (win0_18.blk t).view.emb (ix2 j i) = ix2 j (tok t i) := by
    have ht : (tok t i).val = 256 * t.val + i.val := rfl
    blk_ext [index_18]
  refine Eq.trans ?_ (congrArg (gates m c) e).symm
  rw [after0_18]
  exact (out18 _ _ _ _ _ _ i j).trans (gate_eq m c t i j)

/-- From any memory every run of the program ends with the features and gates in its results and the arguments as they were. -/
theorem run_results : θ_run defs (onTc (τ := τ) (main (F := Ideal))) ⟨m, fun _ => 0, ρ⟩ (fun r => ∀ c : Dev nD,
      r.2.mem ((c : Thread nD τ).loc main_v27_0) = qkv m c
      ∧ r.2.mem ((c : Thread nD τ).loc main_v27_1) = oz m c
      ∧ r.2.mem ((c : Thread nD τ).loc main_v27_2) = zn m c
      ∧ r.2.mem ((c : Thread nD τ).loc main_v27_3) = small m c
      ∧ r.2.mem ((c : Thread nD τ).loc main_v27_4) = ks m c
      ∧ r.2.mem ((c : Thread nD τ).loc main_v27_5) = kw m c
      ∧ r.2.mem ((c : Thread nD τ).loc main_v27_6) = qt m c
      ∧ r.2.mem ((c : Thread nD τ).loc main_v27_7) = kvct m c
      ∧ r.2.mem ((c : Thread nD τ).loc main_v27_8) = kvst m c
      ∧ r.2.mem ((c : Thread nD τ).loc main_v27_9) = kvwt m c
      ∧ r.2.mem ((c : Thread nD τ).loc main_v27_10) = vst m c
      ∧ r.2.mem ((c : Thread nD τ).loc main_v27_11) = vwt m c
      ∧ r.2.mem ((c : Thread nD τ).loc main_v27_12) = gates m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)) := by
  refine (θ_run defs _ _).mono (fun r h c => ?_) (Cert.Kernel2Ideal.Value.run_blocks m ρ)
  obtain ⟨h6, h7, h8, h9, h10, h11, h12, h13, h14, h15, h16, h17, h18, ha⟩ := h c
  exact ⟨h6.trans (final_6 m c), h7.trans (final_7 m c), h8.trans (final_8 m c), h9.trans (final_9 m c), h10.trans (final_10 m c), h11.trans (final_11 m c),
    h12.trans (final_12 m c), h13.trans (final_13 m c), h14.trans (final_14 m c), h15.trans (final_15 m c), h16.trans (final_16 m c), h17.trans (final_17 m c),
    h18.trans (final_18 m c), ha⟩

end Cert.Kernel2Ideal.Proj

end
-- ==== Proof.ProjRef.lean ====
/-
  The projection's reference read at an entry: features and gates of its arguments.
-/
module

public import proofs.«01_k».proof.Proof.Gen.Reference2Ideal
public import proofs.«01_k».proof.Proof.Project

@[expose] public section

set_option maxRecDepth 16384

noncomputable section

namespace Cert.Reference2Ideal.Proj

open Cert.Reference2Ideal Cert.Reference2Ideal.Gen Cert.Proj
open Idealize.ShloMosaic Idealize.SL.Sem

variable (X : FVec Ideal S2x16384x1024 .f32) (G : FVec Ideal S1024 .f32) (W : FVec Ideal S1024x4384 .f32) (BI BF : FVec Ideal S4 .f32)

/-- The arguments by their indices. -/
def argsOf : Args where
  x b q k := X (ix3 b q k)
  g k := G (ix1 k)
  w k j := W (ix2 k j)
  bi j := BI (ix1 j)
  bf j := BF (ix1 j)

/-- The normed tokens times the weights, as the reference spells it. -/
def feats : FVec Ideal S2x16384x4384 .f32 :=
  Host.dotGeneral dot_S2x16384x1024_S1024x4384_S2x16384x4384_2_0_01_1_n_n none (mulf (mulf X (broadcastInDim S2x16384x1024 ![0, 1, 2] bcast_S2x16384x1_S2x16384x1024_0_1_2 (Host.rsqrt (addf (Host.divf (broadcastInDim S2x16384x1 ![0, 1] bcast_S2x16384_S2x16384x1_0_1 (Host.reduceAdd (mulf X X) (constant S_ .f32 0x00000000#32) reducesTo_S2x16384x1024_S2x16384_d2 h_S_)) (broadcastInDim S2x16384x1 ![] bcast_S_S2x16384x1 (constant S_ .f32 0x44800000#32))) (broadcastInDim S2x16384x1 ![] bcast_S_S2x16384x1 (constant S_ .f32 0x358637BD#32)))))) (broadcastInDim S2x16384x1024 ![0, 1, 2] bcast_S1x1x1024_S2x16384x1024_0_1_2 (broadcastInDim S1x1x1024 ![2] bcast_S1024_S1x1x1024_2 G))) W

theorem feats_apply (b : Fin 2) (q : Fin 16384) (j : Fin 4384) : (feats X G W (ix3 b q j) : EReal) = (argsOf X G W BI BF).feat b q j := by
  pointwise [feats]
  rfl

variable (a : Args) (U : FVec Ideal S2x16384x4384 .f32) (hU : ∀ b q j, (U (ix3 b q j) : EReal) = a.feat b q j)
include hU

theorem flat_at (r : Fin 32768) (b : Fin 2) (q : Fin 16384) (p j : Fin 4384) (hb : b.val = r.val / 16384) (hq : q.val = r.val % 16384) (h : p.val = j.val) : (U (ix3 b q p) : EReal) = a.flat r j := by
  obtain rfl : p = j := Fin.ext h
  rw [hU]
  exact (a.flat_eq b q r (by omega) p).symm

theorem feat_at (b : Fin 2) (q : Fin 16384) (p j : Fin 4384) (h : p.val = j.val) : (U (ix3 b q p) : EReal) = a.feat b q j := by
  obtain rfl : p = j := Fin.ext h
  exact hU b q p

theorem qkv_eq : (shapeCast S32768x1536 (extractStridedSlice S2x16384x1536 ![0, 0, 0] U slices_S2x16384x4384_S2x16384x1536_0_0_0) shapeCasts_S2x16384x1536_S32768x1536 : FVec Ideal S32768x1536 .f32)
    = fun z : S32768x1536.Idx => a.rows (n := 1536) 0 (by decide) (z 0) (z 1) := by
  funext z
  obtain ⟨i, j, rfl⟩ : ∃ (i : Fin 32768) (j : Fin 1536), z = ix2 i j := ⟨z 0, z 1, by funext a; match a with | ⟨0, _⟩ => rfl | ⟨1, _⟩ => rfl⟩
  pointwise []
  exact flat_at a U hU i _ _ _ _ (by rfl) (by rfl) (by dsimp only; omega)

theorem oz_eq : (shapeCast S32768x1024 (extractStridedSlice S2x16384x1024 ![0, 0, 1536] U slices_S2x16384x4384_S2x16384x1024_0_0_1536) shapeCasts_S2x16384x1024_S32768x1024 : FVec Ideal S32768x1024 .f32)
    = fun z : S32768x1024.Idx => a.rows (n := 1024) 1536 (by decide) (z 0) (z 1) := by
  funext z
  obtain ⟨i, j, rfl⟩ : ∃ (i : Fin 32768) (j : Fin 1024), z = ix2 i j := ⟨z 0, z 1, by funext a; match a with | ⟨0, _⟩ => rfl | ⟨1, _⟩ => rfl⟩
  pointwise []
  exact flat_at a U hU i _ _ _ _ (by rfl) (by rfl) (by dsimp only)

theorem zn_eq : (shapeCast S32768x512 (extractStridedSlice S2x16384x512 ![0, 0, 3872] U slices_S2x16384x4384_S2x16384x512_0_0_3872) shapeCasts_S2x16384x512_S32768x512 : FVec Ideal S32768x512 .f32)
    = fun z : S32768x512.Idx => a.rows (n := 512) 3872 (by decide) (z 0) (z 1) := by
  funext z
  obtain ⟨i, j, rfl⟩ : ∃ (i : Fin 32768) (j : Fin 512), z = ix2 i j := ⟨z 0, z 1, by funext a; match a with | ⟨0, _⟩ => rfl | ⟨1, _⟩ => rfl⟩
  pointwise []
  exact flat_at a U hU i _ _ _ _ (by rfl) (by rfl) (by dsimp only)

theorem ks_eq : (truncf .bf16 (shapeCast S32768x128 (extractStridedSlice S2x16384x128 ![0, 0, 3336] U slices_S2x16384x4384_S2x16384x128_0_0_3336) shapeCasts_S2x16384x128_S32768x128 : FVec Ideal S32768x128 .f32) bitsLt_bf16_f32)
    = fun z : S32768x128.Idx => a.rows (n := 128) 3336 (by decide) (z 0) (z 1) := by
  funext z
  obtain ⟨i, j, rfl⟩ : ∃ (i : Fin 32768) (j : Fin 128), z = ix2 i j := ⟨z 0, z 1, by funext a; match a with | ⟨0, _⟩ => rfl | ⟨1, _⟩ => rfl⟩
  pointwise []
  exact flat_at a U hU i _ _ _ _ (by rfl) (by rfl) (by dsimp only)

theorem kw_eq : (truncf .bf16 (shapeCast S32768x128 (extractStridedSlice S2x16384x128 ![0, 0, 3592] U slices_S2x16384x4384_S2x16384x128_0_0_3592) shapeCasts_S2x16384x128_S32768x128 : FVec Ideal S32768x128 .f32) bitsLt_bf16_f32)
    = fun z : S32768x128.Idx => a.rows (n := 128) 3592 (by decide) (z 0) (z 1) := by
  funext z
  obtain ⟨i, j, rfl⟩ : ∃ (i : Fin 32768) (j : Fin 128), z = ix2 i j := ⟨z 0, z 1, by funext a; match a with | ⟨0, _⟩ => rfl | ⟨1, _⟩ => rfl⟩
  pointwise []
  exact flat_at a U hU i _ _ _ _ (by rfl) (by rfl) (by dsimp only)

theorem qt_eq : (truncf .bf16 (transpose S512x32768 [1, 0] (mulf (shapeCast S32768x512 (extractStridedSlice S2x16384x512 ![0, 0, 2568] U slices_S2x16384x4384_S2x16384x512_0_0_2568) shapeCasts_S2x16384x512_S32768x512 : FVec Ideal S32768x512 .f32)
      (broadcastInDim S32768x512 ![] bcast_S_S32768x512 (constant S_ .f32 0x3E38AA3B#32))) transposes_S32768x512_S512x32768_1_0) bitsLt_bf16_f32)
    = fun z : S512x32768.Idx => a.rows (n := 512) 2568 (by decide) (z 1) (z 0) * Ideal.ofBits .f32 0x3E38AA3B#32 := by
  funext z
  obtain ⟨j, i, rfl⟩ : ∃ (j : Fin 512) (i : Fin 32768), z = ix2 j i := ⟨z 0, z 1, by funext a; match a with | ⟨0, _⟩ => rfl | ⟨1, _⟩ => rfl⟩
  pointwise []
  exact congrArg (· * Ideal.ofBits .f32 0x3E38AA3B#32) (flat_at a U hU i _ _ _ ⟨2568 + j.val, by omega⟩ (by rfl) (by rfl) (by dsimp only))

theorem kvct_eq : (transpose S2x256x16384 [0, 2, 1] (extractStridedSlice S2x16384x256 ![0, 0, 3080] U slices_S2x16384x4384_S2x16384x256_0_0_3080) transposes_S2x16384x256_S2x256x16384_0_2_1 : FVec Ideal S2x256x16384 .f32)
    = fun z : S2x256x16384.Idx => a.seqs (n := 256) 3080 (by decide) (z 0) (z 1) (z 2) := by
  funext z
  obtain ⟨b, j, q, rfl⟩ : ∃ (b : Fin 2) (j : Fin 256) (q : Fin 16384), z = ix3 b j q :=
    ⟨z 0, z 1, z 2, by funext a; match a with | ⟨0, _⟩ => rfl | ⟨1, _⟩ => rfl | ⟨2, _⟩ => rfl⟩
  pointwise []
  exact feat_at a U hU _ _ _ _ (by dsimp only)

theorem kvst_eq : (transpose S2x256x16384 [0, 2, 1] (extractStridedSlice S2x16384x256 ![0, 0, 3336] U slices_S2x16384x4384_S2x16384x256_0_0_3336) transposes_S2x16384x256_S2x256x16384_0_2_1 : FVec Ideal S2x256x16384 .f32)
    = fun z : S2x256x16384.Idx => a.seqs (n := 256) 3336 (by decide) (z 0) (z 1) (z 2) := by
  funext z
  obtain ⟨b, j, q, rfl⟩ : ∃ (b : Fin 2) (j : Fin 256) (q : Fin 16384), z = ix3 b j q :=
    ⟨z 0, z 1, z 2, by funext a; match a with | ⟨0, _⟩ => rfl | ⟨1, _⟩ => rfl | ⟨2, _⟩ => rfl⟩
  pointwise []
  exact feat_at a U hU _ _ _ _ (by dsimp only)

theorem kvwt_eq : (transpose S2x256x16384 [0, 2, 1] (extractStridedSlice S2x16384x256 ![0, 0, 3592] U slices_S2x16384x4384_S2x16384x256_0_0_3592) transposes_S2x16384x256_S2x256x16384_0_2_1 : FVec Ideal S2x256x16384 .f32)
    = fun z : S2x256x16384.Idx => a.seqs (n := 256) 3592 (by decide) (z 0) (z 1) (z 2) := by
  funext z
  obtain ⟨b, j, q, rfl⟩ : ∃ (b : Fin 2) (j : Fin 256) (q : Fin 16384), z = ix3 b j q :=
    ⟨z 0, z 1, z 2, by funext a; match a with | ⟨0, _⟩ => rfl | ⟨1, _⟩ => rfl | ⟨2, _⟩ => rfl⟩
  pointwise []
  exact feat_at a U hU _ _ _ _ (by dsimp only)

theorem vst_eq : (truncf .bf16 (transpose S2x128x16384 [0, 2, 1] (extractStridedSlice S2x16384x128 ![0, 0, 3464] U slices_S2x16384x4384_S2x16384x128_0_0_3464) transposes_S2x16384x128_S2x128x16384_0_2_1 : FVec Ideal S2x128x16384 .f32) bitsLt_bf16_f32)
    = fun z : S2x128x16384.Idx => a.seqs (n := 128) 3464 (by decide) (z 0) (z 1) (z 2) := by
  funext z
  obtain ⟨b, j, q, rfl⟩ : ∃ (b : Fin 2) (j : Fin 128) (q : Fin 16384), z = ix3 b j q :=
    ⟨z 0, z 1, z 2, by funext a; match a with | ⟨0, _⟩ => rfl | ⟨1, _⟩ => rfl | ⟨2, _⟩ => rfl⟩
  pointwise []
  exact feat_at a U hU _ _ _ _ (by dsimp only)

theorem vwt_eq : (truncf .bf16 (transpose S2x128x16384 [0, 2, 1] (extractStridedSlice S2x16384x128 ![0, 0, 3720] U slices_S2x16384x4384_S2x16384x128_0_0_3720) transposes_S2x16384x128_S2x128x16384_0_2_1 : FVec Ideal S2x128x16384 .f32) bitsLt_bf16_f32)
    = fun z : S2x128x16384.Idx => a.seqs (n := 128) 3720 (by decide) (z 0) (z 1) (z 2) := by
  funext z
  obtain ⟨b, j, q, rfl⟩ : ∃ (b : Fin 2) (j : Fin 128) (q : Fin 16384), z = ix3 b j q :=
    ⟨z 0, z 1, z 2, by funext a; match a with | ⟨0, _⟩ => rfl | ⟨1, _⟩ => rfl | ⟨2, _⟩ => rfl⟩
  pointwise []
  exact feat_at a U hU _ _ _ _ (by dsimp only)

omit hU in
/-- The gates, as the reference spells them. -/
def gateBuf : FVec Ideal S32768x32 .f32 :=
  concatenate S32768x32 1 [⟨S32768x4, ((addf (shapeCast _ (extractStridedSlice S2x16384x4 ![0, 0, 2560] U slices_S2x16384x4384_S2x16384x4_0_0_2560) shapeCasts_S2x16384x4_S32768x4) (broadcastInDim S32768x4 ![0, 1] bcast_S1x4_S32768x4_0_1 (broadcastInDim S1x4 ![1] bcast_S4_S1x4_1 BI))) : (⟨S32768x4, .f32⟩ : BufTy).Contents (Elt Ideal))⟩,
    ⟨S32768x4, ((addf (shapeCast _ (extractStridedSlice S2x16384x4 ![0, 0, 2564] U slices_S2x16384x4384_S2x16384x4_0_0_2564) shapeCasts_S2x16384x4_S32768x4) (broadcastInDim S32768x4 ![0, 1] bcast_S1x4_S32768x4_0_1 (broadcastInDim S1x4 ![1] bcast_S4_S1x4_1 BF))) : (⟨S32768x4, .f32⟩ : BufTy).Contents (Elt Ideal))⟩,
    ⟨S32768x24, ((shapeCast _ (extractStridedSlice S2x16384x24 ![0, 0, 3848] U slices_S2x16384x4384_S2x16384x24_0_0_3848) shapeCasts_S2x16384x24_S32768x24) : (⟨S32768x24, .f32⟩ : BufTy).Contents (Elt Ideal))⟩] concatenates_S32768x4_S32768x4_S32768x24_S32768x32_d1

variable (hI : ∀ j, (BI (ix1 j) : EReal) = a.bi j) (hF : ∀ j, (BF (ix1 j) : EReal) = a.bf j)
include hI hF

theorem gateBuf_apply (i : Fin 32768) (j : Fin 32) : (gateBuf BI BF U (ix2 i j) : EReal) = a.gate i j := by
  pointwise [gateBuf]
  unfold Args.gate
  by_cases h4 : j.val < 4
  · rw [dif_pos h4, dif_pos h4, flat_at a U hU i _ _ _ ⟨2560 + j.val, by omega⟩ (by rfl) (by rfl) (by dsimp only), hI]
  · by_cases h8 : j.val < 8
    · rw [dif_neg h4, dif_pos (show j.val - 4 < 4 by omega), dif_neg h4, dif_pos h8, flat_at a U hU i _ _ _ ⟨2560 + j.val, by omega⟩ (by rfl) (by rfl) (by dsimp only; omega), hF]
    · rw [dif_neg h4, dif_neg (show ¬ j.val - 4 < 4 by omega), dif_neg h4, dif_neg h8]
      exact flat_at a U hU i _ _ _ _ (by rfl) (by rfl) (by dsimp only; omega)

theorem small_eq : (concatenate S32768x128 1 [⟨S32768x32, gateBuf BI BF U⟩, ⟨S32768x96, (broadcastInDim S32768x96 ![] bcast_S_S32768x96 (constant S_ .f32 0x00000000#32))⟩] concatenates_S32768x32_S32768x96_S32768x128_d1 : FVec Ideal S32768x128 .f32)
    = fun z : S32768x128.Idx => a.small (z 0) (z 1) := by
  funext z
  obtain ⟨i, j, rfl⟩ : ∃ (i : Fin 32768) (j : Fin 128), z = ix2 i j := ⟨z 0, z 1, by funext a; match a with | ⟨0, _⟩ => rfl | ⟨1, _⟩ => rfl⟩
  pointwise []
  show _ = a.small i j
  unfold Args.small
  by_cases h : j.val < 32
  · rw [dif_pos h, dif_pos h]
    exact gateBuf_apply BI BF a U hU hI hF i ⟨j.val, h⟩
  · rw [dif_neg h, dif_neg h]

theorem gates_eq : (transpose S32x32768 [1, 0] (gateBuf BI BF U) transposes_S32768x32_S32x32768_1_0 : FVec Ideal S32x32768 .f32)
    = fun z : S32x32768.Idx => a.gate (z 1) (z 0) := by
  funext z
  obtain ⟨j, i, rfl⟩ : ∃ (j : Fin 32) (i : Fin 32768), z = ix2 j i := ⟨z 0, z 1, by funext a; match a with | ⟨0, _⟩ => rfl | ⟨1, _⟩ => rfl⟩
  pointwise []
  exact gateBuf_apply BI BF a U hU hI hF i j

end Cert.Reference2Ideal.Proj

end
-- ==== Proof.ProjAlgebraic.lean ====
/-
  The projection and its reference compute the same: each leaves the features and gates of its arguments.
-/
module

public import proofs.«01_k».proof.Defs
public import proofs.«01_k».proof.Proof.ProjOut
public import proofs.«01_k».proof.Proof.ProjRef
public import proofs.«01_k».proof.Proof.Gen.Reference2Ideal.Run

@[expose] public section

set_option maxRecDepth 16384

noncomputable section

namespace Cert.Proj

open Idealize.ShloMosaic Idealize.ShloMosaic.StableHlo Idealize.SL.Sem

variable (m : (ℓ : Loc Kernel2Ideal.nD Kernel2Ideal.τ Kernel2Ideal.sig) → Buf (Elt Ideal) ℓ)
  (m' : (ℓ : Loc Reference2Ideal.nD Reference2Ideal.τ Reference2Ideal.sig) → Buf (Elt Ideal) ℓ) (c : Dev Kernel2Ideal.nD)

/-- The two memories hold the same arguments. -/
structure Agree : Prop where
  x : m' ((c.tc : Thread Reference2Ideal.nD Reference2Ideal.τ).loc Reference2Ideal.main_arg0) = m ((c.tc : Thread Kernel2Ideal.nD Kernel2Ideal.τ).loc Kernel2Ideal.main_arg0)
  g : m' ((c.tc : Thread Reference2Ideal.nD Reference2Ideal.τ).loc Reference2Ideal.main_arg1) = m ((c.tc : Thread Kernel2Ideal.nD Kernel2Ideal.τ).loc Kernel2Ideal.main_arg1)
  w : m' ((c.tc : Thread Reference2Ideal.nD Reference2Ideal.τ).loc Reference2Ideal.main_arg2) = m ((c.tc : Thread Kernel2Ideal.nD Kernel2Ideal.τ).loc Kernel2Ideal.main_arg2)
  bi : m' ((c.tc : Thread Reference2Ideal.nD Reference2Ideal.τ).loc Reference2Ideal.main_arg3) = m ((c.tc : Thread Kernel2Ideal.nD Kernel2Ideal.τ).loc Kernel2Ideal.main_arg3)
  bf : m' ((c.tc : Thread Reference2Ideal.nD Reference2Ideal.τ).loc Reference2Ideal.main_arg4) = m ((c.tc : Thread Kernel2Ideal.nD Kernel2Ideal.τ).loc Kernel2Ideal.main_arg4)

/-- The features as the reference computes them of its memory. -/
abbrev feats' : FVec Ideal Reference2Ideal.S2x16384x4384 .f32 :=
  Reference2Ideal.Proj.feats (m' ((c.tc : Thread Reference2Ideal.nD Reference2Ideal.τ).loc Reference2Ideal.main_arg0))
    (m' ((c.tc : Thread Reference2Ideal.nD Reference2Ideal.τ).loc Reference2Ideal.main_arg1)) (m' ((c.tc : Thread Reference2Ideal.nD Reference2Ideal.τ).loc Reference2Ideal.main_arg2))

variable {m m' c} (h : Agree m m' c)
include h

theorem Agree.args : Reference2Ideal.Proj.argsOf (m' ((c.tc : Thread Reference2Ideal.nD Reference2Ideal.τ).loc Reference2Ideal.main_arg0))
    (m' ((c.tc : Thread Reference2Ideal.nD Reference2Ideal.τ).loc Reference2Ideal.main_arg1)) (m' ((c.tc : Thread Reference2Ideal.nD Reference2Ideal.τ).loc Reference2Ideal.main_arg2))
    (m' ((c.tc : Thread Reference2Ideal.nD Reference2Ideal.τ).loc Reference2Ideal.main_arg3)) (m' ((c.tc : Thread Reference2Ideal.nD Reference2Ideal.τ).loc Reference2Ideal.main_arg4))
    = Kernel2Ideal.Proj.args m c := by
  rw [h.x, h.g, h.w, h.bi, h.bf]
  rfl

theorem Agree.feat (b : Fin 2) (q : Fin 16384) (j : Fin 4384) : (feats' m' c (ix3 b q j) : EReal) = (Kernel2Ideal.Proj.args m c).feat b q j := by
  refine (Reference2Ideal.Proj.feats_apply _ _ _ (m' ((c.tc : Thread Reference2Ideal.nD Reference2Ideal.τ).loc Reference2Ideal.main_arg3))
    (m' ((c.tc : Thread Reference2Ideal.nD Reference2Ideal.τ).loc Reference2Ideal.main_arg4)) b q j).trans ?_
  rw [h.args]

theorem Agree.bi_at (j : Fin 4) : (m' ((c.tc : Thread Reference2Ideal.nD Reference2Ideal.τ).loc Reference2Ideal.main_arg3) (ix1 j) : EReal) = (Kernel2Ideal.Proj.args m c).bi j :=
  congrFun h.bi (ix1 j)

theorem Agree.bf_at (j : Fin 4) : (m' ((c.tc : Thread Reference2Ideal.nD Reference2Ideal.τ).loc Reference2Ideal.main_arg4) (ix1 j) : EReal) = (Kernel2Ideal.Proj.args m c).bf j :=
  congrFun h.bf (ix1 j)

omit h in
open Reference2Ideal.Proj in
/-- The kernel and the reference end with equal results from equal arguments. -/
theorem algebraic : @Cert.algebraic_Kernel2Ideal_Reference2Ideal Cert.Kernel2Ideal.Gen.facts Cert.Reference2Ideal.Gen.facts := by
  intro m g m' g' _ hin
  refine ⟨fun c => Kernel2Ideal.Proj.qkv m c, fun c => Kernel2Ideal.Proj.oz m c, fun c => Kernel2Ideal.Proj.zn m c, fun c => Kernel2Ideal.Proj.small m c,
    fun c => Kernel2Ideal.Proj.ks m c, fun c => Kernel2Ideal.Proj.kw m c, fun c => Kernel2Ideal.Proj.qt m c, fun c => Kernel2Ideal.Proj.kvct m c,
    fun c => Kernel2Ideal.Proj.kvst m c, fun c => Kernel2Ideal.Proj.kvwt m c, fun c => Kernel2Ideal.Proj.vst m c, fun c => Kernel2Ideal.Proj.vwt m c,
    fun c => Kernel2Ideal.Proj.gates m c, Kernel2Ideal.Proj.run_results m g, ?_⟩
  refine (θ_run Reference2Ideal.defs _ _).mono (fun r hr c => ?_) (Reference2Ideal.Value.run m' g')
  have h : Agree m m' c := ⟨(hin c).1, (hin c).2.1, (hin c).2.2.1, (hin c).2.2.2.1, (hin c).2.2.2.2⟩
  obtain ⟨h0, h1, h2, h3, h4, h5, h6, h7, h8, h9, h10, h11, h12, ha⟩ := hr c
  exact ⟨h0.trans (qkv_eq _ (feats' m' c) h.feat), h1.trans (oz_eq _ (feats' m' c) h.feat), h2.trans (zn_eq _ (feats' m' c) h.feat),
    h3.trans (small_eq _ _ _ (feats' m' c) h.feat h.bi_at h.bf_at), h4.trans (ks_eq _ (feats' m' c) h.feat), h5.trans (kw_eq _ (feats' m' c) h.feat),
    h6.trans (qt_eq _ (feats' m' c) h.feat), h7.trans (kvct_eq _ (feats' m' c) h.feat), h8.trans (kvst_eq _ (feats' m' c) h.feat),
    h9.trans (kvwt_eq _ (feats' m' c) h.feat), h10.trans (vst_eq _ (feats' m' c) h.feat), h11.trans (vwt_eq _ (feats' m' c) h.feat),
    h12.trans (gates_eq _ _ _ (feats' m' c) h.feat h.bi_at h.bf_at), ha⟩

end Cert.Proj

end
-- ==== Proof.Mixer.lean ====
/-
  The layer's output: the two gated mixers' features are multiplied with the weights, normalized and added to the layer's input.
-/
module

public import Idealize.ShloMosaic.PureOps.Ideal
public import Idealize.ShloMosaic.Lib.Pointwise

@[expose] public section

set_option maxRecDepth 16384

noncomputable section

namespace Cert.Mix

open Idealize.ShloMosaic

def sigm (x : EReal) : EReal := Ideal.div 1 (1 + Ideal.exp (-x))
def silu (x : EReal) : EReal := x * sigm x

/-- A feature of the recurrent mixer with its two gates, and one of the attention with its gate. -/
def recur (o h z : EReal) : EReal := sigm o * h * silu z
def atten (y z : EReal) : EReal := y * silu z

/-- A token's input plus its projected features over the root of their mean square (the small constant added), times the norm's weights. -/
def added (x p g : Fin 1024 → EReal) (j : Fin 1024) : EReal :=
  x j + p j * Ideal.rsqrt (Ideal.div (∑ i, p i * p i) (Ideal.ofBits .f32 0x44800000#32) + Ideal.ofBits .f32 0x358637BD#32) * g j

/-- The two mixers' features times their halves of a column of the weights. -/
def project (u v : Fin 512 → EReal) (w : Fin 1024 → EReal) : EReal :=
  (∑ k, u k * w ⟨k.val, by omega⟩) + ∑ k, v k * w ⟨512 + k.val, by omega⟩

theorem sum_halves (c w : Fin 1024 → EReal) :
    ∑ k, c k * w k = project (fun k => c ⟨k.val, by omega⟩) (fun k => c ⟨512 + k.val, by omega⟩) w :=
  Fin.sum_univ_add (a := 512) (b := 512) fun k => c k * w k

/-- The arguments of the output. -/
structure Args where
  x : Fin 2 → Fin 16384 → Fin 1024 → EReal
  h : Fin 2 → Fin 16384 → Fin 512 → EReal
  oz : Fin 32768 → Fin 1024 → EReal
  yt : Fin 512 → Fin 32768 → EReal
  zn : Fin 32768 → Fin 512 → EReal
  w : Fin 1024 → Fin 1024 → EReal
  g : Fin 1024 → EReal

/-- The sequence and position of a token in the one row of both sequences. -/
def sq (r : Fin 32768) : Fin 2 := ⟨r.val / 16384, by omega⟩
def pos (r : Fin 32768) : Fin 16384 := ⟨r.val % 16384, by omega⟩

variable (a : Args)

def Args.u (r : Fin 32768) (k : Fin 512) : EReal := recur (a.oz r ⟨k.val, by omega⟩) (a.h (sq r) (pos r) k) (a.oz r ⟨512 + k.val, by omega⟩)
def Args.v (r : Fin 32768) (k : Fin 512) : EReal := atten (a.yt k r) (a.zn r k)
def Args.proj (r : Fin 32768) (j : Fin 1024) : EReal := project (a.u r) (a.v r) fun k => a.w k j
def Args.out (r : Fin 32768) (j : Fin 1024) : EReal := added (a.x (sq r) (pos r)) (a.proj r) a.g j

end Cert.Mix

end
-- ==== Proof.MixStep.lean ====
/-
  What a step of the output computes of its blocks, read at an entry.
-/
module

public import proofs.«01_k».proof.Proof.Gen.Kernel3Ideal.Frame
public import proofs.«01_k».proof.Proof.Mixer
public import Idealize.ShloMosaic.Lib.Pipeline.ValueKit

@[expose] public section

set_option maxRecDepth 16384

noncomputable section

namespace Cert.Kernel3Ideal.Mix

open Cert.Kernel3Ideal Cert.Kernel3Ideal.Gen Cert.Mix
open Idealize.ShloMosaic Idealize.SL.Sem

theorem pay2_apply (Y : Vec Ideal S512x256 .f32) (Z : Vec Ideal S256x512 .f32) (i : Fin 256) (k : Fin 512) :
    (k0_pay2 (F := Ideal) Y Z (ix2 i k) : EReal) = atten (Y (ix2 k i)) (Z (ix2 i k)) := by
  pointwise [k0_pay2]
  simp only [zero_sub]
  rfl

theorem pay3_apply (O Z H : Vec Ideal S256x512 .f32) (W : Vec Ideal S512x1024 .bf16) (i : Fin 256) (j : Fin 1024) :
    (k0_pay3 (F := Ideal) O Z H W (ix2 i j) : EReal) = ∑ k, recur (O (ix2 i k)) (H (ix2 i k)) (Z (ix2 i k)) * (W (ix2 k j) : EReal) := by
  pointwise [k0_pay3]
  simp only [zero_sub]
  rfl

theorem pay1_apply (N : FVec Ideal S256x512 .f32) (P : FVec Ideal S256x1024 .f32) (W : Vec Ideal S512x1024 .bf16) (X : Vec Ideal S256x1024 .f32)
    (G : Vec Ideal S1x1024 .f32) (i : Fin 256) (j : Fin 1024) :
    (k0_pay1 (F := Ideal) N P W X G (ix2 i j) : EReal)
      = added (fun k => X (ix2 i k)) (fun l => (P (ix2 i l) : EReal) + ∑ k, (N (ix2 i k) : EReal) * (W (ix2 k l) : EReal)) (fun k => G (ix2 0 k)) j := by
  pointwise [k0_pay1]
  rfl

variable (x0 : Vec Ideal S256x1024 .f32) (x1 : Vec Ideal S256x512 .f32) (x2 : Vec Ideal S256x1024 .f32) (x3 : Vec Ideal S512x256 .f32) (x4 : Vec Ideal S256x512 .f32)
  (x5 : Vec Ideal S1024x1024 .bf16) (x6 : Vec Ideal S1x1024 .f32)

/-- A row's output of the blocks. -/
def outOf (i : Fin 256) (j : Fin 1024) : EReal :=
  added (fun k => x0 (ix2 i k))
    (fun l => project (fun k => recur (x2 (ix2 i ⟨k.val, by omega⟩)) (x1 (ix2 i k)) (x2 (ix2 i ⟨512 + k.val, by omega⟩))) (fun k => atten (x3 (ix2 k i)) (x4 (ix2 i k)))
      fun k => x5 (ix2 k l))
    (fun k => x6 (ix2 0 k)) j

theorem out7 (i : Fin 256) (j : Fin 1024) : (out0_7 x0 x1 x2 x3 x4 x5 x6 (ix2 i j) : EReal) = outOf x0 x1 x2 x3 x4 x5 x6 i j := by
  unfold out0_7
  frame_out
  refine (pay1_apply _ _ _ _ _ i j).trans ?_
  simp only [pay2_apply, pay3_apply]
  pointwise []
  rfl

end Cert.Kernel3Ideal.Mix

end
-- ==== Proof.MixHost.lean ====
/-
  The arrays that the host makes of the output's arguments, read at an entry.
-/
module

public import proofs.«01_k».proof.Proof.Gen.Kernel3Ideal.Frame
public import proofs.«01_k».proof.Proof.Mixer
public import Idealize.ShloMosaic.Lib.StableHlo.ReadAt

@[expose] public section

set_option maxRecDepth 16384

noncomputable section

namespace Cert.Kernel3Ideal.Mix

open Cert.Kernel3Ideal Cert.Kernel3Ideal.Gen Cert.Mix
open Idealize.ShloMosaic Idealize.SL.Sem

variable (m : (b : Loc nD τ sig) → Buf (Elt Ideal) b) (c : Dev nD)

/-- The output's arguments by their indices. -/
def args : Args where
  x b q k := m (c, Proc.tc.devRef main_arg0) (ix3 b q k)
  h b q k := m (c, Proc.tc.devRef main_arg1) (ix3 b q k)
  oz r k := m (c, Proc.tc.devRef main_arg2) (ix2 r k)
  yt k r := m (c, Proc.tc.devRef main_arg3) (ix2 k r)
  zn r k := m (c, Proc.tc.devRef main_arg4) (ix2 r k)
  w k j := m (c, Proc.tc.devRef main_arg5) (ix2 k j)
  g k := m (c, Proc.tc.devRef main_arg6) (ix1 k)

theorem v0_apply (r : Fin 32768) (k : Fin 1024) : (V m c main_v0 (ix2 r k) : EReal) = (args m c).x (sq r) (pos r) k := by
  unfold V
  after_reads_at
  rfl

theorem v1_apply (r : Fin 32768) (k : Fin 512) : (V m c main_v1 (ix2 r k) : EReal) = (args m c).h (sq r) (pos r) k := by
  unfold V
  after_reads_at
  rfl

theorem arg2_apply (r : Fin 32768) (k : Fin 1024) : (V m c main_arg2 (ix2 r k) : EReal) = (args m c).oz r k := by
  unfold V
  after_reads_at
  rfl

theorem arg3_apply (r : Fin 32768) (k : Fin 512) : (V m c main_arg3 (ix2 k r) : EReal) = (args m c).yt k r := by
  unfold V
  after_reads_at
  rfl

theorem arg4_apply (r : Fin 32768) (k : Fin 512) : (V m c main_arg4 (ix2 r k) : EReal) = (args m c).zn r k := by
  unfold V
  after_reads_at
  rfl

theorem v2_apply (k j : Fin 1024) : (V m c main_v2 (ix2 k j) : EReal) = (args m c).w k j := by
  unfold V
  after_reads_at
  rfl

theorem v3_apply (k : Fin 1024) : (V m c main_v3 (ix2 0 k) : EReal) = (args m c).g k := by
  unfold V
  after_reads_at
  rfl

end Cert.Kernel3Ideal.Mix

end
-- ==== Proof.MixOut.lean ====
/-
  What the output's program leaves in its result.
-/
module

public import proofs.«01_k».proof.Proof.Gen.Kernel3Ideal.Value
public import proofs.«01_k».proof.Proof.MixStep
public import proofs.«01_k».proof.Proof.MixHost

@[expose] public section

set_option maxRecDepth 16384

noncomputable section

namespace Cert.Kernel3Ideal.Mix

open Cert.Kernel3Ideal Cert.Kernel3Ideal.Gen Cert.Mix
open Idealize.ShloMosaic Idealize.ShloMosaic.TcCoe Idealize.SL.Sem

variable (m : (b : Loc nD τ sig) → Buf (Elt Ideal) b) (ρ : Dev nD → PrngReg) (c : Dev nD)

theorem index_0 : ∀ t : Fin cfg0.N, win0_0.index t = ![t.val, 0] := (by decide +kernel : ∀ t : Fin grid0.N, _)
theorem index_1 : ∀ t : Fin cfg0.N, win0_1.index t = ![t.val, 0] := (by decide +kernel : ∀ t : Fin grid0.N, _)
theorem index_2 : ∀ t : Fin cfg0.N, win0_2.index t = ![t.val, 0] := (by decide +kernel : ∀ t : Fin grid0.N, _)
theorem index_3 : ∀ t : Fin cfg0.N, win0_3.index t = ![0, t.val] := (by decide +kernel : ∀ t : Fin grid0.N, _)
theorem index_4 : ∀ t : Fin cfg0.N, win0_4.index t = ![t.val, 0] := (by decide +kernel : ∀ t : Fin grid0.N, _)
theorem index_5 : ∀ t : Fin cfg0.N, win0_5.index t = ![0, 0] := (by decide +kernel : ∀ t : Fin grid0.N, _)
theorem index_6 : ∀ t : Fin cfg0.N, win0_6.index t = ![0, 0] := (by decide +kernel : ∀ t : Fin grid0.N, _)
theorem index_7 : ∀ t : Fin cfg0.N, win0_7.index t = ![t.val, 0] := (by decide +kernel : ∀ t : Fin grid0.N, _)

theorem point_lt (t : Fin cfg0.N) : t.val < 128 := lt_of_lt_of_eq t.isLt (by decide +kernel : grid0.N = 128)

/-- The token that a step's row is. -/
def tok (t : Fin cfg0.N) (i : Fin 256) : Fin 32768 := ⟨256 * t.val + i.val, by have := point_lt t; omega⟩

theorem blk_0 (t : Fin cfg0.N) (i : Fin 256) (k : Fin 1024) : (iblk m c 0 t (ix2 i k) : EReal) = (args m c).x (Mix.sq (tok t i)) (pos (tok t i)) k := by
  have h : (win0_0.blk t).view.emb (ix2 i k) = ix2 (tok t i) k := by
    have ht : (tok t i).val = 256 * t.val + i.val := rfl
    blk_ext [index_0]
  have h' : iblk m c 0 t = (win0_0.blk t).view.read (Elt Ideal) (V m c main_v0) := rfl
  rw [h', View.read_apply, cast_eq, h, v0_apply]

theorem blk_1 (t : Fin cfg0.N) (i : Fin 256) (k : Fin 512) : (iblk m c 1 t (ix2 i k) : EReal) = (args m c).h (Mix.sq (tok t i)) (pos (tok t i)) k := by
  have h : (win0_1.blk t).view.emb (ix2 i k) = ix2 (tok t i) k := by
    have ht : (tok t i).val = 256 * t.val + i.val := rfl
    blk_ext [index_1]
  have h' : iblk m c 1 t = (win0_1.blk t).view.read (Elt Ideal) (V m c main_v1) := rfl
  rw [h', View.read_apply, cast_eq, h, v1_apply]

theorem blk_2 (t : Fin cfg0.N) (i : Fin 256) (k : Fin 1024) : (iblk m c 2 t (ix2 i k) : EReal) = (args m c).oz (tok t i) k := by
  have h : (win0_2.blk t).view.emb (ix2 i k) = ix2 (tok t i) k := by
    have ht : (tok t i).val = 256 * t.val + i.val := rfl
    blk_ext [index_2]
  have h' : iblk m c 2 t = (win0_2.blk t).view.read (Elt Ideal) (V m c main_arg2) := rfl
  rw [h', View.read_apply, cast_eq, h, arg2_apply]

theorem blk_3 (t : Fin cfg0.N) (i : Fin 256) (k : Fin 512) : (iblk m c 3 t (ix2 k i) : EReal) = (args m c).yt k (tok t i) := by
  have h : (win0_3.blk t).view.emb (ix2 k i) = ix2 k (tok t i) := by
    have ht : (tok t i).val = 256 * t.val + i.val := rfl
    blk_ext [index_3]
  have h' : iblk m c 3 t = (win0_3.blk t).view.read (Elt Ideal) (V m c main_arg3) := rfl
  rw [h', View.read_apply, cast_eq, h, arg3_apply]

theorem blk_4 (t : Fin cfg0.N) (i : Fin 256) (k : Fin 512) : (iblk m c 4 t (ix2 i k) : EReal) = (args m c).zn (tok t i) k := by
  have h : (win0_4.blk t).view.emb (ix2 i k) = ix2 (tok t i) k := by
    have ht : (tok t i).val = 256 * t.val + i.val := rfl
    blk_ext [index_4]
  have h' : iblk m c 4 t = (win0_4.blk t).view.read (Elt Ideal) (V m c main_arg4) := rfl
  rw [h', View.read_apply, cast_eq, h, arg4_apply]

theorem blk_5 (t : Fin cfg0.N) (k j : Fin 1024) : (iblk m c 5 t (ix2 k j) : EReal) = (args m c).w k j := by
  have h : (win0_5.blk t).view.emb (ix2 k j) = ix2 k j := by
    blk_ext [index_5]
  have h' : iblk m c 5 t = (win0_5.blk t).view.read (Elt Ideal) (V m c main_v2) := rfl
  rw [h', View.read_apply, cast_eq, h, v2_apply]

theorem blk_6 (t : Fin cfg0.N) (k : Fin 1024) : (iblk m c 6 t (ix2 0 k) : EReal) = (args m c).g k := by
  have h : (win0_6.blk t).view.emb (ix2 0 k) = ix2 0 k := by
    blk_ext [index_6]
  have h' : iblk m c 6 t = (win0_6.blk t).view.read (Elt Ideal) (V m c main_v3) := rfl
  rw [h', View.read_apply, cast_eq, h, v3_apply]

theorem outOf_eq (t : Fin cfg0.N) (i : Fin 256) (j : Fin 1024) :
    outOf (iblk m c 0 t) (iblk m c 1 t) (iblk m c 2 t) (iblk m c 3 t) (iblk m c 4 t) (iblk m c 5 t) (iblk m c 6 t) i j = (args m c).out (tok t i) j := by
  unfold outOf
  simp only [blk_0, blk_1, blk_2, blk_3, blk_4, blk_5, blk_6]
  rfl

def out : Buf (Elt Ideal) ((c : Thread nD τ).loc main_v4) := fun z : S32768x1024.Idx => (args m c).out (z 0) (z 1)

theorem final_7 : (dats m 0 c).arrAt 7 cfg0.N = out m c := by
  refine (dats m 0 c).arrAt_eq_of_covers 7 (out m c) (by decide +kernel) fun t hf z => ?_
  blk_simp
  obtain ⟨i, j, rfl⟩ : ∃ (i : Fin 256) (j : Fin 1024), z = ix2 i j := ⟨z 0, z 1, by funext a; match a with | ⟨0, _⟩ => rfl | ⟨1, _⟩ => rfl⟩
  have e : (win0_7.blk t).view.emb (ix2 i j) = ix2 (tok t i) j := by
    have ht : (tok t i).val = 256 * t.val + i.val := rfl
    blk_ext [index_7]
  refine Eq.trans ?_ (congrArg (out m c) e).symm
  rw [after0_7]
  exact (out7 _ _ _ _ _ _ _ i j).trans (outOf_eq m c t i j)

/-- From any memory every run of the program ends with the layer's output in its result and the arguments as they were. -/
theorem run_results : θ_run defs (onTc (τ := τ) (main (F := Ideal))) ⟨m, fun _ => 0, ρ⟩ (fun r => ∀ c : Dev nD,
      r.2.mem ((c : Thread nD τ).loc main_v4) = out m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)) := by
  refine (θ_run defs _ _).mono (fun r h c => ?_) (Cert.Kernel3Ideal.Value.run_blocks m ρ)
  exact ⟨(h c).1.trans (final_7 m c), (h c).2⟩

end Cert.Kernel3Ideal.Mix

end
-- ==== Proof.MixRef.lean ====
/-
  The output's reference read at an entry.
-/
module

public import proofs.«01_k».proof.Proof.Gen.Reference3Ideal
public import proofs.«01_k».proof.Proof.Mixer

@[expose] public section

set_option maxRecDepth 16384

noncomputable section

namespace Cert.Reference3Ideal.Mix

open Cert.Reference3Ideal Cert.Reference3Ideal.Gen Cert.Mix
open Idealize.ShloMosaic Idealize.SL.Sem

variable (X : FVec Ideal S2x16384x1024 .f32) (H : FVec Ideal S2x16384x512 .f32) (OZ : FVec Ideal S32768x1024 .f32) (YT : FVec Ideal S512x32768 .f32)
  (ZN : FVec Ideal S32768x512 .f32) (W : FVec Ideal S1024x1024 .f32) (G : FVec Ideal S1024 .f32)

/-- The arguments by their indices. -/
def argsOf : Args where
  x b q k := X (ix3 b q k)
  h b q k := H (ix3 b q k)
  oz r k := OZ (ix2 r k)
  yt k r := YT (ix2 k r)
  zn r k := ZN (ix2 r k)
  w k j := W (ix2 k j)
  g k := G (ix1 k)

/-- Both mixers' gated features, their product with the weights and the result, as the reference spells them. -/
def both : FVec Ideal S2x16384x1024 .f32 :=
  concatenate S2x16384x1024 2 [⟨S2x16384x512, (mulf (mulf (Host.divf (broadcastInDim S2x16384x512 ![] bcast_S_S2x16384x512 (constant S_ .f32 0x3F800000#32)) (addf (broadcastInDim S2x16384x512 ![] bcast_S_S2x16384x512 (constant S_ .f32 0x3F800000#32)) (Host.exp (Host.negf (extractStridedSlice S2x16384x512 ![0, 0, 0] (shapeCast S2x16384x1024 OZ shapeCasts_S32768x1024_S2x16384x1024) slices_S2x16384x1024_S2x16384x512_0_0_0))))) H) (mulf (extractStridedSlice S2x16384x512 ![0, 0, 512] (shapeCast S2x16384x1024 OZ shapeCasts_S32768x1024_S2x16384x1024) slices_S2x16384x1024_S2x16384x512_0_0_512) (Host.divf (broadcastInDim S2x16384x512 ![] bcast_S_S2x16384x512 (constant S_ .f32 0x3F800000#32)) (addf (broadcastInDim S2x16384x512 ![] bcast_S_S2x16384x512 (constant S_ .f32 0x3F800000#32)) (Host.exp (Host.negf (extractStridedSlice S2x16384x512 ![0, 0, 512] (shapeCast S2x16384x1024 OZ shapeCasts_S32768x1024_S2x16384x1024) slices_S2x16384x1024_S2x16384x512_0_0_512)))))))⟩, ⟨S2x16384x512, (mulf (shapeCast S2x16384x512 (transpose S32768x512 [1, 0] YT transposes_S512x32768_S32768x512_1_0) shapeCasts_S32768x512_S2x16384x512) (mulf (shapeCast S2x16384x512 ZN shapeCasts_S32768x512_S2x16384x512) (Host.divf (broadcastInDim S2x16384x512 ![] bcast_S_S2x16384x512 (constant S_ .f32 0x3F800000#32)) (addf (broadcastInDim S2x16384x512 ![] bcast_S_S2x16384x512 (constant S_ .f32 0x3F800000#32)) (Host.exp (Host.negf (shapeCast S2x16384x512 ZN shapeCasts_S32768x512_S2x16384x512)))))))⟩] concatenates_S2x16384x512_S2x16384x512_S2x16384x1024_d2

def prod (C : FVec Ideal S2x16384x1024 .f32) : FVec Ideal S2x16384x1024 .f32 :=
  Host.dotGeneral dot_S2x16384x1024_S1024x1024_S2x16384x1024_2_0_01_1_n_n none C W

def result (P : FVec Ideal S2x16384x1024 .f32) : FVec Ideal S32768x1024 .f32 :=
  shapeCast S32768x1024 (addf X (mulf (mulf P (broadcastInDim S2x16384x1024 ![0, 1, 2] bcast_S2x16384x1_S2x16384x1024_0_1_2 (Host.rsqrt (addf (Host.divf (broadcastInDim S2x16384x1 ![0, 1] bcast_S2x16384_S2x16384x1_0_1 (Host.reduceAdd (mulf P P) (constant S_ .f32 0x00000000#32) reducesTo_S2x16384x1024_S2x16384_d2 h_S_)) (broadcastInDim S2x16384x1 ![] bcast_S_S2x16384x1 (constant S_ .f32 0x44800000#32))) (broadcastInDim S2x16384x1 ![] bcast_S_S2x16384x1 (constant S_ .f32 0x358637BD#32)))))) (broadcastInDim S2x16384x1024 ![0, 1, 2] bcast_S1x1x1024_S2x16384x1024_0_1_2 (broadcastInDim S1x1x1024 ![2] bcast_S1024_S1x1x1024_2 G)))) shapeCasts_S2x16384x1024_S32768x1024

theorem row_eq (r : Fin 32768) (h : (Mix.sq r).val * 16384 + (pos r).val < 32768) : (⟨(Mix.sq r).val * 16384 + (pos r).val, h⟩ : Fin 32768) = r :=
  Fin.ext (by show r.val / 16384 * 16384 + r.val % 16384 = r.val; omega)

theorem both_lo (r : Fin 32768) (k : Fin 512) : (both H OZ YT ZN (ix3 (Mix.sq r) (pos r) ⟨k.val, by omega⟩) : EReal) = (argsOf X H OZ YT ZN W G).u r k := by
  pointwise [both]
  simp only [row_eq]
  rfl

theorem both_hi (r : Fin 32768) (k : Fin 512) : (both H OZ YT ZN (ix3 (Mix.sq r) (pos r) ⟨512 + k.val, by omega⟩) : EReal) = (argsOf X H OZ YT ZN W G).v r k := by
  pointwise [both]
  simp only [row_eq]
  rfl

theorem prod_apply (C : FVec Ideal S2x16384x1024 .f32) (b : Fin 2) (q : Fin 16384) (j : Fin 1024) :
    (prod W C (ix3 b q j) : EReal) = ∑ k, (C (ix3 b q k) : EReal) * (W (ix2 k j) : EReal) := by
  pointwise [prod]

theorem result_apply (P : FVec Ideal S2x16384x1024 .f32) (r : Fin 32768) (j : Fin 1024) :
    (result X G P (ix2 r j) : EReal) = added (fun k => X (ix3 (Mix.sq r) (pos r) k)) (fun k => P (ix3 (Mix.sq r) (pos r) k)) (fun k => G (ix1 k)) j := by
  pointwise [result]
  rfl

theorem prod_both (r : Fin 32768) (j : Fin 1024) : (prod W (both H OZ YT ZN) (ix3 (Mix.sq r) (pos r) j) : EReal) = (argsOf X H OZ YT ZN W G).proj r j := by
  refine (prod_apply W _ _ _ j).trans ((sum_halves (fun k => both H OZ YT ZN (ix3 (Mix.sq r) (pos r) k)) fun k => W (ix2 k j)).trans ?_)
  simp only [both_lo X H OZ YT ZN W G, both_hi X H OZ YT ZN W G]
  rfl

theorem result_eq : result X G (prod W (both H OZ YT ZN)) = fun z : S32768x1024.Idx => (argsOf X H OZ YT ZN W G).out (z 0) (z 1) := by
  funext z
  obtain ⟨r, j, rfl⟩ : ∃ (r : Fin 32768) (j : Fin 1024), z = ix2 r j := ⟨z 0, z 1, by funext a; match a with | ⟨0, _⟩ => rfl | ⟨1, _⟩ => rfl⟩
  refine (result_apply X G _ r j).trans ?_
  simp only [prod_both X H OZ YT ZN W G]
  rfl

end Cert.Reference3Ideal.Mix

end
-- ==== Proof.MixAlgebraic.lean ====
/-
  The output's program and its reference compute the same.
-/
module

public import proofs.«01_k».proof.Defs
public import proofs.«01_k».proof.Proof.MixOut
public import proofs.«01_k».proof.Proof.MixRef
public import proofs.«01_k».proof.Proof.Gen.Reference3Ideal.Run

@[expose] public section

set_option maxRecDepth 16384

noncomputable section

namespace Cert.Mix

open Idealize.ShloMosaic Idealize.ShloMosaic.StableHlo Idealize.SL.Sem

variable (m : (ℓ : Loc Kernel3Ideal.nD Kernel3Ideal.τ Kernel3Ideal.sig) → Buf (Elt Ideal) ℓ)
  (m' : (ℓ : Loc Reference3Ideal.nD Reference3Ideal.τ Reference3Ideal.sig) → Buf (Elt Ideal) ℓ) (c : Dev Kernel3Ideal.nD)

/-- The two memories hold the same arguments. -/
structure Agree : Prop where
  x : m' ((c.tc : Thread Reference3Ideal.nD Reference3Ideal.τ).loc Reference3Ideal.main_arg0) = m ((c.tc : Thread Kernel3Ideal.nD Kernel3Ideal.τ).loc Kernel3Ideal.main_arg0)
  h : m' ((c.tc : Thread Reference3Ideal.nD Reference3Ideal.τ).loc Reference3Ideal.main_arg1) = m ((c.tc : Thread Kernel3Ideal.nD Kernel3Ideal.τ).loc Kernel3Ideal.main_arg1)
  oz : m' ((c.tc : Thread Reference3Ideal.nD Reference3Ideal.τ).loc Reference3Ideal.main_arg2) = m ((c.tc : Thread Kernel3Ideal.nD Kernel3Ideal.τ).loc Kernel3Ideal.main_arg2)
  yt : m' ((c.tc : Thread Reference3Ideal.nD Reference3Ideal.τ).loc Reference3Ideal.main_arg3) = m ((c.tc : Thread Kernel3Ideal.nD Kernel3Ideal.τ).loc Kernel3Ideal.main_arg3)
  zn : m' ((c.tc : Thread Reference3Ideal.nD Reference3Ideal.τ).loc Reference3Ideal.main_arg4) = m ((c.tc : Thread Kernel3Ideal.nD Kernel3Ideal.τ).loc Kernel3Ideal.main_arg4)
  w : m' ((c.tc : Thread Reference3Ideal.nD Reference3Ideal.τ).loc Reference3Ideal.main_arg5) = m ((c.tc : Thread Kernel3Ideal.nD Kernel3Ideal.τ).loc Kernel3Ideal.main_arg5)
  g : m' ((c.tc : Thread Reference3Ideal.nD Reference3Ideal.τ).loc Reference3Ideal.main_arg6) = m ((c.tc : Thread Kernel3Ideal.nD Kernel3Ideal.τ).loc Kernel3Ideal.main_arg6)

variable {m m' c} (h : Agree m m' c)
include h

theorem Agree.args : Reference3Ideal.Mix.argsOf (m' ((c.tc : Thread Reference3Ideal.nD Reference3Ideal.τ).loc Reference3Ideal.main_arg0)) (m' ((c.tc : Thread Reference3Ideal.nD Reference3Ideal.τ).loc Reference3Ideal.main_arg1))
    (m' ((c.tc : Thread Reference3Ideal.nD Reference3Ideal.τ).loc Reference3Ideal.main_arg2)) (m' ((c.tc : Thread Reference3Ideal.nD Reference3Ideal.τ).loc Reference3Ideal.main_arg3))
    (m' ((c.tc : Thread Reference3Ideal.nD Reference3Ideal.τ).loc Reference3Ideal.main_arg4)) (m' ((c.tc : Thread Reference3Ideal.nD Reference3Ideal.τ).loc Reference3Ideal.main_arg5))
    (m' ((c.tc : Thread Reference3Ideal.nD Reference3Ideal.τ).loc Reference3Ideal.main_arg6)) = Kernel3Ideal.Mix.args m c := by
  rw [h.x, h.h, h.oz, h.yt, h.zn, h.w, h.g]
  rfl

omit h in
/-- The kernel and the reference end with equal results from equal arguments. -/
theorem algebraic : @Cert.algebraic_Kernel3Ideal_Reference3Ideal Cert.Kernel3Ideal.Gen.facts Cert.Reference3Ideal.Gen.facts := by
  intro m g m' g' _ hin
  refine ⟨fun c => Kernel3Ideal.Mix.out m c, Kernel3Ideal.Mix.run_results m g, ?_⟩
  refine (θ_run Reference3Ideal.defs _ _).mono (fun r hr c => ?_) (Reference3Ideal.Value.run m' g')
  have h : Agree m m' c := ⟨(hin c).1, (hin c).2.1, (hin c).2.2.1, (hin c).2.2.2.1, (hin c).2.2.2.2.1, (hin c).2.2.2.2.2.1, (hin c).2.2.2.2.2.2⟩
  obtain ⟨h0, ha⟩ := hr c
  refine ⟨h0.trans (((Reference3Ideal.Mix.result_eq _ _ _ _ _ _ _).trans ?_)), ha⟩
  rw [h.args]
  rfl

end Cert.Mix

end
-- ==== Proof.lean ====
/- The claims about the kernel, each from its own module. -/
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Frames
public import proofs.«01_k».proof.Proof.Algebraic
public import proofs.«01_k».proof.Proof.ProjAlgebraic
public import proofs.«01_k».proof.Proof.MixAlgebraic

@[expose] public section

noncomputable section

namespace Cert.Proof

open Idealize.ShloMosaic Idealize.SL.Sem

theorem frame_reference : @Cert.quiescent_ReferenceIdeal Cert.ReferenceIdeal.Gen.facts := fun m ρ _ =>
  (θ_run Cert.ReferenceIdeal.defs _ _).mono (fun r h => ⟨fun c => (h c).2, sem_eq_zero_of_no_sems (by decide) r.2⟩) (Cert.ReferenceIdeal.Value.run (F := Ideal) m ρ)

theorem frame_kernel2 : @Cert.quiescent_Kernel2 Cert.Kernel2.Gen.facts := fun m ρ _ => Cert.Kernel2.Gen.frame m ρ

theorem frame_kernel2Ideal : @Cert.quiescent_Kernel2Ideal Cert.Kernel2Ideal.Gen.facts := fun m ρ _ => Cert.Kernel2Ideal.Gen.frame m ρ

theorem frame_reference2 : @Cert.quiescent_Reference2Ideal Cert.Reference2Ideal.Gen.facts := fun m ρ _ =>
  (θ_run Cert.Reference2Ideal.defs _ _).mono (fun r h => ⟨fun c => (h c).2.2.2.2.2.2.2.2.2.2.2.2.2, sem_eq_zero_of_no_sems (by decide) r.2⟩) (Cert.Reference2Ideal.Value.run (F := Ideal) m ρ)

theorem frame_kernel3 : @Cert.quiescent_Kernel3 Cert.Kernel3.Gen.facts := fun m ρ _ => Cert.Kernel3.Gen.frame m ρ

theorem frame_kernel3Ideal : @Cert.quiescent_Kernel3Ideal Cert.Kernel3Ideal.Gen.facts := fun m ρ _ => Cert.Kernel3Ideal.Gen.frame m ρ

theorem frame_reference3 : @Cert.quiescent_Reference3Ideal Cert.Reference3Ideal.Gen.facts := fun m ρ _ =>
  (θ_run Cert.Reference3Ideal.defs _ _).mono (fun r h => ⟨fun c => (h c).2, sem_eq_zero_of_no_sems (by decide) r.2⟩) (Cert.Reference3Ideal.Value.run (F := Ideal) m ρ)

/-- The three named constants: the factor of the queries, and the two numbers that stand for minus infinity. -/
theorem preserves : Cert.preserves_Kernel_KernelIdeal :=
  ⟨IdealRules.named_const.statement _ _ _ _ _ rfl, IdealRules.named_const.statement _ _ _ _ _ rfl,
    IdealRules.named_const.statement _ _ _ _ _ rfl⟩

theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts,
    Cert.Kernel3.Gen.facts, Cert.Kernel3Ideal.Gen.facts, Cert.Reference3Ideal.Gen.facts,
    Cert.KernelIdeal.Nsa.frame_kernel, Cert.KernelIdeal.Nsa.frame_kernelIdeal, frame_reference, frame_kernel2, frame_kernel2Ideal, frame_reference2,
    frame_kernel3, frame_kernel3Ideal, frame_reference3, preserves, Cert.Nsa.algebraic, trivial, Cert.Proj.algebraic, trivial, Cert.Mix.algebraic⟩

end Cert.Proof

end
